-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x224x224 : Shape := ⟨4, ![8, 96, 224, 224]⟩
abbrev S_ : Shape := ⟨0, ![]⟩
abbrev S768x224x224 : Shape := ⟨3, ![768, 224, 224]⟩
abbrev S1x1 : Shape := ⟨2, ![1, 1]⟩
abbrev S768x7x224 : Shape := ⟨3, ![768, 7, 224]⟩
abbrev S12x7x224 : Shape := ⟨3, ![12, 7, 224]⟩
abbrev S12x224x228 : Shape := ⟨3, ![12, 224, 228]⟩
abbrev S12x7x32x228 : Shape := ⟨4, ![12, 7, 32, 228]⟩
abbrev S12x7x16x228 : Shape := ⟨4, ![12, 7, 16, 228]⟩
abbrev S12x7x8x228 : Shape := ⟨4, ![12, 7, 8, 228]⟩
abbrev S12x7x4x228 : Shape := ⟨4, ![12, 7, 4, 228]⟩
abbrev S12x7x2x228 : Shape := ⟨4, ![12, 7, 2, 228]⟩
abbrev S12x7x1x228 : Shape := ⟨4, ![12, 7, 1, 228]⟩
abbrev S12x7x228 : Shape := ⟨3, ![12, 7, 228]⟩
abbrev S12x7x226 : Shape := ⟨3, ![12, 7, 226]⟩
abbrev S12x1x224 : Shape := ⟨3, ![12, 1, 224]⟩
abbrev S12x6x224 : Shape := ⟨3, ![12, 6, 224]⟩
abbrev S1x12x7x224 : Shape := ⟨4, ![1, 12, 7, 224]⟩
abbrev S1 : Shape := ⟨1, ![1]⟩
abbrev S1x1x1x1 : Shape := ⟨4, ![1, 1, 1, 1]⟩
abbrev S32x224x224 : Shape := ⟨3, ![32, 224, 224]⟩
abbrev S32x7x224 : Shape := ⟨3, ![32, 7, 224]⟩
abbrev S32x7x32x224 : Shape := ⟨4, ![32, 7, 32, 224]⟩
abbrev S32x7x1x224 : Shape := ⟨4, ![32, 7, 1, 224]⟩

abbrev nBuf : Space → Nat
  | .hbm => 8
  | .vmem => 8
  | .smem => 3
  | _ => 0

abbrev bufTy : (tb : Table) → Fin (tcTables nBuf tb) → BufTy
  | .hbm, ⟨0, _⟩ => ⟨S8x96x224x224, .f32⟩
  | .hbm, ⟨1, _⟩ => ⟨S_, .f32⟩
  | .hbm, ⟨2, _⟩ => ⟨S768x224x224, .f32⟩
  | .hbm, ⟨3, _⟩ => ⟨S1x1, .f32⟩
  | .hbm, ⟨4, _⟩ => ⟨S768x7x224, .i32⟩
  | .hbm, ⟨5, _⟩ => ⟨S1x1, .i32⟩
  | .hbm, ⟨6, _⟩ => ⟨S768x224x224, .f32⟩
  | .hbm, ⟨7, _⟩ => ⟨S8x96x224x224, .f32⟩
  | .local _ .vmem, ⟨0, _⟩ => ⟨S12x7x224, .i32⟩
  | .local _ .vmem, ⟨1, _⟩ => ⟨S12x7x224, .i32⟩
  | .local _ .vmem, ⟨2, _⟩ => ⟨S32x224x224, .f32⟩
  | .local _ .vmem, ⟨3, _⟩ => ⟨S32x224x224, .f32⟩
  | .local _ .vmem, ⟨4, _⟩ => ⟨S32x7x224, .i32⟩
  | .local _ .vmem, ⟨5, _⟩ => ⟨S32x7x224, .i32⟩
  | .local _ .vmem, ⟨6, _⟩ => ⟨S32x224x224, .f32⟩
  | .local _ .vmem, ⟨7, _⟩ => ⟨S32x224x224, .f32⟩
  | .local _ .smem, ⟨0, _⟩ => ⟨S1x1, .f32⟩
  | .local _ .smem, ⟨1, _⟩ => ⟨S1x1, .i32⟩
  | .local _ .smem, ⟨2, _⟩ => ⟨S1x1, .i32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_stg0_0 : Ref sig .tc := ⟨.smem, 0, rfl⟩
abbrev cc0_stg2_0 : Ref sig .tc := ⟨.smem, 1, rfl⟩
abbrev cc1_stg2_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S12x7x224 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![24], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x224x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x7x224 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x224x224 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8x96x224x224 : Shape := ⟨4, ![8, 96, 224, 224]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S8x96x220x220 : Shape := ⟨4, ![8, 96, 220, 220]⟩

abbrev nBuf : Space → Nat
  | .hbm => 539
  | .vmem => 0
  | .smem => 0
  | _ => 0

abbrev hbmTy0_0 (i : Nat) : BufTy := match i % 128 with
  | 0 => ⟨S8x96x224x224, .f32⟩
  | 1 => ⟨S_, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S1, .i32⟩
  | 19 => ⟨S2, .i32⟩
  | 20 => ⟨S1, .i32⟩
  | 21 => ⟨S_, .i32⟩
  | 22 => ⟨S1, .i32⟩
  | 23 => ⟨S_, .i32⟩
  | 24 => ⟨S1, .i32⟩
  | 25 => ⟨S1, .i32⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S8x96x224x224, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S2, .i32⟩
  | 121 => ⟨S_, .f32⟩
  | 122 => ⟨S_, .f32⟩
  | 123 => ⟨S_, .f32⟩
  | 124 => ⟨S_, .f32⟩
  | 125 => ⟨S1x1x1x1, .f32⟩
  | 126 => ⟨S1x1x1x1, .f32⟩
  | 127 => ⟨S1, .i32⟩
  | _ => ⟨S8x96x224x224, .f32⟩

abbrev hbmTy0_2 (i : Nat) : BufTy := match i % 128 with
  | 0 => ⟨S_, .i32⟩
  | 1 => ⟨S1, .i32⟩
  | 2 => ⟨S_, .i32⟩
  | 3 => ⟨S8x96x220x220, .i64⟩
  | 4 => ⟨S8x96x220x220, .i64⟩
  | 5 => ⟨S8x96x220x220, .i64⟩
  | 6 => ⟨S8x96x220x220, .i64⟩
  | 7 => ⟨S_, .i64⟩
  | 8 => ⟨S8x96x220x220, .i64⟩
  | 9 => ⟨S8x96x220x220, .i64⟩
  | 10 => ⟨S_, .i64⟩
  | 11 => ⟨S8x96x220x220, .i64⟩
  | 12 => ⟨S8x96x220x220, .i64⟩
  | 13 => ⟨S_, .i64⟩
  | 14 => ⟨S8x96x220x220, .i64⟩
  | 15 => ⟨S8x96x220x220, .i64⟩
  | 16 => ⟨S_, .i64⟩
  | 17 => ⟨S8x96x220x220, .i64⟩
  | 18 => ⟨S8x96x220x220, .i64⟩
  | 19 => ⟨S8x96x220x220, .i64⟩
  | 20 => ⟨S8x96x220x220, .i64⟩
  | 21 => ⟨S8x96x220x220, .i64⟩
  | 22 => ⟨S_, .i64⟩
  | 23 => ⟨S8x96x220x220, .i64⟩
  | 24 => ⟨S8x96x220x220, .i64⟩
  | 25 => ⟨S8x96x220x220, .i32⟩
  | 26 => ⟨S8x96x220x220, .i32⟩
  | 27 => ⟨S_, .i32⟩
  | 28 => ⟨S_, .i32⟩
  | 29 => ⟨S_, .i32⟩
  | 30 => ⟨S8x96x220x220, .i32⟩
  | 31 => ⟨S8x96x220x220, .i32⟩
  | 32 => ⟨S8x96x220x220, .i32⟩
  | 33 => ⟨S8x96x220x220, .i32⟩
  | 34 => ⟨S8x96x220x220, .i32⟩
  | 35 => ⟨S_, .i32⟩
  | 36 => ⟨S8x96x220x220, .i32⟩
  | 37 => ⟨S8x96x220x220, .i32⟩
  | 38 => ⟨S_, .i32⟩
  | 39 => ⟨S8x96x220x220, .i32⟩
  | 40 => ⟨S8x96x220x220, .i32⟩
  | 41 => ⟨S8x96x220x220, .i32⟩
  | 42 => ⟨S8x96x220x220, .i32⟩
  | 43 => ⟨S8x96x220x220, .i32⟩
  | 44 => ⟨S_, .i32⟩
  | 45 => ⟨S8x96x220x220, .i32⟩
  | 46 => ⟨S8x96x220x220, .i32⟩
  | 47 => ⟨S_, .i32⟩
  | 48 => ⟨S8x96x220x220, .i32⟩
  | 49 => ⟨S8x96x220x220, .i32⟩
  | 50 => ⟨S8x96x220x220, .i32⟩
  | 51 => ⟨S8x96x220x220, .i32⟩
  | 52 => ⟨S8x96x220x220, .i32⟩
  | 53 => ⟨S_, .i32⟩
  | 54 => ⟨S8x96x220x220, .i32⟩
  | 55 => ⟨S8x96x220x220, .i32⟩
  | 56 => ⟨S_, .i32⟩
  | 57 => ⟨S8x96x220x220, .i32⟩
  | 58 => ⟨S8x96x220x220, .i32⟩
  | 59 => ⟨S8x96x220x220, .i32⟩
  | 60 => ⟨S8x96x220x220, .i32⟩
  | 61 => ⟨S8x96x220x220, .i32⟩
  | 62 => ⟨S_, .i32⟩
  | 63 => ⟨S8x96x220x220, .i32⟩
  | 64 => ⟨S8x96x220x220, .i32⟩
  | 65 => ⟨S_, .i32⟩
  | 66 => ⟨S8x96x220x220, .i32⟩
  | 67 => ⟨S8x96x220x220, .i32⟩
  | 68 => ⟨S8x96x220x220, .i32⟩
  | 69 => ⟨S8x96x220x220, .i32⟩
  | 70 => ⟨S8x96x220x220, .i32⟩
  | 71 => ⟨S8x96x220x220, .i32⟩
  | 72 => ⟨S8x96x220x220, .i32⟩
  | 73 => ⟨S8x96x220x220, .i32⟩
  | 74 => ⟨S_, .i32⟩
  | 75 => ⟨S8x96x220x220, .i32⟩
  | 76 => ⟨S8x96x220x220, .i32⟩
  | 77 => ⟨S8x96x220x220, .i32⟩
  | 78 => ⟨S_, .i32⟩
  | 79 => ⟨S8x96x220x220, .i32⟩
  | 80 => ⟨S8x96x220x220, .i32⟩
  | 81 => ⟨S_, .i32⟩
  | 82 => ⟨S8x96x220x220, .i32⟩
  | 83 => ⟨S8x96x220x220, .i32⟩
  | 84 => ⟨S8x96x220x220, .i32⟩
  | 85 => ⟨S8x96x220x220, .i32⟩
  | 86 => ⟨S8x96x220x220, .i32⟩
  | 87 => ⟨S_, .i32⟩
  | 88 => ⟨S8x96x220x220, .i32⟩
  | 89 => ⟨S8x96x220x220, .i32⟩
  | 90 => ⟨S_, .i32⟩
  | 91 => ⟨S8x96x220x220, .i32⟩
  | 92 => ⟨S8x96x220x220, .i32⟩
  | 93 => ⟨S8x96x220x220, .i32⟩
  | 94 => ⟨S8x96x220x220, .i32⟩
  | 95 => ⟨S8x96x220x220, .i32⟩
  | 96 => ⟨S_, .i32⟩
  | 97 => ⟨S8x96x220x220, .i32⟩
  | 98 => ⟨S8x96x220x220, .i32⟩
  | 99 => ⟨S_, .i32⟩
  | 100 => ⟨S8x96x220x220, .i32⟩
  | 101 => ⟨S8x96x220x220, .i32⟩
  | 102 => ⟨S8x96x220x220, .i32⟩
  | 103 => ⟨S8x96x220x220, .i32⟩
  | 104 => ⟨S8x96x220x220, .i32⟩
  | 105 => ⟨S_, .i32⟩
  | 106 => ⟨S8x96x220x220, .i32⟩
  | 107 => ⟨S8x96x220x220, .i32⟩
  | 108 => ⟨S_, .i32⟩
  | 109 => ⟨S8x96x220x220, .i32⟩
  | 110 => ⟨S8x96x220x220, .i32⟩
  | 111 => ⟨S8x96x220x220, .i32⟩
  | 112 => ⟨S8x96x220x220, .i32⟩
  | 113 => ⟨S8x96x220x220, .i32⟩
  | 114 => ⟨S8x96x220x220, .i32⟩
  | 115 => ⟨S8x96x220x220, .i32⟩
  | 116 => ⟨S8x96x220x220, .i32⟩
  | 117 => ⟨S_, .i32⟩
  | 118 => ⟨S8x96x220x220, .i32⟩
  | 119 => ⟨S8x96x220x220, .i32⟩
  | 120 => ⟨S8x96x220x220, .i32⟩
  | 121 => ⟨S_, .i32⟩
  | 122 => ⟨S8x96x220x220, .i32⟩
  | 123 => ⟨S8x96x220x220, .i32⟩
  | 124 => ⟨S_, .i32⟩
  | 125 => ⟨S8x96x220x220, .i32⟩
  | 126 => ⟨S8x96x220x220, .i32⟩
  | 127 => ⟨S8x96x220x220, .i32⟩
  | _ => ⟨S8x96x224x224, .f32⟩

abbrev hbmTy0_3 (i : Nat) : BufTy := match i % 128 with
  | 0 => ⟨S8x96x220x220, .i32⟩
  | 1 => ⟨S8x96x220x220, .i32⟩
  | 2 => ⟨S_, .i32⟩
  | 3 => ⟨S8x96x220x220, .i32⟩
  | 4 => ⟨S8x96x220x220, .i32⟩
  | 5 => ⟨S_, .i32⟩
  | 6 => ⟨S8x96x220x220, .i32⟩
  | 7 => ⟨S8x96x220x220, .i32⟩
  | 8 => ⟨S8x96x220x220, .i32⟩
  | 9 => ⟨S8x96x220x220, .i32⟩
  | 10 => ⟨S8x96x220x220, .i32⟩
  | 11 => ⟨S_, .i32⟩
  | 12 => ⟨S8x96x220x220, .i32⟩
  | 13 => ⟨S8x96x220x220, .i32⟩
  | 14 => ⟨S_, .i32⟩
  | 15 => ⟨S8x96x220x220, .i32⟩
  | 16 => ⟨S8x96x220x220, .i32⟩
  | 17 => ⟨S8x96x220x220, .i32⟩
  | 18 => ⟨S8x96x220x220, .i32⟩
  | 19 => ⟨S8x96x220x220, .i32⟩
  | 20 => ⟨S_, .i32⟩
  | 21 => ⟨S8x96x220x220, .i32⟩
  | 22 => ⟨S8x96x220x220, .i32⟩
  | 23 => ⟨S_, .i32⟩
  | 24 => ⟨S8x96x220x220, .i32⟩
  | 25 => ⟨S8x96x220x220, .i32⟩
  | 26 => ⟨S8x96x220x220, .i32⟩
  | 27 => ⟨S8x96x220x220, .i32⟩
  | 28 => ⟨S8x96x220x220, .i32⟩
  | 29 => ⟨S8x96x220x220, .i32⟩
  | 30 => ⟨S8x96x220x220, .i32⟩
  | 31 => ⟨S8x96x220x220, .i32⟩
  | 32 => ⟨S_, .i32⟩
  | 33 => ⟨S8x96x220x220, .i32⟩
  | 34 => ⟨S8x96x220x220, .i32⟩
  | 35 => ⟨S8x96x220x220, .i32⟩
  | 36 => ⟨S_, .i32⟩
  | 37 => ⟨S8x96x220x220, .i32⟩
  | 38 => ⟨S8x96x220x220, .i32⟩
  | 39 => ⟨S_, .i32⟩
  | 40 => ⟨S8x96x220x220, .i32⟩
  | 41 => ⟨S8x96x220x220, .i32⟩
  | 42 => ⟨S8x96x220x220, .i32⟩
  | 43 => ⟨S8x96x220x220, .i32⟩
  | 44 => ⟨S8x96x220x220, .i32⟩
  | 45 => ⟨S_, .i32⟩
  | 46 => ⟨S8x96x220x220, .i32⟩
  | 47 => ⟨S8x96x220x220, .i32⟩
  | 48 => ⟨S_, .i32⟩
  | 49 => ⟨S8x96x220x220, .i32⟩
  | 50 => ⟨S8x96x220x220, .i32⟩
  | 51 => ⟨S8x96x220x220, .i32⟩
  | 52 => ⟨S8x96x220x220, .i32⟩
  | 53 => ⟨S8x96x220x220, .i32⟩
  | 54 => ⟨S_, .i32⟩
  | 55 => ⟨S8x96x220x220, .i32⟩
  | 56 => ⟨S8x96x220x220, .i32⟩
  | 57 => ⟨S_, .i32⟩
  | 58 => ⟨S8x96x220x220, .i32⟩
  | 59 => ⟨S8x96x220x220, .i32⟩
  | 60 => ⟨S8x96x220x220, .i32⟩
  | 61 => ⟨S8x96x220x220, .i32⟩
  | 62 => ⟨S8x96x220x220, .i32⟩
  | 63 => ⟨S_, .i32⟩
  | 64 => ⟨S8x96x220x220, .i32⟩
  | 65 => ⟨S8x96x220x220, .i32⟩
  | 66 => ⟨S_, .i32⟩
  | 67 => ⟨S8x96x220x220, .i32⟩
  | 68 => ⟨S8x96x220x220, .i32⟩
  | 69 => ⟨S8x96x220x220, .i32⟩
  | 70 => ⟨S8x96x220x220, .i32⟩
  | 71 => ⟨S8x96x220x220, .i32⟩
  | 72 => ⟨S8x96x220x220, .i32⟩
  | 73 => ⟨S8x96x220x220, .i32⟩
  | 74 => ⟨S8x96x220x220, .i32⟩
  | 75 => ⟨S_, .i32⟩
  | 76 => ⟨S8x96x220x220, .i32⟩
  | 77 => ⟨S8x96x220x220, .i32⟩
  | 78 => ⟨S8x96x220x220, .i32⟩
  | 79 => ⟨S_, .i32⟩
  | 80 => ⟨S8x96x220x220, .i32⟩
  | 81 => ⟨S8x96x220x220, .i32⟩
  | 82 => ⟨S_, .i32⟩
  | 83 => ⟨S8x96x220x220, .i32⟩
  | 84 => ⟨S8x96x220x220, .i32⟩
  | 85 => ⟨S8x96x220x220, .i32⟩
  | 86 => ⟨S8x96x220x220, .i32⟩
  | 87 => ⟨S8x96x220x220, .i32⟩
  | 88 => ⟨S_, .i32⟩
  | 89 => ⟨S8x96x220x220, .i32⟩
  | 90 => ⟨S8x96x220x220, .i32⟩
  | 91 => ⟨S_, .i32⟩
  | 92 => ⟨S8x96x220x220, .i32⟩
  | 93 => ⟨S8x96x220x220, .i32⟩
  | 94 => ⟨S8x96x220x220, .i32⟩
  | 95 => ⟨S8x96x220x220, .i32⟩
  | 96 => ⟨S8x96x220x220, .i32⟩
  | 97 => ⟨S_, .i32⟩
  | 98 => ⟨S8x96x220x220, .i32⟩
  | 99 => ⟨S8x96x220x220, .i32⟩
  | 100 => ⟨S_, .i32⟩
  | 101 => ⟨S8x96x220x220, .i32⟩
  | 102 => ⟨S8x96x220x220, .i32⟩
  | 103 => ⟨S8x96x220x220, .i32⟩
  | 104 => ⟨S8x96x220x220, .i32⟩
  | 105 => ⟨S8x96x220x220, .i32⟩
  | 106 => ⟨S_, .i32⟩
  | 107 => ⟨S8x96x220x220, .i32⟩
  | 108 => ⟨S8x96x220x220, .i32⟩
  | 109 => ⟨S_, .i32⟩
  | 110 => ⟨S8x96x220x220, .i32⟩
  | 111 => ⟨S8x96x220x220, .i32⟩
  | 112 => ⟨S8x96x220x220, .i32⟩
  | 113 => ⟨S8x96x220x220, .i32⟩
  | 114 => ⟨S8x96x220x220, .i32⟩
  | 115 => ⟨S8x96x220x220, .i32⟩
  | 116 => ⟨S8x96x220x220, .i32⟩
  | 117 => ⟨S8x96x220x220, .i32⟩
  | 118 => ⟨S_, .i32⟩
  | 119 => ⟨S8x96x220x220, .i32⟩
  | 120 => ⟨S8x96x220x220, .i32⟩
  | 121 => ⟨S8x96x220x220, .i32⟩
  | 122 => ⟨S_, .i32⟩
  | 123 => ⟨S8x96x220x220, .i32⟩
  | 124 => ⟨S8x96x220x220, .i32⟩
  | 125 => ⟨S_, .i32⟩
  | 126 => ⟨S8x96x220x220, .i32⟩
  | 127 => ⟨S8x96x220x220, .i32⟩
  | _ => ⟨S8x96x224x224, .f32⟩

abbrev hbmTy0_4 (i : Nat) : BufTy := match i % 128 with
  | 0 => ⟨S8x96x220x220, .f32⟩
  | 1 => ⟨S_, .f32⟩
  | 2 => ⟨S8x96x220x220, .f32⟩
  | 3 => ⟨S8x96x220x220, .f32⟩
  | 4 => ⟨S1x1x1x1, .f32⟩
  | 5 => ⟨S8x96x220x220, .f32⟩
  | 6 => ⟨S8x96x220x220, .f32⟩
  | 7 => ⟨S8x96x220x220, .f32⟩
  | 8 => ⟨S8x96x220x220, .f32⟩
  | 9 => ⟨S8x96x220x220, .f32⟩
  | 10 => ⟨S8x96x220x220, .f32⟩
  | 11 => ⟨S8x96x220x220, .f32⟩
  | 12 => ⟨S8x96x220x220, .i1⟩
  | 13 => ⟨S8x96x220x220, .f32⟩
  | 14 => ⟨S_, .f32⟩
  | 15 => ⟨S_, .f32⟩
  | 16 => ⟨S8x96x224x224, .f32⟩
  | 17 => ⟨S_, .f32⟩
  | 18 => ⟨S8x96x224x224, .f32⟩
  | 19 => ⟨S8x96x224x224, .f32⟩
  | 20 => ⟨S_, .f32⟩
  | 21 => ⟨S_, .f32⟩
  | 22 => ⟨S8x96x224x224, .f32⟩
  | 23 => ⟨S_, .f32⟩
  | 24 => ⟨S_, .f32⟩
  | 25 => ⟨S8x96x224x224, .f32⟩
  | 26 => ⟨S8x96x224x224, .f32⟩
  | _ => ⟨S8x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x96x224x224, .f32⟩

abbrev bufTy : (tb : Table) → Fin (tcTables nBuf tb) → BufTy
  | .hbm, ⟨i, _⟩ => hbmTy i
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_v7 : Ref sig .tc := ⟨.hbm, 248, rfl⟩
abbrev main_call1_cst : Ref sig .tc := ⟨.hbm, 249, rfl⟩
abbrev main_call1_cst_0 : Ref sig .tc := ⟨.hbm, 250, rfl⟩
abbrev main_call1_call0_v0 : Ref sig .tc := ⟨.hbm, 251, rfl⟩
abbrev main_call1_call0_v1 : Ref sig .tc := ⟨.hbm, 252, rfl⟩
abbrev main_call1_call0_v2 : Ref sig .tc := ⟨.hbm, 253, rfl⟩
abbrev main_call1_call0_v3 : Ref sig .tc := ⟨.hbm, 254, rfl⟩
abbrev main_call1_call0_v4 : Ref sig .tc := ⟨.hbm, 255, rfl⟩
abbrev main_call1_call0_v5 : Ref sig .tc := ⟨.hbm, 256, rfl⟩
abbrev main_call1_call0_v6 : Ref sig .tc := ⟨.hbm, 257, rfl⟩
abbrev main_call1_call0_v7 : Ref sig .tc := ⟨.hbm, 258, rfl⟩
abbrev main_call1_call0_v8 : Ref sig .tc := ⟨.hbm, 259, rfl⟩
abbrev main_call1_call0_v9 : Ref sig .tc := ⟨.hbm, 260, rfl⟩
abbrev main_call1_call0_v10 : Ref sig .tc := ⟨.hbm, 261, rfl⟩
abbrev main_call1_call0_v11 : Ref sig .tc := ⟨.hbm, 262, rfl⟩
abbrev main_call1_call0_c : Ref sig .tc := ⟨.hbm, 263, rfl⟩
abbrev main_call1_call0_v12 : Ref sig .tc := ⟨.hbm, 264, rfl⟩
abbrev main_call1_call0_v13 : Ref sig .tc := ⟨.hbm, 265, rfl⟩
abbrev main_call1_call0_c_0 : Ref sig .tc := ⟨.hbm, 266, rfl⟩
abbrev main_call1_call0_v14 : Ref sig .tc := ⟨.hbm, 267, rfl⟩
abbrev main_call1_call0_v15 : Ref sig .tc := ⟨.hbm, 268, rfl⟩
abbrev main_call1_call0_c_1 : Ref sig .tc := ⟨.hbm, 269, rfl⟩
abbrev main_call1_call0_v16 : Ref sig .tc := ⟨.hbm, 270, rfl⟩
abbrev main_call1_call0_v17 : Ref sig .tc := ⟨.hbm, 271, rfl⟩
abbrev main_call1_call0_c_2 : Ref sig .tc := ⟨.hbm, 272, rfl⟩
abbrev main_call1_call0_v18 : Ref sig .tc := ⟨.hbm, 273, rfl⟩
abbrev main_call1_call0_v19 : Ref sig .tc := ⟨.hbm, 274, rfl⟩
abbrev main_call1_call0_v20 : Ref sig .tc := ⟨.hbm, 275, rfl⟩
abbrev main_call1_call0_v21 : Ref sig .tc := ⟨.hbm, 276, rfl⟩
abbrev main_call1_call0_v22 : Ref sig .tc := ⟨.hbm, 277, rfl⟩
abbrev main_call1_call0_c_3 : Ref sig .tc := ⟨.hbm, 278, rfl⟩
abbrev main_call1_call0_v23 : Ref sig .tc := ⟨.hbm, 279, rfl⟩
abbrev main_call1_call0_v24 : Ref sig .tc := ⟨.hbm, 280, rfl⟩
abbrev main_call1_call0_v25 : Ref sig .tc := ⟨.hbm, 281, rfl⟩
abbrev main_call1_call0_v26 : Ref sig .tc := ⟨.hbm, 282, rfl⟩
abbrev main_call1_call0_call0_v0 : Ref sig .tc := ⟨.hbm, 283, rfl⟩
abbrev main_call1_call0_call0_c : Ref sig .tc := ⟨.hbm, 284, rfl⟩
abbrev main_call1_call0_call0_v1 : Ref sig .tc := ⟨.hbm, 285, rfl⟩
abbrev main_call1_call0_call0_v2 : Ref sig .tc := ⟨.hbm, 286, rfl⟩
abbrev main_call1_call0_call0_v3 : Ref sig .tc := ⟨.hbm, 287, rfl⟩
abbrev main_call1_call0_call0_v4 : Ref sig .tc := ⟨.hbm, 288, rfl⟩
abbrev main_call1_call0_call0_v5 : Ref sig .tc := ⟨.hbm, 289, rfl⟩
abbrev main_call1_call0_call0_v6 : Ref sig .tc := ⟨.hbm, 290, rfl⟩
abbrev main_call1_call0_call0_c_0 : Ref sig .tc := ⟨.hbm, 291, rfl⟩
abbrev main_call1_call0_call0_v7 : Ref sig .tc := ⟨.hbm, 292, rfl⟩
abbrev main_call1_call0_call0_v8 : Ref sig .tc := ⟨.hbm, 293, rfl⟩
abbrev main_call1_call0_call0_c_1 : Ref sig .tc := ⟨.hbm, 294, rfl⟩
abbrev main_call1_call0_call0_v9 : Ref sig .tc := ⟨.hbm, 295, rfl⟩
abbrev main_call1_call0_call0_v10 : Ref sig .tc := ⟨.hbm, 296, rfl⟩
abbrev main_call1_call0_call0_v11 : Ref sig .tc := ⟨.hbm, 297, rfl⟩
abbrev main_call1_call0_call0_v12 : Ref sig .tc := ⟨.hbm, 298, rfl⟩
abbrev main_call1_call0_call0_v13 : Ref sig .tc := ⟨.hbm, 299, rfl⟩
abbrev main_call1_call0_call0_c_2 : Ref sig .tc := ⟨.hbm, 300, rfl⟩
abbrev main_call1_call0_call0_v14 : Ref sig .tc := ⟨.hbm, 301, rfl⟩
abbrev main_call1_call0_call0_v15 : Ref sig .tc := ⟨.hbm, 302, rfl⟩
abbrev main_call1_call0_call0_c_3 : Ref sig .tc := ⟨.hbm, 303, rfl⟩
abbrev main_call1_call0_call0_v16 : Ref sig .tc := ⟨.hbm, 304, rfl⟩
abbrev main_call1_call0_call0_v17 : Ref sig .tc := ⟨.hbm, 305, rfl⟩
abbrev main_call1_call0_call0_v18 : Ref sig .tc := ⟨.hbm, 306, rfl⟩
abbrev main_call1_call0_call0_v19 : Ref sig .tc := ⟨.hbm, 307, rfl⟩
abbrev main_call1_call0_call0_v20 : Ref sig .tc := ⟨.hbm, 308, rfl⟩
abbrev main_call1_call0_call0_c_4 : Ref sig .tc := ⟨.hbm, 309, rfl⟩
abbrev main_call1_call0_call0_v21 : Ref sig .tc := ⟨.hbm, 310, rfl⟩
abbrev main_call1_call0_call0_v22 : Ref sig .tc := ⟨.hbm, 311, rfl⟩
abbrev main_call1_call0_call0_c_5 : Ref sig .tc := ⟨.hbm, 312, rfl⟩
abbrev main_call1_call0_call0_v23 : Ref sig .tc := ⟨.hbm, 313, rfl⟩
abbrev main_call1_call0_call0_v24 : Ref sig .tc := ⟨.hbm, 314, rfl⟩
abbrev main_call1_call0_call0_v25 : Ref sig .tc := ⟨.hbm, 315, rfl⟩
abbrev main_call1_call0_call0_v26 : Ref sig .tc := ⟨.hbm, 316, rfl⟩
abbrev main_call1_call0_call0_v27 : Ref sig .tc := ⟨.hbm, 317, rfl⟩
abbrev main_call1_call0_call0_c_6 : Ref sig .tc := ⟨.hbm, 318, rfl⟩
abbrev main_call1_call0_call0_v28 : Ref sig .tc := ⟨.hbm, 319, rfl⟩
abbrev main_call1_call0_call0_v29 : Ref sig .tc := ⟨.hbm, 320, rfl⟩
abbrev main_call1_call0_call0_c_7 : Ref sig .tc := ⟨.hbm, 321, rfl⟩
abbrev main_call1_call0_call0_v30 : Ref sig .tc := ⟨.hbm, 322, rfl⟩
abbrev main_call1_call0_call0_v31 : Ref sig .tc := ⟨.hbm, 323, rfl⟩
abbrev main_call1_call0_call0_v32 : Ref sig .tc := ⟨.hbm, 324, rfl⟩
abbrev main_call1_call0_call0_v33 : Ref sig .tc := ⟨.hbm, 325, rfl⟩
abbrev main_call1_call0_call0_v34 : Ref sig .tc := ⟨.hbm, 326, rfl⟩
abbrev main_call1_call0_call0_v35 : Ref sig .tc := ⟨.hbm, 327, rfl⟩
abbrev main_call1_call0_call0_v36 : Ref sig .tc := ⟨.hbm, 328, rfl⟩
abbrev main_call1_call0_call0_v37 : Ref sig .tc := ⟨.hbm, 329, rfl⟩
abbrev main_call1_call0_call0_c_8 : Ref sig .tc := ⟨.hbm, 330, rfl⟩
abbrev main_call1_call0_call0_v38 : Ref sig .tc := ⟨.hbm, 331, rfl⟩
abbrev main_call1_call0_call0_v39 : Ref sig .tc := ⟨.hbm, 332, rfl⟩
abbrev main_call1_call0_call0_v40 : Ref sig .tc := ⟨.hbm, 333, rfl⟩
abbrev main_call1_call0_call0_c_9 : Ref sig .tc := ⟨.hbm, 334, rfl⟩
abbrev main_call1_call0_call0_v41 : Ref sig .tc := ⟨.hbm, 335, rfl⟩
abbrev main_call1_call0_call0_v42 : Ref sig .tc := ⟨.hbm, 336, rfl⟩
abbrev main_call1_call0_call0_c_10 : Ref sig .tc := ⟨.hbm, 337, rfl⟩
abbrev main_call1_call0_call0_v43 : Ref sig .tc := ⟨.hbm, 338, rfl⟩
abbrev main_call1_call0_call0_v44 : Ref sig .tc := ⟨.hbm, 339, rfl⟩
abbrev main_call1_call0_call0_v45 : Ref sig .tc := ⟨.hbm, 340, rfl⟩
abbrev main_call1_call0_call0_v46 : Ref sig .tc := ⟨.hbm, 341, rfl⟩
abbrev main_call1_call0_call0_v47 : Ref sig .tc := ⟨.hbm, 342, rfl⟩
abbrev main_call1_call0_call0_c_11 : Ref sig .tc := ⟨.hbm, 343, rfl⟩
abbrev main_call1_call0_call0_v48 : Ref sig .tc := ⟨.hbm, 344, rfl⟩
abbrev main_call1_call0_call0_v49 : Ref sig .tc := ⟨.hbm, 345, rfl⟩
abbrev main_call1_call0_call0_c_12 : Ref sig .tc := ⟨.hbm, 346, rfl⟩
abbrev main_call1_call0_call0_v50 : Ref sig .tc := ⟨.hbm, 347, rfl⟩
abbrev main_call1_call0_call0_v51 : Ref sig .tc := ⟨.hbm, 348, rfl⟩
abbrev main_call1_call0_call0_v52 : Ref sig .tc := ⟨.hbm, 349, rfl⟩
abbrev main_call1_call0_call0_v53 : Ref sig .tc := ⟨.hbm, 350, rfl⟩
abbrev main_call1_call0_call0_v54 : Ref sig .tc := ⟨.hbm, 351, rfl⟩
abbrev main_call1_call0_call0_c_13 : Ref sig .tc := ⟨.hbm, 352, rfl⟩
abbrev main_call1_call0_call0_v55 : Ref sig .tc := ⟨.hbm, 353, rfl⟩
abbrev main_call1_call0_call0_v56 : Ref sig .tc := ⟨.hbm, 354, rfl⟩
abbrev main_call1_call0_call0_c_14 : Ref sig .tc := ⟨.hbm, 355, rfl⟩
abbrev main_call1_call0_call0_v57 : Ref sig .tc := ⟨.hbm, 356, rfl⟩
abbrev main_call1_call0_call0_v58 : Ref sig .tc := ⟨.hbm, 357, rfl⟩
abbrev main_call1_call0_call0_v59 : Ref sig .tc := ⟨.hbm, 358, rfl⟩
abbrev main_call1_call0_call0_v60 : Ref sig .tc := ⟨.hbm, 359, rfl⟩
abbrev main_call1_call0_call0_v61 : Ref sig .tc := ⟨.hbm, 360, rfl⟩
abbrev main_call1_call0_call0_c_15 : Ref sig .tc := ⟨.hbm, 361, rfl⟩
abbrev main_call1_call0_call0_v62 : Ref sig .tc := ⟨.hbm, 362, rfl⟩
abbrev main_call1_call0_call0_v63 : Ref sig .tc := ⟨.hbm, 363, rfl⟩
abbrev main_call1_call0_call0_c_16 : Ref sig .tc := ⟨.hbm, 364, rfl⟩
abbrev main_call1_call0_call0_v64 : Ref sig .tc := ⟨.hbm, 365, rfl⟩
abbrev main_call1_call0_call0_v65 : Ref sig .tc := ⟨.hbm, 366, rfl⟩
abbrev main_call1_call0_call0_v66 : Ref sig .tc := ⟨.hbm, 367, rfl⟩
abbrev main_call1_call0_call0_v67 : Ref sig .tc := ⟨.hbm, 368, rfl⟩
abbrev main_call1_call0_call0_v68 : Ref sig .tc := ⟨.hbm, 369, rfl⟩
abbrev main_call1_call0_call0_v69 : Ref sig .tc := ⟨.hbm, 370, rfl⟩
abbrev main_call1_call0_call0_v70 : Ref sig .tc := ⟨.hbm, 371, rfl⟩
abbrev main_call1_call0_call0_v71 : Ref sig .tc := ⟨.hbm, 372, rfl⟩
abbrev main_call1_call0_call0_c_17 : Ref sig .tc := ⟨.hbm, 373, rfl⟩
abbrev main_call1_call0_call0_v72 : Ref sig .tc := ⟨.hbm, 374, rfl⟩
abbrev main_call1_call0_call0_v73 : Ref sig .tc := ⟨.hbm, 375, rfl⟩
abbrev main_call1_call0_call0_v74 : Ref sig .tc := ⟨.hbm, 376, rfl⟩
abbrev main_call1_call0_call0_c_18 : Ref sig .tc := ⟨.hbm, 377, rfl⟩
abbrev main_call1_call0_call0_v75 : Ref sig .tc := ⟨.hbm, 378, rfl⟩
abbrev main_call1_call0_call0_v76 : Ref sig .tc := ⟨.hbm, 379, rfl⟩
abbrev main_call1_call0_call0_c_19 : Ref sig .tc := ⟨.hbm, 380, rfl⟩
abbrev main_call1_call0_call0_v77 : Ref sig .tc := ⟨.hbm, 381, rfl⟩
abbrev main_call1_call0_call0_v78 : Ref sig .tc := ⟨.hbm, 382, rfl⟩
abbrev main_call1_call0_call0_v79 : Ref sig .tc := ⟨.hbm, 383, rfl⟩
abbrev main_call1_call0_call0_v80 : Ref sig .tc := ⟨.hbm, 384, rfl⟩
abbrev main_call1_call0_call0_v81 : Ref sig .tc := ⟨.hbm, 385, rfl⟩
abbrev main_call1_call0_call0_c_20 : Ref sig .tc := ⟨.hbm, 386, rfl⟩
abbrev main_call1_call0_call0_v82 : Ref sig .tc := ⟨.hbm, 387, rfl⟩
abbrev main_call1_call0_call0_v83 : Ref sig .tc := ⟨.hbm, 388, rfl⟩
abbrev main_call1_call0_call0_c_21 : Ref sig .tc := ⟨.hbm, 389, rfl⟩
abbrev main_call1_call0_call0_v84 : Ref sig .tc := ⟨.hbm, 390, rfl⟩
abbrev main_call1_call0_call0_v85 : Ref sig .tc := ⟨.hbm, 391, rfl⟩
abbrev main_call1_call0_call0_v86 : Ref sig .tc := ⟨.hbm, 392, rfl⟩
abbrev main_call1_call0_call0_v87 : Ref sig .tc := ⟨.hbm, 393, rfl⟩
abbrev main_call1_call0_call0_v88 : Ref sig .tc := ⟨.hbm, 394, rfl⟩
abbrev main_call1_call0_call0_c_22 : Ref sig .tc := ⟨.hbm, 395, rfl⟩
abbrev main_call1_call0_call0_v89 : Ref sig .tc := ⟨.hbm, 396, rfl⟩
abbrev main_call1_call0_call0_v90 : Ref sig .tc := ⟨.hbm, 397, rfl⟩
abbrev main_call1_call0_call0_c_23 : Ref sig .tc := ⟨.hbm, 398, rfl⟩
abbrev main_call1_call0_call0_v91 : Ref sig .tc := ⟨.hbm, 399, rfl⟩
abbrev main_call1_call0_call0_v92 : Ref sig .tc := ⟨.hbm, 400, rfl⟩
abbrev main_call1_call0_call0_v93 : Ref sig .tc := ⟨.hbm, 401, rfl⟩
abbrev main_call1_call0_call0_v94 : Ref sig .tc := ⟨.hbm, 402, rfl⟩
abbrev main_call1_call0_call0_v95 : Ref sig .tc := ⟨.hbm, 403, rfl⟩
abbrev main_call1_call0_call0_c_24 : Ref sig .tc := ⟨.hbm, 404, rfl⟩
abbrev main_call1_call0_call0_v96 : Ref sig .tc := ⟨.hbm, 405, rfl⟩
abbrev main_call1_call0_call0_v97 : Ref sig .tc := ⟨.hbm, 406, rfl⟩
abbrev main_call1_call0_call0_c_25 : Ref sig .tc := ⟨.hbm, 407, rfl⟩
abbrev main_call1_call0_call0_v98 : Ref sig .tc := ⟨.hbm, 408, rfl⟩
abbrev main_call1_call0_call0_v99 : Ref sig .tc := ⟨.hbm, 409, rfl⟩
abbrev main_call1_call0_call0_v100 : Ref sig .tc := ⟨.hbm, 410, rfl⟩
abbrev main_call1_call0_call0_v101 : Ref sig .tc := ⟨.hbm, 411, rfl⟩
abbrev main_call1_call0_call0_v102 : Ref sig .tc := ⟨.hbm, 412, rfl⟩
abbrev main_call1_call0_call0_v103 : Ref sig .tc := ⟨.hbm, 413, rfl⟩
abbrev main_call1_call0_call0_v104 : Ref sig .tc := ⟨.hbm, 414, rfl⟩
abbrev main_call1_call0_call0_v105 : Ref sig .tc := ⟨.hbm, 415, rfl⟩
abbrev main_call1_call0_call0_c_26 : Ref sig .tc := ⟨.hbm, 416, rfl⟩
abbrev main_call1_call0_call0_v106 : Ref sig .tc := ⟨.hbm, 417, rfl⟩
abbrev main_call1_call0_call0_v107 : Ref sig .tc := ⟨.hbm, 418, rfl⟩
abbrev main_call1_call0_call0_v108 : Ref sig .tc := ⟨.hbm, 419, rfl⟩
abbrev main_call1_call0_call0_c_27 : Ref sig .tc := ⟨.hbm, 420, rfl⟩
abbrev main_call1_call0_call0_v109 : Ref sig .tc := ⟨.hbm, 421, rfl⟩
abbrev main_call1_call0_call0_v110 : Ref sig .tc := ⟨.hbm, 422, rfl⟩
abbrev main_call1_call0_call0_c_28 : Ref sig .tc := ⟨.hbm, 423, rfl⟩
abbrev main_call1_call0_call0_v111 : Ref sig .tc := ⟨.hbm, 424, rfl⟩
abbrev main_call1_call0_call0_v112 : Ref sig .tc := ⟨.hbm, 425, rfl⟩
abbrev main_call1_call0_call0_v113 : Ref sig .tc := ⟨.hbm, 426, rfl⟩
abbrev main_call1_call0_call0_v114 : Ref sig .tc := ⟨.hbm, 427, rfl⟩
abbrev main_call1_call0_call0_v115 : Ref sig .tc := ⟨.hbm, 428, rfl⟩
abbrev main_call1_call0_call0_c_29 : Ref sig .tc := ⟨.hbm, 429, rfl⟩
abbrev main_call1_call0_call0_v116 : Ref sig .tc := ⟨.hbm, 430, rfl⟩
abbrev main_call1_call0_call0_v117 : Ref sig .tc := ⟨.hbm, 431, rfl⟩
abbrev main_call1_call0_call0_c_30 : Ref sig .tc := ⟨.hbm, 432, rfl⟩
abbrev main_call1_call0_call0_v118 : Ref sig .tc := ⟨.hbm, 433, rfl⟩
abbrev main_call1_call0_call0_v119 : Ref sig .tc := ⟨.hbm, 434, rfl⟩
abbrev main_call1_call0_call0_v120 : Ref sig .tc := ⟨.hbm, 435, rfl⟩
abbrev main_call1_call0_call0_v121 : Ref sig .tc := ⟨.hbm, 436, rfl⟩
abbrev main_call1_call0_call0_v122 : Ref sig .tc := ⟨.hbm, 437, rfl⟩
abbrev main_call1_call0_call0_c_31 : Ref sig .tc := ⟨.hbm, 438, rfl⟩
abbrev main_call1_call0_call0_v123 : Ref sig .tc := ⟨.hbm, 439, rfl⟩
abbrev main_call1_call0_call0_v124 : Ref sig .tc := ⟨.hbm, 440, rfl⟩
abbrev main_call1_call0_call0_c_32 : Ref sig .tc := ⟨.hbm, 441, rfl⟩
abbrev main_call1_call0_call0_v125 : Ref sig .tc := ⟨.hbm, 442, rfl⟩
abbrev main_call1_call0_call0_v126 : Ref sig .tc := ⟨.hbm, 443, rfl⟩
abbrev main_call1_call0_call0_v127 : Ref sig .tc := ⟨.hbm, 444, rfl⟩
abbrev main_call1_call0_call0_v128 : Ref sig .tc := ⟨.hbm, 445, rfl⟩
abbrev main_call1_call0_call0_v129 : Ref sig .tc := ⟨.hbm, 446, rfl⟩
abbrev main_call1_call0_call0_c_33 : Ref sig .tc := ⟨.hbm, 447, rfl⟩
abbrev main_call1_call0_call0_v130 : Ref sig .tc := ⟨.hbm, 448, rfl⟩
abbrev main_call1_call0_call0_v131 : Ref sig .tc := ⟨.hbm, 449, rfl⟩
abbrev main_call1_call0_call0_c_34 : Ref sig .tc := ⟨.hbm, 450, rfl⟩
abbrev main_call1_call0_call0_v132 : Ref sig .tc := ⟨.hbm, 451, rfl⟩
abbrev main_call1_call0_call0_v133 : Ref sig .tc := ⟨.hbm, 452, rfl⟩
abbrev main_call1_call0_call0_v134 : Ref sig .tc := ⟨.hbm, 453, rfl⟩
abbrev main_call1_call0_call0_v135 : Ref sig .tc := ⟨.hbm, 454, rfl⟩
abbrev main_call1_call0_call0_v136 : Ref sig .tc := ⟨.hbm, 455, rfl⟩
abbrev main_call1_call0_call0_v137 : Ref sig .tc := ⟨.hbm, 456, rfl⟩
abbrev main_call1_call0_call0_v138 : Ref sig .tc := ⟨.hbm, 457, rfl⟩
abbrev main_call1_call0_call0_v139 : Ref sig .tc := ⟨.hbm, 458, rfl⟩
abbrev main_call1_call0_call0_c_35 : Ref sig .tc := ⟨.hbm, 459, rfl⟩
abbrev main_call1_call0_call0_v140 : Ref sig .tc := ⟨.hbm, 460, rfl⟩
abbrev main_call1_call0_call0_v141 : Ref sig .tc := ⟨.hbm, 461, rfl⟩
abbrev main_call1_call0_call0_v142 : Ref sig .tc := ⟨.hbm, 462, rfl⟩
abbrev main_call1_call0_call0_c_36 : Ref sig .tc := ⟨.hbm, 463, rfl⟩
abbrev main_call1_call0_call0_v143 : Ref sig .tc := ⟨.hbm, 464, rfl⟩
abbrev main_call1_call0_call0_v144 : Ref sig .tc := ⟨.hbm, 465, rfl⟩
abbrev main_call1_call0_call0_c_37 : Ref sig .tc := ⟨.hbm, 466, rfl⟩
abbrev main_call1_call0_call0_v145 : Ref sig .tc := ⟨.hbm, 467, rfl⟩
abbrev main_call1_call0_call0_v146 : Ref sig .tc := ⟨.hbm, 468, rfl⟩
abbrev main_call1_call0_call0_v147 : Ref sig .tc := ⟨.hbm, 469, rfl⟩
abbrev main_call1_call0_call0_v148 : Ref sig .tc := ⟨.hbm, 470, rfl⟩
abbrev main_call1_call0_call0_v149 : Ref sig .tc := ⟨.hbm, 471, rfl⟩
abbrev main_call1_call0_call0_c_38 : Ref sig .tc := ⟨.hbm, 472, rfl⟩
abbrev main_call1_call0_call0_v150 : Ref sig .tc := ⟨.hbm, 473, rfl⟩
abbrev main_call1_call0_call0_v151 : Ref sig .tc := ⟨.hbm, 474, rfl⟩
abbrev main_call1_call0_call0_c_39 : Ref sig .tc := ⟨.hbm, 475, rfl⟩
abbrev main_call1_call0_call0_v152 : Ref sig .tc := ⟨.hbm, 476, rfl⟩
abbrev main_call1_call0_call0_v153 : Ref sig .tc := ⟨.hbm, 477, rfl⟩
abbrev main_call1_call0_call0_v154 : Ref sig .tc := ⟨.hbm, 478, rfl⟩
abbrev main_call1_call0_call0_v155 : Ref sig .tc := ⟨.hbm, 479, rfl⟩
abbrev main_call1_call0_call0_v156 : Ref sig .tc := ⟨.hbm, 480, rfl⟩
abbrev main_call1_call0_call0_c_40 : Ref sig .tc := ⟨.hbm, 481, rfl⟩
abbrev main_call1_call0_call0_v157 : Ref sig .tc := ⟨.hbm, 482, rfl⟩
abbrev main_call1_call0_call0_v158 : Ref sig .tc := ⟨.hbm, 483, rfl⟩
abbrev main_call1_call0_call0_c_41 : Ref sig .tc := ⟨.hbm, 484, rfl⟩
abbrev main_call1_call0_call0_v159 : Ref sig .tc := ⟨.hbm, 485, rfl⟩
abbrev main_call1_call0_call0_v160 : Ref sig .tc := ⟨.hbm, 486, rfl⟩
abbrev main_call1_call0_call0_v161 : Ref sig .tc := ⟨.hbm, 487, rfl⟩
abbrev main_call1_call0_call0_v162 : Ref sig .tc := ⟨.hbm, 488, rfl⟩
abbrev main_call1_call0_call0_v163 : Ref sig .tc := ⟨.hbm, 489, rfl⟩
abbrev main_call1_call0_call0_c_42 : Ref sig .tc := ⟨.hbm, 490, rfl⟩
abbrev main_call1_call0_call0_v164 : Ref sig .tc := ⟨.hbm, 491, rfl⟩
abbrev main_call1_call0_call0_v165 : Ref sig .tc := ⟨.hbm, 492, rfl⟩
abbrev main_call1_call0_call0_c_43 : Ref sig .tc := ⟨.hbm, 493, rfl⟩
abbrev main_call1_call0_call0_v166 : Ref sig .tc := ⟨.hbm, 494, rfl⟩
abbrev main_call1_call0_call0_v167 : Ref sig .tc := ⟨.hbm, 495, rfl⟩
abbrev main_call1_call0_call0_v168 : Ref sig .tc := ⟨.hbm, 496, rfl⟩
abbrev main_call1_call0_call0_v169 : Ref sig .tc := ⟨.hbm, 497, rfl⟩
abbrev main_call1_call0_call0_v170 : Ref sig .tc := ⟨.hbm, 498, rfl⟩
abbrev main_call1_call0_v27_0 : Ref sig .tc := ⟨.hbm, 499, rfl⟩
abbrev main_call1_call0_call0_v172 : Ref sig .tc := ⟨.hbm, 500, rfl⟩
abbrev main_call1_call0_call0_v173 : Ref sig .tc := ⟨.hbm, 501, rfl⟩
abbrev main_call1_call0_call0_c_44 : Ref sig .tc := ⟨.hbm, 502, rfl⟩
abbrev main_call1_call0_call0_v174 : Ref sig .tc := ⟨.hbm, 503, rfl⟩
abbrev main_call1_call0_v27_1 : Ref sig .tc := ⟨.hbm, 504, rfl⟩
abbrev main_call1_call0_v28 : Ref sig .tc := ⟨.hbm, 505, rfl⟩
abbrev main_call1_call0_c_4 : Ref sig .tc := ⟨.hbm, 506, rfl⟩
abbrev main_call1_call0_v29 : Ref sig .tc := ⟨.hbm, 507, rfl⟩
abbrev main_call1_call0_v30 : Ref sig .tc := ⟨.hbm, 508, rfl⟩
abbrev main_call1_call0_c_5 : Ref sig .tc := ⟨.hbm, 509, rfl⟩
abbrev main_call1_call0_v31 : Ref sig .tc := ⟨.hbm, 510, rfl⟩
abbrev main_call1_call0_v32 : Ref sig .tc := ⟨.hbm, 511, rfl⟩
abbrev main_call1_call0_v33 : Ref sig .tc := ⟨.hbm, 512, rfl⟩
abbrev main_call1_call0_cst : Ref sig .tc := ⟨.hbm, 513, rfl⟩
abbrev main_call1_call0_v34 : Ref sig .tc := ⟨.hbm, 514, rfl⟩
abbrev main_call1_call0_v35 : Ref sig .tc := ⟨.hbm, 515, rfl⟩
abbrev main_call1_call0_v36 : Ref sig .tc := ⟨.hbm, 516, rfl⟩
abbrev main_call1_call0_v37 : Ref sig .tc := ⟨.hbm, 517, rfl⟩
abbrev main_call1_call0_v38 : Ref sig .tc := ⟨.hbm, 518, rfl⟩
abbrev main_call1_call0_v39 : Ref sig .tc := ⟨.hbm, 519, rfl⟩
abbrev main_call1_call0_v40 : Ref sig .tc := ⟨.hbm, 520, rfl⟩
abbrev main_call1_call0_v41 : Ref sig .tc := ⟨.hbm, 521, rfl⟩
abbrev main_call1_v0 : Ref sig .tc := ⟨.hbm, 522, rfl⟩
abbrev main_call1_v1 : Ref sig .tc := ⟨.hbm, 523, rfl⟩
abbrev main_v8 : Ref sig .tc := ⟨.hbm, 524, rfl⟩
abbrev main_v9 : Ref sig .tc := ⟨.hbm, 525, rfl⟩
abbrev main_cst : Ref sig .tc := ⟨.hbm, 526, rfl⟩
abbrev main_v10 : Ref sig .tc := ⟨.hbm, 527, rfl⟩
abbrev main_v11 : Ref sig .tc := ⟨.hbm, 528, rfl⟩
abbrev main_cst_3 : Ref sig .tc := ⟨.hbm, 529, rfl⟩
abbrev main_v12 : Ref sig .tc := ⟨.hbm, 530, rfl⟩
abbrev main_v13 : Ref sig .tc := ⟨.hbm, 531, rfl⟩
abbrev main_cst_4 : Ref sig .tc := ⟨.hbm, 532, rfl⟩
abbrev main_v14 : Ref sig .tc := ⟨.hbm, 533, rfl⟩
abbrev main_v15 : Ref sig .tc := ⟨.hbm, 534, rfl⟩
abbrev main_cst_5 : Ref sig .tc := ⟨.hbm, 535, rfl⟩
abbrev main_v16 : Ref sig .tc := ⟨.hbm, 536, rfl⟩
abbrev main_v17 : Ref sig .tc := ⟨.hbm, 537, rfl⟩
abbrev main_v18 : Ref sig .tc := ⟨.hbm, 538, rfl⟩

abbrev nD : Nat := 1
abbrev τ : Topo := Topo.v7x

variable {F : FTy → Type} [FloatOps F]
-- ==== Proof.Sums.lean ====
/- Sums over index sets as sums over ranges, and a range cut into blocks. -/
module

public import Idealize.ShloMosaic.Lib.ValueIdx
import Idealize.ShloMosaic.Lib.Pointwise.IndexBridge

@[expose] public section

namespace Cert.Drop

open Idealize.ShloMosaic

/-- A range cut into `n` blocks of `m`. -/
theorem sum_blocks {M : Type*} [AddCommMonoid M] (n m : Nat) (f : Nat → M) :
    ∑ x ∈ Finset.range (n * m), f x = ∑ t ∈ Finset.range n, ∑ s ∈ Finset.range m, f (m * t + s) := by
  induction n with
  | zero => simp
  | succ n ih => rw [Finset.sum_range_succ, ← ih, Nat.succ_mul, Finset.sum_range_add, Nat.mul_comm n m]

/-- A sum over the indices of a rank-3 array. -/
theorem sum_range3 {M : Type*} [AddCommMonoid M] {n0 n1 n2 : Nat} (F : (⟨3, ![n0, n1, n2]⟩ : Shape).Idx → M) (f : Nat → Nat → Nat → M)
    (h : ∀ a b c, F (ValueIdx.ix3 a b c) = f a.val b.val c.val) :
    ∑ i, F i = ∑ a ∈ Finset.range n0, ∑ b ∈ Finset.range n1, ∑ c ∈ Finset.range n2, f a b c := by
  rw [sum_idx3]
  simp only [ix3_eq_valueIdx, h]
  rw [← Fin.sum_univ_eq_sum_range (fun a => ∑ b ∈ Finset.range n1, ∑ c ∈ Finset.range n2, f a b c)]
  refine Finset.sum_congr rfl fun a _ => ?_
  rw [← Fin.sum_univ_eq_sum_range (fun b => ∑ c ∈ Finset.range n2, f a.val b c)]
  refine Finset.sum_congr rfl fun b _ => ?_
  exact Fin.sum_univ_eq_sum_range (fun c => f a.val b.val c) n2

/-- A sum over the indices of a rank-4 array. -/
theorem sum_range4 {M : Type*} [AddCommMonoid M] {n0 n1 n2 n3 : Nat} (F : (⟨4, ![n0, n1, n2, n3]⟩ : Shape).Idx → M) (f : Nat → Nat → Nat → Nat → M)
    (h : ∀ a b c d, F (ValueIdx.ix4 a b c d) = f a.val b.val c.val d.val) :
    ∑ i, F i = ∑ a ∈ Finset.range n0, ∑ b ∈ Finset.range n1, ∑ c ∈ Finset.range n2, ∑ d ∈ Finset.range n3, f a b c d := by
  rw [sum_idx4]
  simp only [ix4_eq_valueIdx, h]
  rw [← Fin.sum_univ_eq_sum_range (fun a => ∑ b ∈ Finset.range n1, ∑ c ∈ Finset.range n2, ∑ d ∈ Finset.range n3, f a b c d)]
  refine Finset.sum_congr rfl fun a _ => ?_
  rw [← Fin.sum_univ_eq_sum_range (fun b => ∑ c ∈ Finset.range n2, ∑ d ∈ Finset.range n3, f a.val b c d)]
  refine Finset.sum_congr rfl fun b _ => ?_
  rw [← Fin.sum_univ_eq_sum_range (fun c => ∑ d ∈ Finset.range n3, f a.val b.val c d)]
  refine Finset.sum_congr rfl fun c _ => ?_
  exact Fin.sum_univ_eq_sum_range (fun d => f a.val b.val c.val d) n3

end Cert.Drop
-- ==== Proof.Hash.lean ====
/- The hash of the mask: twenty rounds of the counter-based generator, on one 32-bit counter, with the mask's key. One name for each
   stage of each word, so that the two programs can be compared stage by stage. -/
module

public import Idealize.ShloMosaic.Lib.ValueIdx

@[expose] public section

namespace Cert.Drop

/-- A word turned left by `r` bits. -/
def rot (r : Nat) (x : BitVec 32) : BitVec 32 := (x <<< r) ||| (x >>> (32 - r))

/-- The second word, the counter plus the second key word. -/
def b0 (l : BitVec 32) : BitVec 32 := l + 3453687069#32
/-- The first word after the first sum. -/
def a1 (l : BitVec 32) : BitVec 32 := (0#32 + 928981903#32) + b0 l
/-- The second word after round 1. -/
def b1 (l : BitVec 32) : BitVec 32 := rot 13 (b0 l) ^^^ a1 l
/-- The first word at the sum after round 1. -/
def a2 (l : BitVec 32) : BitVec 32 := a1 l + b1 l
/-- The second word after round 2. -/
def b2 (l : BitVec 32) : BitVec 32 := rot 15 (b1 l) ^^^ a2 l
/-- The first word at the sum after round 2. -/
def a3 (l : BitVec 32) : BitVec 32 := a2 l + b2 l
/-- The second word after round 3. -/
def b3 (l : BitVec 32) : BitVec 32 := rot 26 (b2 l) ^^^ a3 l
/-- The first word at the sum after round 3. -/
def a4 (l : BitVec 32) : BitVec 32 := a3 l + b3 l
/-- The second word after round 4, with its key added. -/
def b4 (l : BitVec 32) : BitVec 32 := (rot 6 (b3 l) ^^^ a4 l) + 3780455753#32
/-- The first word at the sum after round 4. -/
def a5 (l : BitVec 32) : BitVec 32 := (a4 l + 3453687069#32) + b4 l
/-- The second word after round 5. -/
def b5 (l : BitVec 32) : BitVec 32 := rot 17 (b4 l) ^^^ a5 l
/-- The first word at the sum after round 5. -/
def a6 (l : BitVec 32) : BitVec 32 := a5 l + b5 l
/-- The second word after round 6. -/
def b6 (l : BitVec 32) : BitVec 32 := rot 29 (b5 l) ^^^ a6 l
/-- The first word at the sum after round 6. -/
def a7 (l : BitVec 32) : BitVec 32 := a6 l + b6 l
/-- The second word after round 7. -/
def b7 (l : BitVec 32) : BitVec 32 := rot 16 (b6 l) ^^^ a7 l
/-- The first word at the sum after round 7. -/
def a8 (l : BitVec 32) : BitVec 32 := a7 l + b7 l
/-- The second word after round 8, with its key added. -/
def b8 (l : BitVec 32) : BitVec 32 := (rot 24 (b7 l) ^^^ a8 l) + 928981905#32
/-- The first word at the sum after round 8. -/
def a9 (l : BitVec 32) : BitVec 32 := (a8 l + 3780455752#32) + b8 l
/-- The second word after round 9. -/
def b9 (l : BitVec 32) : BitVec 32 := rot 13 (b8 l) ^^^ a9 l
/-- The first word at the sum after round 9. -/
def a10 (l : BitVec 32) : BitVec 32 := a9 l + b9 l
/-- The second word after round 10. -/
def b10 (l : BitVec 32) : BitVec 32 := rot 15 (b9 l) ^^^ a10 l
/-- The first word at the sum after round 10. -/
def a11 (l : BitVec 32) : BitVec 32 := a10 l + b10 l
/-- The second word after round 11. -/
def b11 (l : BitVec 32) : BitVec 32 := rot 26 (b10 l) ^^^ a11 l
/-- The first word at the sum after round 11. -/
def a12 (l : BitVec 32) : BitVec 32 := a11 l + b11 l
/-- The second word after round 12, with its key added. -/
def b12 (l : BitVec 32) : BitVec 32 := (rot 6 (b11 l) ^^^ a12 l) + 3453687072#32
/-- The first word at the sum after round 12. -/
def a13 (l : BitVec 32) : BitVec 32 := (a12 l + 928981903#32) + b12 l
/-- The second word after round 13. -/
def b13 (l : BitVec 32) : BitVec 32 := rot 17 (b12 l) ^^^ a13 l
/-- The first word at the sum after round 13. -/
def a14 (l : BitVec 32) : BitVec 32 := a13 l + b13 l
/-- The second word after round 14. -/
def b14 (l : BitVec 32) : BitVec 32 := rot 29 (b13 l) ^^^ a14 l
/-- The first word at the sum after round 14. -/
def a15 (l : BitVec 32) : BitVec 32 := a14 l + b14 l
/-- The second word after round 15. -/
def b15 (l : BitVec 32) : BitVec 32 := rot 16 (b14 l) ^^^ a15 l
/-- The first word at the sum after round 15. -/
def a16 (l : BitVec 32) : BitVec 32 := a15 l + b15 l
/-- The second word after round 16, with its key added. -/
def b16 (l : BitVec 32) : BitVec 32 := (rot 24 (b15 l) ^^^ a16 l) + 3780455756#32
/-- The first word at the sum after round 16. -/
def a17 (l : BitVec 32) : BitVec 32 := (a16 l + 3453687069#32) + b16 l
/-- The second word after round 17. -/
def b17 (l : BitVec 32) : BitVec 32 := rot 13 (b16 l) ^^^ a17 l
/-- The first word at the sum after round 17. -/
def a18 (l : BitVec 32) : BitVec 32 := a17 l + b17 l
/-- The second word after round 18. -/
def b18 (l : BitVec 32) : BitVec 32 := rot 15 (b17 l) ^^^ a18 l
/-- The first word at the sum after round 18. -/
def a19 (l : BitVec 32) : BitVec 32 := a18 l + b18 l
/-- The second word after round 19. -/
def b19 (l : BitVec 32) : BitVec 32 := rot 26 (b18 l) ^^^ a19 l
/-- The first word at the sum after round 19. -/
def a20 (l : BitVec 32) : BitVec 32 := a19 l + b19 l
/-- The second word after round 20, with its key added. -/
def b20 (l : BitVec 32) : BitVec 32 := (rot 6 (b19 l) ^^^ a20 l) + 928981908#32
/-- The hash of a counter: the two words after the last round, the first with its key added. -/
def hash (l : BitVec 32) : BitVec 32 := (a20 l + 3780455752#32) ^^^ b20 l

end Cert.Drop
-- ==== Proof.Mask.lean ====
/- The dropped positions: where the mask is hit, the 5 × 5 dilation of the hits in the order in which packed words are combined, and packed
   words whose bits are 32 consecutive rows. -/
module

public import proofs.«01_k».proof.Proof.Hash

@[expose] public section

namespace Cert.Drop

/-- The mask at channel `c`, row `a`, column `b` counted with four columns of padding on the left: inside the mask, and the hash of the
position's number is below `T`. -/
def hit (T : BitVec 32) (c a b : Nat) : Bool :=
  (decide (a < 220) && decide (4 ≤ b ∧ b < 224)) && (Drop.hash (BitVec.ofNat 32 (c * 48400 + a * 220 + (b - 4)))).ult T

/-- Some hit among five consecutive columns. -/
def hitRow (T : BitVec 32) (c i j : Nat) : Bool := ((hit T c i j || hit T c i (j + 1)) || (hit T c i (j + 2) || hit T c i (j + 1 + 2))) || hit T c i (j + 4)

/-- A function of the row moved down by `s` rows. -/
def up (s : Nat) (f : Nat → Bool) (i : Nat) : Bool := decide (s ≤ i) && f (i - s)

/-- Two rows. -/
def two (f : Nat → Bool) (i : Nat) : Bool := f i || up 1 f i
/-- Four rows. -/
def four (f : Nat → Bool) (i : Nat) : Bool := two f i || up 2 (two f) i
/-- Five rows. -/
def five (f : Nat → Bool) (i : Nat) : Bool := four f i || up 4 f i

/-- The position of channel `c`, row `i`, column `j` of the image is dropped. -/
def drop (T : BitVec 32) (c i j : Nat) : Bool := five (fun i => hitRow T c i j) i

theorem up_iff (s : Nat) (f : Nat → Bool) (i : Nat) : up s f i = true ↔ s ≤ i ∧ f (i - s) = true := by simp [up]

theorem five_iff (f : Nat → Bool) (i : Nat) : five f i = true ↔ ∃ d, d < 5 ∧ d ≤ i ∧ f (i - d) = true := by
  simp only [five, four, two, Bool.or_eq_true, up_iff]
  constructor
  · rintro (((h | ⟨h, e⟩) | ⟨h, (e | ⟨h', e⟩)⟩) | ⟨h, e⟩)
    · exact ⟨0, by omega, by omega, h⟩
    · exact ⟨1, by omega, h, e⟩
    · exact ⟨2, by omega, h, e⟩
    · exact ⟨3, by omega, by omega, by rwa [show i - 3 = i - 2 - 1 by omega]⟩
    · exact ⟨4, by omega, h, e⟩
  · rintro ⟨d, hd, hi, e⟩
    obtain rfl | rfl | rfl | rfl | rfl : d = 0 ∨ d = 1 ∨ d = 2 ∨ d = 3 ∨ d = 4 := by omega
    · exact .inl (.inl (.inl e))
    · exact .inl (.inl (.inr ⟨hi, e⟩))
    · exact .inl (.inr ⟨hi, .inl e⟩)
    · exact .inl (.inr ⟨by omega, .inr ⟨by omega, by rwa [show i - 2 - 1 = i - 3 by omega]⟩⟩)
    · exact .inr ⟨hi, e⟩

/-- A position is dropped when the mask is hit in the window of five rows and five columns that ends there. -/
theorem drop_iff (T : BitVec 32) (c i j : Nat) :
    drop T c i j = true ↔ ∃ d e, d < 5 ∧ e < 5 ∧ d ≤ i ∧ hit T c (i - d) (j + e) = true := by
  unfold drop
  rw [five_iff]
  constructor
  · rintro ⟨d, hd, hi, h⟩
    simp only [hitRow, Bool.or_eq_true] at h
    rcases h with ((h | h) | (h | h)) | h
    · exact ⟨d, 0, hd, by omega, hi, h⟩
    · exact ⟨d, 1, hd, by omega, hi, h⟩
    · exact ⟨d, 2, hd, by omega, hi, h⟩
    · exact ⟨d, 3, hd, by omega, hi, h⟩
    · exact ⟨d, 4, hd, by omega, hi, h⟩
  · rintro ⟨d, e, hd, he, hi, h⟩
    refine ⟨d, hd, hi, ?_⟩
    simp only [hitRow, Bool.or_eq_true]
    obtain rfl | rfl | rfl | rfl | rfl : e = 0 ∨ e = 1 ∨ e = 2 ∨ e = 3 ∨ e = 4 := by omega
    · exact .inl (.inl (.inl h))
    · exact .inl (.inl (.inr h))
    · exact .inl (.inr (.inl h))
    · exact .inl (.inr (.inr h))
    · exact .inr h

/-- The bits of the word are rows `32 r` to `32 r + 31`. -/
def IsRow (f : Nat → Bool) (r : Nat) (u : BitVec 32) : Prop := ∀ k, k < 32 → u.getLsbD k = f (32 * r + k)

/-- The word above: zero above the first. -/
def IsAbove (f : Nat → Bool) (r : Nat) (u : BitVec 32) : Prop := (r = 0 ∧ u = 0#32) ∨ (1 ≤ r ∧ IsRow f (r - 1) u)

theorem IsRow.or {f g : Nat → Bool} {r : Nat} {u v : BitVec 32} (hu : IsRow f r u) (hv : IsRow g r v) : IsRow (fun i => f i || g i) r (u ||| v) := fun k hk => by
  rw [BitVec.getLsbD_or, hu k hk, hv k hk]

/-- A word shifted by `s`, with the bits that the word above shifts out, is the rows moved down by `s`. -/
theorem IsRow.up {f : Nat → Bool} {r : Nat} {u v : BitVec 32} (hu : IsRow f r u) (hv : IsAbove f r v) (s : Nat) (hs : s ≤ 32) :
    IsRow (Drop.up s f) r (u <<< s ||| v >>> (32 - s)) := fun k hk => by
  rw [BitVec.getLsbD_or, BitVec.getLsbD_shiftLeft, BitVec.getLsbD_ushiftRight]
  unfold Drop.up
  by_cases h : k < s
  · rcases hv with ⟨rfl, rfl⟩ | ⟨hr, hv⟩
    · have : ¬ s ≤ 32 * 0 + k := by omega
      simp [h, this]
    · rw [hv _ (by omega)]
      have : s ≤ 32 * r + k := by omega
      have e : 32 * (r - 1) + (32 - s + k) = 32 * r + k - s := by omega
      simp [h, this, e]
  · have h1 : s ≤ 32 * r + k := by omega
    have h2 : v.getLsbD (32 - s + k) = false := BitVec.getLsbD_of_ge _ _ (by omega)
    rw [hu _ (by omega), h2]
    have e : 32 * r + (k - s) = 32 * r + k - s := by omega
    simp [h, h1, e, hk]

end Cert.Drop
-- ==== Proof.Swar.lean ====
/- The number of bits set in a 32-bit word, computed in parallel over the word: pairs, then nibbles, then bytes, then the four bytes. -/
module

public import Idealize.ShloMosaic.Lib.WordSum
public import Idealize.ShloMosaic.Lib.ValueIdx

@[expose] public section

namespace Cert.Drop

/-- Pairs. -/
def swar1 (d : BitVec 32) : BitVec 32 := d - ((d >>> 1) &&& 1431655765#32)
/-- Nibbles. -/
def swar2 (d : BitVec 32) : BitVec 32 := (d &&& 858993459#32) + ((d >>> 2) &&& 858993459#32)
/-- Bytes. -/
def swar3 (d : BitVec 32) : BitVec 32 := (d + d >>> 4) &&& 252645135#32
/-- The four bytes added. -/
def swar4 (d : BitVec 32) : BitVec 32 := (((d + d >>> 8) + d >>> 16) + d >>> 24) &&& 255#32
/-- The parallel count of the bits of a word. -/
def swar (d : BitVec 32) : BitVec 32 := swar4 (swar3 (swar2 (swar1 d)))

/-- Four bytes as one number. -/
def dig (a b c d : Nat) : Nat := a + 256 * (b + 256 * (c + 256 * d))

/-- A bit of a number whose lowest byte is split off. -/
theorem testBit_byte {a : Nat} (ha : a < 256) (b k : Nat) : (a + 256 * b).testBit k = if k < 8 then a.testBit k else b.testBit (k - 8) := by
  have h := Nat.testBit_two_pow_mul_add (i := 8) b (b := a) (by simpa using ha) k
  rw [show a + 256 * b = 2 ^ 8 * b + a by omega]; exact h

/-- Shift and mask act on each byte by itself when the mask stops what the shift carries over. -/
theorem land_byte (s : Nat) (hs : s ≤ 8) {a m : Nat} (ha : a < 256) (hm : m < 2 ^ (8 - s)) (b m' : Nat) :
    ((a + 256 * b) >>> s) &&& (m + 256 * m') = ((a >>> s) &&& m) + 256 * ((b >>> s) &&& m') := by
  have hm8 : m < 256 := lt_of_lt_of_le hm (by
    calc 2 ^ (8 - s) ≤ 2 ^ 8 := Nat.pow_le_pow_right (by norm_num) (by omega)
      _ = 256 := by norm_num)
  have hl : (a >>> s) &&& m < 256 := lt_of_le_of_lt Nat.and_le_right hm8
  apply Nat.eq_of_testBit_eq
  intro k
  rw [testBit_byte hl, Nat.testBit_and, Nat.testBit_shiftRight, testBit_byte ha, testBit_byte hm8]
  by_cases hk : k < 8
  · rw [if_pos hk, if_pos hk, Nat.testBit_and, Nat.testBit_shiftRight]
    by_cases h2 : s + k < 8
    · rw [if_pos h2]
    · have : m.testBit k = false := Nat.testBit_lt_two_pow (lt_of_lt_of_le hm (Nat.pow_le_pow_right (by norm_num) (by omega)))
      rw [this, Bool.and_false, Bool.and_false]
  · rw [if_neg hk, if_neg hk, if_neg (by omega), Nat.testBit_and, Nat.testBit_shiftRight]
    congr 2; omega

theorem land_dig (s : Nat) (hs : s ≤ 8) {m a b c d : Nat} (hm : m < 2 ^ (8 - s)) (ha : a < 256) (hb : b < 256) (hc : c < 256) (hd : d < 256) :
    (dig a b c d >>> s) &&& dig m m m m = dig ((a >>> s) &&& m) ((b >>> s) &&& m) ((c >>> s) &&& m) ((d >>> s) &&& m) := by
  unfold dig
  rw [land_byte s hs ha hm, land_byte s hs hb hm, land_byte s hs hc hm]

/-- The number of bits of a byte. -/
def pop8 (a : Nat) : Nat := ∑ k ∈ Finset.range 8, (a.testBit k).toNat

/-- A byte after the step on pairs. -/
def p1 (a : Nat) : Nat := a - ((a >>> 1) &&& 85)
/-- A byte after the step on nibbles. -/
def p2 (a : Nat) : Nat := ((a >>> 0) &&& 51) + ((a >>> 2) &&& 51)

theorem byte_facts : ∀ a : Fin 256, ((a.val >>> 1) &&& 85) ≤ a.val ∧ p1 a.val < 256 ∧ p2 (p1 a.val) % 16 ≤ 4 ∧ p2 (p1 a.val) / 16 ≤ 4 ∧
    p2 (p1 a.val) % 16 + p2 (p1 a.val) / 16 = pop8 a.val := by decide +kernel

theorem swar1_dig {x : BitVec 32} {a b c d : Nat} (ha : a < 256) (hb : b < 256) (hc : c < 256) (hd : d < 256) (hx : x.toNat = dig a b c d) :
    (swar1 x).toNat = dig (p1 a) (p1 b) (p1 c) (p1 d) := by
  have e : ((x >>> 1) &&& 1431655765#32).toNat = dig ((a >>> 1) &&& 85) ((b >>> 1) &&& 85) ((c >>> 1) &&& 85) ((d >>> 1) &&& 85) := by
    rw [BitVec.toNat_and, BitVec.toNat_ushiftRight, hx]
    exact land_dig 1 (by norm_num) (m := 85) (by norm_num) ha hb hc hd
  have fa := (byte_facts ⟨a, ha⟩).1; have fb := (byte_facts ⟨b, hb⟩).1; have fc := (byte_facts ⟨c, hc⟩).1; have fd := (byte_facts ⟨d, hd⟩).1
  have hlt := x.isLt
  unfold swar1
  rw [BitVec.toNat_sub, e, hx]
  rw [hx] at hlt
  unfold dig p1 at *
  dsimp only at fa fb fc fd
  generalize (a >>> 1) &&& 85 = ea at *
  generalize (b >>> 1) &&& 85 = eb at *
  generalize (c >>> 1) &&& 85 = ec at *
  generalize (d >>> 1) &&& 85 = ed at *
  omega

theorem swar2_dig {x : BitVec 32} {a b c d : Nat} (ha : a < 256) (hb : b < 256) (hc : c < 256) (hd : d < 256) (hx : x.toNat = dig a b c d) :
    (swar2 x).toNat = dig (p2 a) (p2 b) (p2 c) (p2 d) := by
  have e0 : (x &&& 858993459#32).toNat = dig ((a >>> 0) &&& 51) ((b >>> 0) &&& 51) ((c >>> 0) &&& 51) ((d >>> 0) &&& 51) := by
    rw [BitVec.toNat_and, hx]
    exact land_dig 0 (by norm_num) (m := 51) (by norm_num) ha hb hc hd
  have e2 : ((x >>> 2) &&& 858993459#32).toNat = dig ((a >>> 2) &&& 51) ((b >>> 2) &&& 51) ((c >>> 2) &&& 51) ((d >>> 2) &&& 51) := by
    rw [BitVec.toNat_and, BitVec.toNat_ushiftRight, hx]
    exact land_dig 2 (by norm_num) (m := 51) (by norm_num) ha hb hc hd
  unfold swar2
  rw [BitVec.toNat_add, e0, e2]
  unfold dig p2
  have r : ∀ n, n &&& 51 ≤ 51 := fun n => Nat.and_le_right
  have := r (a >>> 0); have := r (b >>> 0); have := r (c >>> 0); have := r (d >>> 0)
  have := r (a >>> 2); have := r (b >>> 2); have := r (c >>> 2); have := r (d >>> 2)
  omega

theorem swar3_dig {x : BitVec 32} {a b c d : Nat} (la : a % 16 ≤ 4) (ha : a / 16 ≤ 4) (lb : b % 16 ≤ 4) (hb : b / 16 ≤ 4) (lc : c % 16 ≤ 4) (hc : c / 16 ≤ 4)
    (ld : d % 16 ≤ 4) (hd : d / 16 ≤ 4) (hx : x.toNat = dig a b c d) :
    (swar3 x).toNat = dig (a % 16 + a / 16) (b % 16 + b / 16) (c % 16 + c / 16) (d % 16 + d / 16) := by
  have e : (x + x >>> 4).toNat = dig (a + a / 16 + 16 * (b % 16)) (b + b / 16 + 16 * (c % 16)) (c + c / 16 + 16 * (d % 16)) (d + d / 16) := by
    rw [BitVec.toNat_add, BitVec.toNat_ushiftRight, hx, Nat.shiftRight_eq_div_pow]
    unfold dig
    omega
  unfold swar3
  rw [BitVec.toNat_and, e]
  have h := land_dig 0 (by norm_num) (m := 15) (a := a + a / 16 + 16 * (b % 16)) (b := b + b / 16 + 16 * (c % 16)) (c := c + c / 16 + 16 * (d % 16)) (d := d + d / 16)
    (by norm_num) (by omega) (by omega) (by omega) (by omega)
  refine h.trans ?_
  have m15 : ∀ n, (n >>> 0) &&& 15 = n % 16 := fun n => Nat.and_two_pow_sub_one_eq_mod n 4
  rw [m15, m15, m15, m15]
  congr 1 <;> omega

theorem swar4_dig {x : BitVec 32} {a b c d : Nat} (ha : a ≤ 8) (hb : b ≤ 8) (hc : c ≤ 8) (hd : d ≤ 8) (hx : x.toNat = dig a b c d) :
    (swar4 x).toNat = a + b + c + d := by
  unfold swar4
  rw [BitVec.toNat_and]
  refine (Nat.and_two_pow_sub_one_eq_mod _ 8).trans ?_
  simp only [BitVec.toNat_add, BitVec.toNat_ushiftRight, hx, Nat.shiftRight_eq_div_pow]
  have q1 : dig a b c d / 2 ^ 8 = b + 256 * (c + 256 * d) := by unfold dig; omega
  have q2 : dig a b c d / 2 ^ 16 = c + 256 * d := by unfold dig; omega
  have q3 : dig a b c d / 2 ^ 24 = d := by unfold dig; omega
  rw [q1, q2, q3]
  have hn : dig a b c d = a + 256 * b + 65536 * c + 16777216 * d := by unfold dig; omega
  rw [Nat.mod_eq_of_lt (a := dig a b c d + (b + 256 * (c + 256 * d))) (by omega),
    Nat.mod_eq_of_lt (a := dig a b c d + (b + 256 * (c + 256 * d)) + (c + 256 * d)) (by omega),
    Nat.mod_eq_of_lt (a := dig a b c d + (b + 256 * (c + 256 * d)) + (c + 256 * d) + d) (by omega), hn]
  omega

/-- The parallel count is the number of bits set. -/
theorem toNat_swar (x : BitVec 32) : (swar x).toNat = ∑ k ∈ Finset.range 32, (x.getLsbD k).toNat := by
  have hlt := x.isLt
  obtain ⟨a, b, c, d, ha, hb_, hc, hd, hx⟩ : ∃ a b c d, a < 256 ∧ b < 256 ∧ c < 256 ∧ d < 256 ∧ x.toNat = dig a b c d :=
    ⟨x.toNat % 256, x.toNat / 256 % 256, x.toNat / 65536 % 256, x.toNat / 16777216, by omega, by omega, by omega, by omega, by unfold dig; omega⟩
  obtain ⟨-, a1, a2, a3, a4⟩ := byte_facts ⟨a, ha⟩
  obtain ⟨-, b1, b2, b3, b4⟩ := byte_facts ⟨b, hb_⟩
  obtain ⟨-, c1, c2, c3, c4⟩ := byte_facts ⟨c, hc⟩
  obtain ⟨-, d1, d2, d3, d4⟩ := byte_facts ⟨d, hd⟩
  dsimp only at a1 a2 a3 a4 b1 b2 b3 b4 c1 c2 c3 c4 d1 d2 d3 d4
  have h1 := swar1_dig ha hb_ hc hd hx
  have h2 := swar2_dig a1 b1 c1 d1 h1
  have h3 := swar3_dig a2 a3 b2 b3 c2 c3 d2 d3 h2
  have h4 := swar4_dig (by omega) (by omega) (by omega) (by omega) h3
  unfold swar
  rw [h4, a4, b4, c4, d4]
  have hb : ∀ k, x.getLsbD k = (dig a b c d).testBit k := fun k => by rw [← hx]; rfl
  simp only [hb]
  unfold dig
  simp only [testBit_byte ha, testBit_byte hb_, testBit_byte hc, pop8, Finset.sum_range_succ, Finset.sum_range_zero]
  norm_num
  omega

end Cert.Drop
-- ==== Proof.KMaskRun.lean ====
/- What one grid point of the mask call leaves: the packed block and the running count, as the kernel's own payloads of the point's
   coordinate and of the scalar `gamma`. -/
module

public import proofs.«01_k».proof.Proof.Gen.KernelIdeal.Frame
public import Idealize.ShloMosaic.Lib.Pipeline.Value

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The word that a hash is compared with: `gamma` scaled to 23 bits, rounded up, clamped, and moved up by 9 bits. -/
def thr (g : Elt F .f32) : BitVec 32 := Scalar.muli (Scalar.minui (Scalar.fptoui 32 (k0_pay2 g)) 8388607#32) 512#32

/-- The row numbers of the padded block. -/
def rowIota : IVec S12x224x228 32 := iota .tc S12x224x228 32 [1] iota_S12x224x228_d1_w32

/-- The kernel's state after the first part's three rounds, and after each later part. -/
abbrev s2a (i : grid0.Coords) : IVec S12x224x228 32 := k0_pay21 (k0_pay8 i) (k0_pay9 i) (k0_pay10 i)
abbrev s2b (i : grid0.Coords) : IVec S12x224x228 32 := k0_pay22 (k0_pay8 i) (k0_pay9 i) (k0_pay10 i)
abbrev s3a (i : grid0.Coords) : IVec S12x224x228 32 := k0_pay34 (s2a i) (s2b i) 928981905#32
abbrev s3b (i : grid0.Coords) : IVec S12x224x228 32 := k0_pay35 (s2a i) (s2b i) 928981905#32
abbrev s3c (i : grid0.Coords) : IVec S12x224x228 32 := k0_pay36 (s2a i) (s2b i) 928981905#32
abbrev s4a (i : grid0.Coords) : IVec S12x224x228 32 := k0_pay48 (s3a i) (s3b i) (s3c i)
abbrev s4b (i : grid0.Coords) : IVec S12x224x228 32 := k0_pay49 (s3a i) (s3b i) (s3c i)
abbrev s4c (i : grid0.Coords) : IVec S12x224x228 32 := k0_pay50 (s3a i) (s3b i) (s3c i)

/-- The packed mask bits of a point, dilated along a row. -/
def qv (i : grid0.Coords) (g : Elt F .f32) : IVec S12x7x224 32 := k0_pay51 (thr g) rowIota k0_pay3 (s4a i) (s4b i) (s4c i)
/-- The same, each word replaced by the word above it. -/
def qm (i : grid0.Coords) (g : Elt F .f32) : IVec S12x7x224 32 := k0_pay53 (thr g) rowIota k0_pay3 (s4a i) (s4b i) (s4c i)
/-- The same, shifted by one row. -/
def ql (i : grid0.Coords) (g : Elt F .f32) : IVec S12x7x224 32 := k0_pay54 (thr g) rowIota k0_pay3 (s4a i) (s4b i) (s4c i)

/-- The packed block that a point stores. -/
def blk (i : grid0.Coords) (g : Elt F .f32) : IVec S12x7x224 32 := k0_pay55 (qv i g) k0_pay52 (qm i g) (ql i g) 31#32
/-- The number of bits set in the block, as the point computes it. -/
def cstep (i : grid0.Coords) (g : Elt F .f32) : BitVec 32 :=
  extractAt ![0, 0, 0, 0] (k0_pay1 (k0_pay56 (qv i g) k0_pay52 (qm i g) (ql i g) 31#32) (k0_pay57 (qv i g) k0_pay52 (qm i g) (ql i g) 31#32) 24#32)
    inpos_S1x1x1x1_p0_0_0_0

/-- The one element of a `1 × 1` block. -/
abbrev at0 {α : Type} (x : S1x1.Idx → α) : α := x (fun a => ⟨0, by fin_cases a <;> decide⟩)

/-- Whatever is read from a `1 × 1` block is its one element. -/
theorem ld_at0 {Val : EltTy → Type} {e : EltTy} (x : S1x1.Idx → Val e) (r : Rect S1x1) (y : r.shape.Idx) : View.ld x r y = at0 x :=
  congrArg x (funext fun a => by
    have h : ∀ (a : Fin 2) (p q : Fin (S1x1.size a)), p = q := fun a p q => by
      fin_cases a <;> exact Fin.ext (by have := p.isLt; have := q.isLt; simp [S1x1] at *; omega)
    exact h a _ _)

/-- A word read from a scratch cell that holds `x` is the one element of `x`. -/
theorem read_at0 {e : EltTy} (a1 : Memref sig .tc .smem S1x1 e) (h1 : a1.IsWhole) (x : Vec F S1x1 e) (inb : ∀ a, (![0, 0] : Fin 2 → Nat) a + S1x1.size a ≤ S1x1.size a)
    (y : (Rect.unit (s := S1x1) ![0, 0] S1x1.size inb).toLoadRect.shape.Idx) :
    View.readAt (Elt F) a1.view (Rect.unit (s := S1x1) ![0, 0] S1x1.size inb).toLoadRect (h1.unread x) y = at0 x := by
  rw [View.readAt_eq_ld, h1.read_unread]
  exact ld_at0 (Val := Elt F) x _ _

/-- The first point stores the block of its coordinate. -/
theorem out_A1 (c : Dev nD) (i : grid0.Coords) (a1 : Memref sig .tc .smem S1x1 .f32) (h1 : a1.IsWhole) (a2 : Memref sig .tc .vmem S12x7x224 .i32) (h2 : a2.IsWhole) (a3 : Memref sig .tc .smem S1x1 .i32) (h3 : a3.IsWhole) (hc : cond0_0 i) (x : Vec F S1x1 .f32) :
    out0_A_1 c i a1 h1 a2 h2 a3 h3 hc x = blk i (at0 x) := by
  unfold out0_A_1
  rw [View.read_writes_eq_canon _ _ _ (cover0_A_1 c i a1 h1 a2 h2 a3 h3 hc x)]
  unfold kernelRun0_A
  dsimp only
  sl_unfold_words
  rw [View.canon_unit_zero hz3]
  rw [read_at0 a1 h1 x]
  unfold blk qv qm ql thr rowIota
  rfl

/-- A later point stores the block of its coordinate. -/
theorem out_B1 (c : Dev nD) (i : grid0.Coords) (a1 : Memref sig .tc .smem S1x1 .f32) (h1 : a1.IsWhole) (a2 : Memref sig .tc .vmem S12x7x224 .i32) (h2 : a2.IsWhole) (a3 : Memref sig .tc .smem S1x1 .i32) (h3 : a3.IsWhole) (hc : ¬cond0_0 i) (x : Vec F S1x1 .f32) (xo : Vec F S1x1 .i32) :
    out0_B_1 c i a1 h1 a2 h2 a3 h3 hc x xo = blk i (at0 x) := by
  unfold out0_B_1
  rw [View.read_writes_eq_canon _ _ _ (cover0_B_1 c i a1 h1 a2 h2 a3 h3 hc x xo)]
  unfold kernelRun0_B
  dsimp only
  sl_unfold_words
  rw [View.canon_unit_zero hz3]
  rw [read_at0 a1 h1 x]
  unfold blk qv qm ql thr rowIota
  rfl

/-- The first point leaves its own number of bits in the count, which it has reset. -/
theorem out_A2 (c : Dev nD) (i : grid0.Coords) (a1 : Memref sig .tc .smem S1x1 .f32) (h1 : a1.IsWhole) (a2 : Memref sig .tc .vmem S12x7x224 .i32) (h2 : a2.IsWhole) (a3 : Memref sig .tc .smem S1x1 .i32) (h3 : a3.IsWhole) (hc : cond0_0 i) (x : Vec F S1x1 .f32) :
    out0_A_2 c i a1 h1 a2 h2 a3 h3 hc x = fun _ => Scalar.addi 0#32 (cstep i (at0 x)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x1) hz2]
  rw [read_at0 a1 h1 x]
  unfold cstep qv qm ql thr rowIota
  rfl

/-- A later point adds its number of bits to the count. -/
theorem out_B2 (c : Dev nD) (i : grid0.Coords) (a1 : Memref sig .tc .smem S1x1 .f32) (h1 : a1.IsWhole) (a2 : Memref sig .tc .vmem S12x7x224 .i32) (h2 : a2.IsWhole) (a3 : Memref sig .tc .smem S1x1 .i32) (h3 : a3.IsWhole) (hc : ¬cond0_0 i) (x : Vec F S1x1 .f32) (xo : Vec F S1x1 .i32) :
    out0_B_2 c i a1 h1 a2 h2 a3 h3 hc x xo = fun _ => Scalar.addi (at0 xo) (cstep i (at0 x)) := by
  unfold out0_B_2
  rw [View.read_writes_eq_canon _ _ _ (cover0_B_2 c i a1 h1 a2 h2 a3 h3 hc x xo)]
  unfold kernelRun0_B
  dsimp only
  sl_unfold_words
  rw [View.canon_unit_zero (S := S1x1) hz2]
  rw [read_at0 a1 h1 x, read_at0 a3 h3 xo]
  unfold cstep qv qm ql thr rowIota
  rfl

end Cert.KernelIdeal.Value
-- ==== Proof.KHash.lean ====
/- The mask call's payloads at an index: each is a stage of the hash at that index's counter. -/
module

public import proofs.«01_k».proof.Proof.Hash
public import proofs.«01_k».proof.Proof.KMaskRun

@[expose] public section

noncomputable section

namespace Cert.KernelIdeal.Value

open Cert.KernelIdeal Cert.KernelIdeal.Gen Cert.Drop
open Idealize.ShloMosaic

/-- The counter of an index, as the mask call computes it. -/
def linK (i : grid0.Coords) (j : S12x224x228.Idx) : BitVec 32 :=
  ((BitVec.ofNat 32 (i 0).val * 12#32 + iota .tc S12x224x228 32 [0] iota_S12x224x228_d0_w32 j) * 48400#32
    + iota .tc S12x224x228 32 [1] iota_S12x224x228_d1_w32 j * 220#32) + k0_pay3 j

theorem pay4_at (i : grid0.Coords) (j : S12x224x228.Idx) : k0_pay4 i j = b0 (linK i j) := rfl
/-- First sum. -/
theorem pay5_at (i : grid0.Coords) (j : S12x224x228.Idx) : k0_pay5 i j = a1 (linK i j) := by
  unfold k0_pay5
  dsimp only [addi, xori, ori, shli, shrui, broadcast]
  rw [pay4_at]
  rfl
/-- Round 1. -/
theorem pay6_at (i : grid0.Coords) (j : S12x224x228.Idx) : k0_pay6 i j = b1 (linK i j) := by
  unfold k0_pay6
  dsimp only [addi, xori, ori, shli, shrui, broadcast]
  rw [pay4_at, pay5_at]
  rfl
/-- Round 1, sum. -/
theorem pay7_at (i : grid0.Coords) (j : S12x224x228.Idx) : k0_pay7 i j = a2 (linK i j) := by
  unfold k0_pay7
  dsimp only [addi, xori, ori, shli, shrui, broadcast]
  rw [pay5_at, pay6_at]
  rfl
/-- Round 2. -/
theorem pay8_at (i : grid0.Coords) (j : S12x224x228.Idx) : k0_pay8 i j = b2 (linK i j) := by
  unfold k0_pay8
  dsimp only [addi, xori, ori, shli, shrui, broadcast]
  rw [pay6_at, pay7_at]
  rfl
/-- Round 2, sum. -/
theorem pay9_at (i : grid0.Coords) (j : S12x224x228.Idx) : k0_pay9 i j = a3 (linK i j) := by
  unfold k0_pay9
  dsimp only [addi, xori, ori, shli, shrui, broadcast]
  rw [pay7_at, pay8_at]
  rfl
/-- Half of round 3. -/
theorem pay10_at (i : grid0.Coords) (j : S12x224x228.Idx) : k0_pay10 i j = b2 (linK i j) <<< 26 := by
  unfold k0_pay10
  dsimp only [addi, xori, ori, shli, shrui, broadcast]
  rw [pay8_at]
  rfl
/-- Payload 11: stage `b3 l`. -/
theorem pay11_at (v38 v39 v41 : IVec S12x224x228 32) (l : BitVec 32) (j : S12x224x228.Idx) (h38 : v38 j = b2 l) (h39 : v39 j = a3 l) (h41 : v41 j = b2 l <<< 26) : k0_pay11 v38 v39 v41 j = b3 l := by
  unfold k0_pay11
  dsimp only [addi, xori, ori, shli, shrui, broadcast]
  rw [h41, h38, h39]
  rfl
/-- Payload 12: stage `a4 l`. -/
theorem pay12_at (v38 v39 v41 : IVec S12x224x228 32) (l : BitVec 32) (j : S12x224x228.Idx) (h38 : v38 j = b2 l) (h39 : v39 j = a3 l) (h41 : v41 j = b2 l <<< 26) : k0_pay12 v38 v39 v41 j = a4 l := by
  unfold k0_pay12
  dsimp only [addi, xori, ori, shli, shrui, broadcast]
  rw [h39, pay11_at v38 v39 v41 l j h38 h39 h41]
  rfl
/-- Payload 13: stage `b4 l`. -/
theorem pay13_at (v38 v39 v41 : IVec S12x224x228 32) (l : BitVec 32) (j : S12x224x228.Idx) (h38 : v38 j = b2 l) (h39 : v39 j = a3 l) (h41 : v41 j = b2 l <<< 26) : k0_pay13 v38 v39 v41 j = b4 l := by
  unfold k0_pay13
  dsimp only [addi, xori, ori, shli, shrui, broadcast]
  rw [pay11_at v38 v39 v41 l j h38 h39 h41, pay12_at v38 v39 v41 l j h38 h39 h41]
  rfl
/-- Payload 14: stage `a5 l`. -/
theorem pay14_at (v38 v39 v41 : IVec S12x224x228 32) (l : BitVec 32) (j : S12x224x228.Idx) (h38 : v38 j = b2 l) (h39 : v39 j = a3 l) (h41 : v41 j = b2 l <<< 26) : k0_pay14 v38 v39 v41 j = a5 l := by
  unfold k0_pay14
  dsimp only [addi, xori, ori, shli, shrui, broadcast]
  rw [pay12_at v38 v39 v41 l j h38 h39 h41, pay13_at v38 v39 v41 l j h38 h39 h41]
  rfl
/-- Payload 15: stage `b5 l`. -/
theorem pay15_at (v38 v39 v41 : IVec S12x224x228 32) (l : BitVec 32) (j : S12x224x228.Idx) (h38 : v38 j = b2 l) (h39 : v39 j = a3 l) (h41 : v41 j = b2 l <<< 26) : k0_pay15 v38 v39 v41 j = b5 l := by
  unfold k0_pay15
  dsimp only [addi, xori, ori, shli, shrui, broadcast]
  rw [pay13_at v38 v39 v41 l j h38 h39 h41, pay14_at v38 v39 v41 l j h38 h39 h41]
  rfl
/-- Payload 16: stage `a6 l`. -/
theorem pay16_at (v38 v39 v41 : IVec S12x224x228 32) (l : BitVec 32) (j : S12x224x228.Idx) (h38 : v38 j = b2 l) (h39 : v39 j = a3 l) (h41 : v41 j = b2 l <<< 26) : k0_pay16 v38 v39 v41 j = a6 l := by
  unfold k0_pay16
  dsimp only [addi, xori, ori, shli, shrui, broadcast]
  rw [pay14_at v38 v39 v41 l j h38 h39 h41, pay15_at v38 v39 v41 l j h38 h39 h41]
  rfl
/-- Payload 17: stage `b6 l`. -/
theorem pay17_at (v38 v39 v41 : IVec S12x224x228 32) (l : BitVec 32) (j : S12x224x228.Idx) (h38 : v38 j = b2 l) (h39 : v39 j = a3 l) (h41 : v41 j = b2 l <<< 26) : k0_pay17 v38 v39 v41 j = b6 l := by
  unfold k0_pay17
  dsimp only [addi, xori, ori, shli, shrui, broadcast]
  rw [pay15_at v38 v39 v41 l j h38 h39 h41, pay16_at v38 v39 v41 l j h38 h39 h41]
  rfl
/-- Payload 18: stage `a7 l`. -/
theorem pay18_at (v38 v39 v41 : IVec S12x224x228 32) (l : BitVec 32) (j : S12x224x228.Idx) (h38 : v38 j = b2 l) (h39 : v39 j = a3 l) (h41 : v41 j = b2 l <<< 26) : k0_pay18 v38 v39 v41 j = a7 l := by
  unfold k0_pay18
  dsimp only [addi, xori, ori, shli, shrui, broadcast]
  rw [pay16_at v38 v39 v41 l j h38 h39 h41, pay17_at v38 v39 v41 l j h38 h39 h41]
  rfl
/-- Payload 19: stage `b7 l`. -/
theorem pay19_at (v38 v39 v41 : IVec S12x224x228 32) (l : BitVec 32) (j : S12x224x228.Idx) (h38 : v38 j = b2 l) (h39 : v39 j = a3 l) (h41 : v41 j = b2 l <<< 26) : k0_pay19 v38 v39 v41 j = b7 l := by
  unfold k0_pay19
  dsimp only [addi, xori, ori, shli, shrui, broadcast]
  rw [pay17_at v38 v39 v41 l j h38 h39 h41, pay18_at v38 v39 v41 l j h38 h39 h41]
  rfl
/-- Payload 20: stage `a8 l`. -/
theorem pay20_at (v38 v39 v41 : IVec S12x224x228 32) (l : BitVec 32) (j : S12x224x228.Idx) (h38 : v38 j = b2 l) (h39 : v39 j = a3 l) (h41 : v41 j = b2 l <<< 26) : k0_pay20 v38 v39 v41 j = a8 l := by
  unfold k0_pay20
  dsimp only [addi, xori, ori, shli, shrui, broadcast]
  rw [pay18_at v38 v39 v41 l j h38 h39 h41, pay19_at v38 v39 v41 l j h38 h39 h41]
  rfl
/-- Payload 21: stage `rot 24 (b7 l) ^^^ a8 l`. -/
theorem pay21_at (v38 v39 v41 : IVec S12x224x228 32) (l : BitVec 32) (j : S12x224x228.Idx) (h38 : v38 j = b2 l) (h39 : v39 j = a3 l) (h41 : v41 j = b2 l <<< 26) : k0_pay21 v38 v39 v41 j = rot 24 (b7 l) ^^^ a8 l := by
  unfold k0_pay21
  dsimp only [addi, xori, ori, shli, shrui, broadcast]
  rw [pay19_at v38 v39 v41 l j h38 h39 h41, pay20_at v38 v39 v41 l j h38 h39 h41]
  rfl
/-- Payload 22: stage `a8 l + 3780455752#32`. -/
theorem pay22_at (v38 v39 v41 : IVec S12x224x228 32) (l : BitVec 32) (j : S12x224x228.Idx) (h38 : v38 j = b2 l) (h39 : v39 j = a3 l) (h41 : v41 j = b2 l <<< 26) : k0_pay22 v38 v39 v41 j = a8 l + 3780455752#32 := by
  unfold k0_pay22
  dsimp only [addi, xori, ori, shli, shrui, broadcast]
  rw [pay20_at v38 v39 v41 l j h38 h39 h41]
  rfl
/-- Payload 23: stage `b8 l`. -/
theorem pay23_at (v84 v86 : IVec S12x224x228 32) (l : BitVec 32) (j : S12x224x228.Idx) (h84 : v84 j = rot 24 (b7 l) ^^^ a8 l) (h86 : v86 j = a8 l + 3780455752#32) : k0_pay23 v84 928981905#32 j = b8 l := by
  unfold k0_pay23
  dsimp only [addi, xori, ori, shli, shrui, broadcast]
  rw [h84]
  rfl
/-- Payload 24: stage `a9 l`. -/
theorem pay24_at (v84 v86 : IVec S12x224x228 32) (l : BitVec 32) (j : S12x224x228.Idx) (h84 : v84 j = rot 24 (b7 l) ^^^ a8 l) (h86 : v86 j = a8 l + 3780455752#32) : k0_pay24 v84 v86 928981905#32 j = a9 l := by
  unfold k0_pay24
  dsimp only [addi, xori, ori, shli, shrui, broadcast]
  rw [h86, pay23_at v84 v86 l j h84 h86]
  rfl
/-- Payload 25: stage `b9 l`. -/
theorem pay25_at (v84 v86 : IVec S12x224x228 32) (l : BitVec 32) (j : S12x224x228.Idx) (h84 : v84 j = rot 24 (b7 l) ^^^ a8 l) (h86 : v86 j = a8 l + 3780455752#32) : k0_pay25 v84 v86 928981905#32 j = b9 l := by
  unfold k0_pay25
  dsimp only [addi, xori, ori, shli, shrui, broadcast]
  rw [pay23_at v84 v86 l j h84 h86, pay24_at v84 v86 l j h84 h86]
  rfl
/-- Payload 26: stage `a10 l`. -/
theorem pay26_at (v84 v86 : IVec S12x224x228 32) (l : BitVec 32) (j : S12x224x228.Idx) (h84 : v84 j = rot 24 (b7 l) ^^^ a8 l) (h86 : v86 j = a8 l + 3780455752#32) : k0_pay26 v84 v86 928981905#32 j = a10 l := by
  unfold k0_pay26
  dsimp only [addi, xori, ori, shli, shrui, broadcast]
  rw [pay24_at v84 v86 l j h84 h86, pay25_at v84 v86 l j h84 h86]
  rfl
/-- Payload 27: stage `b10 l`. -/
theorem pay27_at (v84 v86 : IVec S12x224x228 32) (l : BitVec 32) (j : S12x224x228.Idx) (h84 : v84 j = rot 24 (b7 l) ^^^ a8 l) (h86 : v86 j = a8 l + 3780455752#32) : k0_pay27 v84 v86 928981905#32 j = b10 l := by
  unfold k0_pay27
  dsimp only [addi, xori, ori, shli, shrui, broadcast]
  rw [pay25_at v84 v86 l j h84 h86, pay26_at v84 v86 l j h84 h86]
  rfl
/-- Payload 28: stage `a11 l`. -/
theorem pay28_at (v84 v86 : IVec S12x224x228 32) (l : BitVec 32) (j : S12x224x228.Idx) (h84 : v84 j = rot 24 (b7 l) ^^^ a8 l) (h86 : v86 j = a8 l + 3780455752#32) : k0_pay28 v84 v86 928981905#32 j = a11 l := by
  unfold k0_pay28
  dsimp only [addi, xori, ori, shli, shrui, broadcast]
  rw [pay26_at v84 v86 l j h84 h86, pay27_at v84 v86 l j h84 h86]
  rfl
/-- Payload 29: stage `b11 l`. -/
theorem pay29_at (v84 v86 : IVec S12x224x228 32) (l : BitVec 32) (j : S12x224x228.Idx) (h84 : v84 j = rot 24 (b7 l) ^^^ a8 l) (h86 : v86 j = a8 l + 3780455752#32) : k0_pay29 v84 v86 928981905#32 j = b11 l := by
  unfold k0_pay29
  dsimp only [addi, xori, ori, shli, shrui, broadcast]
  rw [pay27_at v84 v86 l j h84 h86, pay28_at v84 v86 l j h84 h86]
  rfl
/-- Payload 30: stage `a12 l`. -/
theorem pay30_at (v84 v86 : IVec S12x224x228 32) (l : BitVec 32) (j : S12x224x228.Idx) (h84 : v84 j = rot 24 (b7 l) ^^^ a8 l) (h86 : v86 j = a8 l + 3780455752#32) : k0_pay30 v84 v86 928981905#32 j = a12 l := by
  unfold k0_pay30
  dsimp only [addi, xori, ori, shli, shrui, broadcast]
  rw [pay28_at v84 v86 l j h84 h86, pay29_at v84 v86 l j h84 h86]
  rfl
/-- Payload 31: stage `b12 l`. -/
theorem pay31_at (v84 v86 : IVec S12x224x228 32) (l : BitVec 32) (j : S12x224x228.Idx) (h84 : v84 j = rot 24 (b7 l) ^^^ a8 l) (h86 : v86 j = a8 l + 3780455752#32) : k0_pay31 v84 v86 928981905#32 j = b12 l := by
  unfold k0_pay31
  dsimp only [addi, xori, ori, shli, shrui, broadcast]
  rw [pay29_at v84 v86 l j h84 h86, pay30_at v84 v86 l j h84 h86]
  rfl
/-- Payload 32: stage `a13 l`. -/
theorem pay32_at (v84 v86 : IVec S12x224x228 32) (l : BitVec 32) (j : S12x224x228.Idx) (h84 : v84 j = rot 24 (b7 l) ^^^ a8 l) (h86 : v86 j = a8 l + 3780455752#32) : k0_pay32 v84 v86 928981905#32 j = a13 l := by
  unfold k0_pay32
  dsimp only [addi, xori, ori, shli, shrui, broadcast]
  rw [pay30_at v84 v86 l j h84 h86, pay31_at v84 v86 l j h84 h86]
  rfl
/-- Payload 33: stage `b13 l`. -/
theorem pay33_at (v84 v86 : IVec S12x224x228 32) (l : BitVec 32) (j : S12x224x228.Idx) (h84 : v84 j = rot 24 (b7 l) ^^^ a8 l) (h86 : v86 j = a8 l + 3780455752#32) : k0_pay33 v84 v86 928981905#32 j = b13 l := by
  unfold k0_pay33
  dsimp only [addi, xori, ori, shli, shrui, broadcast]
  rw [pay31_at v84 v86 l j h84 h86, pay32_at v84 v86 l j h84 h86]
  rfl
/-- Payload 34: stage `a14 l`. -/
theorem pay34_at (v84 v86 : IVec S12x224x228 32) (l : BitVec 32) (j : S12x224x228.Idx) (h84 : v84 j = rot 24 (b7 l) ^^^ a8 l) (h86 : v86 j = a8 l + 3780455752#32) : k0_pay34 v84 v86 928981905#32 j = a14 l := by
  unfold k0_pay34
  dsimp only [addi, xori, ori, shli, shrui, broadcast]
  rw [pay32_at v84 v86 l j h84 h86, pay33_at v84 v86 l j h84 h86]
  rfl
/-- Payload 35: stage `b13 l <<< 29`. -/
theorem pay35_at (v84 v86 : IVec S12x224x228 32) (l : BitVec 32) (j : S12x224x228.Idx) (h84 : v84 j = rot 24 (b7 l) ^^^ a8 l) (h86 : v86 j = a8 l + 3780455752#32) : k0_pay35 v84 v86 928981905#32 j = b13 l <<< 29 := by
  unfold k0_pay35
  dsimp only [addi, xori, ori, shli, shrui, broadcast]
  rw [pay33_at v84 v86 l j h84 h86]
  rfl
/-- Payload 36: stage `b13 l >>> 3`. -/
theorem pay36_at (v84 v86 : IVec S12x224x228 32) (l : BitVec 32) (j : S12x224x228.Idx) (h84 : v84 j = rot 24 (b7 l) ^^^ a8 l) (h86 : v86 j = a8 l + 3780455752#32) : k0_pay36 v84 v86 928981905#32 j = b13 l >>> 3 := by
  unfold k0_pay36
  dsimp only [addi, xori, ori, shli, shrui, broadcast]
  rw [pay33_at v84 v86 l j h84 h86]
  rfl
/-- Payload 37: stage `b14 l`. -/
theorem pay37_at (v128 v130 v132 : IVec S12x224x228 32) (l : BitVec 32) (j : S12x224x228.Idx) (h128 : v128 j = a14 l) (h130 : v130 j = b13 l <<< 29) (h132 : v132 j = b13 l >>> 3) : k0_pay37 v128 v130 v132 j = b14 l := by
  unfold k0_pay37
  dsimp only [addi, xori, ori, shli, shrui, broadcast]
  rw [h130, h132, h128]
  rfl
/-- Payload 38: stage `a15 l`. -/
theorem pay38_at (v128 v130 v132 : IVec S12x224x228 32) (l : BitVec 32) (j : S12x224x228.Idx) (h128 : v128 j = a14 l) (h130 : v130 j = b13 l <<< 29) (h132 : v132 j = b13 l >>> 3) : k0_pay38 v128 v130 v132 j = a15 l := by
  unfold k0_pay38
  dsimp only [addi, xori, ori, shli, shrui, broadcast]
  rw [h128, pay37_at v128 v130 v132 l j h128 h130 h132]
  rfl
/-- Payload 39: stage `b15 l`. -/
theorem pay39_at (v128 v130 v132 : IVec S12x224x228 32) (l : BitVec 32) (j : S12x224x228.Idx) (h128 : v128 j = a14 l) (h130 : v130 j = b13 l <<< 29) (h132 : v132 j = b13 l >>> 3) : k0_pay39 v128 v130 v132 j = b15 l := by
  unfold k0_pay39
  dsimp only [addi, xori, ori, shli, shrui, broadcast]
  rw [pay37_at v128 v130 v132 l j h128 h130 h132, pay38_at v128 v130 v132 l j h128 h130 h132]
  rfl
/-- Payload 40: stage `a16 l`. -/
theorem pay40_at (v128 v130 v132 : IVec S12x224x228 32) (l : BitVec 32) (j : S12x224x228.Idx) (h128 : v128 j = a14 l) (h130 : v130 j = b13 l <<< 29) (h132 : v132 j = b13 l >>> 3) : k0_pay40 v128 v130 v132 j = a16 l := by
  unfold k0_pay40
  dsimp only [addi, xori, ori, shli, shrui, broadcast]
  rw [pay38_at v128 v130 v132 l j h128 h130 h132, pay39_at v128 v130 v132 l j h128 h130 h132]
  rfl
/-- Payload 41: stage `b16 l`. -/
theorem pay41_at (v128 v130 v132 : IVec S12x224x228 32) (l : BitVec 32) (j : S12x224x228.Idx) (h128 : v128 j = a14 l) (h130 : v130 j = b13 l <<< 29) (h132 : v132 j = b13 l >>> 3) : k0_pay41 v128 v130 v132 j = b16 l := by
  unfold k0_pay41
  dsimp only [addi, xori, ori, shli, shrui, broadcast]
  rw [pay39_at v128 v130 v132 l j h128 h130 h132, pay40_at v128 v130 v132 l j h128 h130 h132]
  rfl
/-- Payload 42: stage `a17 l`. -/
theorem pay42_at (v128 v130 v132 : IVec S12x224x228 32) (l : BitVec 32) (j : S12x224x228.Idx) (h128 : v128 j = a14 l) (h130 : v130 j = b13 l <<< 29) (h132 : v132 j = b13 l >>> 3) : k0_pay42 v128 v130 v132 j = a17 l := by
  unfold k0_pay42
  dsimp only [addi, xori, ori, shli, shrui, broadcast]
  rw [pay40_at v128 v130 v132 l j h128 h130 h132, pay41_at v128 v130 v132 l j h128 h130 h132]
  rfl
/-- Payload 43: stage `b17 l`. -/
theorem pay43_at (v128 v130 v132 : IVec S12x224x228 32) (l : BitVec 32) (j : S12x224x228.Idx) (h128 : v128 j = a14 l) (h130 : v130 j = b13 l <<< 29) (h132 : v132 j = b13 l >>> 3) : k0_pay43 v128 v130 v132 j = b17 l := by
  unfold k0_pay43
  dsimp only [addi, xori, ori, shli, shrui, broadcast]
  rw [pay41_at v128 v130 v132 l j h128 h130 h132, pay42_at v128 v130 v132 l j h128 h130 h132]
  rfl
/-- Payload 44: stage `a18 l`. -/
theorem pay44_at (v128 v130 v132 : IVec S12x224x228 32) (l : BitVec 32) (j : S12x224x228.Idx) (h128 : v128 j = a14 l) (h130 : v130 j = b13 l <<< 29) (h132 : v132 j = b13 l >>> 3) : k0_pay44 v128 v130 v132 j = a18 l := by
  unfold k0_pay44
  dsimp only [addi, xori, ori, shli, shrui, broadcast]
  rw [pay42_at v128 v130 v132 l j h128 h130 h132, pay43_at v128 v130 v132 l j h128 h130 h132]
  rfl
/-- Payload 45: stage `b18 l`. -/
theorem pay45_at (v128 v130 v132 : IVec S12x224x228 32) (l : BitVec 32) (j : S12x224x228.Idx) (h128 : v128 j = a14 l) (h130 : v130 j = b13 l <<< 29) (h132 : v132 j = b13 l >>> 3) : k0_pay45 v128 v130 v132 j = b18 l := by
  unfold k0_pay45
  dsimp only [addi, xori, ori, shli, shrui, broadcast]
  rw [pay43_at v128 v130 v132 l j h128 h130 h132, pay44_at v128 v130 v132 l j h128 h130 h132]
  rfl
/-- Payload 46: stage `a19 l`. -/
theorem pay46_at (v128 v130 v132 : IVec S12x224x228 32) (l : BitVec 32) (j : S12x224x228.Idx) (h128 : v128 j = a14 l) (h130 : v130 j = b13 l <<< 29) (h132 : v132 j = b13 l >>> 3) : k0_pay46 v128 v130 v132 j = a19 l := by
  unfold k0_pay46
  dsimp only [addi, xori, ori, shli, shrui, broadcast]
  rw [pay44_at v128 v130 v132 l j h128 h130 h132, pay45_at v128 v130 v132 l j h128 h130 h132]
  rfl
/-- Payload 47: stage `b19 l`. -/
theorem pay47_at (v128 v130 v132 : IVec S12x224x228 32) (l : BitVec 32) (j : S12x224x228.Idx) (h128 : v128 j = a14 l) (h130 : v130 j = b13 l <<< 29) (h132 : v132 j = b13 l >>> 3) : k0_pay47 v128 v130 v132 j = b19 l := by
  unfold k0_pay47
  dsimp only [addi, xori, ori, shli, shrui, broadcast]
  rw [pay45_at v128 v130 v132 l j h128 h130 h132, pay46_at v128 v130 v132 l j h128 h130 h132]
  rfl
/-- Payload 48: stage `a20 l`. -/
theorem pay48_at (v128 v130 v132 : IVec S12x224x228 32) (l : BitVec 32) (j : S12x224x228.Idx) (h128 : v128 j = a14 l) (h130 : v130 j = b13 l <<< 29) (h132 : v132 j = b13 l >>> 3) : k0_pay48 v128 v130 v132 j = a20 l := by
  unfold k0_pay48
  dsimp only [addi, xori, ori, shli, shrui, broadcast]
  rw [pay46_at v128 v130 v132 l j h128 h130 h132, pay47_at v128 v130 v132 l j h128 h130 h132]
  rfl
/-- Payload 49: stage `b19 l <<< 6`. -/
theorem pay49_at (v128 v130 v132 : IVec S12x224x228 32) (l : BitVec 32) (j : S12x224x228.Idx) (h128 : v128 j = a14 l) (h130 : v130 j = b13 l <<< 29) (h132 : v132 j = b13 l >>> 3) : k0_pay49 v128 v130 v132 j = b19 l <<< 6 := by
  unfold k0_pay49
  dsimp only [addi, xori, ori, shli, shrui, broadcast]
  rw [pay47_at v128 v130 v132 l j h128 h130 h132]
  rfl
/-- Payload 50: stage `b19 l >>> 26`. -/
theorem pay50_at (v128 v130 v132 : IVec S12x224x228 32) (l : BitVec 32) (j : S12x224x228.Idx) (h128 : v128 j = a14 l) (h130 : v130 j = b13 l <<< 29) (h132 : v132 j = b13 l >>> 3) : k0_pay50 v128 v130 v132 j = b19 l >>> 26 := by
  unfold k0_pay50
  dsimp only [addi, xori, ori, shli, shrui, broadcast]
  rw [pay47_at v128 v130 v132 l j h128 h130 h132]
  rfl

section
variable (i : grid0.Coords) (j : S12x224x228.Idx)
theorem s2a_at : s2a i j = rot 24 (b7 (linK i j)) ^^^ a8 (linK i j) := pay21_at _ _ _ _ j (pay8_at i j) (pay9_at i j) (pay10_at i j)
theorem s2b_at : s2b i j = a8 (linK i j) + 3780455752#32 := pay22_at _ _ _ _ j (pay8_at i j) (pay9_at i j) (pay10_at i j)
theorem s3a_at : s3a i j = a14 (linK i j) := pay34_at _ _ _ j (s2a_at i j) (s2b_at i j)
theorem s3b_at : s3b i j = b13 (linK i j) <<< 29 := pay35_at _ _ _ j (s2a_at i j) (s2b_at i j)
theorem s3c_at : s3c i j = b13 (linK i j) >>> 3 := pay36_at _ _ _ j (s2a_at i j) (s2b_at i j)
/-- The first word before the last key. -/
theorem s4a_at : s4a i j = a20 (linK i j) := pay48_at _ _ _ _ j (s3a_at i j) (s3b_at i j) (s3c_at i j)
/-- The upper part of the last turned word. -/
theorem s4b_at : s4b i j = b19 (linK i j) <<< 6 := pay49_at _ _ _ _ j (s3a_at i j) (s3b_at i j) (s3c_at i j)
/-- The lower part of the last turned word. -/
theorem s4c_at : s4c i j = b19 (linK i j) >>> 26 := pay50_at _ _ _ _ j (s3a_at i j) (s3b_at i j) (s3c_at i j)
end

end Cert.KernelIdeal.Value
-- ==== Proof.KPack.lean ====
/- The packed block of a point: bit `k` of word `(c, r, j)` is whether row `32 r + k`, column `j` of the point's channel `c` is dropped. -/
module

public import proofs.«01_k».proof.Proof.Mask
public import proofs.«01_k».proof.Proof.Swar
public import proofs.«01_k».proof.Proof.KHash
public import Idealize.ShloMosaic.Lib.ValueLayout

@[expose] public section

noncomputable section

namespace Cert.KernelIdeal.Value

open Cert.KernelIdeal Cert.KernelIdeal.Gen Cert.Drop
open Idealize.ShloMosaic Idealize.ShloMosaic.ValueIdx

variable {F : FTy → Type} [FloatOps F]

/-! ### The hits -/

theorem row_ult : ∀ a : Fin 224, IntOp.cmpi .ult (BitVec.ofNat 32 a.val) 220#32 = BitVec.ofBool (decide (a.val < 220)) := by decide +kernel
theorem col_ult : ∀ b : Fin 228, IntOp.cmpi .ult (BitVec.ofNat 32 b.val - 4#32) 220#32 = BitVec.ofBool (decide (4 ≤ b.val ∧ b.val < 224)) := by decide +kernel

theorem iota0_at (h) (c : Fin 12) (a : Fin 224) (b : Fin 228) : iota .tc S12x224x228 32 [0] h (ix3 c a b) = BitVec.ofNat 32 c.val :=
  congrArg (BitVec.ofNat 32) ((congrArg (· + c.val) (Nat.zero_mul _)).trans (Nat.zero_add _))
theorem iota1_at (h) (c : Fin 12) (a : Fin 224) (b : Fin 228) : iota .tc S12x224x228 32 [1] h (ix3 c a b) = BitVec.ofNat 32 a.val :=
  congrArg (BitVec.ofNat 32) ((congrArg (· + a.val) (Nat.zero_mul _)).trans (Nat.zero_add _))
theorem iota2_at (h) (c : Fin 12) (a : Fin 224) (b : Fin 228) : iota .tc S12x224x228 32 [2] h (ix3 c a b) = BitVec.ofNat 32 b.val :=
  congrArg (BitVec.ofNat 32) ((congrArg (· + b.val) (Nat.zero_mul _)).trans (Nat.zero_add _))

theorem pay3_at (c : Fin 12) (a : Fin 224) (b : Fin 228) : k0_pay3 (ix3 c a b) = BitVec.ofNat 32 b.val - 4#32 := by
  unfold k0_pay3
  show iota .tc S12x224x228 32 [2] _ (ix3 c a b) - 4#32 = _
  rw [iota2_at]

/-- The counter of a position inside the mask is its number. -/
theorem linK_at (i : grid0.Coords) (c : Fin 12) (a : Fin 224) (b : Fin 228) (hb : 4 ≤ b.val) :
    linK i (ix3 c a b) = BitVec.ofNat 32 (((i 0).val * 12 + c.val) * 48400 + a.val * 220 + (b.val - 4)) := by
  unfold linK
  rw [iota0_at, iota1_at, pay3_at]
  have e : BitVec.ofNat 32 b.val - 4#32 = BitVec.ofNat 32 (b.val - 4) := by
    apply BitVec.eq_of_toNat_eq
    have := b.isLt
    simp only [BitVec.toNat_sub, BitVec.toNat_ofNat]
    omega
  rw [e]
  simp only [BitVec.ofNat_add, BitVec.ofNat_mul]

/-- The random word of an index. -/
def rnd (v174 v176 v178 : IVec S12x224x228 32) : IVec S12x224x228 32 :=
  xori (addi v174 (broadcast S12x224x228 3780455752#32)) (addi (xori (ori v176 v178) v174) (broadcast S12x224x228 928981908#32))
/-- Whether the mask is hit, as the mask call computes it. -/
def hitv (v5 : BitVec 32) (v7 v10 w : IVec S12x224x228 32) : IVec S12x224x228 1 :=
  andi (andi (cmpi .ult v7 (broadcast S12x224x228 220#32)) (cmpi .ult v10 (broadcast S12x224x228 220#32))) (cmpi .ult w (broadcast S12x224x228 v5))
/-- Each hit as a bit at the place of its row in its word. -/
def spread (h : IVec S12x224x228 1) : IVec S12x7x32x228 32 :=
  select (shapeCast S12x7x32x228 h shapeCasts_S12x224x228_S12x7x32x228)
    (shli (broadcast S12x7x32x228 1#32) (iota .tc S12x7x32x228 32 [2] iota_S12x7x32x228_d2_w32)) (broadcast S12x7x32x228 0#32)
def half16 (v : IVec S12x7x32x228 32) : IVec S12x7x16x228 32 :=
  ori (extractStridedSlice S12x7x16x228 ![0, 0, 0, 0] v slices_S12x7x32x228_o0_0_0_0_S12x7x16x228) (extractStridedSlice S12x7x16x228 ![0, 0, 16, 0] v slices_S12x7x32x228_o0_0_16_0_S12x7x16x228)
def half8 (v : IVec S12x7x16x228 32) : IVec S12x7x8x228 32 :=
  ori (extractStridedSlice S12x7x8x228 ![0, 0, 0, 0] v slices_S12x7x16x228_o0_0_0_0_S12x7x8x228) (extractStridedSlice S12x7x8x228 ![0, 0, 8, 0] v slices_S12x7x16x228_o0_0_8_0_S12x7x8x228)
def half4 (v : IVec S12x7x8x228 32) : IVec S12x7x4x228 32 :=
  ori (extractStridedSlice S12x7x4x228 ![0, 0, 0, 0] v slices_S12x7x8x228_o0_0_0_0_S12x7x4x228) (extractStridedSlice S12x7x4x228 ![0, 0, 4, 0] v slices_S12x7x8x228_o0_0_4_0_S12x7x4x228)
def half2 (v : IVec S12x7x4x228 32) : IVec S12x7x2x228 32 :=
  ori (extractStridedSlice S12x7x2x228 ![0, 0, 0, 0] v slices_S12x7x4x228_o0_0_0_0_S12x7x2x228) (extractStridedSlice S12x7x2x228 ![0, 0, 2, 0] v slices_S12x7x4x228_o0_0_2_0_S12x7x2x228)
def half1 (v : IVec S12x7x2x228 32) : IVec S12x7x228 32 :=
  ori (shapeCast S12x7x228 (extractStridedSlice S12x7x1x228 ![0, 0, 0, 0] v slices_S12x7x2x228_o0_0_0_0_S12x7x1x228) shapeCasts_S12x7x1x228_S12x7x228)
    (shapeCast S12x7x228 (extractStridedSlice S12x7x1x228 ![0, 0, 1, 0] v slices_S12x7x2x228_o0_0_1_0_S12x7x1x228) shapeCasts_S12x7x1x228_S12x7x228)
/-- Two neighbouring columns. -/
def cols2 (w : IVec S12x7x228 32) : IVec S12x7x226 32 :=
  ori (extractStridedSlice S12x7x226 ![0, 0, 0] w slices_S12x7x228_o0_0_0_S12x7x226) (extractStridedSlice S12x7x226 ![0, 0, 1] w slices_S12x7x228_o0_0_1_S12x7x226)
/-- Five neighbouring columns. -/
def cols5 (w : IVec S12x7x228 32) : IVec S12x7x224 32 :=
  ori (ori (extractStridedSlice S12x7x224 ![0, 0, 0] (cols2 w) slices_S12x7x226_o0_0_0_S12x7x224) (extractStridedSlice S12x7x224 ![0, 0, 2] (cols2 w) slices_S12x7x226_o0_0_2_S12x7x224))
    (extractStridedSlice S12x7x224 ![0, 0, 4] w slices_S12x7x228_o0_0_4_S12x7x224)

theorem pay51_eq (v5 : BitVec 32) (v7 v10 v174 v176 v178 : IVec S12x224x228 32) :
    k0_pay51 v5 v7 v10 v174 v176 v178 = cols5 (half1 (half2 (half4 (half8 (half16 (spread (hitv v5 v7 v10 (rnd v174 v176 v178)))))))) := rfl

/-- The random word is the hash of the counter. -/
theorem rnd_at (i : grid0.Coords) (j : S12x224x228.Idx) : rnd (s4a i) (s4b i) (s4c i) j = Drop.hash (linK i j) := by
  unfold rnd
  dsimp only [addi, xori, ori, broadcast]
  rw [s4a_at, s4b_at, s4c_at]
  rfl

theorem ofBool_and (p q : Bool) : IntOp.andi (BitVec.ofBool p) (BitVec.ofBool q) = BitVec.ofBool (p && q) := by cases p <;> cases q <;> rfl

/-- The hits of a point are those of its twelve channels. -/
theorem hitv_at (i : grid0.Coords) (T : BitVec 32) (c : Fin 12) (a : Fin 224) (b : Fin 228) :
    hitv T rowIota k0_pay3 (rnd (s4a i) (s4b i) (s4c i)) (ix3 c a b) = BitVec.ofBool (hit T ((i 0).val * 12 + c.val) a.val b.val) := by
  unfold hitv
  dsimp only [andi, cmpi, broadcast]
  rw [rnd_at, pay3_at, show rowIota (ix3 c a b) = BitVec.ofNat 32 a.val from iota1_at _ c a b, row_ult, col_ult]
  show IntOp.andi _ (BitVec.ofBool (BitVec.ult _ T)) = _
  rw [ofBool_and, ofBool_and]
  unfold hit
  by_cases hb : 4 ≤ b.val
  · rw [linK_at i c a b hb]
  · simp [hb]

/-! ### The packing -/

theorem one_shl : ∀ k t : Fin 32, (IntOp.shli .vector 1#32 (BitVec.ofNat 32 k.val)).getLsbD t.val = decide (t.val % 32 = k.val) := by decide +kernel

theorem iota4_at (h) (c : Fin 12) (r : Fin 7) (k : Fin 32) (b : Fin 228) : iota .tc S12x7x32x228 32 [2] h (ix4 c r k b) = BitVec.ofNat 32 k.val :=
  congrArg (BitVec.ofNat 32) ((congrArg (· + k.val) (Nat.zero_mul _)).trans (Nat.zero_add _))

theorem spread_bit (h : IVec S12x224x228 1) (f : Nat → Bool) (c : Fin 12) (r : Fin 7) (b : Fin 228)
    (hf : ∀ a : Fin 224, h (ix3 c a b) = BitVec.ofBool (f a.val)) (k : Fin 32) (t : Nat) (ht : t < 32) :
    (spread h (ix4 c r k b)).getLsbD t = (decide (t % 32 = k.val) && f (32 * r.val + t)) := by
  have hr := r.isLt
  have e : shapeCast S12x7x32x228 h shapeCasts_S12x224x228_S12x7x32x228 (ix4 c r k b) = h (ix3 c ⟨32 * r.val + k.val, by omega⟩ b) :=
    shapeCast_apply h _ _ _ (by
      rw [Shape.rowMajor_val_three, Shape.rowMajor_val_four]
      show (c.val * 224 + (32 * r.val + k.val)) * 228 + b.val = ((c.val * 7 + r.val) * 32 + k.val) * 228 + b.val
      ring)
  unfold spread
  dsimp only [select, shli, broadcast]
  rw [e, hf, iota4_at]
  have h1 := one_shl k ⟨t, ht⟩
  dsimp only at h1 ⊢
  by_cases hk : t % 32 = k.val
  · have hk' : k.val = t := by omega
    rw [hk']
    rw [hk'] at h1
    cases f (32 * r.val + t)
    · show (0#32).getLsbD t = _
      simp
    · show (IntOp.shli .vector 1#32 (BitVec.ofNat 32 t)).getLsbD t = _
      rw [h1]; simp
  · have hd : decide (t % 32 = k.val) = false := decide_eq_false hk
    rw [hd] at h1 ⊢
    cases f (32 * r.val + k.val)
    · show (0#32).getLsbD t = _
      simp
    · show (IntOp.shli .vector 1#32 (BitVec.ofNat 32 k.val)).getLsbD t = _
      rw [h1]; simp

/-- Combining the two halves of the rows of a word keeps each bit in its place. -/
theorem half_bit {n m : Nat} (hn : n = m + m) (v : (⟨4, ![12, 7, n, 228]⟩ : Shape).Idx → BitVec 32)
    (h0 : (⟨4, ![12, 7, n, 228]⟩ : Shape).Slices ![0, 0, 0, 0] ⟨4, ![12, 7, m, 228]⟩)
    (h1 : (⟨4, ![12, 7, n, 228]⟩ : Shape).Slices ![0, 0, m, 0] ⟨4, ![12, 7, m, 228]⟩)
    (c : Fin 12) (r : Fin 7) (b : Fin 228) (f : Nat → Bool)
    (hv : ∀ (k : Fin n) (t : Nat), t < 32 → (v (ix4 c r k b)).getLsbD t = (decide (t % n = k.val) && f t)) (k : Fin m) (t : Nat) (ht : t < 32) :
    (extractStridedSlice ⟨4, ![12, 7, m, 228]⟩ ![0, 0, 0, 0] v h0 (ix4 c r k b) ||| extractStridedSlice ⟨4, ![12, 7, m, 228]⟩ ![0, 0, m, 0] v h1 (ix4 c r k b)).getLsbD t
      = (decide (t % m = k.val) && f t) := by
  have hk := k.isLt
  rw [slice4_axis2_apply 0 v h0 c r k b ⟨k.val, by omega⟩ (Nat.zero_add _).symm, slice4_axis2_apply m v h1 c r k b ⟨m + k.val, by omega⟩ rfl,
    BitVec.getLsbD_or, hv _ t ht, hv _ t ht, ← Bool.and_or_distrib_right]
  congr 1
  dsimp only
  rw [← Bool.decide_or]
  apply decide_eq_decide.2
  subst hn
  have hm : 0 < m := by omega
  have h2 : t % (m + m) < m + m := Nat.mod_lt _ (by omega)
  have h3 : t % (m + m) % m = t % m := Nat.mod_mod_of_dvd t ⟨2, by omega⟩
  rw [← h3]
  generalize t % (m + m) = q at h2
  by_cases hq : q < m
  · rw [Nat.mod_eq_of_lt hq]; omega
  · have : q % m = q - m := by
      rw [Nat.mod_eq_sub_mod (by omega), Nat.mod_eq_of_lt (by omega)]
    rw [this]; omega

/-- Every bit of a packed word. -/
theorem pack_bit (h : IVec S12x224x228 1) (f : Nat → Bool) (c : Fin 12) (r : Fin 7) (b : Fin 228)
    (hf : ∀ a : Fin 224, h (ix3 c a b) = BitVec.ofBool (f a.val)) : IsRow f r.val (half1 (half2 (half4 (half8 (half16 (spread h))))) (ix3 c r b)) := fun t ht => by
  have g := spread_bit h f c r b hf
  have g16 := half_bit (n := 32) (m := 16) rfl _ slices_S12x7x32x228_o0_0_0_0_S12x7x16x228 slices_S12x7x32x228_o0_0_16_0_S12x7x16x228 c r b (fun t => f (32 * r.val + t)) g
  have g8 := half_bit (n := 16) (m := 8) rfl (half16 (spread h)) slices_S12x7x16x228_o0_0_0_0_S12x7x8x228 slices_S12x7x16x228_o0_0_8_0_S12x7x8x228 c r b _ g16
  have g4 := half_bit (n := 8) (m := 4) rfl (half8 (half16 (spread h))) slices_S12x7x8x228_o0_0_0_0_S12x7x4x228 slices_S12x7x8x228_o0_0_4_0_S12x7x4x228 c r b _ g8
  have g2 := half_bit (n := 4) (m := 2) rfl (half4 (half8 (half16 (spread h)))) slices_S12x7x4x228_o0_0_0_0_S12x7x2x228 slices_S12x7x4x228_o0_0_2_0_S12x7x2x228 c r b _ g4
  have g1 := half_bit (n := 2) (m := 1) rfl (half2 (half4 (half8 (half16 (spread h))))) slices_S12x7x2x228_o0_0_0_0_S12x7x1x228 slices_S12x7x2x228_o0_0_1_0_S12x7x1x228 c r b _ g2
    ⟨0, by decide⟩ t ht
  have cast : ∀ x : IVec S12x7x1x228 32, shapeCast S12x7x228 x shapeCasts_S12x7x1x228_S12x7x228 (ix3 c r b) = x (ix4 c r ⟨0, by decide⟩ b) := fun x =>
    shapeCast_apply x _ _ _ (by
      rw [Shape.rowMajor_val_three, Shape.rowMajor_val_four]
      show ((c.val * 7 + r.val) * 1 + 0) * 228 + b.val = (c.val * 7 + r.val) * 228 + b.val
      ring)
  unfold half1
  dsimp only [ori]
  rw [cast, cast]
  refine g1.trans ?_
  simp [Nat.mod_one]

/-! ### The columns -/

theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Five neighbouring columns combined. -/
theorem cols5_row (w : IVec S12x7x228 32) (f : Nat → Nat → Bool) (c : Fin 12) (r : Fin 7) (hw : ∀ b : Fin 228, IsRow (fun i => f i b.val) r.val (w (ix3 c r b))) (j : Fin 224) :
    IsRow (fun i => ((f i j.val || f i (j.val + 1)) || (f i (j.val + 2) || f i (j.val + 1 + 2))) || f i (j.val + 4)) r.val (cols5 w (ix3 c r j)) := by
  have hj := j.isLt
  have c2 : ∀ b : Fin 226, IsRow (fun i => f i b.val || f i (b.val + 1)) r.val (cols2 w (ix3 c r b)) := fun b => by
    have hb := b.isLt
    unfold cols2
    dsimp only [ori]
    rw [slice3_axis2_apply 0 w _ c r b ⟨b.val, by omega⟩ (Nat.zero_add _).symm, slice3_axis2_apply 1 w _ c r b ⟨b.val + 1, by omega⟩ (Nat.add_comm _ _)]
    exact (hw _).or (hw _)
  unfold cols5
  dsimp only [ori]
  rw [slice3_axis2_apply 0 (cols2 w) _ c r j ⟨j.val, by omega⟩ (Nat.zero_add _).symm, slice3_axis2_apply 2 (cols2 w) _ c r j ⟨j.val + 2, by omega⟩ (Nat.add_comm _ _),
    slice3_axis2_apply 4 w _ c r j ⟨j.val + 4, by omega⟩ (Nat.add_comm _ _)]
  have e := ((c2 ⟨j.val, by omega⟩).or (c2 ⟨j.val + 2, by omega⟩)).or (hw ⟨j.val + 4, by omega⟩)
  dsimp only at e
  rw [show j.val + 1 + 2 = j.val + 2 + 1 by omega]
  exact e

/-! ### The rows -/

/-- Each word replaced by the word above it. -/
def above (x : IVec S12x7x224 32) : IVec S12x7x224 32 :=
  concatenate S12x7x224 1 [⟨S12x1x224, k0_pay52⟩, ⟨S12x6x224, extractStridedSlice S12x6x224 ![0, 0, 0] x slices_S12x7x224_o0_0_0_S12x6x224⟩] concatenates_S12x1x224_S12x6x224_S12x7x224_d1

theorem above_row (x : IVec S12x7x224 32) (f : Nat → Bool) (c : Fin 12) (j : Fin 224) (hx : ∀ r : Fin 7, IsRow f r.val (x (ix3 c r j))) (r : Fin 7) :
    IsAbove f r.val (above x (ix3 c r j)) := by
  have hr := r.isLt
  by_cases h : r.val = 0
  · refine .inl ⟨h, ?_⟩
    refine (concatenate_pair_apply_left (s₁ := S12x1x224) (s₂ := S12x6x224) (1 : Fin S12x7x224.rank) _ _ _ _ rfl (ix3 c ⟨0, by decide⟩ j) (fun b => ?_)).trans rfl
    match b with
    | ⟨0, _⟩ => rfl
    | ⟨1, _⟩ => exact h.symm
    | ⟨2, _⟩ => rfl
  · refine .inr ⟨by omega, ?_⟩
    have e : above x (ix3 c r j) = x (ix3 c ⟨r.val - 1, by omega⟩ j) := by
      refine (concatenate_pair_apply_right (s₁ := S12x1x224) (s₂ := S12x6x224) (1 : Fin S12x7x224.rank) _ _ _ _ rfl rfl (ix3 c ⟨r.val - 1, by omega⟩ j) (fun b hb => ?_) ?_).trans ?_
      · match b with
        | ⟨0, _⟩ => rfl
        | ⟨1, _⟩ => exact absurd rfl hb
        | ⟨2, _⟩ => rfl
      · show r.val - 1 + 1 = r.val
        omega
      · refine extractStridedSlice_apply _ _ _ _ _ (fun ax => ?_)
        match ax with
        | ⟨0, _⟩ => exact (Nat.zero_add _).symm
        | ⟨1, _⟩ => exact (Nat.zero_add _).symm
        | ⟨2, _⟩ => exact (Nat.zero_add _).symm
    rw [e]
    exact hx ⟨r.val - 1, by omega⟩

theorem qm_eq (i : grid0.Coords) (g : Elt F .f32) : qm i g = above (qv i g) := rfl

/-- The packed words after the columns. -/
theorem qv_row (i : grid0.Coords) (g : Elt F .f32) (c : Fin 12) (r : Fin 7) (j : Fin 224) :
    IsRow (fun a => hitRow (thr g) ((i 0).val * 12 + c.val) a j.val) r.val (qv i g (ix3 c r j)) := by
  unfold qv
  rw [pay51_eq]
  exact cols5_row _ (fun a b => hit (thr g) ((i 0).val * 12 + c.val) a b) c r
    (fun b => pack_bit _ (fun a => hit (thr g) ((i 0).val * 12 + c.val) a b.val) c r b (fun a => hitv_at i (thr g) c a b)) j

/-- The rows of two words. -/
def rows2 (q : IVec S12x7x224 32) : IVec S12x7x224 32 := fun j => q j ||| (q j <<< 1 ||| above q j >>> 31)
/-- The rows of the dilation. -/
def rows5 (q : IVec S12x7x224 32) : IVec S12x7x224 32 := fun j =>
  (rows2 q j ||| (rows2 q j <<< 2 ||| above (rows2 q) j >>> 30)) ||| (q j <<< 4 ||| above q j >>> 28)

theorem blk_eq (i : grid0.Coords) (g : Elt F .f32) : blk i g = rows5 (qv i g) := by
  unfold blk
  rw [qm_eq]
  unfold ql k0_pay54
  rfl

/-- Bit `k` of the stored word `(c, r, j)` is whether row `32 r + k`, column `j` of the point's channel `c` is dropped. -/
theorem blk_row (i : grid0.Coords) (g : Elt F .f32) (c : Fin 12) (r : Fin 7) (j : Fin 224) :
    IsRow (fun a => drop (thr g) ((i 0).val * 12 + c.val) a j.val) r.val (blk i g (ix3 c r j)) := by
  rw [blk_eq]
  have q := fun r => qv_row i g c r j
  have q2 : ∀ r : Fin 7, IsRow (two fun a => hitRow (thr g) ((i 0).val * 12 + c.val) a j.val) r.val (rows2 (qv i g) (ix3 c r j)) := fun r =>
    (q r).or ((q r).up (above_row _ _ c j q r) 1 (by decide))
  exact ((q2 r).or ((q2 r).up (above_row _ _ c j q2 r) 2 (by decide))).or ((q r).up (above_row _ _ c j q r) 4 (by decide))

end Cert.KernelIdeal.Value
-- ==== Proof.KCount.lean ====
/- The number of bits that a point counts: the dropped positions of its twelve channels. -/
module

public import proofs.«01_k».proof.Proof.Sums
public import proofs.«01_k».proof.Proof.KPack
public import Idealize.ShloMosaic.Lib.WordSum

@[expose] public section

noncomputable section

namespace Cert.Drop

/-- The number of dropped positions of a channel. -/
def perChannel (T : BitVec 32) (c : Nat) : Nat := ∑ i ∈ Finset.range 224, ∑ j ∈ Finset.range 224, (drop T c i j).toNat

/-- The number of dropped positions. -/
def total (T : BitVec 32) : Nat := ∑ c ∈ Finset.range 768, perChannel T c

theorem perChannel_le (T : BitVec 32) (c : Nat) : perChannel T c ≤ 50176 := by
  unfold perChannel
  calc _ ≤ ∑ i ∈ Finset.range 224, ∑ j ∈ Finset.range 224, 1 := Finset.sum_le_sum fun i _ => Finset.sum_le_sum fun j _ => Bool.toNat_le _
    _ = 50176 := by simp

theorem channels_le (T : BitVec 32) (n o : Nat) : ∑ c ∈ Finset.range n, perChannel T (o + c) ≤ n * 50176 := by
  calc _ ≤ ∑ c ∈ Finset.range n, 50176 := Finset.sum_le_sum fun c _ => perChannel_le T _
    _ = n * 50176 := by simp

theorem total_le (T : BitVec 32) : total T ≤ 38535168 := by
  have := channels_le T 768 0
  simp only [Nat.zero_add] at this
  exact this

end Cert.Drop

namespace Cert.KernelIdeal.Value

open Cert.KernelIdeal Cert.KernelIdeal.Gen Cert.Drop
open Idealize.ShloMosaic Idealize.ShloMosaic.ValueIdx

variable {F : FTy → Type} [FloatOps F]

/-- Bytes to words, at the last step. -/
theorem fold_words (v w : IVec S12x7x224 32) : ∃ j : S1.Idx, extractAt ![0, 0, 0, 0] (k0_pay1 v w 24#32) inpos_S1x1x1x1_p0_0_0_0 =
    multiReductionI .add [1, 2, 3] S1 (shapeCast S1x12x7x224 (andi (addi w (shrui v (broadcast S12x7x224 24#32))) (broadcast S12x7x224 255#32)) shapeCasts_S12x7x224_S1x12x7x224)
      0#32 reduces_S1x12x7x224_S1 (rfl : (0#32 : BitVec 32) = IKind.add.neutral) j := by
  unfold k0_pay1 extractAt
  exact ⟨_, rfl⟩

/-- The counting steps, on each word. -/
theorem words_swar (i : grid0.Coords) (g : Elt F .f32) :
    andi (addi (k0_pay57 (qv i g) k0_pay52 (qm i g) (ql i g) 31#32) (shrui (k0_pay56 (qv i g) k0_pay52 (qm i g) (ql i g) 31#32) (broadcast S12x7x224 24#32)))
      (broadcast S12x7x224 255#32) = fun j => swar (blk i g j) := by
  unfold k0_pay57 k0_pay56 blk
  generalize k0_pay55 (qv i g) k0_pay52 (qm i g) (ql i g) 31#32 = d
  funext j
  dsimp only [andi, addi, subi, shrui, broadcast]
  generalize d j = x
  rfl

theorem cstep_fold (i : grid0.Coords) (g : Elt F .f32) : ∃ j : S1.Idx, cstep i g =
    multiReductionI .add [1, 2, 3] S1 (shapeCast S1x12x7x224 (fun j => swar (blk i g j)) shapeCasts_S12x7x224_S1x12x7x224) 0#32 reduces_S1x12x7x224_S1
      (rfl : (0#32 : BitVec 32) = IKind.add.neutral) j := by
  obtain ⟨j, e⟩ := fold_words (k0_pay56 (qv i g) k0_pay52 (qm i g) (ql i g) 31#32) (k0_pay57 (qv i g) k0_pay52 (qm i g) (ql i g) 31#32)
  refine ⟨j, ?_⟩
  rw [← words_swar]
  exact e

theorem S1_sub (i j : S1.Idx) : i = j := funext fun a => by
  have h : ∀ (a : Fin 1) (p q : Fin (S1.size a)), p = q := fun a p q => by
    fin_cases a; exact Fin.ext (by have := p.isLt; have := q.isLt; simp [S1] at *; omega)
  exact h a _ _

/-- The words of a block, counted. -/
theorem sum_blk (i : grid0.Coords) (g : Elt F .f32) :
    ∑ j : S12x7x224.Idx, (swar (blk i g j)).toNat = ∑ c ∈ Finset.range 12, perChannel (thr g) ((i 0).val * 12 + c) := by
  rw [sum_range3 (n0 := 12) (n1 := 7) (n2 := 224) (fun j => (swar (blk i g j)).toNat)
    (fun c r j => ∑ k ∈ Finset.range 32, (drop (thr g) ((i 0).val * 12 + c) (32 * r + k) j).toNat)]
  · refine Finset.sum_congr rfl fun c _ => ?_
    unfold perChannel
    rw [show (224 : Nat) = 7 * 32 from rfl, sum_blocks 7 32]
    refine Finset.sum_congr rfl fun r _ => ?_
    rw [Finset.sum_comm]
  · intro c r j
    dsimp only
    rw [toNat_swar]
    exact Finset.sum_congr rfl fun k hk => by rw [blk_row i g c r j k (Finset.mem_range.1 hk)]

/-- A point counts the dropped positions of its twelve channels. -/
theorem toNat_cstep (i : grid0.Coords) (g : Elt F .f32) :
    (cstep i g).toNat = ∑ c ∈ Finset.range 12, perChannel (thr g) ((i 0).val * 12 + c) := by
  obtain ⟨j, e⟩ := cstep_fold i g
  have hs : ∑ i' ∈ Finset.univ.filter (fun i' => reduces_S1x12x7x224_S1.drop i' = j),
      (shapeCast S1x12x7x224 (fun j => swar (blk i g j)) shapeCasts_S12x7x224_S1x12x7x224 i').toNat
      = ∑ c ∈ Finset.range 12, perChannel (thr g) ((i 0).val * 12 + c) := by
    rw [Finset.filter_true_of_mem fun i' _ => S1_sub _ _, ← sum_blk]
    exact Equiv.sum_comp (Shape.reshapeEquiv _) fun j => (swar (blk i g j)).toNat
  rw [e]
  refine (WordSum.toNat_multiReductionI_add _ _ _ _ (by
    rw [hs]; exact lt_of_le_of_lt (channels_le _ 12 _) (by norm_num))).trans hs

end Cert.KernelIdeal.Value
-- ==== Proof.KGrid.lean ====
/- The first grid: the packed array and the count that its points leave. -/
module

public import proofs.«01_k».proof.Proof.KCount
public import Idealize.ShloMosaic.Lib.Pipeline.Value

@[expose] public section

noncomputable section

namespace Cert.KernelIdeal.Value

open Cert.KernelIdeal Cert.KernelIdeal.Gen Cert.Drop
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

attribute [local irreducible] blk cstep

theorem N0 : cfg0.N = 64 := N_0

/-- The coordinate of a point of the first grid. -/
theorem coords0 : ∀ t : Fin cfg0.N, (grid0.coords t 0).val = t.val :=
  (by decide +kernel : ∀ t : Fin grid0.N, (grid0.coords t 0).val = t.val)

/-- The probability, as the first grid finds it. -/
def gam (c : Dev nD) : Elt F .f32 := at0 (V c main_v1)

/-- Every point reads the probability. -/
theorem iblk_gam (c : Dev nD) (t : Fin cfg0.N) : at0 (iblk0 V c 0 t) = gam V c := by
  unfold gam at0 iblk0
  rw [View.read_apply]
  refine congrArg (V c main_v1) ?_
  funext a
  have h : ∀ (a : Fin 2) (p q : Fin (S1x1.size a)), p = q := fun a p q => by
    fin_cases a <;> exact Fin.ext (by have := p.isLt; have := q.isLt; simp [S1x1] at *; omega)
  exact h a _ _

/-- The count after point `n`. -/
def accum (c : Dev nD) : (n : ℕ) → n < cfg0.N → BitVec 32
  | 0, h => Scalar.addi 0#32 (cstep (grid0.coords ⟨0, h⟩) (gam V c))
  | n + 1, h => Scalar.addi (accum c n (Nat.lt_of_succ_lt h)) (cstep (grid0.coords ⟨n + 1, h⟩) (gam V c))

/-- What a point leaves: the block of its coordinate, and the count so far. -/
theorem outs_eq (c : Dev nD) : ∀ (n : ℕ) (h : n < cfg0.N),
    outsAt0 V c n h = (blk (grid0.coords ⟨n, h⟩) (gam V c), fun _ => accum V c n h)
  | 0, h => by
    refine (outsAt0_A V c ⟨0, h⟩ rfl).trans ?_
    rw [out_A1, out_A2, iblk_gam]
    rfl
  | n + 1, h => by
    have hB : ¬(⟨n + 1, h⟩ : Fin cfg0.N).val % 64 = 0 := by have := N0; dsimp only; omega
    refine (outsAt0_B V c ⟨n + 1, h⟩ hB).trans ?_
    rw [out_B1, out_B2, iblk_gam]
    have e : outsAt0 V c ((⟨n + 1, h⟩ : Fin cfg0.N).val - 1) (Nat.lt_of_le_of_lt (Nat.sub_le _ _) h) = _ := outs_eq c n (Nat.lt_of_succ_lt h)
    rw [e]
    rfl

/-- The count after point `n` is the number of dropped positions of the channels so far. -/
theorem toNat_accum (c : Dev nD) : ∀ (n : ℕ) (h : n < cfg0.N),
    (accum V c n h).toNat = ∑ t ∈ Finset.range (n + 1), ∑ s ∈ Finset.range 12, perChannel (thr (gam V c)) (t * 12 + s)
  | 0, h => by
    have e : accum V c 0 h = cstep (grid0.coords ⟨0, h⟩) (gam V c) := BitVec.zero_add _
    rw [e, toNat_cstep, coords0, Finset.sum_range_one]
  | n + 1, h => by
    have e : accum V c (n + 1) h = accum V c n (Nat.lt_of_succ_lt h) + cstep (grid0.coords ⟨n + 1, h⟩) (gam V c) := rfl
    have hN := N0
    have b : ∑ t ∈ Finset.range (n + 1 + 1), ∑ s ∈ Finset.range 12, perChannel (thr (gam V c)) (t * 12 + s) ≤ (n + 1 + 1) * (12 * 50176) :=
      calc _ ≤ ∑ t ∈ Finset.range (n + 1 + 1), 12 * 50176 := Finset.sum_le_sum fun t _ => channels_le _ 12 _
        _ = _ := by simp
    rw [Finset.sum_range_succ] at b ⊢
    rw [e, BitVec.toNat_add, toNat_accum c n, toNat_cstep, coords0]
    exact Nat.mod_eq_of_lt (by dsimp only at b ⊢; omega)

theorem accum_congr (c : Dev nD) {n n' : ℕ} (e : n = n') (h : n < cfg0.N) (h' : n' < cfg0.N) : accum V c n h = accum V c n' h' := by
  subst e; rfl

theorem blk_congr {i i' : grid0.Coords} (g : Elt F .f32) {x x' : S12x7x224.Idx} (h : i = i') (hx : x = x') : blk i g x = blk i' g x' := by
  subst h hx; rfl

theorem ix3_congr {n0 n1 n2 : Nat} {a a' : Fin n0} {b b' : Fin n1} {c c' : Fin n2} (ha : a = a') (hb : b = b') (hc : c = c') : ix3 a b c = ix3 a' b' c' := by
  subst ha hb hc; rfl

/-- The final count. -/
def count (c : Dev nD) : BitVec 32 := accum V c 63 (by rw [N0]; decide)

/-- The final count is the number of dropped positions. -/
theorem toNat_count (c : Dev nD) : (count V c).toNat = total (thr (gam V c)) := by
  unfold count total
  rw [toNat_accum, show (768 : Nat) = 64 * 12 from rfl, sum_blocks 64 12]
  exact Finset.sum_congr rfl fun t _ => Finset.sum_congr rfl fun s _ => by rw [Nat.mul_comm t 12]

/-- The point of the first grid that packs channel `n`. -/
def pt0 (n : ℕ) (h : n < 768) : Fin cfg0.N := ⟨n / 12, by rw [N0]; omega⟩

/-- The packed array. -/
def packed (c : Dev nD) : Buf (Elt F) ((c : Thread nD τ).loc main_v2_0) :=
  fun i : S768x7x224.Idx => blk (grid0.coords (pt0 (i 0).val (i 0).isLt)) (gam V c)
    (ix3 ⟨(i 0).val % 12, Nat.mod_lt _ (by decide)⟩ (i 1 : Fin 7) (i 2 : Fin 224))

/-- A word of the packed array holds thirty-two dropped bits of a column of its channel. -/
theorem packed_row (c : Dev nD) (ch : Fin 768) (r : Fin 7) (j : Fin 224) :
    IsRow (fun a => drop (thr (gam V c)) ch.val a j.val) r.val (packed V c (ix3 ch r j)) := by
  have h := blk_row (F := F) (grid0.coords (pt0 ch.val ch.isLt)) (gam V c) ⟨ch.val % 12, Nat.mod_lt _ (by decide)⟩ r j
  rw [coords0] at h
  dsimp only [pt0] at h
  rw [Nat.div_add_mod' ch.val 12] at h
  exact h

/-- The window of the packed blocks moves along the channels. -/
theorem index0_1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Every point writes back its block of the packed array. -/
theorem flushed_packed (c : Dev nD) (t : Fin cfg0.N) : (dat0 V c).flushed 1 t = ((cfg0.win 1).blk t).view.read (Elt F) (packed V c) := by
  show (cfg0.win 1).cut (grid0.coords t) ((dat0 V c).after 1 t) = _
  rw [after0_1, outs_eq]
  funext j
  rw [View.read_apply]
  obtain ⟨e0, e1, e2⟩ := index0_1 t
  have h0 : (j 0).val < 12 := (j 0).isLt
  have h1 : (j 1).val < 7 := (j 1).isLt
  have h2 : (j 2).val < 224 := (j 2).isLt
  have key : ∀ (i : S768x7x224.Idx), (i 0).val = t.val * 12 + (j 0).val → (i 1).val = (j 1).val → (i 2).val = (j 2).val →
      packed V c i = blk (grid0.coords t) (gam V c) (ix3 ⟨(j 0).val, h0⟩ ⟨(j 1).val, h1⟩ ⟨(j 2).val, h2⟩) := by
    intro i k0 k1 k2
    unfold packed
    refine blk_congr _ (congrArg grid0.coords (Fin.ext (by dsimp only [pt0]; omega))) ?_
    exact ix3_congr (Fin.ext (by dsimp only; omega)) (Fin.ext k1) (Fin.ext k2)
  refine Eq.trans ?_ (key _ ?_ ?_ ?_).symm
  · refine congrArg (blk (grid0.coords t) (gam V c)) ?_
    funext a
    match a with
    | ⟨0, _⟩ => rfl
    | ⟨1, _⟩ => rfl
    | ⟨2, _⟩ => rfl
  · show win0_1.index t 0 * 12 + 1 * (j 0).val = _; rw [e0]; omega
  · show win0_1.index t 1 * 7 + 1 * (j 1).val = _; rw [e1]; omega
  · show win0_1.index t 2 * 224 + 1 * (j 2).val = _; rw [e2]; omega

/-- The packed array after the first grid. -/
theorem final_packed (c : Dev nD) : (dat0 V c).arrAt 1 cfg0.N = packed V c :=
  (dat0 V c).arrAt_eq_of_cover 1 (packed V c) (fun t _ => flushed_packed V c t) fun i => by
    have h0 : (i 0 : Nat) < 768 := (i 0).isLt
    have h1 : (i 1 : Nat) < 7 := (i 1).isLt
    have h2 : (i 2 : Nat) < 224 := (i 2).isLt
    refine ⟨⟨(i 0 : Nat) / 12, by rw [N0]; omega⟩, flush0_1 _, ?_⟩
    generalize ht : (⟨(i 0 : Nat) / 12, _⟩ : Fin cfg0.N) = t
    have hv : t.val = (i 0 : Nat) / 12 := by rw [← ht]
    obtain ⟨e0, e1, e2⟩ := index0_1 t
    show i ∈ ((View.whole main_v2_0).slice (win0_1.rect t)).set
    rw [View.set_slice_whole, Rect.mem_set_unit]
    intro a
    match a with
    | ⟨0, _⟩ => show win0_1.index t 0 * 12 ≤ (i 0 : Nat) ∧ (i 0 : Nat) < win0_1.index t 0 * 12 + 12
                rw [e0]; omega
    | ⟨1, _⟩ => show win0_1.index t 1 * 7 ≤ (i 1 : Nat) ∧ (i 1 : Nat) < win0_1.index t 1 * 7 + 7
                rw [e1]; omega
    | ⟨2, _⟩ => show win0_1.index t 2 * 224 ≤ (i 2 : Nat) ∧ (i 2 : Nat) < win0_1.index t 2 * 224 + 224
                rw [e2]; omega

/-- The window of the count does not move. -/
theorem index0_2 : ∀ t : Fin cfg0.N, win0_2.index t 0 = 0 ∧ win0_2.index t 1 = 0 :=
  (by decide +kernel : ∀ t : Fin grid0.N, win0_2.index t 0 = 0 ∧ win0_2.index t 1 = 0)

/-- The count after the first grid. -/
theorem final_count (c : Dev nD) : (dat0 V c).arrAt 2 cfg0.N = (fun _ => count V c : Buf (Elt F) ((c : Thread nD τ).loc main_v2_1)) :=
  (dat0 V c).arrAt_eq_of_cover 2 (fun _ => count V c : Buf (Elt F) ((c : Thread nD τ).loc main_v2_1)) (fun t hf => by
    have h63 : t.val = 63 := by have := (flush0_2 t).mp hf; have := t.isLt; have := N0; omega
    show (cfg0.win 2).cut (grid0.coords t) ((dat0 V c).after 2 t) = _
    rw [after0_2, outs_eq]
    funext j
    rw [View.read_apply]
    exact accum_congr V c h63 _ _) fun i => by
    have h0 : (i 0 : Nat) < 1 := (i 0).isLt
    have h1 : (i 1 : Nat) < 1 := (i 1).isLt
    refine ⟨⟨63, by rw [N0]; omega⟩, (flush0_2 _).mpr rfl, ?_⟩
    generalize (⟨63, _⟩ : Fin cfg0.N) = t
    obtain ⟨e0, e1⟩ := index0_2 t
    show i ∈ ((View.whole main_v2_1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [e0]; omega
    | ⟨1, _⟩ => show win0_2.index t 1 * 1 ≤ (i 1 : Nat) ∧ (i 1 : Nat) < win0_2.index t 1 * 1 + 1
                rw [e1]; omega

end Cert.KernelIdeal.Value
-- ==== Proof.KApply.lean ====
/- The second grid: every element is dropped or scaled, as its bit says. -/
module

public import proofs.«01_k».proof.Proof.KGrid

@[expose] public section

noncomputable section

namespace Cert.KernelIdeal.Value

open Cert.KernelIdeal Cert.KernelIdeal.Gen Cert.Drop
open Idealize.ShloMosaic Idealize.ShloMosaic.TcCoe Idealize.ShloMosaic.ValueIdx Idealize.SL.Sem
open Idealize.ShloMosaic.Pipeline (Dat)

variable {F : FTy → Type} [FloatOps F]

theorem N1 : cfg1.N = 24 := N_1

/-! ### An element of a block -/

/-- The factor, from the count. -/
def scale (v0 : BitVec 32) : F .f32 :=
  Scalar.divf (Scalar.ofBits .f32 0x4C130000#32) (Scalar.subf (Scalar.ofBits .f32 0x4C130000#32) (Scalar.sitofp .f32 v0))

/-- One element: zero where the bit is set, else the product. -/
def pick (b : Bool) (x : F .f32) (s : F .f32) : F .f32 :=
  Scalar.select (BitVec.ofBool b) (Scalar.ofBits .f32 0x00000000#32) (FloatOps.mulf x s)

/-- A shift and a mask read one bit. -/
theorem bit_word (x : BitVec 32) (k : Fin 32) :
    IntOp.cmpi .ne (IntOp.andi (IntOp.shrui .vector x (BitVec.ofNat 32 k.val)) 1#32) 0#32 = BitVec.ofBool (x.getLsbD k.val) := by
  have hk := k.isLt
  have e : (BitVec.ofNat 32 k.val).toNat = k.val := by rw [BitVec.toNat_ofNat]; omega
  have s : IntOp.shrui .vector x (BitVec.ofNat 32 k.val) = x >>> k.val := by
    unfold IntOp.shrui
    rw [if_pos (by omega), BitVec.ushiftRight_eq', e]
  rw [s]
  show BitVec.ofBool ((x >>> k.val) &&& 1#32 != 0#32) = _
  rw [BitVec.and_one_eq_setWidth_ofBool_getLsbD, BitVec.getLsbD_ushiftRight, Nat.add_zero]
  cases x.getLsbD k.val <;> decide

theorem iota5_at (h) (c : Fin 32) (r : Fin 7) (k : Fin 32) (b : Fin 224) : iota .tc S32x7x32x224 32 [2] h (ix4 c r k b) = BitVec.ofNat 32 k.val :=
  congrArg (BitVec.ofNat 32) ((congrArg (· + k.val) (Nat.zero_mul _)).trans (Nat.zero_add _))

/-- The words spread over the rows of a block. -/
theorem spread_at (p : IVec S32x7x224 32) (c : Fin 32) (r : Fin 7) (k : Fin 32) (b : Fin 224) :
    broadcastTo S32x7x32x224 (shapeCast S32x7x1x224 p shapeCasts_S32x7x224_S32x7x1x224) broadcasts_S32x7x1x224_S32x7x32x224 (ix4 c r k b) = p (ix3 c r b) := by
  have e : broadcastTo S32x7x32x224 (shapeCast S32x7x1x224 p shapeCasts_S32x7x224_S32x7x1x224) broadcasts_S32x7x1x224_S32x7x32x224 (ix4 c r k b)
      = shapeCast S32x7x1x224 p shapeCasts_S32x7x224_S32x7x1x224 (ix4 c r (0 : Fin 1) b) := by
    unfold broadcastTo
    refine congrArg _ (funext fun a => ?_)
    match a with
    | ⟨0, _⟩ => rfl
    | ⟨1, _⟩ => rfl
    | ⟨2, _⟩ => rfl
    | ⟨3, _⟩ => rfl
  rw [e]
  refine (shapeCast_apply p _ _ (ix3 c r b) ?_)
  rw [Shape.rowMajor_val_three, Shape.rowMajor_val_four]
  show (c.val * 7 + r.val) * 224 + b.val = ((c.val * 7 + r.val) * 1 + 0) * 224 + b.val
  omega

/-- One element of the block that a point of the second grid stores. -/
theorem pay_at (v0 : Elt F .i32) (p : Vec F S32x7x224 .i32) (x : Vec F S32x224x224 .f32) (c : Fin 32) (i : Fin 224) (j : Fin 224) :
    k1_pay1 v0 p x (ix3 c i j) = pick ((p (ix3 c (⟨i.val / 32, by have := i.isLt; omega⟩ : Fin 7) j) : BitVec 32).getLsbD (i.val % 32)) (x (ix3 c i j)) (scale v0) := by
  unfold k1_pay1
  dsimp only
  rw [shapeCast_self, shapeCast_self]
  unfold pick
  dsimp only [select, mulf, broadcast]
  refine congrArg₂ (fun a b => Scalar.select a (Scalar.ofBits .f32 0x00000000#32) b) ?_ rfl
  refine (shapeCast_apply _ _ _ (ix4 c (⟨i.val / 32, by have := i.isLt; omega⟩ : Fin 7) (⟨i.val % 32, Nat.mod_lt _ (by decide)⟩ : Fin 32) j) ?_).trans ?_
  · rw [Shape.rowMajor_val_three, Shape.rowMajor_val_four]
    show ((c.val * 7 + i.val / 32) * 32 + i.val % 32) * 224 + j.val = (c.val * 224 + i.val) * 224 + j.val
    omega
  · dsimp only [cmpi, andi, shrui, broadcast]
    rw [iota5_at, spread_at]
    exact bit_word _ ⟨i.val % 32, _⟩

/-! ### What a point stores -/

theorem hz3' : (![0, 0, 0] : Fin 3 → Nat) = fun _ => 0 := funext fun a => by fin_cases a <;> rfl

/-- A point stores the block of its inputs. -/
theorem out_apply (c : Dev nD) (i : grid1.Coords) (a1 : Memref sig .tc .vmem S32x224x224 .f32) (h1 : a1.IsWhole) (a2 : Memref sig .tc .vmem S32x7x224 .i32) (h2 : a2.IsWhole)
    (a3 : Memref sig .tc .smem S1x1 .i32) (h3 : a3.IsWhole) (a4 : Memref sig .tc .vmem S32x224x224 .f32) (h4 : a4.IsWhole)
    (x0 : Vec F S32x224x224 .f32) (x1 : Vec F S32x7x224 .i32) (x2 : Vec F S1x1 .i32) :
    out1_A_3 c i a1 h1 a2 h2 a3 h3 a4 h4 x0 x1 x2 = k1_pay1 (at0 x2) x1 x0 := by
  unfold out1_A_3
  rw [View.read_writes_eq_canon _ _ _ (cover1_A_3 c i a1 h1 a2 h2 a3 h3 a4 h4 x0 x1 x2)]
  unfold kernelRun1_A
  dsimp only
  sl_unfold_words
  rw [View.canon_unit_zero hz3']
  rw [read_at0 a3 h3 x2]
  simp only [View.readAt_eq_ld, h1.read_unread, h2.read_unread, View.ld_unit_zero (S := S32x224x224) hz3', View.ld_unit_zero (S := S32x7x224) hz3']

/-! ### The array -/

variable (V : (c : Dev nD) → (b : Ref sig .tc) → Buf (Elt F) ((c : Thread nD τ).loc b))

/-- The three arrays that the second grid reads, as it finds them. -/
abbrev xArr (c : Dev nD) : Vec F S768x224x224 .f32 := V c main_v0
abbrev pArr (c : Dev nD) : IVec S768x7x224 32 := V c main_v2_0
abbrev nArr (c : Dev nD) : IVec S1x1 32 := V c main_v2_1

/-- The result of the second grid. -/
def applied (c : Dev nD) : Buf (Elt F) ((c : Thread nD τ).loc main_v3) :=
  fun i : S768x224x224.Idx => pick ((pArr V c (ix3 (i 0 : Fin 768) (⟨(i 1).val / 32, by have h : (i 1).val < 224 := (i 1).isLt; omega⟩ : Fin 7) (i 2 : Fin 224))).getLsbD ((i 1).val % 32))
    (xArr V c i) (scale (at0 (nArr V c)))

theorem index1_0 : ∀ t : Fin cfg1.N, win1_0.index t 0 = t.val ∧ win1_0.index t 1 = 0 ∧ win1_0.index t 2 = 0 :=
  (by decide +kernel : ∀ t : Fin grid1.N, win1_0.index t 0 = t.val ∧ win1_0.index t 1 = 0 ∧ win1_0.index t 2 = 0)
theorem index1_1 : ∀ t : Fin cfg1.N, win1_1.index t 0 = t.val ∧ win1_1.index t 1 = 0 ∧ win1_1.index t 2 = 0 :=
  (by decide +kernel : ∀ t : Fin grid1.N, win1_1.index t 0 = t.val ∧ win1_1.index t 1 = 0 ∧ win1_1.index t 2 = 0)
theorem index1_3 : ∀ t : Fin cfg1.N, win1_3.index t 0 = t.val ∧ win1_3.index t 1 = 0 ∧ win1_3.index t 2 = 0 :=
  (by decide +kernel : ∀ t : Fin grid1.N, win1_3.index t 0 = t.val ∧ win1_3.index t 1 = 0 ∧ win1_3.index t 2 = 0)

/-- Every point reads the count. -/
theorem iblk_count (c : Dev nD) (t : Fin cfg1.N) : at0 (iblk1 V c 2 t) = at0 (nArr V c) := by
  unfold at0 iblk1
  rw [View.read_apply]
  refine congrArg (V c main_v2_1) ?_
  funext a
  have h : ∀ (a : Fin 2) (p q : Fin (S1x1.size a)), p = q := fun a p q => by
    fin_cases a <;> exact Fin.ext (by have := p.isLt; have := q.isLt; simp [S1x1] at *; omega)
  exact h a _ _

/-- A channel of a point of the second grid. -/
def ch1 (t : Fin cfg1.N) (c : Fin 32) : Fin 768 := ⟨t.val * 32 + c.val, by have := t.isLt; have := N1; have := c.isLt; omega⟩

/-- A point reads the packed words of its channels. -/
theorem iblk_packed (c : Dev nD) (t : Fin cfg1.N) (ch : Fin 32) (r : Fin 7) (j : Fin 224) :
    (iblk1 V c 1 t : Vec F S32x7x224 .i32) (ix3 ch r j) = pArr V c (ix3 (ch1 t ch) r j) := by
  obtain ⟨e0, e1, e2⟩ := index1_1 t
  unfold iblk1
  rw [View.read_apply]
  refine congrArg (V c main_v2_0) ?_
  funext a
  apply Fin.ext
  match a with
  | ⟨0, _⟩ => show win1_1.index t 0 * 32 + 1 * ch.val = t.val * 32 + ch.val; rw [e0]; omega
  | ⟨1, _⟩ => show win1_1.index t 1 * 7 + 1 * r.val = r.val; rw [e1]; omega
  | ⟨2, _⟩ => show win1_1.index t 2 * 224 + 1 * j.val = j.val; rw [e2]; omega

/-- A point reads the elements of its channels. -/
theorem iblk_x (c : Dev nD) (t : Fin cfg1.N) (ch : Fin 32) (i : Fin 224) (j : Fin 224) :
    (iblk1 V c 0 t : Vec F S32x224x224 .f32) (ix3 ch i j) = xArr V c (ix3 (ch1 t ch) i j) := by
  obtain ⟨e0, e1, e2⟩ := index1_0 t
  unfold iblk1
  rw [View.read_apply]
  refine congrArg (V c main_v0) ?_
  funext a
  apply Fin.ext
  match a with
  | ⟨0, _⟩ => show win1_0.index t 0 * 32 + 1 * ch.val = t.val * 32 + ch.val; rw [e0]; omega
  | ⟨1, _⟩ => show win1_0.index t 1 * 224 + 1 * i.val = i.val; rw [e1]; omega
  | ⟨2, _⟩ => show win1_0.index t 2 * 224 + 1 * j.val = j.val; rw [e2]; omega

theorem applied_congr (c : Dev nD) {i i' : S768x224x224.Idx} (h : i = i') : applied V c i = applied V c i' := by subst h; rfl

/-- Every point writes back its block of the result. -/
theorem flushed_applied (c : Dev nD) (t : Fin cfg1.N) : (dat1 V c).flushed 3 t = ((cfg1.win 3).blk t).view.read (Elt F) (applied V c) := by
  show (cfg1.win 3).cut (grid1.coords t) ((dat1 V c).after 3 t) = _
  rw [after1_3]
  unfold outsAt1
  rw [out_apply, iblk_count]
  funext j
  rw [View.read_apply]
  obtain ⟨e0, e1, e2⟩ := index1_3 t
  have h0 : (j 0).val < 32 := (j 0).isLt
  have h1 : (j 1).val < 224 := (j 1).isLt
  have h2 : (j 2).val < 224 := (j 2).isLt
  have key : applied V c (ix3 (ch1 t ⟨(j 0).val, h0⟩) (⟨(j 1).val, h1⟩ : Fin 224) (⟨(j 2).val, h2⟩ : Fin 224))
      = k1_pay1 (at0 (nArr V c)) (iblk1 V c 1 t) (iblk1 V c 0 t) (ix3 ⟨(j 0).val, h0⟩ ⟨(j 1).val, h1⟩ ⟨(j 2).val, h2⟩) := by
    rw [pay_at, iblk_packed, iblk_x]
    rfl
  refine Eq.trans ?_ (key.symm.trans (applied_congr V c ?_))
  · refine congrArg (k1_pay1 (at0 (nArr V c)) (iblk1 V c 1 t) (iblk1 V c 0 t)) ?_
    funext a
    match a with
    | ⟨0, _⟩ => rfl
    | ⟨1, _⟩ => rfl
    | ⟨2, _⟩ => rfl
  · funext a
    apply Fin.ext
    match a with
    | ⟨0, _⟩ => show t.val * 32 + (j 0).val = win1_3.index t 0 * 32 + 1 * (j 0).val; rw [e0]; omega
    | ⟨1, _⟩ => show (j 1).val = win1_3.index t 1 * 224 + 1 * (j 1).val; rw [e1]; omega
    | ⟨2, _⟩ => show (j 2).val = win1_3.index t 2 * 224 + 1 * (j 2).val; rw [e2]; omega

/-- The result of the second grid, after it. -/
theorem final_applied (c : Dev nD) : (dat1 V c).arrAt 3 cfg1.N = applied V c :=
  (dat1 V c).arrAt_eq_of_cover 3 (applied V c) (fun t _ => flushed_applied V c t) fun i => by
    have h0 : (i 0 : Nat) < 768 := (i 0).isLt
    have h1 : (i 1 : Nat) < 224 := (i 1).isLt
    have h2 : (i 2 : Nat) < 224 := (i 2).isLt
    refine ⟨⟨(i 0 : Nat) / 32, by rw [N1]; omega⟩, flush1_3 _, ?_⟩
    generalize ht : (⟨(i 0 : Nat) / 32, _⟩ : Fin cfg1.N) = t
    have hv : t.val = (i 0 : Nat) / 32 := by rw [← ht]
    obtain ⟨e0, e1, e2⟩ := index1_3 t
    show i ∈ ((View.whole main_v3).slice (win1_3.rect t)).set
    rw [View.set_slice_whole, Rect.mem_set_unit]
    intro a
    match a with
    | ⟨0, _⟩ => show win1_3.index t 0 * 32 ≤ (i 0 : Nat) ∧ (i 0 : Nat) < win1_3.index t 0 * 32 + 32
                rw [e0]; omega
    | ⟨1, _⟩ => show win1_3.index t 1 * 224 ≤ (i 1 : Nat) ∧ (i 1 : Nat) < win1_3.index t 1 * 224 + 224
                rw [e1]; omega
    | ⟨2, _⟩ => show win1_3.index t 2 * 224 ≤ (i 2 : Nat) ∧ (i 2 : Nat) < win1_3.index t 2 * 224 + 224
                rw [e2]; omega

end Cert.KernelIdeal.Value
-- ==== Proof.KRun.lean ====
/- The kernel's run with its result: every execution of the idealized kernel's host function ends, and the result array then
   holds what the last boundary of the launch says of it, the arguments unchanged. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of `main` ends with the result array at the contents of the launch's last boundary and
    with both arguments as launched. The launch is the one the frame uses; only what is read at the end differs. -/
theorem run : θ_run defs (onTc (τ := τ) (main (F := F))) ⟨m, fun _ => 0, ρ⟩ (fun r => (∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v4 (by decide)),
       (h c _ (mem_uc main_arg0 (by decide))).trans (W4_main_arg0 m ρ c),
       (h c _ (mem_uc main_arg1 (by decide))).trans (W4_main_arg1 m ρ c)⟩)

end Cert.KernelIdeal.Value
-- ==== Proof.KResult.lean ====
/- The kernel's result, element by element, from its arguments. -/
module

public import proofs.«01_k».proof.Proof.KApply
public import proofs.«01_k».proof.Proof.KRun

@[expose] public section

noncomputable section

namespace Cert.KernelIdeal.Value

open Cert.KernelIdeal Cert.KernelIdeal.Gen Cert.Drop
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The two arguments. -/
abbrev xIn (c : Dev nD) : Vec F S8x96x224x224 .f32 := m ((c : Thread nD τ).loc main_arg0)
abbrev gIn (c : Dev nD) : F .f32 := (m ((c : Thread nD τ).loc main_arg1) : Vec F S_ .f32) ix0

/-- The elements, as the grids find them. -/
theorem V1_x (c : Dev nD) : (V1 m ρ c main_v0 : Vec F S768x224x224 .f32) = shapeCast S768x224x224 (xIn m c) shapeCasts_S8x96x224x224_S768x224x224 := rfl

/-- The probability, as the grids find it. -/
theorem V1_g (c : Dev nD) : gam (V1 m ρ) c = gIn m c := by
  have e : (V1 m ρ c main_v1 : Vec F S1x1 .f32) = shapeCast S1x1 (m ((c : Thread nD τ).loc main_arg1) : Vec F S_ .f32) shapeCasts_S_S1x1 := rfl
  unfold gam at0
  refine (congrFun e _).trans ?_
  exact congrArg (m ((c : Thread nD τ).loc main_arg1) : Vec F S_ .f32) (funext fun a => a.elim0)

theorem V2_x (c : Dev nD) : xArr (V2 m ρ) c = shapeCast S768x224x224 (xIn m c) shapeCasts_S8x96x224x224_S768x224x224 :=
  (W2_of m ρ c main_v0 (by decide +kernel)).trans (V1_x m ρ c)

theorem V2_packed (c : Dev nD) : pArr (V2 m ρ) c = packed (V1 m ρ) c := (W2_arr m ρ c 1).trans (final_packed (V1 m ρ) c)

theorem V2_count (c : Dev nD) : nArr (V2 m ρ) c = fun _ => count (V1 m ρ) c := (W2_arr m ρ c 2).trans (final_count (V1 m ρ) c)

/-- The number of dropped elements, as a word. -/
def cnt (c : Dev nD) : BitVec 32 := count (V1 m ρ) c

theorem toNat_cnt (c : Dev nD) : (cnt m ρ c).toNat = total (thr (gIn m c)) := by
  unfold cnt
  rw [toNat_count, V1_g]

/-- The kernel's result at an index: zero where the element is dropped, else the element scaled. -/
theorem result_at (c : Dev nD) (n : Fin 8) (ch : Fin 96) (i : Fin 224) (j : Fin 224) :
    (W4 m ρ c (Proc.devRef .tc main_v4) : Vec F S8x96x224x224 .f32) (ix4 n ch i j)
      = pick (drop (thr (gIn m c)) (n.val * 96 + ch.val) i.val j.val) (xIn m c (ix4 n ch i j)) (scale (cnt m ρ c)) := by
  have hn := n.isLt
  have hch := ch.isLt
  have e : (W4 m ρ c (Proc.devRef .tc main_v4) : Vec F S8x96x224x224 .f32)
      = shapeCast S8x96x224x224 (W3 m ρ c (Proc.devRef .tc main_v3) : Vec F S768x224x224 .f32) shapeCasts_S768x224x224_S8x96x224x224 := rfl
  have e3 : (W3 m ρ c (Proc.devRef .tc main_v3) : Vec F S768x224x224 .f32) = applied (V2 m ρ) c := (W3_arr m ρ c 3).trans (final_applied (V2 m ρ) c)
  rw [e, e3]
  refine (shapeCast_apply _ _ _ (ix3 (⟨n.val * 96 + ch.val, by omega⟩ : Fin 768) i j) ?_).trans ?_
  · rw [Shape.rowMajor_val_three, Shape.rowMajor_val_four]
    rfl
  have a : applied (V2 m ρ) c (ix3 (⟨n.val * 96 + ch.val, by omega⟩ : Fin 768) i j)
      = pick ((pArr (V2 m ρ) c (ix3 (⟨n.val * 96 + ch.val, by omega⟩ : Fin 768) (⟨i.val / 32, by have := i.isLt; omega⟩ : Fin 7) j)).getLsbD (i.val % 32))
        (xArr (V2 m ρ) c (ix3 (⟨n.val * 96 + ch.val, by omega⟩ : Fin 768) i j)) (scale (at0 (nArr (V2 m ρ) c))) := rfl
  rw [a, V2_packed, V2_count, V2_x]
  have b := packed_row (V1 m ρ) c (⟨n.val * 96 + ch.val, by omega⟩ : Fin 768) (⟨i.val / 32, by have := i.isLt; omega⟩ : Fin 7) j (i.val % 32) (Nat.mod_lt _ (by decide))
  rw [V1_g] at b
  dsimp only at b
  rw [Nat.div_add_mod] at b
  refine (congrArg (fun t => pick t _ _) b).trans ?_
  refine congrArg₂ (fun x s => pick _ x s) ?_ rfl
  refine shapeCast_apply _ _ _ (ix4 n ch i j) ?_
  rw [Shape.rowMajor_val_three, Shape.rowMajor_val_four]
  rfl

end Cert.KernelIdeal.Value
-- ==== Proof.RefOps.lean ====
/- The reference's operations as lists, the host calls of the generator opened in place, and `main` as their sequence. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v6`, named. It packs its operands into a list of dependent pairs
    whose shapes a later argument's type mentions, so `simp` cannot rewrite an operand where it stands; applied by
    name, the operands are plain arguments, which the window lemmas below rewrite before the name unfolds. -/
def fn_main_v6 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- The function of the operation that writes `main_call0_v4`, named. It packs its operands into a list of dependent pairs
    whose shapes a later argument's type mentions, so `simp` cannot rewrite an operand where it stands; applied by
    name, the operands are plain arguments, which the window lemmas below rewrite before the name unfolds. -/
def fn_main_call0_v4 : (main_call0_v1 : Ref sig .tc).ty.Contents (Elt F) → (main_call0_v3 : Ref sig .tc).ty.Contents (Elt F) → (main_call0_v4 : Ref sig .tc).ty.Contents (Elt F) :=
  (fun a b => concatenate S2 0 [⟨S1, a⟩, ⟨S1, b⟩] concatenates_S1_S1_S2_d0)

/-- The function of the operation that writes `main_v7`, named. It packs its operands into a list of dependent pairs
    whose shapes a later argument's type mentions, so `simp` cannot rewrite an operand where it stands; applied by
    name, the operands are plain arguments, which the window lemmas below rewrite before the name unfolds. -/
def fn_main_v7 : (main_call0_v11_0 : Ref sig .tc).ty.Contents (Elt F) → (main_call0_v11_1 : Ref sig .tc).ty.Contents (Elt F) → (main_v7 : Ref sig .tc).ty.Contents (Elt F) :=
  (fun a b => concatenate S2 0 [⟨S1, a⟩, ⟨S1, b⟩] concatenates_S1_S1_S2_d0)

/-- @main's operations 1 … 30 of 537 (@main, which the printer did not cut). -/
abbrev ops_0 : List (HloOp τ sig (Elt F)) :=
  [ nullary main_c (constantI S_ 32 0#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 (fn_main_v6 (F := F)),
    nullary main_c_2 (constantI S_ 32 1#32),
    TRef.nullary (TRef.of (T := ⟨S_, .i32⟩) main_call0_c) (constantI S_ 32 32#32),
    TRef.binary (TRef.of (T := ⟨S_, .i32⟩) main_c_2) (TRef.of (T := ⟨S_, .i32⟩) main_call0_c) (TRef.of (T := ⟨S_, .i32⟩) main_call0_v0) Host.shrui,
    TRef.unary (TRef.of (T := ⟨S_, .i32⟩) main_call0_v0) (TRef.of (T := ⟨S1, .i32⟩) main_call0_v1) (broadcastInDim S1 ![] bcast_S_S1),
    TRef.nullary (TRef.of (T := ⟨S_, .i32⟩) main_call0_c_0) (constantI S_ 32 4294967295#32),
    TRef.binary (TRef.of (T := ⟨S_, .i32⟩) main_c_2) (TRef.of (T := ⟨S_, .i32⟩) main_call0_c_0) (TRef.of (T := ⟨S_, .i32⟩) main_call0_v2) andi,
    TRef.unary (TRef.of (T := ⟨S_, .i32⟩) main_call0_v2) (TRef.of (T := ⟨S1, .i32⟩) main_call0_v3) (broadcastInDim S1 ![] bcast_S_S1),
    TRef.binary (TRef.of (T := ⟨S1, .i32⟩) main_call0_v1) (TRef.of (T := ⟨S1, .i32⟩) main_call0_v3) (TRef.of (T := ⟨S2, .i32⟩) main_call0_v4) (fn_main_call0_v4 (F := F)),
    TRef.unary (TRef.of (T := ⟨S2, .i32⟩) main_v6) (TRef.of (T := ⟨S1, .i32⟩) main_call0_v5) (extractStridedSlice S1 ![0] · slices_S2_S1_0),
    TRef.reshape (TRef.of (T := ⟨S1, .i32⟩) main_call0_v5) (TRef.of (T := ⟨S_, .i32⟩) main_call0_v6) (rfl : (.i32 : EltTy) = .i32) shapeCasts_S1_S_,
    TRef.unary (TRef.of (T := ⟨S2, .i32⟩) main_v6) (TRef.of (T := ⟨S1, .i32⟩) main_call0_v7) (extractStridedSlice S1 ![1] · slices_S2_S1_1),
    TRef.reshape (TRef.of (T := ⟨S1, .i32⟩) main_call0_v7) (TRef.of (T := ⟨S_, .i32⟩) main_call0_v8) (rfl : (.i32 : EltTy) = .i32) shapeCasts_S1_S_,
    TRef.unary (TRef.of (T := ⟨S2, .i32⟩) main_call0_v4) (TRef.of (T := ⟨S1, .i32⟩) main_call0_v9) (extractStridedSlice S1 ![0] · slices_S2_S1_0),
    TRef.unary (TRef.of (T := ⟨S2, .i32⟩) main_call0_v4) (TRef.of (T := ⟨S1, .i32⟩) main_call0_v10) (extractStridedSlice S1 ![1] · slices_S2_S1_1),
    TRef.binary (TRef.of (T := ⟨S_, .i32⟩) main_call0_v6) (TRef.of (T := ⟨S_, .i32⟩) main_call0_v8) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v6) (TRef.of (T := ⟨S1, .i32⟩) main_call0_call0_v2) (broadcastInDim S1 ![] bcast_S_S1),
    TRef.binary (TRef.of (T := ⟨S1, .i32⟩) main_call0_v9) (TRef.of (T := ⟨S1, .i32⟩) main_call0_call0_v2) (TRef.of (T := ⟨S1, .i32⟩) main_call0_call0_v3) addi,
    TRef.unary (TRef.of (T := ⟨S_, .i32⟩) main_call0_v8) (TRef.of (T := ⟨S1, .i32⟩) main_call0_call0_v4) (broadcastInDim S1 ![] bcast_S_S1) ]

/-- @main's operations 31 … 60 of 537 (@main, which the printer did not cut). -/
abbrev ops_1 : List (HloOp τ sig (Elt F)) :=
  [ TRef.binary (TRef.of (T := ⟨S1, .i32⟩) main_call0_v10) (TRef.of (T := ⟨S1, .i32⟩) main_call0_call0_v4) (TRef.of (T := ⟨S1, .i32⟩) main_call0_call0_v5) addi,
    TRef.binary (TRef.of (T := ⟨S1, .i32⟩) main_call0_call0_v3) (TRef.of (T := ⟨S1, .i32⟩) main_call0_call0_v5) (TRef.of (T := ⟨S1, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S1, .i32⟩) main_call0_call0_v7) (broadcastInDim S1 ![] bcast_S_S1),
    TRef.binary (TRef.of (T := ⟨S1, .i32⟩) main_call0_call0_v5) (TRef.of (T := ⟨S1, .i32⟩) main_call0_call0_v7) (TRef.of (T := ⟨S1, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S1, .i32⟩) main_call0_call0_v9) (broadcastInDim S1 ![] bcast_S_S1),
    TRef.binary (TRef.of (T := ⟨S1, .i32⟩) main_call0_call0_v5) (TRef.of (T := ⟨S1, .i32⟩) main_call0_call0_v9) (TRef.of (T := ⟨S1, .i32⟩) main_call0_call0_v10) Host.shrui,
    TRef.binary (TRef.of (T := ⟨S1, .i32⟩) main_call0_call0_v8) (TRef.of (T := ⟨S1, .i32⟩) main_call0_call0_v10) (TRef.of (T := ⟨S1, .i32⟩) main_call0_call0_v11) ori,
    TRef.binary (TRef.of (T := ⟨S1, .i32⟩) main_call0_call0_v6) (TRef.of (T := ⟨S1, .i32⟩) main_call0_call0_v11) (TRef.of (T := ⟨S1, .i32⟩) main_call0_call0_v12) xori,
    TRef.binary (TRef.of (T := ⟨S1, .i32⟩) main_call0_call0_v6) (TRef.of (T := ⟨S1, .i32⟩) main_call0_call0_v12) (TRef.of (T := ⟨S1, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S1, .i32⟩) main_call0_call0_v14) (broadcastInDim S1 ![] bcast_S_S1),
    TRef.binary (TRef.of (T := ⟨S1, .i32⟩) main_call0_call0_v12) (TRef.of (T := ⟨S1, .i32⟩) main_call0_call0_v14) (TRef.of (T := ⟨S1, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S1, .i32⟩) main_call0_call0_v16) (broadcastInDim S1 ![] bcast_S_S1),
    TRef.binary (TRef.of (T := ⟨S1, .i32⟩) main_call0_call0_v12) (TRef.of (T := ⟨S1, .i32⟩) main_call0_call0_v16) (TRef.of (T := ⟨S1, .i32⟩) main_call0_call0_v17) Host.shrui,
    TRef.binary (TRef.of (T := ⟨S1, .i32⟩) main_call0_call0_v15) (TRef.of (T := ⟨S1, .i32⟩) main_call0_call0_v17) (TRef.of (T := ⟨S1, .i32⟩) main_call0_call0_v18) ori,
    TRef.binary (TRef.of (T := ⟨S1, .i32⟩) main_call0_call0_v13) (TRef.of (T := ⟨S1, .i32⟩) main_call0_call0_v18) (TRef.of (T := ⟨S1, .i32⟩) main_call0_call0_v19) xori,
    TRef.binary (TRef.of (T := ⟨S1, .i32⟩) main_call0_call0_v13) (TRef.of (T := ⟨S1, .i32⟩) main_call0_call0_v19) (TRef.of (T := ⟨S1, .i32⟩) main_call0_call0_v20) addi,
    TRef.nullary (TRef.of (T := ⟨S_, .i32⟩) main_call0_call0_c_4) (constantI S_ 32 26#32),
    TRef.unary (TRef.of (T := ⟨S_, .i32⟩) main_call0_call0_c_4) (TRef.of (T := ⟨S1, .i32⟩) main_call0_call0_v21) (broadcastInDim S1 ![] bcast_S_S1),
    TRef.binary (TRef.of (T := ⟨S1, .i32⟩) main_call0_call0_v19) (TRef.of (T := ⟨S1, .i32⟩) main_call0_call0_v21) (TRef.of (T := ⟨S1, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S1, .i32⟩) main_call0_call0_v23) (broadcastInDim S1 ![] bcast_S_S1),
    TRef.binary (TRef.of (T := ⟨S1, .i32⟩) main_call0_call0_v19) (TRef.of (T := ⟨S1, .i32⟩) main_call0_call0_v23) (TRef.of (T := ⟨S1, .i32⟩) main_call0_call0_v24) Host.shrui,
    TRef.binary (TRef.of (T := ⟨S1, .i32⟩) main_call0_call0_v22) (TRef.of (T := ⟨S1, .i32⟩) main_call0_call0_v24) (TRef.of (T := ⟨S1, .i32⟩) main_call0_call0_v25) ori,
    TRef.binary (TRef.of (T := ⟨S1, .i32⟩) main_call0_call0_v20) (TRef.of (T := ⟨S1, .i32⟩) main_call0_call0_v25) (TRef.of (T := ⟨S1, .i32⟩) main_call0_call0_v26) xori,
    TRef.binary (TRef.of (T := ⟨S1, .i32⟩) main_call0_call0_v20) (TRef.of (T := ⟨S1, .i32⟩) main_call0_call0_v26) (TRef.of (T := ⟨S1, .i32⟩) main_call0_call0_v27) addi,
    TRef.nullary (TRef.of (T := ⟨S_, .i32⟩) main_call0_call0_c_6) (constantI S_ 32 6#32) ]

/-- @main's operations 61 … 90 of 537 (@main, which the printer did not cut). -/
abbrev ops_2 : List (HloOp τ sig (Elt F)) :=
  [ TRef.unary (TRef.of (T := ⟨S_, .i32⟩) main_call0_call0_c_6) (TRef.of (T := ⟨S1, .i32⟩) main_call0_call0_v28) (broadcastInDim S1 ![] bcast_S_S1),
    TRef.binary (TRef.of (T := ⟨S1, .i32⟩) main_call0_call0_v26) (TRef.of (T := ⟨S1, .i32⟩) main_call0_call0_v28) (TRef.of (T := ⟨S1, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S1, .i32⟩) main_call0_call0_v30) (broadcastInDim S1 ![] bcast_S_S1),
    TRef.binary (TRef.of (T := ⟨S1, .i32⟩) main_call0_call0_v26) (TRef.of (T := ⟨S1, .i32⟩) main_call0_call0_v30) (TRef.of (T := ⟨S1, .i32⟩) main_call0_call0_v31) Host.shrui,
    TRef.binary (TRef.of (T := ⟨S1, .i32⟩) main_call0_call0_v29) (TRef.of (T := ⟨S1, .i32⟩) main_call0_call0_v31) (TRef.of (T := ⟨S1, .i32⟩) main_call0_call0_v32) ori,
    TRef.binary (TRef.of (T := ⟨S1, .i32⟩) main_call0_call0_v27) (TRef.of (T := ⟨S1, .i32⟩) main_call0_call0_v32) (TRef.of (T := ⟨S1, .i32⟩) main_call0_call0_v33) xori,
    TRef.unary (TRef.of (T := ⟨S_, .i32⟩) main_call0_v8) (TRef.of (T := ⟨S1, .i32⟩) main_call0_call0_v34) (broadcastInDim S1 ![] bcast_S_S1),
    TRef.binary (TRef.of (T := ⟨S1, .i32⟩) main_call0_call0_v27) (TRef.of (T := ⟨S1, .i32⟩) main_call0_call0_v34) (TRef.of (T := ⟨S1, .i32⟩) main_call0_call0_v35) addi,
    TRef.unary (TRef.of (T := ⟨S_, .i32⟩) main_call0_call0_v1) (TRef.of (T := ⟨S1, .i32⟩) main_call0_call0_v36) (broadcastInDim S1 ![] bcast_S_S1),
    TRef.binary (TRef.of (T := ⟨S1, .i32⟩) main_call0_call0_v33) (TRef.of (T := ⟨S1, .i32⟩) main_call0_call0_v36) (TRef.of (T := ⟨S1, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S1, .i32⟩) main_call0_call0_v38) (broadcastInDim S1 ![] bcast_S_S1),
    TRef.binary (TRef.of (T := ⟨S1, .i32⟩) main_call0_call0_v37) (TRef.of (T := ⟨S1, .i32⟩) main_call0_call0_v38) (TRef.of (T := ⟨S1, .i32⟩) main_call0_call0_v39) addi,
    TRef.binary (TRef.of (T := ⟨S1, .i32⟩) main_call0_call0_v35) (TRef.of (T := ⟨S1, .i32⟩) main_call0_call0_v39) (TRef.of (T := ⟨S1, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S1, .i32⟩) main_call0_call0_v41) (broadcastInDim S1 ![] bcast_S_S1),
    TRef.binary (TRef.of (T := ⟨S1, .i32⟩) main_call0_call0_v39) (TRef.of (T := ⟨S1, .i32⟩) main_call0_call0_v41) (TRef.of (T := ⟨S1, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S1, .i32⟩) main_call0_call0_v43) (broadcastInDim S1 ![] bcast_S_S1),
    TRef.binary (TRef.of (T := ⟨S1, .i32⟩) main_call0_call0_v39) (TRef.of (T := ⟨S1, .i32⟩) main_call0_call0_v43) (TRef.of (T := ⟨S1, .i32⟩) main_call0_call0_v44) Host.shrui,
    TRef.binary (TRef.of (T := ⟨S1, .i32⟩) main_call0_call0_v42) (TRef.of (T := ⟨S1, .i32⟩) main_call0_call0_v44) (TRef.of (T := ⟨S1, .i32⟩) main_call0_call0_v45) ori,
    TRef.binary (TRef.of (T := ⟨S1, .i32⟩) main_call0_call0_v40) (TRef.of (T := ⟨S1, .i32⟩) main_call0_call0_v45) (TRef.of (T := ⟨S1, .i32⟩) main_call0_call0_v46) xori,
    TRef.binary (TRef.of (T := ⟨S1, .i32⟩) main_call0_call0_v40) (TRef.of (T := ⟨S1, .i32⟩) main_call0_call0_v46) (TRef.of (T := ⟨S1, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S1, .i32⟩) main_call0_call0_v48) (broadcastInDim S1 ![] bcast_S_S1),
    TRef.binary (TRef.of (T := ⟨S1, .i32⟩) main_call0_call0_v46) (TRef.of (T := ⟨S1, .i32⟩) main_call0_call0_v48) (TRef.of (T := ⟨S1, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S1, .i32⟩) main_call0_call0_v50) (broadcastInDim S1 ![] bcast_S_S1),
    TRef.binary (TRef.of (T := ⟨S1, .i32⟩) main_call0_call0_v46) (TRef.of (T := ⟨S1, .i32⟩) main_call0_call0_v50) (TRef.of (T := ⟨S1, .i32⟩) main_call0_call0_v51) Host.shrui ]

/-- @main's operations 91 … 120 of 537 (@main, which the printer did not cut). -/
abbrev ops_3 : List (HloOp τ sig (Elt F)) :=
  [ TRef.binary (TRef.of (T := ⟨S1, .i32⟩) main_call0_call0_v49) (TRef.of (T := ⟨S1, .i32⟩) main_call0_call0_v51) (TRef.of (T := ⟨S1, .i32⟩) main_call0_call0_v52) ori,
    TRef.binary (TRef.of (T := ⟨S1, .i32⟩) main_call0_call0_v47) (TRef.of (T := ⟨S1, .i32⟩) main_call0_call0_v52) (TRef.of (T := ⟨S1, .i32⟩) main_call0_call0_v53) xori,
    TRef.binary (TRef.of (T := ⟨S1, .i32⟩) main_call0_call0_v47) (TRef.of (T := ⟨S1, .i32⟩) main_call0_call0_v53) (TRef.of (T := ⟨S1, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S1, .i32⟩) main_call0_call0_v55) (broadcastInDim S1 ![] bcast_S_S1),
    TRef.binary (TRef.of (T := ⟨S1, .i32⟩) main_call0_call0_v53) (TRef.of (T := ⟨S1, .i32⟩) main_call0_call0_v55) (TRef.of (T := ⟨S1, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S1, .i32⟩) main_call0_call0_v57) (broadcastInDim S1 ![] bcast_S_S1),
    TRef.binary (TRef.of (T := ⟨S1, .i32⟩) main_call0_call0_v53) (TRef.of (T := ⟨S1, .i32⟩) main_call0_call0_v57) (TRef.of (T := ⟨S1, .i32⟩) main_call0_call0_v58) Host.shrui,
    TRef.binary (TRef.of (T := ⟨S1, .i32⟩) main_call0_call0_v56) (TRef.of (T := ⟨S1, .i32⟩) main_call0_call0_v58) (TRef.of (T := ⟨S1, .i32⟩) main_call0_call0_v59) ori,
    TRef.binary (TRef.of (T := ⟨S1, .i32⟩) main_call0_call0_v54) (TRef.of (T := ⟨S1, .i32⟩) main_call0_call0_v59) (TRef.of (T := ⟨S1, .i32⟩) main_call0_call0_v60) xori,
    TRef.binary (TRef.of (T := ⟨S1, .i32⟩) main_call0_call0_v54) (TRef.of (T := ⟨S1, .i32⟩) main_call0_call0_v60) (TRef.of (T := ⟨S1, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S1, .i32⟩) main_call0_call0_v62) (broadcastInDim S1 ![] bcast_S_S1),
    TRef.binary (TRef.of (T := ⟨S1, .i32⟩) main_call0_call0_v60) (TRef.of (T := ⟨S1, .i32⟩) main_call0_call0_v62) (TRef.of (T := ⟨S1, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S1, .i32⟩) main_call0_call0_v64) (broadcastInDim S1 ![] bcast_S_S1),
    TRef.binary (TRef.of (T := ⟨S1, .i32⟩) main_call0_call0_v60) (TRef.of (T := ⟨S1, .i32⟩) main_call0_call0_v64) (TRef.of (T := ⟨S1, .i32⟩) main_call0_call0_v65) Host.shrui,
    TRef.binary (TRef.of (T := ⟨S1, .i32⟩) main_call0_call0_v63) (TRef.of (T := ⟨S1, .i32⟩) main_call0_call0_v65) (TRef.of (T := ⟨S1, .i32⟩) main_call0_call0_v66) ori,
    TRef.binary (TRef.of (T := ⟨S1, .i32⟩) main_call0_call0_v61) (TRef.of (T := ⟨S1, .i32⟩) main_call0_call0_v66) (TRef.of (T := ⟨S1, .i32⟩) main_call0_call0_v67) xori,
    TRef.unary (TRef.of (T := ⟨S_, .i32⟩) main_call0_call0_v1) (TRef.of (T := ⟨S1, .i32⟩) main_call0_call0_v68) (broadcastInDim S1 ![] bcast_S_S1),
    TRef.binary (TRef.of (T := ⟨S1, .i32⟩) main_call0_call0_v61) (TRef.of (T := ⟨S1, .i32⟩) main_call0_call0_v68) (TRef.of (T := ⟨S1, .i32⟩) main_call0_call0_v69) addi,
    TRef.unary (TRef.of (T := ⟨S_, .i32⟩) main_call0_v6) (TRef.of (T := ⟨S1, .i32⟩) main_call0_call0_v70) (broadcastInDim S1 ![] bcast_S_S1),
    TRef.binary (TRef.of (T := ⟨S1, .i32⟩) main_call0_call0_v67) (TRef.of (T := ⟨S1, .i32⟩) main_call0_call0_v70) (TRef.of (T := ⟨S1, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S1, .i32⟩) main_call0_call0_v72) (broadcastInDim S1 ![] bcast_S_S1),
    TRef.binary (TRef.of (T := ⟨S1, .i32⟩) main_call0_call0_v71) (TRef.of (T := ⟨S1, .i32⟩) main_call0_call0_v72) (TRef.of (T := ⟨S1, .i32⟩) main_call0_call0_v73) addi,
    TRef.binary (TRef.of (T := ⟨S1, .i32⟩) main_call0_call0_v69) (TRef.of (T := ⟨S1, .i32⟩) main_call0_call0_v73) (TRef.of (T := ⟨S1, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S1, .i32⟩) main_call0_call0_v75) (broadcastInDim S1 ![] bcast_S_S1) ]

/-- @main's operations 121 … 150 of 537 (@main, which the printer did not cut). -/
abbrev ops_4 : List (HloOp τ sig (Elt F)) :=
  [ TRef.binary (TRef.of (T := ⟨S1, .i32⟩) main_call0_call0_v73) (TRef.of (T := ⟨S1, .i32⟩) main_call0_call0_v75) (TRef.of (T := ⟨S1, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S1, .i32⟩) main_call0_call0_v77) (broadcastInDim S1 ![] bcast_S_S1),
    TRef.binary (TRef.of (T := ⟨S1, .i32⟩) main_call0_call0_v73) (TRef.of (T := ⟨S1, .i32⟩) main_call0_call0_v77) (TRef.of (T := ⟨S1, .i32⟩) main_call0_call0_v78) Host.shrui,
    TRef.binary (TRef.of (T := ⟨S1, .i32⟩) main_call0_call0_v76) (TRef.of (T := ⟨S1, .i32⟩) main_call0_call0_v78) (TRef.of (T := ⟨S1, .i32⟩) main_call0_call0_v79) ori,
    TRef.binary (TRef.of (T := ⟨S1, .i32⟩) main_call0_call0_v74) (TRef.of (T := ⟨S1, .i32⟩) main_call0_call0_v79) (TRef.of (T := ⟨S1, .i32⟩) main_call0_call0_v80) xori,
    TRef.binary (TRef.of (T := ⟨S1, .i32⟩) main_call0_call0_v74) (TRef.of (T := ⟨S1, .i32⟩) main_call0_call0_v80) (TRef.of (T := ⟨S1, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S1, .i32⟩) main_call0_call0_v82) (broadcastInDim S1 ![] bcast_S_S1),
    TRef.binary (TRef.of (T := ⟨S1, .i32⟩) main_call0_call0_v80) (TRef.of (T := ⟨S1, .i32⟩) main_call0_call0_v82) (TRef.of (T := ⟨S1, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S1, .i32⟩) main_call0_call0_v84) (broadcastInDim S1 ![] bcast_S_S1),
    TRef.binary (TRef.of (T := ⟨S1, .i32⟩) main_call0_call0_v80) (TRef.of (T := ⟨S1, .i32⟩) main_call0_call0_v84) (TRef.of (T := ⟨S1, .i32⟩) main_call0_call0_v85) Host.shrui,
    TRef.binary (TRef.of (T := ⟨S1, .i32⟩) main_call0_call0_v83) (TRef.of (T := ⟨S1, .i32⟩) main_call0_call0_v85) (TRef.of (T := ⟨S1, .i32⟩) main_call0_call0_v86) ori,
    TRef.binary (TRef.of (T := ⟨S1, .i32⟩) main_call0_call0_v81) (TRef.of (T := ⟨S1, .i32⟩) main_call0_call0_v86) (TRef.of (T := ⟨S1, .i32⟩) main_call0_call0_v87) xori,
    TRef.binary (TRef.of (T := ⟨S1, .i32⟩) main_call0_call0_v81) (TRef.of (T := ⟨S1, .i32⟩) main_call0_call0_v87) (TRef.of (T := ⟨S1, .i32⟩) main_call0_call0_v88) addi,
    TRef.nullary (TRef.of (T := ⟨S_, .i32⟩) main_call0_call0_c_22) (constantI S_ 32 26#32),
    TRef.unary (TRef.of (T := ⟨S_, .i32⟩) main_call0_call0_c_22) (TRef.of (T := ⟨S1, .i32⟩) main_call0_call0_v89) (broadcastInDim S1 ![] bcast_S_S1),
    TRef.binary (TRef.of (T := ⟨S1, .i32⟩) main_call0_call0_v87) (TRef.of (T := ⟨S1, .i32⟩) main_call0_call0_v89) (TRef.of (T := ⟨S1, .i32⟩) main_call0_call0_v90) Host.shli,
    TRef.nullary (TRef.of (T := ⟨S_, .i32⟩) main_call0_call0_c_23) (constantI S_ 32 6#32),
    TRef.unary (TRef.of (T := ⟨S_, .i32⟩) main_call0_call0_c_23) (TRef.of (T := ⟨S1, .i32⟩) main_call0_call0_v91) (broadcastInDim S1 ![] bcast_S_S1),
    TRef.binary (TRef.of (T := ⟨S1, .i32⟩) main_call0_call0_v87) (TRef.of (T := ⟨S1, .i32⟩) main_call0_call0_v91) (TRef.of (T := ⟨S1, .i32⟩) main_call0_call0_v92) Host.shrui,
    TRef.binary (TRef.of (T := ⟨S1, .i32⟩) main_call0_call0_v90) (TRef.of (T := ⟨S1, .i32⟩) main_call0_call0_v92) (TRef.of (T := ⟨S1, .i32⟩) main_call0_call0_v93) ori,
    TRef.binary (TRef.of (T := ⟨S1, .i32⟩) main_call0_call0_v88) (TRef.of (T := ⟨S1, .i32⟩) main_call0_call0_v93) (TRef.of (T := ⟨S1, .i32⟩) main_call0_call0_v94) xori,
    TRef.binary (TRef.of (T := ⟨S1, .i32⟩) main_call0_call0_v88) (TRef.of (T := ⟨S1, .i32⟩) main_call0_call0_v94) (TRef.of (T := ⟨S1, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S1, .i32⟩) main_call0_call0_v96) (broadcastInDim S1 ![] bcast_S_S1),
    TRef.binary (TRef.of (T := ⟨S1, .i32⟩) main_call0_call0_v94) (TRef.of (T := ⟨S1, .i32⟩) main_call0_call0_v96) (TRef.of (T := ⟨S1, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S1, .i32⟩) main_call0_call0_v98) (broadcastInDim S1 ![] bcast_S_S1) ]

/-- @main's operations 151 … 180 of 537 (@main, which the printer did not cut). -/
abbrev ops_5 : List (HloOp τ sig (Elt F)) :=
  [ TRef.binary (TRef.of (T := ⟨S1, .i32⟩) main_call0_call0_v94) (TRef.of (T := ⟨S1, .i32⟩) main_call0_call0_v98) (TRef.of (T := ⟨S1, .i32⟩) main_call0_call0_v99) Host.shrui,
    TRef.binary (TRef.of (T := ⟨S1, .i32⟩) main_call0_call0_v97) (TRef.of (T := ⟨S1, .i32⟩) main_call0_call0_v99) (TRef.of (T := ⟨S1, .i32⟩) main_call0_call0_v100) ori,
    TRef.binary (TRef.of (T := ⟨S1, .i32⟩) main_call0_call0_v95) (TRef.of (T := ⟨S1, .i32⟩) main_call0_call0_v100) (TRef.of (T := ⟨S1, .i32⟩) main_call0_call0_v101) xori,
    TRef.unary (TRef.of (T := ⟨S_, .i32⟩) main_call0_v6) (TRef.of (T := ⟨S1, .i32⟩) main_call0_call0_v102) (broadcastInDim S1 ![] bcast_S_S1),
    TRef.binary (TRef.of (T := ⟨S1, .i32⟩) main_call0_call0_v95) (TRef.of (T := ⟨S1, .i32⟩) main_call0_call0_v102) (TRef.of (T := ⟨S1, .i32⟩) main_call0_call0_v103) addi,
    TRef.unary (TRef.of (T := ⟨S_, .i32⟩) main_call0_v8) (TRef.of (T := ⟨S1, .i32⟩) main_call0_call0_v104) (broadcastInDim S1 ![] bcast_S_S1),
    TRef.binary (TRef.of (T := ⟨S1, .i32⟩) main_call0_call0_v101) (TRef.of (T := ⟨S1, .i32⟩) main_call0_call0_v104) (TRef.of (T := ⟨S1, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S1, .i32⟩) main_call0_call0_v106) (broadcastInDim S1 ![] bcast_S_S1),
    TRef.binary (TRef.of (T := ⟨S1, .i32⟩) main_call0_call0_v105) (TRef.of (T := ⟨S1, .i32⟩) main_call0_call0_v106) (TRef.of (T := ⟨S1, .i32⟩) main_call0_call0_v107) addi,
    TRef.binary (TRef.of (T := ⟨S1, .i32⟩) main_call0_call0_v103) (TRef.of (T := ⟨S1, .i32⟩) main_call0_call0_v107) (TRef.of (T := ⟨S1, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S1, .i32⟩) main_call0_call0_v109) (broadcastInDim S1 ![] bcast_S_S1),
    TRef.binary (TRef.of (T := ⟨S1, .i32⟩) main_call0_call0_v107) (TRef.of (T := ⟨S1, .i32⟩) main_call0_call0_v109) (TRef.of (T := ⟨S1, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S1, .i32⟩) main_call0_call0_v111) (broadcastInDim S1 ![] bcast_S_S1),
    TRef.binary (TRef.of (T := ⟨S1, .i32⟩) main_call0_call0_v107) (TRef.of (T := ⟨S1, .i32⟩) main_call0_call0_v111) (TRef.of (T := ⟨S1, .i32⟩) main_call0_call0_v112) Host.shrui,
    TRef.binary (TRef.of (T := ⟨S1, .i32⟩) main_call0_call0_v110) (TRef.of (T := ⟨S1, .i32⟩) main_call0_call0_v112) (TRef.of (T := ⟨S1, .i32⟩) main_call0_call0_v113) ori,
    TRef.binary (TRef.of (T := ⟨S1, .i32⟩) main_call0_call0_v108) (TRef.of (T := ⟨S1, .i32⟩) main_call0_call0_v113) (TRef.of (T := ⟨S1, .i32⟩) main_call0_call0_v114) xori,
    TRef.binary (TRef.of (T := ⟨S1, .i32⟩) main_call0_call0_v108) (TRef.of (T := ⟨S1, .i32⟩) main_call0_call0_v114) (TRef.of (T := ⟨S1, .i32⟩) main_call0_call0_v115) addi,
    TRef.nullary (TRef.of (T := ⟨S_, .i32⟩) main_call0_call0_c_29) (constantI S_ 32 29#32),
    TRef.unary (TRef.of (T := ⟨S_, .i32⟩) main_call0_call0_c_29) (TRef.of (T := ⟨S1, .i32⟩) main_call0_call0_v116) (broadcastInDim S1 ![] bcast_S_S1),
    TRef.binary (TRef.of (T := ⟨S1, .i32⟩) main_call0_call0_v114) (TRef.of (T := ⟨S1, .i32⟩) main_call0_call0_v116) (TRef.of (T := ⟨S1, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S1, .i32⟩) main_call0_call0_v118) (broadcastInDim S1 ![] bcast_S_S1),
    TRef.binary (TRef.of (T := ⟨S1, .i32⟩) main_call0_call0_v114) (TRef.of (T := ⟨S1, .i32⟩) main_call0_call0_v118) (TRef.of (T := ⟨S1, .i32⟩) main_call0_call0_v119) Host.shrui,
    TRef.binary (TRef.of (T := ⟨S1, .i32⟩) main_call0_call0_v117) (TRef.of (T := ⟨S1, .i32⟩) main_call0_call0_v119) (TRef.of (T := ⟨S1, .i32⟩) main_call0_call0_v120) ori,
    TRef.binary (TRef.of (T := ⟨S1, .i32⟩) main_call0_call0_v115) (TRef.of (T := ⟨S1, .i32⟩) main_call0_call0_v120) (TRef.of (T := ⟨S1, .i32⟩) main_call0_call0_v121) xori,
    TRef.binary (TRef.of (T := ⟨S1, .i32⟩) main_call0_call0_v115) (TRef.of (T := ⟨S1, .i32⟩) main_call0_call0_v121) (TRef.of (T := ⟨S1, .i32⟩) main_call0_call0_v122) addi,
    TRef.nullary (TRef.of (T := ⟨S_, .i32⟩) main_call0_call0_c_31) (constantI S_ 32 16#32) ]

/-- @main's operations 181 … 210 of 537 (@main, which the printer did not cut). -/
abbrev ops_6 : List (HloOp τ sig (Elt F)) :=
  [ TRef.unary (TRef.of (T := ⟨S_, .i32⟩) main_call0_call0_c_31) (TRef.of (T := ⟨S1, .i32⟩) main_call0_call0_v123) (broadcastInDim S1 ![] bcast_S_S1),
    TRef.binary (TRef.of (T := ⟨S1, .i32⟩) main_call0_call0_v121) (TRef.of (T := ⟨S1, .i32⟩) main_call0_call0_v123) (TRef.of (T := ⟨S1, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S1, .i32⟩) main_call0_call0_v125) (broadcastInDim S1 ![] bcast_S_S1),
    TRef.binary (TRef.of (T := ⟨S1, .i32⟩) main_call0_call0_v121) (TRef.of (T := ⟨S1, .i32⟩) main_call0_call0_v125) (TRef.of (T := ⟨S1, .i32⟩) main_call0_call0_v126) Host.shrui,
    TRef.binary (TRef.of (T := ⟨S1, .i32⟩) main_call0_call0_v124) (TRef.of (T := ⟨S1, .i32⟩) main_call0_call0_v126) (TRef.of (T := ⟨S1, .i32⟩) main_call0_call0_v127) ori,
    TRef.binary (TRef.of (T := ⟨S1, .i32⟩) main_call0_call0_v122) (TRef.of (T := ⟨S1, .i32⟩) main_call0_call0_v127) (TRef.of (T := ⟨S1, .i32⟩) main_call0_call0_v128) xori,
    TRef.binary (TRef.of (T := ⟨S1, .i32⟩) main_call0_call0_v122) (TRef.of (T := ⟨S1, .i32⟩) main_call0_call0_v128) (TRef.of (T := ⟨S1, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S1, .i32⟩) main_call0_call0_v130) (broadcastInDim S1 ![] bcast_S_S1),
    TRef.binary (TRef.of (T := ⟨S1, .i32⟩) main_call0_call0_v128) (TRef.of (T := ⟨S1, .i32⟩) main_call0_call0_v130) (TRef.of (T := ⟨S1, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S1, .i32⟩) main_call0_call0_v132) (broadcastInDim S1 ![] bcast_S_S1),
    TRef.binary (TRef.of (T := ⟨S1, .i32⟩) main_call0_call0_v128) (TRef.of (T := ⟨S1, .i32⟩) main_call0_call0_v132) (TRef.of (T := ⟨S1, .i32⟩) main_call0_call0_v133) Host.shrui,
    TRef.binary (TRef.of (T := ⟨S1, .i32⟩) main_call0_call0_v131) (TRef.of (T := ⟨S1, .i32⟩) main_call0_call0_v133) (TRef.of (T := ⟨S1, .i32⟩) main_call0_call0_v134) ori,
    TRef.binary (TRef.of (T := ⟨S1, .i32⟩) main_call0_call0_v129) (TRef.of (T := ⟨S1, .i32⟩) main_call0_call0_v134) (TRef.of (T := ⟨S1, .i32⟩) main_call0_call0_v135) xori,
    TRef.unary (TRef.of (T := ⟨S_, .i32⟩) main_call0_v8) (TRef.of (T := ⟨S1, .i32⟩) main_call0_call0_v136) (broadcastInDim S1 ![] bcast_S_S1),
    TRef.binary (TRef.of (T := ⟨S1, .i32⟩) main_call0_call0_v129) (TRef.of (T := ⟨S1, .i32⟩) main_call0_call0_v136) (TRef.of (T := ⟨S1, .i32⟩) main_call0_call0_v137) addi,
    TRef.unary (TRef.of (T := ⟨S_, .i32⟩) main_call0_call0_v1) (TRef.of (T := ⟨S1, .i32⟩) main_call0_call0_v138) (broadcastInDim S1 ![] bcast_S_S1),
    TRef.binary (TRef.of (T := ⟨S1, .i32⟩) main_call0_call0_v135) (TRef.of (T := ⟨S1, .i32⟩) main_call0_call0_v138) (TRef.of (T := ⟨S1, .i32⟩) main_call0_call0_v139) addi,
    TRef.nullary (TRef.of (T := ⟨S_, .i32⟩) main_call0_call0_c_35) (constantI S_ 32 4#32),
    TRef.unary (TRef.of (T := ⟨S_, .i32⟩) main_call0_call0_c_35) (TRef.of (T := ⟨S1, .i32⟩) main_call0_call0_v140) (broadcastInDim S1 ![] bcast_S_S1),
    TRef.binary (TRef.of (T := ⟨S1, .i32⟩) main_call0_call0_v139) (TRef.of (T := ⟨S1, .i32⟩) main_call0_call0_v140) (TRef.of (T := ⟨S1, .i32⟩) main_call0_call0_v141) addi,
    TRef.binary (TRef.of (T := ⟨S1, .i32⟩) main_call0_call0_v137) (TRef.of (T := ⟨S1, .i32⟩) main_call0_call0_v141) (TRef.of (T := ⟨S1, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S1, .i32⟩) main_call0_call0_v143) (broadcastInDim S1 ![] bcast_S_S1),
    TRef.binary (TRef.of (T := ⟨S1, .i32⟩) main_call0_call0_v141) (TRef.of (T := ⟨S1, .i32⟩) main_call0_call0_v143) (TRef.of (T := ⟨S1, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S1, .i32⟩) main_call0_call0_v145) (broadcastInDim S1 ![] bcast_S_S1),
    TRef.binary (TRef.of (T := ⟨S1, .i32⟩) main_call0_call0_v141) (TRef.of (T := ⟨S1, .i32⟩) main_call0_call0_v145) (TRef.of (T := ⟨S1, .i32⟩) main_call0_call0_v146) Host.shrui ]

/-- @main's operations 211 … 240 of 537 (@main, which the printer did not cut). -/
abbrev ops_7 : List (HloOp τ sig (Elt F)) :=
  [ TRef.binary (TRef.of (T := ⟨S1, .i32⟩) main_call0_call0_v144) (TRef.of (T := ⟨S1, .i32⟩) main_call0_call0_v146) (TRef.of (T := ⟨S1, .i32⟩) main_call0_call0_v147) ori,
    TRef.binary (TRef.of (T := ⟨S1, .i32⟩) main_call0_call0_v142) (TRef.of (T := ⟨S1, .i32⟩) main_call0_call0_v147) (TRef.of (T := ⟨S1, .i32⟩) main_call0_call0_v148) xori,
    TRef.binary (TRef.of (T := ⟨S1, .i32⟩) main_call0_call0_v142) (TRef.of (T := ⟨S1, .i32⟩) main_call0_call0_v148) (TRef.of (T := ⟨S1, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S1, .i32⟩) main_call0_call0_v150) (broadcastInDim S1 ![] bcast_S_S1),
    TRef.binary (TRef.of (T := ⟨S1, .i32⟩) main_call0_call0_v148) (TRef.of (T := ⟨S1, .i32⟩) main_call0_call0_v150) (TRef.of (T := ⟨S1, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S1, .i32⟩) main_call0_call0_v152) (broadcastInDim S1 ![] bcast_S_S1),
    TRef.binary (TRef.of (T := ⟨S1, .i32⟩) main_call0_call0_v148) (TRef.of (T := ⟨S1, .i32⟩) main_call0_call0_v152) (TRef.of (T := ⟨S1, .i32⟩) main_call0_call0_v153) Host.shrui,
    TRef.binary (TRef.of (T := ⟨S1, .i32⟩) main_call0_call0_v151) (TRef.of (T := ⟨S1, .i32⟩) main_call0_call0_v153) (TRef.of (T := ⟨S1, .i32⟩) main_call0_call0_v154) ori,
    TRef.binary (TRef.of (T := ⟨S1, .i32⟩) main_call0_call0_v149) (TRef.of (T := ⟨S1, .i32⟩) main_call0_call0_v154) (TRef.of (T := ⟨S1, .i32⟩) main_call0_call0_v155) xori,
    TRef.binary (TRef.of (T := ⟨S1, .i32⟩) main_call0_call0_v149) (TRef.of (T := ⟨S1, .i32⟩) main_call0_call0_v155) (TRef.of (T := ⟨S1, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S1, .i32⟩) main_call0_call0_v157) (broadcastInDim S1 ![] bcast_S_S1),
    TRef.binary (TRef.of (T := ⟨S1, .i32⟩) main_call0_call0_v155) (TRef.of (T := ⟨S1, .i32⟩) main_call0_call0_v157) (TRef.of (T := ⟨S1, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S1, .i32⟩) main_call0_call0_v159) (broadcastInDim S1 ![] bcast_S_S1),
    TRef.binary (TRef.of (T := ⟨S1, .i32⟩) main_call0_call0_v155) (TRef.of (T := ⟨S1, .i32⟩) main_call0_call0_v159) (TRef.of (T := ⟨S1, .i32⟩) main_call0_call0_v160) Host.shrui,
    TRef.binary (TRef.of (T := ⟨S1, .i32⟩) main_call0_call0_v158) (TRef.of (T := ⟨S1, .i32⟩) main_call0_call0_v160) (TRef.of (T := ⟨S1, .i32⟩) main_call0_call0_v161) ori,
    TRef.binary (TRef.of (T := ⟨S1, .i32⟩) main_call0_call0_v156) (TRef.of (T := ⟨S1, .i32⟩) main_call0_call0_v161) (TRef.of (T := ⟨S1, .i32⟩) main_call0_call0_v162) xori,
    TRef.binary (TRef.of (T := ⟨S1, .i32⟩) main_call0_call0_v156) (TRef.of (T := ⟨S1, .i32⟩) main_call0_call0_v162) (TRef.of (T := ⟨S1, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S1, .i32⟩) main_call0_call0_v164) (broadcastInDim S1 ![] bcast_S_S1),
    TRef.binary (TRef.of (T := ⟨S1, .i32⟩) main_call0_call0_v162) (TRef.of (T := ⟨S1, .i32⟩) main_call0_call0_v164) (TRef.of (T := ⟨S1, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S1, .i32⟩) main_call0_call0_v166) (broadcastInDim S1 ![] bcast_S_S1),
    TRef.binary (TRef.of (T := ⟨S1, .i32⟩) main_call0_call0_v162) (TRef.of (T := ⟨S1, .i32⟩) main_call0_call0_v166) (TRef.of (T := ⟨S1, .i32⟩) main_call0_call0_v167) Host.shrui,
    TRef.binary (TRef.of (T := ⟨S1, .i32⟩) main_call0_call0_v165) (TRef.of (T := ⟨S1, .i32⟩) main_call0_call0_v167) (TRef.of (T := ⟨S1, .i32⟩) main_call0_call0_v168) ori,
    TRef.binary (TRef.of (T := ⟨S1, .i32⟩) main_call0_call0_v163) (TRef.of (T := ⟨S1, .i32⟩) main_call0_call0_v168) (TRef.of (T := ⟨S1, .i32⟩) main_call0_call0_v169) xori,
    TRef.unary (TRef.of (T := ⟨S_, .i32⟩) main_call0_call0_v1) (TRef.of (T := ⟨S1, .i32⟩) main_call0_call0_v170) (broadcastInDim S1 ![] bcast_S_S1) ]

/-- @main's operations 241 … 270 of 537 (@main, which the printer did not cut). -/
abbrev ops_8 : List (HloOp τ sig (Elt F)) :=
  [ TRef.binary (TRef.of (T := ⟨S1, .i32⟩) main_call0_call0_v163) (TRef.of (T := ⟨S1, .i32⟩) main_call0_call0_v170) (TRef.of (T := ⟨S1, .i32⟩) main_call0_v11_0) addi,
    TRef.unary (TRef.of (T := ⟨S_, .i32⟩) main_call0_v6) (TRef.of (T := ⟨S1, .i32⟩) main_call0_call0_v172) (broadcastInDim S1 ![] bcast_S_S1),
    TRef.binary (TRef.of (T := ⟨S1, .i32⟩) main_call0_call0_v169) (TRef.of (T := ⟨S1, .i32⟩) main_call0_call0_v172) (TRef.of (T := ⟨S1, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S1, .i32⟩) main_call0_call0_v174) (broadcastInDim S1 ![] bcast_S_S1),
    TRef.binary (TRef.of (T := ⟨S1, .i32⟩) main_call0_call0_v173) (TRef.of (T := ⟨S1, .i32⟩) main_call0_call0_v174) (TRef.of (T := ⟨S1, .i32⟩) main_call0_v11_1) addi,
    TRef.binary (TRef.of (T := ⟨S1, .i32⟩) main_call0_v11_0) (TRef.of (T := ⟨S1, .i32⟩) main_call0_v11_1) (TRef.of (T := ⟨S2, .i32⟩) main_v7) (fn_main_v7 (F := F)),
    TRef.nullary (TRef.of (T := ⟨S_, .f32⟩) main_call1_cst) (constant S_ .f32 0x00000000#32),
    TRef.nullary (TRef.of (T := ⟨S_, .f32⟩) main_call1_cst_0) (constant S_ .f32 0x3F800000#32),
    TRef.unary (TRef.of (T := ⟨S_, .f32⟩) main_call1_cst) (TRef.of (T := ⟨S_, .f32⟩) main_call1_call0_v0) id,
    TRef.unary (TRef.of (T := ⟨S_, .f32⟩) main_call1_cst_0) (TRef.of (T := ⟨S_, .f32⟩) main_call1_call0_v1) id,
    TRef.unary (TRef.of (T := ⟨S_, .f32⟩) main_call1_call0_v0) (TRef.of (T := ⟨S1x1x1x1, .f32⟩) main_call1_call0_v2) (broadcastInDim S1x1x1x1 ![] bcast_S_S1x1x1x1),
    TRef.unary (TRef.of (T := ⟨S_, .f32⟩) main_call1_call0_v1) (TRef.of (T := ⟨S1x1x1x1, .f32⟩) main_call1_call0_v3) (broadcastInDim S1x1x1x1 ![] bcast_S_S1x1x1x1),
    TRef.unary (TRef.of (T := ⟨S2, .i32⟩) main_v7) (TRef.of (T := ⟨S1, .i32⟩) main_call1_call0_v4) (extractStridedSlice S1 ![0] · slices_S2_S1_0),
    TRef.reshape (TRef.of (T := ⟨S1, .i32⟩) main_call1_call0_v4) (TRef.of (T := ⟨S_, .i32⟩) main_call1_call0_v5) (rfl : (.i32 : EltTy) = .i32) shapeCasts_S1_S_,
    TRef.unary (TRef.of (T := ⟨S2, .i32⟩) main_v7) (TRef.of (T := ⟨S1, .i32⟩) main_call1_call0_v6) (extractStridedSlice S1 ![1] · slices_S2_S1_1),
    TRef.reshape (TRef.of (T := ⟨S1, .i32⟩) main_call1_call0_v6) (TRef.of (T := ⟨S_, .i32⟩) main_call1_call0_v7) (rfl : (.i32 : EltTy) = .i32) shapeCasts_S1_S_,
    TRef.nullary (TRef.of (T := ⟨S8x96x220x220, .i64⟩) main_call1_call0_v8) (iotaInDim S8x96x220x220 64 0),
    TRef.nullary (TRef.of (T := ⟨S8x96x220x220, .i64⟩) main_call1_call0_v9) (iotaInDim S8x96x220x220 64 1),
    TRef.nullary (TRef.of (T := ⟨S8x96x220x220, .i64⟩) main_call1_call0_v10) (iotaInDim S8x96x220x220 64 2),
    TRef.nullary (TRef.of (T := ⟨S8x96x220x220, .i64⟩) main_call1_call0_v11) (iotaInDim S8x96x220x220 64 3),
    TRef.nullary (TRef.of (T := ⟨S_, .i64⟩) main_call1_call0_c) (constantI S_ 64 4646400#64),
    TRef.unary (TRef.of (T := ⟨S_, .i64⟩) main_call1_call0_c) (TRef.of (T := ⟨S8x96x220x220, .i64⟩) main_call1_call0_v12) (broadcastInDim S8x96x220x220 ![] bcast_S_S8x96x220x220),
    TRef.binary (TRef.of (T := ⟨S8x96x220x220, .i64⟩) main_call1_call0_v12) (TRef.of (T := ⟨S8x96x220x220, .i64⟩) main_call1_call0_v8) (TRef.of (T := ⟨S8x96x220x220, .i64⟩) main_call1_call0_v13) muli,
    TRef.nullary (TRef.of (T := ⟨S_, .i64⟩) main_call1_call0_c_0) (constantI S_ 64 48400#64),
    TRef.unary (TRef.of (T := ⟨S_, .i64⟩) main_call1_call0_c_0) (TRef.of (T := ⟨S8x96x220x220, .i64⟩) main_call1_call0_v14) (broadcastInDim S8x96x220x220 ![] bcast_S_S8x96x220x220),
    TRef.binary (TRef.of (T := ⟨S8x96x220x220, .i64⟩) main_call1_call0_v14) (TRef.of (T := ⟨S8x96x220x220, .i64⟩) main_call1_call0_v9) (TRef.of (T := ⟨S8x96x220x220, .i64⟩) main_call1_call0_v15) muli,
    TRef.nullary (TRef.of (T := ⟨S_, .i64⟩) main_call1_call0_c_1) (constantI S_ 64 220#64),
    TRef.unary (TRef.of (T := ⟨S_, .i64⟩) main_call1_call0_c_1) (TRef.of (T := ⟨S8x96x220x220, .i64⟩) main_call1_call0_v16) (broadcastInDim S8x96x220x220 ![] bcast_S_S8x96x220x220),
    TRef.binary (TRef.of (T := ⟨S8x96x220x220, .i64⟩) main_call1_call0_v16) (TRef.of (T := ⟨S8x96x220x220, .i64⟩) main_call1_call0_v10) (TRef.of (T := ⟨S8x96x220x220, .i64⟩) main_call1_call0_v17) muli ]

/-- @main's operations 271 … 300 of 537 (@main, which the printer did not cut). -/
abbrev ops_9 : List (HloOp τ sig (Elt F)) :=
  [ TRef.nullary (TRef.of (T := ⟨S_, .i64⟩) main_call1_call0_c_2) (constantI S_ 64 1#64),
    TRef.unary (TRef.of (T := ⟨S_, .i64⟩) main_call1_call0_c_2) (TRef.of (T := ⟨S8x96x220x220, .i64⟩) main_call1_call0_v18) (broadcastInDim S8x96x220x220 ![] bcast_S_S8x96x220x220),
    TRef.binary (TRef.of (T := ⟨S8x96x220x220, .i64⟩) main_call1_call0_v18) (TRef.of (T := ⟨S8x96x220x220, .i64⟩) main_call1_call0_v11) (TRef.of (T := ⟨S8x96x220x220, .i64⟩) main_call1_call0_v19) muli,
    TRef.binary (TRef.of (T := ⟨S8x96x220x220, .i64⟩) main_call1_call0_v13) (TRef.of (T := ⟨S8x96x220x220, .i64⟩) main_call1_call0_v15) (TRef.of (T := ⟨S8x96x220x220, .i64⟩) main_call1_call0_v20) addi,
    TRef.binary (TRef.of (T := ⟨S8x96x220x220, .i64⟩) main_call1_call0_v20) (TRef.of (T := ⟨S8x96x220x220, .i64⟩) main_call1_call0_v17) (TRef.of (T := ⟨S8x96x220x220, .i64⟩) main_call1_call0_v21) addi,
    TRef.binary (TRef.of (T := ⟨S8x96x220x220, .i64⟩) main_call1_call0_v21) (TRef.of (T := ⟨S8x96x220x220, .i64⟩) main_call1_call0_v19) (TRef.of (T := ⟨S8x96x220x220, .i64⟩) main_call1_call0_v22) addi,
    TRef.nullary (TRef.of (T := ⟨S_, .i64⟩) main_call1_call0_c_3) (constantI S_ 64 32#64),
    TRef.unary (TRef.of (T := ⟨S_, .i64⟩) main_call1_call0_c_3) (TRef.of (T := ⟨S8x96x220x220, .i64⟩) main_call1_call0_v23) (broadcastInDim S8x96x220x220 ![] bcast_S_S8x96x220x220),
    TRef.binary (TRef.of (T := ⟨S8x96x220x220, .i64⟩) main_call1_call0_v22) (TRef.of (T := ⟨S8x96x220x220, .i64⟩) main_call1_call0_v23) (TRef.of (T := ⟨S8x96x220x220, .i64⟩) main_call1_call0_v24) Host.shrui,
    TRef.unary (TRef.of (T := ⟨S8x96x220x220, .i64⟩) main_call1_call0_v22) (TRef.of (T := ⟨S8x96x220x220, .i32⟩) main_call1_call0_v25) (trunci 32 · natLt_32_64),
    TRef.unary (TRef.of (T := ⟨S8x96x220x220, .i64⟩) main_call1_call0_v24) (TRef.of (T := ⟨S8x96x220x220, .i32⟩) main_call1_call0_v26) (trunci 32 · natLt_32_64),
    TRef.binary (TRef.of (T := ⟨S_, .i32⟩) main_call1_call0_v5) (TRef.of (T := ⟨S_, .i32⟩) main_call1_call0_v7) (TRef.of (T := ⟨S_, .i32⟩) main_call1_call0_call0_v0) xori,
    TRef.nullary (TRef.of (T := ⟨S_, .i32⟩) main_call1_call0_call0_c) (constantI S_ 32 466688986#32),
    TRef.binary (TRef.of (T := ⟨S_, .i32⟩) main_call1_call0_call0_v0) (TRef.of (T := ⟨S_, .i32⟩) main_call1_call0_call0_c) (TRef.of (T := ⟨S_, .i32⟩) main_call1_call0_call0_v1) xori,
    TRef.unary (TRef.of (T := ⟨S_, .i32⟩) main_call1_call0_v5) (TRef.of (T := ⟨S8x96x220x220, .i32⟩) main_call1_call0_call0_v2) (broadcastInDim S8x96x220x220 ![] bcast_S_S8x96x220x220),
    TRef.binary (TRef.of (T := ⟨S8x96x220x220, .i32⟩) main_call1_call0_v26) (TRef.of (T := ⟨S8x96x220x220, .i32⟩) main_call1_call0_call0_v2) (TRef.of (T := ⟨S8x96x220x220, .i32⟩) main_call1_call0_call0_v3) addi,
    TRef.unary (TRef.of (T := ⟨S_, .i32⟩) main_call1_call0_v7) (TRef.of (T := ⟨S8x96x220x220, .i32⟩) main_call1_call0_call0_v4) (broadcastInDim S8x96x220x220 ![] bcast_S_S8x96x220x220),
    TRef.binary (TRef.of (T := ⟨S8x96x220x220, .i32⟩) main_call1_call0_v25) (TRef.of (T := ⟨S8x96x220x220, .i32⟩) main_call1_call0_call0_v4) (TRef.of (T := ⟨S8x96x220x220, .i32⟩) main_call1_call0_call0_v5) addi,
    TRef.binary (TRef.of (T := ⟨S8x96x220x220, .i32⟩) main_call1_call0_call0_v3) (TRef.of (T := ⟨S8x96x220x220, .i32⟩) main_call1_call0_call0_v5) (TRef.of (T := ⟨S8x96x220x220, .i32⟩) main_call1_call0_call0_v6) addi,
    TRef.nullary (TRef.of (T := ⟨S_, .i32⟩) main_call1_call0_call0_c_0) (constantI S_ 32 13#32),
    TRef.unary (TRef.of (T := ⟨S_, .i32⟩) main_call1_call0_call0_c_0) (TRef.of (T := ⟨S8x96x220x220, .i32⟩) main_call1_call0_call0_v7) (broadcastInDim S8x96x220x220 ![] bcast_S_S8x96x220x220),
    TRef.binary (TRef.of (T := ⟨S8x96x220x220, .i32⟩) main_call1_call0_call0_v5) (TRef.of (T := ⟨S8x96x220x220, .i32⟩) main_call1_call0_call0_v7) (TRef.of (T := ⟨S8x96x220x220, .i32⟩) main_call1_call0_call0_v8) Host.shli,
    TRef.nullary (TRef.of (T := ⟨S_, .i32⟩) main_call1_call0_call0_c_1) (constantI S_ 32 19#32),
    TRef.unary (TRef.of (T := ⟨S_, .i32⟩) main_call1_call0_call0_c_1) (TRef.of (T := ⟨S8x96x220x220, .i32⟩) main_call1_call0_call0_v9) (broadcastInDim S8x96x220x220 ![] bcast_S_S8x96x220x220),
    TRef.binary (TRef.of (T := ⟨S8x96x220x220, .i32⟩) main_call1_call0_call0_v5) (TRef.of (T := ⟨S8x96x220x220, .i32⟩) main_call1_call0_call0_v9) (TRef.of (T := ⟨S8x96x220x220, .i32⟩) main_call1_call0_call0_v10) Host.shrui,
    TRef.binary (TRef.of (T := ⟨S8x96x220x220, .i32⟩) main_call1_call0_call0_v8) (TRef.of (T := ⟨S8x96x220x220, .i32⟩) main_call1_call0_call0_v10) (TRef.of (T := ⟨S8x96x220x220, .i32⟩) main_call1_call0_call0_v11) ori,
    TRef.binary (TRef.of (T := ⟨S8x96x220x220, .i32⟩) main_call1_call0_call0_v6) (TRef.of (T := ⟨S8x96x220x220, .i32⟩) main_call1_call0_call0_v11) (TRef.of (T := ⟨S8x96x220x220, .i32⟩) main_call1_call0_call0_v12) xori,
    TRef.binary (TRef.of (T := ⟨S8x96x220x220, .i32⟩) main_call1_call0_call0_v6) (TRef.of (T := ⟨S8x96x220x220, .i32⟩) main_call1_call0_call0_v12) (TRef.of (T := ⟨S8x96x220x220, .i32⟩) main_call1_call0_call0_v13) addi,
    TRef.nullary (TRef.of (T := ⟨S_, .i32⟩) main_call1_call0_call0_c_2) (constantI S_ 32 15#32),
    TRef.unary (TRef.of (T := ⟨S_, .i32⟩) main_call1_call0_call0_c_2) (TRef.of (T := ⟨S8x96x220x220, .i32⟩) main_call1_call0_call0_v14) (broadcastInDim S8x96x220x220 ![] bcast_S_S8x96x220x220) ]

/-- @main's operations 301 … 330 of 537 (@main, which the printer did not cut). -/
abbrev ops_10 : List (HloOp τ sig (Elt F)) :=
  [ TRef.binary (TRef.of (T := ⟨S8x96x220x220, .i32⟩) main_call1_call0_call0_v12) (TRef.of (T := ⟨S8x96x220x220, .i32⟩) main_call1_call0_call0_v14) (TRef.of (T := ⟨S8x96x220x220, .i32⟩) main_call1_call0_call0_v15) Host.shli,
    TRef.nullary (TRef.of (T := ⟨S_, .i32⟩) main_call1_call0_call0_c_3) (constantI S_ 32 17#32),
    TRef.unary (TRef.of (T := ⟨S_, .i32⟩) main_call1_call0_call0_c_3) (TRef.of (T := ⟨S8x96x220x220, .i32⟩) main_call1_call0_call0_v16) (broadcastInDim S8x96x220x220 ![] bcast_S_S8x96x220x220),
    TRef.binary (TRef.of (T := ⟨S8x96x220x220, .i32⟩) main_call1_call0_call0_v12) (TRef.of (T := ⟨S8x96x220x220, .i32⟩) main_call1_call0_call0_v16) (TRef.of (T := ⟨S8x96x220x220, .i32⟩) main_call1_call0_call0_v17) Host.shrui,
    TRef.binary (TRef.of (T := ⟨S8x96x220x220, .i32⟩) main_call1_call0_call0_v15) (TRef.of (T := ⟨S8x96x220x220, .i32⟩) main_call1_call0_call0_v17) (TRef.of (T := ⟨S8x96x220x220, .i32⟩) main_call1_call0_call0_v18) ori,
    TRef.binary (TRef.of (T := ⟨S8x96x220x220, .i32⟩) main_call1_call0_call0_v13) (TRef.of (T := ⟨S8x96x220x220, .i32⟩) main_call1_call0_call0_v18) (TRef.of (T := ⟨S8x96x220x220, .i32⟩) main_call1_call0_call0_v19) xori,
    TRef.binary (TRef.of (T := ⟨S8x96x220x220, .i32⟩) main_call1_call0_call0_v13) (TRef.of (T := ⟨S8x96x220x220, .i32⟩) main_call1_call0_call0_v19) (TRef.of (T := ⟨S8x96x220x220, .i32⟩) main_call1_call0_call0_v20) addi,
    TRef.nullary (TRef.of (T := ⟨S_, .i32⟩) main_call1_call0_call0_c_4) (constantI S_ 32 26#32),
    TRef.unary (TRef.of (T := ⟨S_, .i32⟩) main_call1_call0_call0_c_4) (TRef.of (T := ⟨S8x96x220x220, .i32⟩) main_call1_call0_call0_v21) (broadcastInDim S8x96x220x220 ![] bcast_S_S8x96x220x220),
    TRef.binary (TRef.of (T := ⟨S8x96x220x220, .i32⟩) main_call1_call0_call0_v19) (TRef.of (T := ⟨S8x96x220x220, .i32⟩) main_call1_call0_call0_v21) (TRef.of (T := ⟨S8x96x220x220, .i32⟩) main_call1_call0_call0_v22) Host.shli,
    TRef.nullary (TRef.of (T := ⟨S_, .i32⟩) main_call1_call0_call0_c_5) (constantI S_ 32 6#32),
    TRef.unary (TRef.of (T := ⟨S_, .i32⟩) main_call1_call0_call0_c_5) (TRef.of (T := ⟨S8x96x220x220, .i32⟩) main_call1_call0_call0_v23) (broadcastInDim S8x96x220x220 ![] bcast_S_S8x96x220x220),
    TRef.binary (TRef.of (T := ⟨S8x96x220x220, .i32⟩) main_call1_call0_call0_v19) (TRef.of (T := ⟨S8x96x220x220, .i32⟩) main_call1_call0_call0_v23) (TRef.of (T := ⟨S8x96x220x220, .i32⟩) main_call1_call0_call0_v24) Host.shrui,
    TRef.binary (TRef.of (T := ⟨S8x96x220x220, .i32⟩) main_call1_call0_call0_v22) (TRef.of (T := ⟨S8x96x220x220, .i32⟩) main_call1_call0_call0_v24) (TRef.of (T := ⟨S8x96x220x220, .i32⟩) main_call1_call0_call0_v25) ori,
    TRef.binary (TRef.of (T := ⟨S8x96x220x220, .i32⟩) main_call1_call0_call0_v20) (TRef.of (T := ⟨S8x96x220x220, .i32⟩) main_call1_call0_call0_v25) (TRef.of (T := ⟨S8x96x220x220, .i32⟩) main_call1_call0_call0_v26) xori,
    TRef.binary (TRef.of (T := ⟨S8x96x220x220, .i32⟩) main_call1_call0_call0_v20) (TRef.of (T := ⟨S8x96x220x220, .i32⟩) main_call1_call0_call0_v26) (TRef.of (T := ⟨S8x96x220x220, .i32⟩) main_call1_call0_call0_v27) addi,
    TRef.nullary (TRef.of (T := ⟨S_, .i32⟩) main_call1_call0_call0_c_6) (constantI S_ 32 6#32),
    TRef.unary (TRef.of (T := ⟨S_, .i32⟩) main_call1_call0_call0_c_6) (TRef.of (T := ⟨S8x96x220x220, .i32⟩) main_call1_call0_call0_v28) (broadcastInDim S8x96x220x220 ![] bcast_S_S8x96x220x220),
    TRef.binary (TRef.of (T := ⟨S8x96x220x220, .i32⟩) main_call1_call0_call0_v26) (TRef.of (T := ⟨S8x96x220x220, .i32⟩) main_call1_call0_call0_v28) (TRef.of (T := ⟨S8x96x220x220, .i32⟩) main_call1_call0_call0_v29) Host.shli,
    TRef.nullary (TRef.of (T := ⟨S_, .i32⟩) main_call1_call0_call0_c_7) (constantI S_ 32 26#32),
    TRef.unary (TRef.of (T := ⟨S_, .i32⟩) main_call1_call0_call0_c_7) (TRef.of (T := ⟨S8x96x220x220, .i32⟩) main_call1_call0_call0_v30) (broadcastInDim S8x96x220x220 ![] bcast_S_S8x96x220x220),
    TRef.binary (TRef.of (T := ⟨S8x96x220x220, .i32⟩) main_call1_call0_call0_v26) (TRef.of (T := ⟨S8x96x220x220, .i32⟩) main_call1_call0_call0_v30) (TRef.of (T := ⟨S8x96x220x220, .i32⟩) main_call1_call0_call0_v31) Host.shrui,
    TRef.binary (TRef.of (T := ⟨S8x96x220x220, .i32⟩) main_call1_call0_call0_v29) (TRef.of (T := ⟨S8x96x220x220, .i32⟩) main_call1_call0_call0_v31) (TRef.of (T := ⟨S8x96x220x220, .i32⟩) main_call1_call0_call0_v32) ori,
    TRef.binary (TRef.of (T := ⟨S8x96x220x220, .i32⟩) main_call1_call0_call0_v27) (TRef.of (T := ⟨S8x96x220x220, .i32⟩) main_call1_call0_call0_v32) (TRef.of (T := ⟨S8x96x220x220, .i32⟩) main_call1_call0_call0_v33) xori,
    TRef.unary (TRef.of (T := ⟨S_, .i32⟩) main_call1_call0_v7) (TRef.of (T := ⟨S8x96x220x220, .i32⟩) main_call1_call0_call0_v34) (broadcastInDim S8x96x220x220 ![] bcast_S_S8x96x220x220),
    TRef.binary (TRef.of (T := ⟨S8x96x220x220, .i32⟩) main_call1_call0_call0_v27) (TRef.of (T := ⟨S8x96x220x220, .i32⟩) main_call1_call0_call0_v34) (TRef.of (T := ⟨S8x96x220x220, .i32⟩) main_call1_call0_call0_v35) addi,
    TRef.unary (TRef.of (T := ⟨S_, .i32⟩) main_call1_call0_call0_v1) (TRef.of (T := ⟨S8x96x220x220, .i32⟩) main_call1_call0_call0_v36) (broadcastInDim S8x96x220x220 ![] bcast_S_S8x96x220x220),
    TRef.binary (TRef.of (T := ⟨S8x96x220x220, .i32⟩) main_call1_call0_call0_v33) (TRef.of (T := ⟨S8x96x220x220, .i32⟩) main_call1_call0_call0_v36) (TRef.of (T := ⟨S8x96x220x220, .i32⟩) main_call1_call0_call0_v37) addi,
    TRef.nullary (TRef.of (T := ⟨S_, .i32⟩) main_call1_call0_call0_c_8) (constantI S_ 32 1#32),
    TRef.unary (TRef.of (T := ⟨S_, .i32⟩) main_call1_call0_call0_c_8) (TRef.of (T := ⟨S8x96x220x220, .i32⟩) main_call1_call0_call0_v38) (broadcastInDim S8x96x220x220 ![] bcast_S_S8x96x220x220) ]

/-- @main's operations 331 … 360 of 537 (@main, which the printer did not cut). -/
abbrev ops_11 : List (HloOp τ sig (Elt F)) :=
  [ TRef.binary (TRef.of (T := ⟨S8x96x220x220, .i32⟩) main_call1_call0_call0_v37) (TRef.of (T := ⟨S8x96x220x220, .i32⟩) main_call1_call0_call0_v38) (TRef.of (T := ⟨S8x96x220x220, .i32⟩) main_call1_call0_call0_v39) addi,
    TRef.binary (TRef.of (T := ⟨S8x96x220x220, .i32⟩) main_call1_call0_call0_v35) (TRef.of (T := ⟨S8x96x220x220, .i32⟩) main_call1_call0_call0_v39) (TRef.of (T := ⟨S8x96x220x220, .i32⟩) main_call1_call0_call0_v40) addi,
    TRef.nullary (TRef.of (T := ⟨S_, .i32⟩) main_call1_call0_call0_c_9) (constantI S_ 32 17#32),
    TRef.unary (TRef.of (T := ⟨S_, .i32⟩) main_call1_call0_call0_c_9) (TRef.of (T := ⟨S8x96x220x220, .i32⟩) main_call1_call0_call0_v41) (broadcastInDim S8x96x220x220 ![] bcast_S_S8x96x220x220),
    TRef.binary (TRef.of (T := ⟨S8x96x220x220, .i32⟩) main_call1_call0_call0_v39) (TRef.of (T := ⟨S8x96x220x220, .i32⟩) main_call1_call0_call0_v41) (TRef.of (T := ⟨S8x96x220x220, .i32⟩) main_call1_call0_call0_v42) Host.shli,
    TRef.nullary (TRef.of (T := ⟨S_, .i32⟩) main_call1_call0_call0_c_10) (constantI S_ 32 15#32),
    TRef.unary (TRef.of (T := ⟨S_, .i32⟩) main_call1_call0_call0_c_10) (TRef.of (T := ⟨S8x96x220x220, .i32⟩) main_call1_call0_call0_v43) (broadcastInDim S8x96x220x220 ![] bcast_S_S8x96x220x220),
    TRef.binary (TRef.of (T := ⟨S8x96x220x220, .i32⟩) main_call1_call0_call0_v39) (TRef.of (T := ⟨S8x96x220x220, .i32⟩) main_call1_call0_call0_v43) (TRef.of (T := ⟨S8x96x220x220, .i32⟩) main_call1_call0_call0_v44) Host.shrui,
    TRef.binary (TRef.of (T := ⟨S8x96x220x220, .i32⟩) main_call1_call0_call0_v42) (TRef.of (T := ⟨S8x96x220x220, .i32⟩) main_call1_call0_call0_v44) (TRef.of (T := ⟨S8x96x220x220, .i32⟩) main_call1_call0_call0_v45) ori,
    TRef.binary (TRef.of (T := ⟨S8x96x220x220, .i32⟩) main_call1_call0_call0_v40) (TRef.of (T := ⟨S8x96x220x220, .i32⟩) main_call1_call0_call0_v45) (TRef.of (T := ⟨S8x96x220x220, .i32⟩) main_call1_call0_call0_v46) xori,
    TRef.binary (TRef.of (T := ⟨S8x96x220x220, .i32⟩) main_call1_call0_call0_v40) (TRef.of (T := ⟨S8x96x220x220, .i32⟩) main_call1_call0_call0_v46) (TRef.of (T := ⟨S8x96x220x220, .i32⟩) main_call1_call0_call0_v47) addi,
    TRef.nullary (TRef.of (T := ⟨S_, .i32⟩) main_call1_call0_call0_c_11) (constantI S_ 32 29#32),
    TRef.unary (TRef.of (T := ⟨S_, .i32⟩) main_call1_call0_call0_c_11) (TRef.of (T := ⟨S8x96x220x220, .i32⟩) main_call1_call0_call0_v48) (broadcastInDim S8x96x220x220 ![] bcast_S_S8x96x220x220),
    TRef.binary (TRef.of (T := ⟨S8x96x220x220, .i32⟩) main_call1_call0_call0_v46) (TRef.of (T := ⟨S8x96x220x220, .i32⟩) main_call1_call0_call0_v48) (TRef.of (T := ⟨S8x96x220x220, .i32⟩) main_call1_call0_call0_v49) Host.shli,
    TRef.nullary (TRef.of (T := ⟨S_, .i32⟩) main_call1_call0_call0_c_12) (constantI S_ 32 3#32),
    TRef.unary (TRef.of (T := ⟨S_, .i32⟩) main_call1_call0_call0_c_12) (TRef.of (T := ⟨S8x96x220x220, .i32⟩) main_call1_call0_call0_v50) (broadcastInDim S8x96x220x220 ![] bcast_S_S8x96x220x220),
    TRef.binary (TRef.of (T := ⟨S8x96x220x220, .i32⟩) main_call1_call0_call0_v46) (TRef.of (T := ⟨S8x96x220x220, .i32⟩) main_call1_call0_call0_v50) (TRef.of (T := ⟨S8x96x220x220, .i32⟩) main_call1_call0_call0_v51) Host.shrui,
    TRef.binary (TRef.of (T := ⟨S8x96x220x220, .i32⟩) main_call1_call0_call0_v49) (TRef.of (T := ⟨S8x96x220x220, .i32⟩) main_call1_call0_call0_v51) (TRef.of (T := ⟨S8x96x220x220, .i32⟩) main_call1_call0_call0_v52) ori,
    TRef.binary (TRef.of (T := ⟨S8x96x220x220, .i32⟩) main_call1_call0_call0_v47) (TRef.of (T := ⟨S8x96x220x220, .i32⟩) main_call1_call0_call0_v52) (TRef.of (T := ⟨S8x96x220x220, .i32⟩) main_call1_call0_call0_v53) xori,
    TRef.binary (TRef.of (T := ⟨S8x96x220x220, .i32⟩) main_call1_call0_call0_v47) (TRef.of (T := ⟨S8x96x220x220, .i32⟩) main_call1_call0_call0_v53) (TRef.of (T := ⟨S8x96x220x220, .i32⟩) main_call1_call0_call0_v54) addi,
    TRef.nullary (TRef.of (T := ⟨S_, .i32⟩) main_call1_call0_call0_c_13) (constantI S_ 32 16#32),
    TRef.unary (TRef.of (T := ⟨S_, .i32⟩) main_call1_call0_call0_c_13) (TRef.of (T := ⟨S8x96x220x220, .i32⟩) main_call1_call0_call0_v55) (broadcastInDim S8x96x220x220 ![] bcast_S_S8x96x220x220),
    TRef.binary (TRef.of (T := ⟨S8x96x220x220, .i32⟩) main_call1_call0_call0_v53) (TRef.of (T := ⟨S8x96x220x220, .i32⟩) main_call1_call0_call0_v55) (TRef.of (T := ⟨S8x96x220x220, .i32⟩) main_call1_call0_call0_v56) Host.shli,
    TRef.nullary (TRef.of (T := ⟨S_, .i32⟩) main_call1_call0_call0_c_14) (constantI S_ 32 16#32),
    TRef.unary (TRef.of (T := ⟨S_, .i32⟩) main_call1_call0_call0_c_14) (TRef.of (T := ⟨S8x96x220x220, .i32⟩) main_call1_call0_call0_v57) (broadcastInDim S8x96x220x220 ![] bcast_S_S8x96x220x220),
    TRef.binary (TRef.of (T := ⟨S8x96x220x220, .i32⟩) main_call1_call0_call0_v53) (TRef.of (T := ⟨S8x96x220x220, .i32⟩) main_call1_call0_call0_v57) (TRef.of (T := ⟨S8x96x220x220, .i32⟩) main_call1_call0_call0_v58) Host.shrui,
    TRef.binary (TRef.of (T := ⟨S8x96x220x220, .i32⟩) main_call1_call0_call0_v56) (TRef.of (T := ⟨S8x96x220x220, .i32⟩) main_call1_call0_call0_v58) (TRef.of (T := ⟨S8x96x220x220, .i32⟩) main_call1_call0_call0_v59) ori,
    TRef.binary (TRef.of (T := ⟨S8x96x220x220, .i32⟩) main_call1_call0_call0_v54) (TRef.of (T := ⟨S8x96x220x220, .i32⟩) main_call1_call0_call0_v59) (TRef.of (T := ⟨S8x96x220x220, .i32⟩) main_call1_call0_call0_v60) xori,
    TRef.binary (TRef.of (T := ⟨S8x96x220x220, .i32⟩) main_call1_call0_call0_v54) (TRef.of (T := ⟨S8x96x220x220, .i32⟩) main_call1_call0_call0_v60) (TRef.of (T := ⟨S8x96x220x220, .i32⟩) main_call1_call0_call0_v61) addi,
    TRef.nullary (TRef.of (T := ⟨S_, .i32⟩) main_call1_call0_call0_c_15) (constantI S_ 32 24#32) ]

/-- @main's operations 361 … 390 of 537 (@main, which the printer did not cut). -/
abbrev ops_12 : List (HloOp τ sig (Elt F)) :=
  [ TRef.unary (TRef.of (T := ⟨S_, .i32⟩) main_call1_call0_call0_c_15) (TRef.of (T := ⟨S8x96x220x220, .i32⟩) main_call1_call0_call0_v62) (broadcastInDim S8x96x220x220 ![] bcast_S_S8x96x220x220),
    TRef.binary (TRef.of (T := ⟨S8x96x220x220, .i32⟩) main_call1_call0_call0_v60) (TRef.of (T := ⟨S8x96x220x220, .i32⟩) main_call1_call0_call0_v62) (TRef.of (T := ⟨S8x96x220x220, .i32⟩) main_call1_call0_call0_v63) Host.shli,
    TRef.nullary (TRef.of (T := ⟨S_, .i32⟩) main_call1_call0_call0_c_16) (constantI S_ 32 8#32),
    TRef.unary (TRef.of (T := ⟨S_, .i32⟩) main_call1_call0_call0_c_16) (TRef.of (T := ⟨S8x96x220x220, .i32⟩) main_call1_call0_call0_v64) (broadcastInDim S8x96x220x220 ![] bcast_S_S8x96x220x220),
    TRef.binary (TRef.of (T := ⟨S8x96x220x220, .i32⟩) main_call1_call0_call0_v60) (TRef.of (T := ⟨S8x96x220x220, .i32⟩) main_call1_call0_call0_v64) (TRef.of (T := ⟨S8x96x220x220, .i32⟩) main_call1_call0_call0_v65) Host.shrui,
    TRef.binary (TRef.of (T := ⟨S8x96x220x220, .i32⟩) main_call1_call0_call0_v63) (TRef.of (T := ⟨S8x96x220x220, .i32⟩) main_call1_call0_call0_v65) (TRef.of (T := ⟨S8x96x220x220, .i32⟩) main_call1_call0_call0_v66) ori,
    TRef.binary (TRef.of (T := ⟨S8x96x220x220, .i32⟩) main_call1_call0_call0_v61) (TRef.of (T := ⟨S8x96x220x220, .i32⟩) main_call1_call0_call0_v66) (TRef.of (T := ⟨S8x96x220x220, .i32⟩) main_call1_call0_call0_v67) xori,
    TRef.unary (TRef.of (T := ⟨S_, .i32⟩) main_call1_call0_call0_v1) (TRef.of (T := ⟨S8x96x220x220, .i32⟩) main_call1_call0_call0_v68) (broadcastInDim S8x96x220x220 ![] bcast_S_S8x96x220x220),
    TRef.binary (TRef.of (T := ⟨S8x96x220x220, .i32⟩) main_call1_call0_call0_v61) (TRef.of (T := ⟨S8x96x220x220, .i32⟩) main_call1_call0_call0_v68) (TRef.of (T := ⟨S8x96x220x220, .i32⟩) main_call1_call0_call0_v69) addi,
    TRef.unary (TRef.of (T := ⟨S_, .i32⟩) main_call1_call0_v5) (TRef.of (T := ⟨S8x96x220x220, .i32⟩) main_call1_call0_call0_v70) (broadcastInDim S8x96x220x220 ![] bcast_S_S8x96x220x220),
    TRef.binary (TRef.of (T := ⟨S8x96x220x220, .i32⟩) main_call1_call0_call0_v67) (TRef.of (T := ⟨S8x96x220x220, .i32⟩) main_call1_call0_call0_v70) (TRef.of (T := ⟨S8x96x220x220, .i32⟩) main_call1_call0_call0_v71) addi,
    TRef.nullary (TRef.of (T := ⟨S_, .i32⟩) main_call1_call0_call0_c_17) (constantI S_ 32 2#32),
    TRef.unary (TRef.of (T := ⟨S_, .i32⟩) main_call1_call0_call0_c_17) (TRef.of (T := ⟨S8x96x220x220, .i32⟩) main_call1_call0_call0_v72) (broadcastInDim S8x96x220x220 ![] bcast_S_S8x96x220x220),
    TRef.binary (TRef.of (T := ⟨S8x96x220x220, .i32⟩) main_call1_call0_call0_v71) (TRef.of (T := ⟨S8x96x220x220, .i32⟩) main_call1_call0_call0_v72) (TRef.of (T := ⟨S8x96x220x220, .i32⟩) main_call1_call0_call0_v73) addi,
    TRef.binary (TRef.of (T := ⟨S8x96x220x220, .i32⟩) main_call1_call0_call0_v69) (TRef.of (T := ⟨S8x96x220x220, .i32⟩) main_call1_call0_call0_v73) (TRef.of (T := ⟨S8x96x220x220, .i32⟩) main_call1_call0_call0_v74) addi,
    TRef.nullary (TRef.of (T := ⟨S_, .i32⟩) main_call1_call0_call0_c_18) (constantI S_ 32 13#32),
    TRef.unary (TRef.of (T := ⟨S_, .i32⟩) main_call1_call0_call0_c_18) (TRef.of (T := ⟨S8x96x220x220, .i32⟩) main_call1_call0_call0_v75) (broadcastInDim S8x96x220x220 ![] bcast_S_S8x96x220x220),
    TRef.binary (TRef.of (T := ⟨S8x96x220x220, .i32⟩) main_call1_call0_call0_v73) (TRef.of (T := ⟨S8x96x220x220, .i32⟩) main_call1_call0_call0_v75) (TRef.of (T := ⟨S8x96x220x220, .i32⟩) main_call1_call0_call0_v76) Host.shli,
    TRef.nullary (TRef.of (T := ⟨S_, .i32⟩) main_call1_call0_call0_c_19) (constantI S_ 32 19#32),
    TRef.unary (TRef.of (T := ⟨S_, .i32⟩) main_call1_call0_call0_c_19) (TRef.of (T := ⟨S8x96x220x220, .i32⟩) main_call1_call0_call0_v77) (broadcastInDim S8x96x220x220 ![] bcast_S_S8x96x220x220),
    TRef.binary (TRef.of (T := ⟨S8x96x220x220, .i32⟩) main_call1_call0_call0_v73) (TRef.of (T := ⟨S8x96x220x220, .i32⟩) main_call1_call0_call0_v77) (TRef.of (T := ⟨S8x96x220x220, .i32⟩) main_call1_call0_call0_v78) Host.shrui,
    TRef.binary (TRef.of (T := ⟨S8x96x220x220, .i32⟩) main_call1_call0_call0_v76) (TRef.of (T := ⟨S8x96x220x220, .i32⟩) main_call1_call0_call0_v78) (TRef.of (T := ⟨S8x96x220x220, .i32⟩) main_call1_call0_call0_v79) ori,
    TRef.binary (TRef.of (T := ⟨S8x96x220x220, .i32⟩) main_call1_call0_call0_v74) (TRef.of (T := ⟨S8x96x220x220, .i32⟩) main_call1_call0_call0_v79) (TRef.of (T := ⟨S8x96x220x220, .i32⟩) main_call1_call0_call0_v80) xori,
    TRef.binary (TRef.of (T := ⟨S8x96x220x220, .i32⟩) main_call1_call0_call0_v74) (TRef.of (T := ⟨S8x96x220x220, .i32⟩) main_call1_call0_call0_v80) (TRef.of (T := ⟨S8x96x220x220, .i32⟩) main_call1_call0_call0_v81) addi,
    TRef.nullary (TRef.of (T := ⟨S_, .i32⟩) main_call1_call0_call0_c_20) (constantI S_ 32 15#32),
    TRef.unary (TRef.of (T := ⟨S_, .i32⟩) main_call1_call0_call0_c_20) (TRef.of (T := ⟨S8x96x220x220, .i32⟩) main_call1_call0_call0_v82) (broadcastInDim S8x96x220x220 ![] bcast_S_S8x96x220x220),
    TRef.binary (TRef.of (T := ⟨S8x96x220x220, .i32⟩) main_call1_call0_call0_v80) (TRef.of (T := ⟨S8x96x220x220, .i32⟩) main_call1_call0_call0_v82) (TRef.of (T := ⟨S8x96x220x220, .i32⟩) main_call1_call0_call0_v83) Host.shli,
    TRef.nullary (TRef.of (T := ⟨S_, .i32⟩) main_call1_call0_call0_c_21) (constantI S_ 32 17#32),
    TRef.unary (TRef.of (T := ⟨S_, .i32⟩) main_call1_call0_call0_c_21) (TRef.of (T := ⟨S8x96x220x220, .i32⟩) main_call1_call0_call0_v84) (broadcastInDim S8x96x220x220 ![] bcast_S_S8x96x220x220),
    TRef.binary (TRef.of (T := ⟨S8x96x220x220, .i32⟩) main_call1_call0_call0_v80) (TRef.of (T := ⟨S8x96x220x220, .i32⟩) main_call1_call0_call0_v84) (TRef.of (T := ⟨S8x96x220x220, .i32⟩) main_call1_call0_call0_v85) Host.shrui ]

/-- @main's operations 391 … 420 of 537 (@main, which the printer did not cut). -/
abbrev ops_13 : List (HloOp τ sig (Elt F)) :=
  [ TRef.binary (TRef.of (T := ⟨S8x96x220x220, .i32⟩) main_call1_call0_call0_v83) (TRef.of (T := ⟨S8x96x220x220, .i32⟩) main_call1_call0_call0_v85) (TRef.of (T := ⟨S8x96x220x220, .i32⟩) main_call1_call0_call0_v86) ori,
    TRef.binary (TRef.of (T := ⟨S8x96x220x220, .i32⟩) main_call1_call0_call0_v81) (TRef.of (T := ⟨S8x96x220x220, .i32⟩) main_call1_call0_call0_v86) (TRef.of (T := ⟨S8x96x220x220, .i32⟩) main_call1_call0_call0_v87) xori,
    TRef.binary (TRef.of (T := ⟨S8x96x220x220, .i32⟩) main_call1_call0_call0_v81) (TRef.of (T := ⟨S8x96x220x220, .i32⟩) main_call1_call0_call0_v87) (TRef.of (T := ⟨S8x96x220x220, .i32⟩) main_call1_call0_call0_v88) addi,
    TRef.nullary (TRef.of (T := ⟨S_, .i32⟩) main_call1_call0_call0_c_22) (constantI S_ 32 26#32),
    TRef.unary (TRef.of (T := ⟨S_, .i32⟩) main_call1_call0_call0_c_22) (TRef.of (T := ⟨S8x96x220x220, .i32⟩) main_call1_call0_call0_v89) (broadcastInDim S8x96x220x220 ![] bcast_S_S8x96x220x220),
    TRef.binary (TRef.of (T := ⟨S8x96x220x220, .i32⟩) main_call1_call0_call0_v87) (TRef.of (T := ⟨S8x96x220x220, .i32⟩) main_call1_call0_call0_v89) (TRef.of (T := ⟨S8x96x220x220, .i32⟩) main_call1_call0_call0_v90) Host.shli,
    TRef.nullary (TRef.of (T := ⟨S_, .i32⟩) main_call1_call0_call0_c_23) (constantI S_ 32 6#32),
    TRef.unary (TRef.of (T := ⟨S_, .i32⟩) main_call1_call0_call0_c_23) (TRef.of (T := ⟨S8x96x220x220, .i32⟩) main_call1_call0_call0_v91) (broadcastInDim S8x96x220x220 ![] bcast_S_S8x96x220x220),
    TRef.binary (TRef.of (T := ⟨S8x96x220x220, .i32⟩) main_call1_call0_call0_v87) (TRef.of (T := ⟨S8x96x220x220, .i32⟩) main_call1_call0_call0_v91) (TRef.of (T := ⟨S8x96x220x220, .i32⟩) main_call1_call0_call0_v92) Host.shrui,
    TRef.binary (TRef.of (T := ⟨S8x96x220x220, .i32⟩) main_call1_call0_call0_v90) (TRef.of (T := ⟨S8x96x220x220, .i32⟩) main_call1_call0_call0_v92) (TRef.of (T := ⟨S8x96x220x220, .i32⟩) main_call1_call0_call0_v93) ori,
    TRef.binary (TRef.of (T := ⟨S8x96x220x220, .i32⟩) main_call1_call0_call0_v88) (TRef.of (T := ⟨S8x96x220x220, .i32⟩) main_call1_call0_call0_v93) (TRef.of (T := ⟨S8x96x220x220, .i32⟩) main_call1_call0_call0_v94) xori,
    TRef.binary (TRef.of (T := ⟨S8x96x220x220, .i32⟩) main_call1_call0_call0_v88) (TRef.of (T := ⟨S8x96x220x220, .i32⟩) main_call1_call0_call0_v94) (TRef.of (T := ⟨S8x96x220x220, .i32⟩) main_call1_call0_call0_v95) addi,
    TRef.nullary (TRef.of (T := ⟨S_, .i32⟩) main_call1_call0_call0_c_24) (constantI S_ 32 6#32),
    TRef.unary (TRef.of (T := ⟨S_, .i32⟩) main_call1_call0_call0_c_24) (TRef.of (T := ⟨S8x96x220x220, .i32⟩) main_call1_call0_call0_v96) (broadcastInDim S8x96x220x220 ![] bcast_S_S8x96x220x220),
    TRef.binary (TRef.of (T := ⟨S8x96x220x220, .i32⟩) main_call1_call0_call0_v94) (TRef.of (T := ⟨S8x96x220x220, .i32⟩) main_call1_call0_call0_v96) (TRef.of (T := ⟨S8x96x220x220, .i32⟩) main_call1_call0_call0_v97) Host.shli,
    TRef.nullary (TRef.of (T := ⟨S_, .i32⟩) main_call1_call0_call0_c_25) (constantI S_ 32 26#32),
    TRef.unary (TRef.of (T := ⟨S_, .i32⟩) main_call1_call0_call0_c_25) (TRef.of (T := ⟨S8x96x220x220, .i32⟩) main_call1_call0_call0_v98) (broadcastInDim S8x96x220x220 ![] bcast_S_S8x96x220x220),
    TRef.binary (TRef.of (T := ⟨S8x96x220x220, .i32⟩) main_call1_call0_call0_v94) (TRef.of (T := ⟨S8x96x220x220, .i32⟩) main_call1_call0_call0_v98) (TRef.of (T := ⟨S8x96x220x220, .i32⟩) main_call1_call0_call0_v99) Host.shrui,
    TRef.binary (TRef.of (T := ⟨S8x96x220x220, .i32⟩) main_call1_call0_call0_v97) (TRef.of (T := ⟨S8x96x220x220, .i32⟩) main_call1_call0_call0_v99) (TRef.of (T := ⟨S8x96x220x220, .i32⟩) main_call1_call0_call0_v100) ori,
    TRef.binary (TRef.of (T := ⟨S8x96x220x220, .i32⟩) main_call1_call0_call0_v95) (TRef.of (T := ⟨S8x96x220x220, .i32⟩) main_call1_call0_call0_v100) (TRef.of (T := ⟨S8x96x220x220, .i32⟩) main_call1_call0_call0_v101) xori,
    TRef.unary (TRef.of (T := ⟨S_, .i32⟩) main_call1_call0_v5) (TRef.of (T := ⟨S8x96x220x220, .i32⟩) main_call1_call0_call0_v102) (broadcastInDim S8x96x220x220 ![] bcast_S_S8x96x220x220),
    TRef.binary (TRef.of (T := ⟨S8x96x220x220, .i32⟩) main_call1_call0_call0_v95) (TRef.of (T := ⟨S8x96x220x220, .i32⟩) main_call1_call0_call0_v102) (TRef.of (T := ⟨S8x96x220x220, .i32⟩) main_call1_call0_call0_v103) addi,
    TRef.unary (TRef.of (T := ⟨S_, .i32⟩) main_call1_call0_v7) (TRef.of (T := ⟨S8x96x220x220, .i32⟩) main_call1_call0_call0_v104) (broadcastInDim S8x96x220x220 ![] bcast_S_S8x96x220x220),
    TRef.binary (TRef.of (T := ⟨S8x96x220x220, .i32⟩) main_call1_call0_call0_v101) (TRef.of (T := ⟨S8x96x220x220, .i32⟩) main_call1_call0_call0_v104) (TRef.of (T := ⟨S8x96x220x220, .i32⟩) main_call1_call0_call0_v105) addi,
    TRef.nullary (TRef.of (T := ⟨S_, .i32⟩) main_call1_call0_call0_c_26) (constantI S_ 32 3#32),
    TRef.unary (TRef.of (T := ⟨S_, .i32⟩) main_call1_call0_call0_c_26) (TRef.of (T := ⟨S8x96x220x220, .i32⟩) main_call1_call0_call0_v106) (broadcastInDim S8x96x220x220 ![] bcast_S_S8x96x220x220),
    TRef.binary (TRef.of (T := ⟨S8x96x220x220, .i32⟩) main_call1_call0_call0_v105) (TRef.of (T := ⟨S8x96x220x220, .i32⟩) main_call1_call0_call0_v106) (TRef.of (T := ⟨S8x96x220x220, .i32⟩) main_call1_call0_call0_v107) addi,
    TRef.binary (TRef.of (T := ⟨S8x96x220x220, .i32⟩) main_call1_call0_call0_v103) (TRef.of (T := ⟨S8x96x220x220, .i32⟩) main_call1_call0_call0_v107) (TRef.of (T := ⟨S8x96x220x220, .i32⟩) main_call1_call0_call0_v108) addi,
    TRef.nullary (TRef.of (T := ⟨S_, .i32⟩) main_call1_call0_call0_c_27) (constantI S_ 32 17#32),
    TRef.unary (TRef.of (T := ⟨S_, .i32⟩) main_call1_call0_call0_c_27) (TRef.of (T := ⟨S8x96x220x220, .i32⟩) main_call1_call0_call0_v109) (broadcastInDim S8x96x220x220 ![] bcast_S_S8x96x220x220) ]

/-- @main's operations 421 … 450 of 537 (@main, which the printer did not cut). -/
abbrev ops_14 : List (HloOp τ sig (Elt F)) :=
  [ TRef.binary (TRef.of (T := ⟨S8x96x220x220, .i32⟩) main_call1_call0_call0_v107) (TRef.of (T := ⟨S8x96x220x220, .i32⟩) main_call1_call0_call0_v109) (TRef.of (T := ⟨S8x96x220x220, .i32⟩) main_call1_call0_call0_v110) Host.shli,
    TRef.nullary (TRef.of (T := ⟨S_, .i32⟩) main_call1_call0_call0_c_28) (constantI S_ 32 15#32),
    TRef.unary (TRef.of (T := ⟨S_, .i32⟩) main_call1_call0_call0_c_28) (TRef.of (T := ⟨S8x96x220x220, .i32⟩) main_call1_call0_call0_v111) (broadcastInDim S8x96x220x220 ![] bcast_S_S8x96x220x220),
    TRef.binary (TRef.of (T := ⟨S8x96x220x220, .i32⟩) main_call1_call0_call0_v107) (TRef.of (T := ⟨S8x96x220x220, .i32⟩) main_call1_call0_call0_v111) (TRef.of (T := ⟨S8x96x220x220, .i32⟩) main_call1_call0_call0_v112) Host.shrui,
    TRef.binary (TRef.of (T := ⟨S8x96x220x220, .i32⟩) main_call1_call0_call0_v110) (TRef.of (T := ⟨S8x96x220x220, .i32⟩) main_call1_call0_call0_v112) (TRef.of (T := ⟨S8x96x220x220, .i32⟩) main_call1_call0_call0_v113) ori,
    TRef.binary (TRef.of (T := ⟨S8x96x220x220, .i32⟩) main_call1_call0_call0_v108) (TRef.of (T := ⟨S8x96x220x220, .i32⟩) main_call1_call0_call0_v113) (TRef.of (T := ⟨S8x96x220x220, .i32⟩) main_call1_call0_call0_v114) xori,
    TRef.binary (TRef.of (T := ⟨S8x96x220x220, .i32⟩) main_call1_call0_call0_v108) (TRef.of (T := ⟨S8x96x220x220, .i32⟩) main_call1_call0_call0_v114) (TRef.of (T := ⟨S8x96x220x220, .i32⟩) main_call1_call0_call0_v115) addi,
    TRef.nullary (TRef.of (T := ⟨S_, .i32⟩) main_call1_call0_call0_c_29) (constantI S_ 32 29#32),
    TRef.unary (TRef.of (T := ⟨S_, .i32⟩) main_call1_call0_call0_c_29) (TRef.of (T := ⟨S8x96x220x220, .i32⟩) main_call1_call0_call0_v116) (broadcastInDim S8x96x220x220 ![] bcast_S_S8x96x220x220),
    TRef.binary (TRef.of (T := ⟨S8x96x220x220, .i32⟩) main_call1_call0_call0_v114) (TRef.of (T := ⟨S8x96x220x220, .i32⟩) main_call1_call0_call0_v116) (TRef.of (T := ⟨S8x96x220x220, .i32⟩) main_call1_call0_call0_v117) Host.shli,
    TRef.nullary (TRef.of (T := ⟨S_, .i32⟩) main_call1_call0_call0_c_30) (constantI S_ 32 3#32),
    TRef.unary (TRef.of (T := ⟨S_, .i32⟩) main_call1_call0_call0_c_30) (TRef.of (T := ⟨S8x96x220x220, .i32⟩) main_call1_call0_call0_v118) (broadcastInDim S8x96x220x220 ![] bcast_S_S8x96x220x220),
    TRef.binary (TRef.of (T := ⟨S8x96x220x220, .i32⟩) main_call1_call0_call0_v114) (TRef.of (T := ⟨S8x96x220x220, .i32⟩) main_call1_call0_call0_v118) (TRef.of (T := ⟨S8x96x220x220, .i32⟩) main_call1_call0_call0_v119) Host.shrui,
    TRef.binary (TRef.of (T := ⟨S8x96x220x220, .i32⟩) main_call1_call0_call0_v117) (TRef.of (T := ⟨S8x96x220x220, .i32⟩) main_call1_call0_call0_v119) (TRef.of (T := ⟨S8x96x220x220, .i32⟩) main_call1_call0_call0_v120) ori,
    TRef.binary (TRef.of (T := ⟨S8x96x220x220, .i32⟩) main_call1_call0_call0_v115) (TRef.of (T := ⟨S8x96x220x220, .i32⟩) main_call1_call0_call0_v120) (TRef.of (T := ⟨S8x96x220x220, .i32⟩) main_call1_call0_call0_v121) xori,
    TRef.binary (TRef.of (T := ⟨S8x96x220x220, .i32⟩) main_call1_call0_call0_v115) (TRef.of (T := ⟨S8x96x220x220, .i32⟩) main_call1_call0_call0_v121) (TRef.of (T := ⟨S8x96x220x220, .i32⟩) main_call1_call0_call0_v122) addi,
    TRef.nullary (TRef.of (T := ⟨S_, .i32⟩) main_call1_call0_call0_c_31) (constantI S_ 32 16#32),
    TRef.unary (TRef.of (T := ⟨S_, .i32⟩) main_call1_call0_call0_c_31) (TRef.of (T := ⟨S8x96x220x220, .i32⟩) main_call1_call0_call0_v123) (broadcastInDim S8x96x220x220 ![] bcast_S_S8x96x220x220),
    TRef.binary (TRef.of (T := ⟨S8x96x220x220, .i32⟩) main_call1_call0_call0_v121) (TRef.of (T := ⟨S8x96x220x220, .i32⟩) main_call1_call0_call0_v123) (TRef.of (T := ⟨S8x96x220x220, .i32⟩) main_call1_call0_call0_v124) Host.shli,
    TRef.nullary (TRef.of (T := ⟨S_, .i32⟩) main_call1_call0_call0_c_32) (constantI S_ 32 16#32),
    TRef.unary (TRef.of (T := ⟨S_, .i32⟩) main_call1_call0_call0_c_32) (TRef.of (T := ⟨S8x96x220x220, .i32⟩) main_call1_call0_call0_v125) (broadcastInDim S8x96x220x220 ![] bcast_S_S8x96x220x220),
    TRef.binary (TRef.of (T := ⟨S8x96x220x220, .i32⟩) main_call1_call0_call0_v121) (TRef.of (T := ⟨S8x96x220x220, .i32⟩) main_call1_call0_call0_v125) (TRef.of (T := ⟨S8x96x220x220, .i32⟩) main_call1_call0_call0_v126) Host.shrui,
    TRef.binary (TRef.of (T := ⟨S8x96x220x220, .i32⟩) main_call1_call0_call0_v124) (TRef.of (T := ⟨S8x96x220x220, .i32⟩) main_call1_call0_call0_v126) (TRef.of (T := ⟨S8x96x220x220, .i32⟩) main_call1_call0_call0_v127) ori,
    TRef.binary (TRef.of (T := ⟨S8x96x220x220, .i32⟩) main_call1_call0_call0_v122) (TRef.of (T := ⟨S8x96x220x220, .i32⟩) main_call1_call0_call0_v127) (TRef.of (T := ⟨S8x96x220x220, .i32⟩) main_call1_call0_call0_v128) xori,
    TRef.binary (TRef.of (T := ⟨S8x96x220x220, .i32⟩) main_call1_call0_call0_v122) (TRef.of (T := ⟨S8x96x220x220, .i32⟩) main_call1_call0_call0_v128) (TRef.of (T := ⟨S8x96x220x220, .i32⟩) main_call1_call0_call0_v129) addi,
    TRef.nullary (TRef.of (T := ⟨S_, .i32⟩) main_call1_call0_call0_c_33) (constantI S_ 32 24#32),
    TRef.unary (TRef.of (T := ⟨S_, .i32⟩) main_call1_call0_call0_c_33) (TRef.of (T := ⟨S8x96x220x220, .i32⟩) main_call1_call0_call0_v130) (broadcastInDim S8x96x220x220 ![] bcast_S_S8x96x220x220),
    TRef.binary (TRef.of (T := ⟨S8x96x220x220, .i32⟩) main_call1_call0_call0_v128) (TRef.of (T := ⟨S8x96x220x220, .i32⟩) main_call1_call0_call0_v130) (TRef.of (T := ⟨S8x96x220x220, .i32⟩) main_call1_call0_call0_v131) Host.shli,
    TRef.nullary (TRef.of (T := ⟨S_, .i32⟩) main_call1_call0_call0_c_34) (constantI S_ 32 8#32),
    TRef.unary (TRef.of (T := ⟨S_, .i32⟩) main_call1_call0_call0_c_34) (TRef.of (T := ⟨S8x96x220x220, .i32⟩) main_call1_call0_call0_v132) (broadcastInDim S8x96x220x220 ![] bcast_S_S8x96x220x220) ]

/-- @main's operations 451 … 480 of 537 (@main, which the printer did not cut). -/
abbrev ops_15 : List (HloOp τ sig (Elt F)) :=
  [ TRef.binary (TRef.of (T := ⟨S8x96x220x220, .i32⟩) main_call1_call0_call0_v128) (TRef.of (T := ⟨S8x96x220x220, .i32⟩) main_call1_call0_call0_v132) (TRef.of (T := ⟨S8x96x220x220, .i32⟩) main_call1_call0_call0_v133) Host.shrui,
    TRef.binary (TRef.of (T := ⟨S8x96x220x220, .i32⟩) main_call1_call0_call0_v131) (TRef.of (T := ⟨S8x96x220x220, .i32⟩) main_call1_call0_call0_v133) (TRef.of (T := ⟨S8x96x220x220, .i32⟩) main_call1_call0_call0_v134) ori,
    TRef.binary (TRef.of (T := ⟨S8x96x220x220, .i32⟩) main_call1_call0_call0_v129) (TRef.of (T := ⟨S8x96x220x220, .i32⟩) main_call1_call0_call0_v134) (TRef.of (T := ⟨S8x96x220x220, .i32⟩) main_call1_call0_call0_v135) xori,
    TRef.unary (TRef.of (T := ⟨S_, .i32⟩) main_call1_call0_v7) (TRef.of (T := ⟨S8x96x220x220, .i32⟩) main_call1_call0_call0_v136) (broadcastInDim S8x96x220x220 ![] bcast_S_S8x96x220x220),
    TRef.binary (TRef.of (T := ⟨S8x96x220x220, .i32⟩) main_call1_call0_call0_v129) (TRef.of (T := ⟨S8x96x220x220, .i32⟩) main_call1_call0_call0_v136) (TRef.of (T := ⟨S8x96x220x220, .i32⟩) main_call1_call0_call0_v137) addi,
    TRef.unary (TRef.of (T := ⟨S_, .i32⟩) main_call1_call0_call0_v1) (TRef.of (T := ⟨S8x96x220x220, .i32⟩) main_call1_call0_call0_v138) (broadcastInDim S8x96x220x220 ![] bcast_S_S8x96x220x220),
    TRef.binary (TRef.of (T := ⟨S8x96x220x220, .i32⟩) main_call1_call0_call0_v135) (TRef.of (T := ⟨S8x96x220x220, .i32⟩) main_call1_call0_call0_v138) (TRef.of (T := ⟨S8x96x220x220, .i32⟩) main_call1_call0_call0_v139) addi,
    TRef.nullary (TRef.of (T := ⟨S_, .i32⟩) main_call1_call0_call0_c_35) (constantI S_ 32 4#32),
    TRef.unary (TRef.of (T := ⟨S_, .i32⟩) main_call1_call0_call0_c_35) (TRef.of (T := ⟨S8x96x220x220, .i32⟩) main_call1_call0_call0_v140) (broadcastInDim S8x96x220x220 ![] bcast_S_S8x96x220x220),
    TRef.binary (TRef.of (T := ⟨S8x96x220x220, .i32⟩) main_call1_call0_call0_v139) (TRef.of (T := ⟨S8x96x220x220, .i32⟩) main_call1_call0_call0_v140) (TRef.of (T := ⟨S8x96x220x220, .i32⟩) main_call1_call0_call0_v141) addi,
    TRef.binary (TRef.of (T := ⟨S8x96x220x220, .i32⟩) main_call1_call0_call0_v137) (TRef.of (T := ⟨S8x96x220x220, .i32⟩) main_call1_call0_call0_v141) (TRef.of (T := ⟨S8x96x220x220, .i32⟩) main_call1_call0_call0_v142) addi,
    TRef.nullary (TRef.of (T := ⟨S_, .i32⟩) main_call1_call0_call0_c_36) (constantI S_ 32 13#32),
    TRef.unary (TRef.of (T := ⟨S_, .i32⟩) main_call1_call0_call0_c_36) (TRef.of (T := ⟨S8x96x220x220, .i32⟩) main_call1_call0_call0_v143) (broadcastInDim S8x96x220x220 ![] bcast_S_S8x96x220x220),
    TRef.binary (TRef.of (T := ⟨S8x96x220x220, .i32⟩) main_call1_call0_call0_v141) (TRef.of (T := ⟨S8x96x220x220, .i32⟩) main_call1_call0_call0_v143) (TRef.of (T := ⟨S8x96x220x220, .i32⟩) main_call1_call0_call0_v144) Host.shli,
    TRef.nullary (TRef.of (T := ⟨S_, .i32⟩) main_call1_call0_call0_c_37) (constantI S_ 32 19#32),
    TRef.unary (TRef.of (T := ⟨S_, .i32⟩) main_call1_call0_call0_c_37) (TRef.of (T := ⟨S8x96x220x220, .i32⟩) main_call1_call0_call0_v145) (broadcastInDim S8x96x220x220 ![] bcast_S_S8x96x220x220),
    TRef.binary (TRef.of (T := ⟨S8x96x220x220, .i32⟩) main_call1_call0_call0_v141) (TRef.of (T := ⟨S8x96x220x220, .i32⟩) main_call1_call0_call0_v145) (TRef.of (T := ⟨S8x96x220x220, .i32⟩) main_call1_call0_call0_v146) Host.shrui,
    TRef.binary (TRef.of (T := ⟨S8x96x220x220, .i32⟩) main_call1_call0_call0_v144) (TRef.of (T := ⟨S8x96x220x220, .i32⟩) main_call1_call0_call0_v146) (TRef.of (T := ⟨S8x96x220x220, .i32⟩) main_call1_call0_call0_v147) ori,
    TRef.binary (TRef.of (T := ⟨S8x96x220x220, .i32⟩) main_call1_call0_call0_v142) (TRef.of (T := ⟨S8x96x220x220, .i32⟩) main_call1_call0_call0_v147) (TRef.of (T := ⟨S8x96x220x220, .i32⟩) main_call1_call0_call0_v148) xori,
    TRef.binary (TRef.of (T := ⟨S8x96x220x220, .i32⟩) main_call1_call0_call0_v142) (TRef.of (T := ⟨S8x96x220x220, .i32⟩) main_call1_call0_call0_v148) (TRef.of (T := ⟨S8x96x220x220, .i32⟩) main_call1_call0_call0_v149) addi,
    TRef.nullary (TRef.of (T := ⟨S_, .i32⟩) main_call1_call0_call0_c_38) (constantI S_ 32 15#32),
    TRef.unary (TRef.of (T := ⟨S_, .i32⟩) main_call1_call0_call0_c_38) (TRef.of (T := ⟨S8x96x220x220, .i32⟩) main_call1_call0_call0_v150) (broadcastInDim S8x96x220x220 ![] bcast_S_S8x96x220x220),
    TRef.binary (TRef.of (T := ⟨S8x96x220x220, .i32⟩) main_call1_call0_call0_v148) (TRef.of (T := ⟨S8x96x220x220, .i32⟩) main_call1_call0_call0_v150) (TRef.of (T := ⟨S8x96x220x220, .i32⟩) main_call1_call0_call0_v151) Host.shli,
    TRef.nullary (TRef.of (T := ⟨S_, .i32⟩) main_call1_call0_call0_c_39) (constantI S_ 32 17#32),
    TRef.unary (TRef.of (T := ⟨S_, .i32⟩) main_call1_call0_call0_c_39) (TRef.of (T := ⟨S8x96x220x220, .i32⟩) main_call1_call0_call0_v152) (broadcastInDim S8x96x220x220 ![] bcast_S_S8x96x220x220),
    TRef.binary (TRef.of (T := ⟨S8x96x220x220, .i32⟩) main_call1_call0_call0_v148) (TRef.of (T := ⟨S8x96x220x220, .i32⟩) main_call1_call0_call0_v152) (TRef.of (T := ⟨S8x96x220x220, .i32⟩) main_call1_call0_call0_v153) Host.shrui,
    TRef.binary (TRef.of (T := ⟨S8x96x220x220, .i32⟩) main_call1_call0_call0_v151) (TRef.of (T := ⟨S8x96x220x220, .i32⟩) main_call1_call0_call0_v153) (TRef.of (T := ⟨S8x96x220x220, .i32⟩) main_call1_call0_call0_v154) ori,
    TRef.binary (TRef.of (T := ⟨S8x96x220x220, .i32⟩) main_call1_call0_call0_v149) (TRef.of (T := ⟨S8x96x220x220, .i32⟩) main_call1_call0_call0_v154) (TRef.of (T := ⟨S8x96x220x220, .i32⟩) main_call1_call0_call0_v155) xori,
    TRef.binary (TRef.of (T := ⟨S8x96x220x220, .i32⟩) main_call1_call0_call0_v149) (TRef.of (T := ⟨S8x96x220x220, .i32⟩) main_call1_call0_call0_v155) (TRef.of (T := ⟨S8x96x220x220, .i32⟩) main_call1_call0_call0_v156) addi,
    TRef.nullary (TRef.of (T := ⟨S_, .i32⟩) main_call1_call0_call0_c_40) (constantI S_ 32 26#32) ]

/-- @main's operations 481 … 510 of 537 (@main, which the printer did not cut). -/
abbrev ops_16 : List (HloOp τ sig (Elt F)) :=
  [ TRef.unary (TRef.of (T := ⟨S_, .i32⟩) main_call1_call0_call0_c_40) (TRef.of (T := ⟨S8x96x220x220, .i32⟩) main_call1_call0_call0_v157) (broadcastInDim S8x96x220x220 ![] bcast_S_S8x96x220x220),
    TRef.binary (TRef.of (T := ⟨S8x96x220x220, .i32⟩) main_call1_call0_call0_v155) (TRef.of (T := ⟨S8x96x220x220, .i32⟩) main_call1_call0_call0_v157) (TRef.of (T := ⟨S8x96x220x220, .i32⟩) main_call1_call0_call0_v158) Host.shli,
    TRef.nullary (TRef.of (T := ⟨S_, .i32⟩) main_call1_call0_call0_c_41) (constantI S_ 32 6#32),
    TRef.unary (TRef.of (T := ⟨S_, .i32⟩) main_call1_call0_call0_c_41) (TRef.of (T := ⟨S8x96x220x220, .i32⟩) main_call1_call0_call0_v159) (broadcastInDim S8x96x220x220 ![] bcast_S_S8x96x220x220),
    TRef.binary (TRef.of (T := ⟨S8x96x220x220, .i32⟩) main_call1_call0_call0_v155) (TRef.of (T := ⟨S8x96x220x220, .i32⟩) main_call1_call0_call0_v159) (TRef.of (T := ⟨S8x96x220x220, .i32⟩) main_call1_call0_call0_v160) Host.shrui,
    TRef.binary (TRef.of (T := ⟨S8x96x220x220, .i32⟩) main_call1_call0_call0_v158) (TRef.of (T := ⟨S8x96x220x220, .i32⟩) main_call1_call0_call0_v160) (TRef.of (T := ⟨S8x96x220x220, .i32⟩) main_call1_call0_call0_v161) ori,
    TRef.binary (TRef.of (T := ⟨S8x96x220x220, .i32⟩) main_call1_call0_call0_v156) (TRef.of (T := ⟨S8x96x220x220, .i32⟩) main_call1_call0_call0_v161) (TRef.of (T := ⟨S8x96x220x220, .i32⟩) main_call1_call0_call0_v162) xori,
    TRef.binary (TRef.of (T := ⟨S8x96x220x220, .i32⟩) main_call1_call0_call0_v156) (TRef.of (T := ⟨S8x96x220x220, .i32⟩) main_call1_call0_call0_v162) (TRef.of (T := ⟨S8x96x220x220, .i32⟩) main_call1_call0_call0_v163) addi,
    TRef.nullary (TRef.of (T := ⟨S_, .i32⟩) main_call1_call0_call0_c_42) (constantI S_ 32 6#32),
    TRef.unary (TRef.of (T := ⟨S_, .i32⟩) main_call1_call0_call0_c_42) (TRef.of (T := ⟨S8x96x220x220, .i32⟩) main_call1_call0_call0_v164) (broadcastInDim S8x96x220x220 ![] bcast_S_S8x96x220x220),
    TRef.binary (TRef.of (T := ⟨S8x96x220x220, .i32⟩) main_call1_call0_call0_v162) (TRef.of (T := ⟨S8x96x220x220, .i32⟩) main_call1_call0_call0_v164) (TRef.of (T := ⟨S8x96x220x220, .i32⟩) main_call1_call0_call0_v165) Host.shli,
    TRef.nullary (TRef.of (T := ⟨S_, .i32⟩) main_call1_call0_call0_c_43) (constantI S_ 32 26#32),
    TRef.unary (TRef.of (T := ⟨S_, .i32⟩) main_call1_call0_call0_c_43) (TRef.of (T := ⟨S8x96x220x220, .i32⟩) main_call1_call0_call0_v166) (broadcastInDim S8x96x220x220 ![] bcast_S_S8x96x220x220),
    TRef.binary (TRef.of (T := ⟨S8x96x220x220, .i32⟩) main_call1_call0_call0_v162) (TRef.of (T := ⟨S8x96x220x220, .i32⟩) main_call1_call0_call0_v166) (TRef.of (T := ⟨S8x96x220x220, .i32⟩) main_call1_call0_call0_v167) Host.shrui,
    TRef.binary (TRef.of (T := ⟨S8x96x220x220, .i32⟩) main_call1_call0_call0_v165) (TRef.of (T := ⟨S8x96x220x220, .i32⟩) main_call1_call0_call0_v167) (TRef.of (T := ⟨S8x96x220x220, .i32⟩) main_call1_call0_call0_v168) ori,
    TRef.binary (TRef.of (T := ⟨S8x96x220x220, .i32⟩) main_call1_call0_call0_v163) (TRef.of (T := ⟨S8x96x220x220, .i32⟩) main_call1_call0_call0_v168) (TRef.of (T := ⟨S8x96x220x220, .i32⟩) main_call1_call0_call0_v169) xori,
    TRef.unary (TRef.of (T := ⟨S_, .i32⟩) main_call1_call0_call0_v1) (TRef.of (T := ⟨S8x96x220x220, .i32⟩) main_call1_call0_call0_v170) (broadcastInDim S8x96x220x220 ![] bcast_S_S8x96x220x220),
    TRef.binary (TRef.of (T := ⟨S8x96x220x220, .i32⟩) main_call1_call0_call0_v163) (TRef.of (T := ⟨S8x96x220x220, .i32⟩) main_call1_call0_call0_v170) (TRef.of (T := ⟨S8x96x220x220, .i32⟩) main_call1_call0_v27_0) addi,
    TRef.unary (TRef.of (T := ⟨S_, .i32⟩) main_call1_call0_v5) (TRef.of (T := ⟨S8x96x220x220, .i32⟩) main_call1_call0_call0_v172) (broadcastInDim S8x96x220x220 ![] bcast_S_S8x96x220x220),
    TRef.binary (TRef.of (T := ⟨S8x96x220x220, .i32⟩) main_call1_call0_call0_v169) (TRef.of (T := ⟨S8x96x220x220, .i32⟩) main_call1_call0_call0_v172) (TRef.of (T := ⟨S8x96x220x220, .i32⟩) main_call1_call0_call0_v173) addi,
    TRef.nullary (TRef.of (T := ⟨S_, .i32⟩) main_call1_call0_call0_c_44) (constantI S_ 32 5#32),
    TRef.unary (TRef.of (T := ⟨S_, .i32⟩) main_call1_call0_call0_c_44) (TRef.of (T := ⟨S8x96x220x220, .i32⟩) main_call1_call0_call0_v174) (broadcastInDim S8x96x220x220 ![] bcast_S_S8x96x220x220),
    TRef.binary (TRef.of (T := ⟨S8x96x220x220, .i32⟩) main_call1_call0_call0_v173) (TRef.of (T := ⟨S8x96x220x220, .i32⟩) main_call1_call0_call0_v174) (TRef.of (T := ⟨S8x96x220x220, .i32⟩) main_call1_call0_v27_1) addi,
    TRef.binary (TRef.of (T := ⟨S8x96x220x220, .i32⟩) main_call1_call0_v27_0) (TRef.of (T := ⟨S8x96x220x220, .i32⟩) main_call1_call0_v27_1) (TRef.of (T := ⟨S8x96x220x220, .i32⟩) main_call1_call0_v28) xori,
    TRef.nullary (TRef.of (T := ⟨S_, .i32⟩) main_call1_call0_c_4) (constantI S_ 32 9#32),
    TRef.unary (TRef.of (T := ⟨S_, .i32⟩) main_call1_call0_c_4) (TRef.of (T := ⟨S8x96x220x220, .i32⟩) main_call1_call0_v29) (broadcastInDim S8x96x220x220 ![] bcast_S_S8x96x220x220),
    TRef.binary (TRef.of (T := ⟨S8x96x220x220, .i32⟩) main_call1_call0_v28) (TRef.of (T := ⟨S8x96x220x220, .i32⟩) main_call1_call0_v29) (TRef.of (T := ⟨S8x96x220x220, .i32⟩) main_call1_call0_v30) Host.shrui,
    TRef.nullary (TRef.of (T := ⟨S_, .i32⟩) main_call1_call0_c_5) (constantI S_ 32 1065353216#32),
    TRef.unary (TRef.of (T := ⟨S_, .i32⟩) main_call1_call0_c_5) (TRef.of (T := ⟨S8x96x220x220, .i32⟩) main_call1_call0_v31) (broadcastInDim S8x96x220x220 ![] bcast_S_S8x96x220x220),
    TRef.binary (TRef.of (T := ⟨S8x96x220x220, .i32⟩) main_call1_call0_v30) (TRef.of (T := ⟨S8x96x220x220, .i32⟩) main_call1_call0_v31) (TRef.of (T := ⟨S8x96x220x220, .i32⟩) main_call1_call0_v32) ori ]

/-- @main's operations 511 … 537 of 537 (@main, which the printer did not cut). -/
abbrev ops_17 : List (HloOp τ sig (Elt F)) :=
  [ TRef.unary (TRef.of (T := ⟨S8x96x220x220, .i32⟩) main_call1_call0_v32) (TRef.of (T := ⟨S8x96x220x220, .f32⟩) main_call1_call0_v33) (bitcastToFloat (F := F) .f32),
    TRef.nullary (TRef.of (T := ⟨S_, .f32⟩) main_call1_call0_cst) (constant S_ .f32 0x3F800000#32),
    TRef.unary (TRef.of (T := ⟨S_, .f32⟩) main_call1_call0_cst) (TRef.of (T := ⟨S8x96x220x220, .f32⟩) main_call1_call0_v34) (broadcastInDim S8x96x220x220 ![] bcast_S_S8x96x220x220),
    TRef.binary (TRef.of (T := ⟨S8x96x220x220, .f32⟩) main_call1_call0_v33) (TRef.of (T := ⟨S8x96x220x220, .f32⟩) main_call1_call0_v34) (TRef.of (T := ⟨S8x96x220x220, .f32⟩) main_call1_call0_v35) subf,
    TRef.binary (TRef.of (T := ⟨S1x1x1x1, .f32⟩) main_call1_call0_v3) (TRef.of (T := ⟨S1x1x1x1, .f32⟩) main_call1_call0_v2) (TRef.of (T := ⟨S1x1x1x1, .f32⟩) main_call1_call0_v36) subf,
    TRef.unary (TRef.of (T := ⟨S1x1x1x1, .f32⟩) main_call1_call0_v36) (TRef.of (T := ⟨S8x96x220x220, .f32⟩) main_call1_call0_v37) (broadcastInDim S8x96x220x220 ![0, 1, 2, 3] bcast_S1x1x1x1_S8x96x220x220_0_1_2_3),
    TRef.binary (TRef.of (T := ⟨S8x96x220x220, .f32⟩) main_call1_call0_v35) (TRef.of (T := ⟨S8x96x220x220, .f32⟩) main_call1_call0_v37) (TRef.of (T := ⟨S8x96x220x220, .f32⟩) main_call1_call0_v38) mulf,
    TRef.unary (TRef.of (T := ⟨S1x1x1x1, .f32⟩) main_call1_call0_v2) (TRef.of (T := ⟨S8x96x220x220, .f32⟩) main_call1_call0_v39) (broadcastInDim S8x96x220x220 ![0, 1, 2, 3] bcast_S1x1x1x1_S8x96x220x220_0_1_2_3),
    TRef.binary (TRef.of (T := ⟨S8x96x220x220, .f32⟩) main_call1_call0_v38) (TRef.of (T := ⟨S8x96x220x220, .f32⟩) main_call1_call0_v39) (TRef.of (T := ⟨S8x96x220x220, .f32⟩) main_call1_call0_v40) addf,
    TRef.unary (TRef.of (T := ⟨S1x1x1x1, .f32⟩) main_call1_call0_v2) (TRef.of (T := ⟨S8x96x220x220, .f32⟩) main_call1_call0_v41) (broadcastInDim S8x96x220x220 ![0, 1, 2, 3] bcast_S1x1x1x1_S8x96x220x220_0_1_2_3),
    TRef.binary (TRef.of (T := ⟨S8x96x220x220, .f32⟩) main_call1_call0_v41) (TRef.of (T := ⟨S8x96x220x220, .f32⟩) main_call1_call0_v40) (TRef.of (T := ⟨S8x96x220x220, .f32⟩) main_call1_v0) maximumf,
    TRef.unary (TRef.of (T := ⟨S_, .f32⟩) main_arg1) (TRef.of (T := ⟨S8x96x220x220, .f32⟩) main_call1_v1) (broadcastInDim S8x96x220x220 ![] bcast_S_S8x96x220x220),
    TRef.binary (TRef.of (T := ⟨S8x96x220x220, .f32⟩) main_call1_v0) (TRef.of (T := ⟨S8x96x220x220, .f32⟩) main_call1_v1) (TRef.of (T := ⟨S8x96x220x220, .i1⟩) main_v8) (cmpf .olt),
    unary main_v8 main_v9 (uitofp .f32 : (⟨S8x96x220x220, .i1⟩ : BufTy).Contents (Elt F) → (⟨S8x96x220x220, .f32⟩ : BufTy).Contents (Elt F)),
    nullary main_cst (constant S_ .f32 0xFF800000#32),
    unary main_cst main_v10 (broadcastInDim S_ ![] bcast_S_S_ : (⟨S_, .f32⟩ : BufTy).Contents (Elt F) → (⟨S_, .f32⟩ : BufTy).Contents (Elt F)),
    binary main_v9 main_v10 main_v11 ((fun x v => Host.reduceWindow FloatOps.maximumf ![1, 1, 5, 5] ![1, 1, 1, 1] ![0, 0, 4, 4] ![0, 0, 4, 4] x v reduceWindows_S8x96x220x220_S8x96x224x224_w1s1p0_0_w1s1p0_0_w5s1p4_4_w5s1p4_4 h_S_) : (⟨S8x96x220x220, .f32⟩ : BufTy).Contents (Elt F) → (⟨S_, .f32⟩ : BufTy).Contents (Elt F) → (⟨S8x96x224x224, .f32⟩ : BufTy).Contents (Elt F)),
    nullary main_cst_3 (constant S_ .f32 0x3F800000#32),
    unary main_cst_3 main_v12 (broadcastInDim S8x96x224x224 ![] bcast_S_S8x96x224x224 : (⟨S_, .f32⟩ : BufTy).Contents (Elt F) → (⟨S8x96x224x224, .f32⟩ : BufTy).Contents (Elt F)),
    binary main_v12 main_v11 main_v13 (subf : (⟨S8x96x224x224, .f32⟩ : BufTy).Contents (Elt F) → (⟨S8x96x224x224, .f32⟩ : BufTy).Contents (Elt F) → (⟨S8x96x224x224, .f32⟩ : BufTy).Contents (Elt F)),
    nullary main_cst_4 (constant S_ .f32 0x00000000#32),
    binary main_v13 main_cst_4 main_v14 ((fun x v => Host.reduceAdd x v reducesTo_S8x96x224x224_S_d0_1_2_3 h_S_) : (⟨S8x96x224x224, .f32⟩ : BufTy).Contents (Elt F) → (⟨S_, .f32⟩ : BufTy).Contents (Elt F) → (⟨S_, .f32⟩ : BufTy).Contents (Elt F)),
    binary main_v13 main_arg0 main_v15 (mulf : (⟨S8x96x224x224, .f32⟩ : BufTy).Contents (Elt F) → (⟨S8x96x224x224, .f32⟩ : BufTy).Contents (Elt F) → (⟨S8x96x224x224, .f32⟩ : BufTy).Contents (Elt F)),
    nullary main_cst_5 (constant S_ .f32 0x4C130000#32),
    binary main_cst_5 main_v14 main_v16 (Host.divf : (⟨S_, .f32⟩ : BufTy).Contents (Elt F) → (⟨S_, .f32⟩ : BufTy).Contents (Elt F) → (⟨S_, .f32⟩ : BufTy).Contents (Elt F)),
    unary main_v16 main_v17 (broadcastInDim S8x96x224x224 ![] bcast_S_S8x96x224x224 : (⟨S_, .f32⟩ : BufTy).Contents (Elt F) → (⟨S8x96x224x224, .f32⟩ : BufTy).Contents (Elt F)),
    binary main_v15 main_v17 main_v18 (mulf : (⟨S8x96x224x224, .f32⟩ : BufTy).Contents (Elt F) → (⟨S8x96x224x224, .f32⟩ : BufTy).Contents (Elt F) → (⟨S8x96x224x224, .f32⟩ : BufTy).Contents (Elt F)) ]

/-- @main's 537 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15 ++ (ops_16 ++ (ops_17)))))))))))))))))

set_option maxRecDepth 200000 in
set_option maxHeartbeats 40000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_0_sub : (ops_0 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., binary_bufs_sub .., unary_bufs_sub .., nullary_bufs_sub .., binary_bufs_sub .., unary_bufs_sub .., binary_bufs_sub .., unary_bufs_sub .., reshape_bufs_sub .., unary_bufs_sub .., reshape_bufs_sub .., unary_bufs_sub .., unary_bufs_sub .., binary_bufs_sub .., nullary_bufs_sub .., binary_bufs_sub .., unary_bufs_sub .., binary_bufs_sub .., unary_bufs_sub ..⟩
set_option maxRecDepth 8192 in
theorem ops_0_fresh : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_1_sub : (ops_1 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_1_fresh : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_2_sub : (ops_2 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops_2_fresh : (ops_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_3_sub : (ops_3 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩
set_option maxRecDepth 8192 in
theorem ops_3_fresh : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_4_sub : (ops_4 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
theorem ops_4_fresh : (ops_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_5_sub : (ops_5 : List (HloOp τ sig (Elt F))).Forall fun op => op.bufs ⊆ tcRefs τ sig :=
  ⟨binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_5_fresh : (ops_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_6_sub : (ops_6 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops_6_fresh : (ops_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_7_sub : (ops_7 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩
set_option maxRecDepth 8192 in
theorem ops_7_fresh : (ops_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_8_sub : (ops_8 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub ..⟩
set_option maxRecDepth 8192 in
theorem ops_8_fresh : (ops_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_9_sub : (ops_9 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
set_option maxRecDepth 8192 in
theorem ops_9_fresh : (ops_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_10_sub : (ops_10 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub ..⟩
set_option maxRecDepth 8192 in
theorem ops_10_fresh : (ops_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_11_sub : (ops_11 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_11_fresh : (ops_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_12_sub : (ops_12 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops_12_fresh : (ops_12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_13_sub : (ops_13 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩
set_option maxRecDepth 8192 in
theorem ops_13_fresh : (ops_13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_14_sub : (ops_14 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
theorem ops_14_fresh : (ops_14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_15_sub : (ops_15 : List (HloOp τ sig (Elt F))).Forall fun op => op.bufs ⊆ tcRefs τ sig :=
  ⟨binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_15_fresh : (ops_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_16_sub : (ops_16 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩
set_option maxRecDepth 8192 in
theorem ops_16_fresh : (ops_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_17_sub : (ops_17 : List (HloOp τ sig (Elt F))).Forall fun op => op.bufs ⊆ tcRefs τ sig :=
  ⟨unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., binary_bufs_sub .., nullary_bufs_sub .., binary_bufs_sub .., unary_bufs_sub .., binary_bufs_sub ..⟩
set_option maxRecDepth 8192 in
theorem ops_17_fresh : (ops_17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h, List.forall_iff_forall_mem.mp ops_11_sub op h, List.forall_iff_forall_mem.mp ops_12_sub op h, List.forall_iff_forall_mem.mp ops_13_sub op h, List.forall_iff_forall_mem.mp ops_14_sub op h, List.forall_iff_forall_mem.mp ops_15_sub op h, List.forall_iff_forall_mem.mp ops_16_sub op h, List.forall_iff_forall_mem.mp ops_17_sub op h]
theorem ops_fresh : ∀ op ∈ (ops : List (HloOp τ sig (Elt F))), op.fresh = ∅ := fun op h => by
    simp only [ops, List.mem_append] at h
    rcases h with h | h | h | h | h | h | h | h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h, List.forall_iff_forall_mem.mp ops_11_fresh op h, List.forall_iff_forall_mem.mp ops_12_fresh op h, List.forall_iff_forall_mem.mp ops_13_fresh op h, List.forall_iff_forall_mem.mp ops_14_fresh op h, List.forall_iff_forall_mem.mp ops_15_fresh op h, List.forall_iff_forall_mem.mp ops_16_fresh op h, List.forall_iff_forall_mem.mp ops_17_fresh op h]

end Cert.ReferenceIdeal.Value
-- ==== Proof.RefTerms.lean ====
/- The pure terms of the reference's buffers, one name for each buffer that is used more than once. -/
module

public import proofs.«01_k».proof.Proof.RefOps

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 0#32

set_option maxRecDepth 8192 in
/-- `main_v6`'s composed term of the arguments (named: it is used 2 times). -/
def res_main_v6 (V0 : Valuation τ sig (Elt F)) : (Proc.devRef .tc main_v6 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_c_2`'s composed term of the arguments (named: it is used 2 times). -/
def res_main_c_2 (V0 : Valuation τ sig (Elt F)) : (Proc.devRef .tc main_c_2 : DevRef τ sig).ty.Contents (Elt F) :=
  constantI S_ 32 1#32

set_option maxRecDepth 8192 in
/-- `main_call0_v4`'s composed term of the arguments (named: it is used 2 times). -/
def res_main_call0_v4 (V0 : Valuation τ sig (Elt F)) : (Proc.devRef .tc main_call0_v4 : DevRef τ sig).ty.Contents (Elt F) :=
  concatenate S2 0 [⟨S1, (broadcastInDim S1 ![] bcast_S_S1 (Host.shrui (res_main_c_2 V0) (constantI S_ 32 32#32)))⟩, ⟨S1, (broadcastInDim S1 ![] bcast_S_S1 (andi (res_main_c_2 V0) (constantI S_ 32 4294967295#32)))⟩] concatenates_S1_S1_S2_d0

set_option maxRecDepth 8192 in
/-- `main_call0_v6`'s composed term of the arguments (named: it is used 5 times). -/
def res_main_call0_v6 (V0 : Valuation τ sig (Elt F)) : (Proc.devRef .tc main_call0_v6 : DevRef τ sig).ty.Contents (Elt F) :=
  shapeCast _ (extractStridedSlice S1 ![0] (res_main_v6 V0) slices_S2_S1_0) shapeCasts_S1_S_

set_option maxRecDepth 8192 in
/-- `main_call0_v8`'s composed term of the arguments (named: it is used 5 times). -/
def res_main_call0_v8 (V0 : Valuation τ sig (Elt F)) : (Proc.devRef .tc main_call0_v8 : DevRef τ sig).ty.Contents (Elt F) :=
  shapeCast _ (extractStridedSlice S1 ![1] (res_main_v6 V0) slices_S2_S1_1) shapeCasts_S1_S_

set_option maxRecDepth 8192 in
/-- `main_call0_call0_v1`'s composed term of the arguments (named: it is used 4 times). -/
def res_main_call0_call0_v1 (V0 : Valuation τ sig (Elt F)) : (Proc.devRef .tc main_call0_call0_v1 : DevRef τ sig).ty.Contents (Elt F) :=
  xori (xori (res_main_call0_v6 V0) (res_main_call0_v8 V0)) (constantI S_ 32 466688986#32)

set_option maxRecDepth 8192 in
/-- `main_call0_call0_v5`'s composed term of the arguments (named: it is used 3 times). -/
def res_main_call0_call0_v5 (V0 : Valuation τ sig (Elt F)) : (Proc.devRef .tc main_call0_call0_v5 : DevRef τ sig).ty.Contents (Elt F) :=
  addi (extractStridedSlice S1 ![1] (res_main_call0_v4 V0) slices_S2_S1_1) (broadcastInDim S1 ![] bcast_S_S1 (res_main_call0_v8 V0))

set_option maxRecDepth 8192 in
/-- `main_call0_call0_v6`'s composed term of the arguments (named: it is used 2 times). -/
def res_main_call0_call0_v6 (V0 : Valuation τ sig (Elt F)) : (Proc.devRef .tc main_call0_call0_v6 : DevRef τ sig).ty.Contents (Elt F) :=
  addi (addi (extractStridedSlice S1 ![0] (res_main_call0_v4 V0) slices_S2_S1_0) (broadcastInDim S1 ![] bcast_S_S1 (res_main_call0_v6 V0))) (res_main_call0_call0_v5 V0)

set_option maxRecDepth 8192 in
/-- `main_call0_call0_v12`'s composed term of the arguments (named: it is used 3 times). -/
def res_main_call0_call0_v12 (V0 : Valuation τ sig (Elt F)) : (Proc.devRef .tc main_call0_call0_v12 : DevRef τ sig).ty.Contents (Elt F) :=
  xori (res_main_call0_call0_v6 V0) (ori (Host.shli (res_main_call0_call0_v5 V0) (broadcastInDim S1 ![] bcast_S_S1 (constantI S_ 32 13#32))) (Host.shrui (res_main_call0_call0_v5 V0) (broadcastInDim S1 ![] bcast_S_S1 (constantI S_ 32 19#32))))

set_option maxRecDepth 8192 in
/-- `main_call0_call0_v13`'s composed term of the arguments (named: it is used 2 times). -/
def res_main_call0_call0_v13 (V0 : Valuation τ sig (Elt F)) : (Proc.devRef .tc main_call0_call0_v13 : DevRef τ sig).ty.Contents (Elt F) :=
  addi (res_main_call0_call0_v6 V0) (res_main_call0_call0_v12 V0)

set_option maxRecDepth 8192 in
/-- `main_call0_call0_v19`'s composed term of the arguments (named: it is used 3 times). -/
def res_main_call0_call0_v19 (V0 : Valuation τ sig (Elt F)) : (Proc.devRef .tc main_call0_call0_v19 : DevRef τ sig).ty.Contents (Elt F) :=
  xori (res_main_call0_call0_v13 V0) (ori (Host.shli (res_main_call0_call0_v12 V0) (broadcastInDim S1 ![] bcast_S_S1 (constantI S_ 32 15#32))) (Host.shrui (res_main_call0_call0_v12 V0) (broadcastInDim S1 ![] bcast_S_S1 (constantI S_ 32 17#32))))

set_option maxRecDepth 8192 in
/-- `main_call0_call0_v20`'s composed term of the arguments (named: it is used 2 times). -/
def res_main_call0_call0_v20 (V0 : Valuation τ sig (Elt F)) : (Proc.devRef .tc main_call0_call0_v20 : DevRef τ sig).ty.Contents (Elt F) :=
  addi (res_main_call0_call0_v13 V0) (res_main_call0_call0_v19 V0)

set_option maxRecDepth 8192 in
/-- `main_call0_call0_v26`'s composed term of the arguments (named: it is used 3 times). -/
def res_main_call0_call0_v26 (V0 : Valuation τ sig (Elt F)) : (Proc.devRef .tc main_call0_call0_v26 : DevRef τ sig).ty.Contents (Elt F) :=
  xori (res_main_call0_call0_v20 V0) (ori (Host.shli (res_main_call0_call0_v19 V0) (broadcastInDim S1 ![] bcast_S_S1 (constantI S_ 32 26#32))) (Host.shrui (res_main_call0_call0_v19 V0) (broadcastInDim S1 ![] bcast_S_S1 (constantI S_ 32 6#32))))

set_option maxRecDepth 8192 in
/-- `main_call0_call0_v27`'s composed term of the arguments (named: it is used 2 times). -/
def res_main_call0_call0_v27 (V0 : Valuation τ sig (Elt F)) : (Proc.devRef .tc main_call0_call0_v27 : DevRef τ sig).ty.Contents (Elt F) :=
  addi (res_main_call0_call0_v20 V0) (res_main_call0_call0_v26 V0)

set_option maxRecDepth 8192 in
/-- `main_call0_call0_v39`'s composed term of the arguments (named: it is used 3 times). -/
def res_main_call0_call0_v39 (V0 : Valuation τ sig (Elt F)) : (Proc.devRef .tc main_call0_call0_v39 : DevRef τ sig).ty.Contents (Elt F) :=
  addi (addi (xori (res_main_call0_call0_v27 V0) (ori (Host.shli (res_main_call0_call0_v26 V0) (broadcastInDim S1 ![] bcast_S_S1 (constantI S_ 32 6#32))) (Host.shrui (res_main_call0_call0_v26 V0) (broadcastInDim S1 ![] bcast_S_S1 (constantI S_ 32 26#32))))) (broadcastInDim S1 ![] bcast_S_S1 (res_main_call0_call0_v1 V0))) (broadcastInDim S1 ![] bcast_S_S1 (constantI S_ 32 1#32))

set_option maxRecDepth 8192 in
/-- `main_call0_call0_v40`'s composed term of the arguments (named: it is used 2 times). -/
def res_main_call0_call0_v40 (V0 : Valuation τ sig (Elt F)) : (Proc.devRef .tc main_call0_call0_v40 : DevRef τ sig).ty.Contents (Elt F) :=
  addi (addi (res_main_call0_call0_v27 V0) (broadcastInDim S1 ![] bcast_S_S1 (res_main_call0_v8 V0))) (res_main_call0_call0_v39 V0)

set_option maxRecDepth 8192 in
/-- `main_call0_call0_v46`'s composed term of the arguments (named: it is used 3 times). -/
def res_main_call0_call0_v46 (V0 : Valuation τ sig (Elt F)) : (Proc.devRef .tc main_call0_call0_v46 : DevRef τ sig).ty.Contents (Elt F) :=
  xori (res_main_call0_call0_v40 V0) (ori (Host.shli (res_main_call0_call0_v39 V0) (broadcastInDim S1 ![] bcast_S_S1 (constantI S_ 32 17#32))) (Host.shrui (res_main_call0_call0_v39 V0) (broadcastInDim S1 ![] bcast_S_S1 (constantI S_ 32 15#32))))

set_option maxRecDepth 8192 in
/-- `main_call0_call0_v47`'s composed term of the arguments (named: it is used 2 times). -/
def res_main_call0_call0_v47 (V0 : Valuation τ sig (Elt F)) : (Proc.devRef .tc main_call0_call0_v47 : DevRef τ sig).ty.Contents (Elt F) :=
  addi (res_main_call0_call0_v40 V0) (res_main_call0_call0_v46 V0)

set_option maxRecDepth 8192 in
/-- `main_call0_call0_v53`'s composed term of the arguments (named: it is used 3 times). -/
def res_main_call0_call0_v53 (V0 : Valuation τ sig (Elt F)) : (Proc.devRef .tc main_call0_call0_v53 : DevRef τ sig).ty.Contents (Elt F) :=
  xori (res_main_call0_call0_v47 V0) (ori (Host.shli (res_main_call0_call0_v46 V0) (broadcastInDim S1 ![] bcast_S_S1 (constantI S_ 32 29#32))) (Host.shrui (res_main_call0_call0_v46 V0) (broadcastInDim S1 ![] bcast_S_S1 (constantI S_ 32 3#32))))

set_option maxRecDepth 8192 in
/-- `main_call0_call0_v54`'s composed term of the arguments (named: it is used 2 times). -/
def res_main_call0_call0_v54 (V0 : Valuation τ sig (Elt F)) : (Proc.devRef .tc main_call0_call0_v54 : DevRef τ sig).ty.Contents (Elt F) :=
  addi (res_main_call0_call0_v47 V0) (res_main_call0_call0_v53 V0)

set_option maxRecDepth 8192 in
/-- `main_call0_call0_v60`'s composed term of the arguments (named: it is used 3 times). -/
def res_main_call0_call0_v60 (V0 : Valuation τ sig (Elt F)) : (Proc.devRef .tc main_call0_call0_v60 : DevRef τ sig).ty.Contents (Elt F) :=
  xori (res_main_call0_call0_v54 V0) (ori (Host.shli (res_main_call0_call0_v53 V0) (broadcastInDim S1 ![] bcast_S_S1 (constantI S_ 32 16#32))) (Host.shrui (res_main_call0_call0_v53 V0) (broadcastInDim S1 ![] bcast_S_S1 (constantI S_ 32 16#32))))

set_option maxRecDepth 8192 in
/-- `main_call0_call0_v61`'s composed term of the arguments (named: it is used 2 times). -/
def res_main_call0_call0_v61 (V0 : Valuation τ sig (Elt F)) : (Proc.devRef .tc main_call0_call0_v61 : DevRef τ sig).ty.Contents (Elt F) :=
  addi (res_main_call0_call0_v54 V0) (res_main_call0_call0_v60 V0)

set_option maxRecDepth 8192 in
/-- `main_call0_call0_v73`'s composed term of the arguments (named: it is used 3 times). -/
def res_main_call0_call0_v73 (V0 : Valuation τ sig (Elt F)) : (Proc.devRef .tc main_call0_call0_v73 : DevRef τ sig).ty.Contents (Elt F) :=
  addi (addi (xori (res_main_call0_call0_v61 V0) (ori (Host.shli (res_main_call0_call0_v60 V0) (broadcastInDim S1 ![] bcast_S_S1 (constantI S_ 32 24#32))) (Host.shrui (res_main_call0_call0_v60 V0) (broadcastInDim S1 ![] bcast_S_S1 (constantI S_ 32 8#32))))) (broadcastInDim S1 ![] bcast_S_S1 (res_main_call0_v6 V0))) (broadcastInDim S1 ![] bcast_S_S1 (constantI S_ 32 2#32))

set_option maxRecDepth 8192 in
/-- `main_call0_call0_v74`'s composed term of the arguments (named: it is used 2 times). -/
def res_main_call0_call0_v74 (V0 : Valuation τ sig (Elt F)) : (Proc.devRef .tc main_call0_call0_v74 : DevRef τ sig).ty.Contents (Elt F) :=
  addi (addi (res_main_call0_call0_v61 V0) (broadcastInDim S1 ![] bcast_S_S1 (res_main_call0_call0_v1 V0))) (res_main_call0_call0_v73 V0)

set_option maxRecDepth 8192 in
/-- `main_call0_call0_v80`'s composed term of the arguments (named: it is used 3 times). -/
def res_main_call0_call0_v80 (V0 : Valuation τ sig (Elt F)) : (Proc.devRef .tc main_call0_call0_v80 : DevRef τ sig).ty.Contents (Elt F) :=
  xori (res_main_call0_call0_v74 V0) (ori (Host.shli (res_main_call0_call0_v73 V0) (broadcastInDim S1 ![] bcast_S_S1 (constantI S_ 32 13#32))) (Host.shrui (res_main_call0_call0_v73 V0) (broadcastInDim S1 ![] bcast_S_S1 (constantI S_ 32 19#32))))

set_option maxRecDepth 8192 in
/-- `main_call0_call0_v81`'s composed term of the arguments (named: it is used 2 times). -/
def res_main_call0_call0_v81 (V0 : Valuation τ sig (Elt F)) : (Proc.devRef .tc main_call0_call0_v81 : DevRef τ sig).ty.Contents (Elt F) :=
  addi (res_main_call0_call0_v74 V0) (res_main_call0_call0_v80 V0)

set_option maxRecDepth 8192 in
/-- `main_call0_call0_v87`'s composed term of the arguments (named: it is used 3 times). -/
def res_main_call0_call0_v87 (V0 : Valuation τ sig (Elt F)) : (Proc.devRef .tc main_call0_call0_v87 : DevRef τ sig).ty.Contents (Elt F) :=
  xori (res_main_call0_call0_v81 V0) (ori (Host.shli (res_main_call0_call0_v80 V0) (broadcastInDim S1 ![] bcast_S_S1 (constantI S_ 32 15#32))) (Host.shrui (res_main_call0_call0_v80 V0) (broadcastInDim S1 ![] bcast_S_S1 (constantI S_ 32 17#32))))

set_option maxRecDepth 8192 in
/-- `main_call0_call0_v88`'s composed term of the arguments (named: it is used 2 times). -/
def res_main_call0_call0_v88 (V0 : Valuation τ sig (Elt F)) : (Proc.devRef .tc main_call0_call0_v88 : DevRef τ sig).ty.Contents (Elt F) :=
  addi (res_main_call0_call0_v81 V0) (res_main_call0_call0_v87 V0)

set_option maxRecDepth 8192 in
/-- `main_call0_call0_v94`'s composed term of the arguments (named: it is used 3 times). -/
def res_main_call0_call0_v94 (V0 : Valuation τ sig (Elt F)) : (Proc.devRef .tc main_call0_call0_v94 : DevRef τ sig).ty.Contents (Elt F) :=
  xori (res_main_call0_call0_v88 V0) (ori (Host.shli (res_main_call0_call0_v87 V0) (broadcastInDim S1 ![] bcast_S_S1 (constantI S_ 32 26#32))) (Host.shrui (res_main_call0_call0_v87 V0) (broadcastInDim S1 ![] bcast_S_S1 (constantI S_ 32 6#32))))

set_option maxRecDepth 8192 in
/-- `main_call0_call0_v95`'s composed term of the arguments (named: it is used 2 times). -/
def res_main_call0_call0_v95 (V0 : Valuation τ sig (Elt F)) : (Proc.devRef .tc main_call0_call0_v95 : DevRef τ sig).ty.Contents (Elt F) :=
  addi (res_main_call0_call0_v88 V0) (res_main_call0_call0_v94 V0)

set_option maxRecDepth 8192 in
/-- `main_call0_call0_v107`'s composed term of the arguments (named: it is used 3 times). -/
def res_main_call0_call0_v107 (V0 : Valuation τ sig (Elt F)) : (Proc.devRef .tc main_call0_call0_v107 : DevRef τ sig).ty.Contents (Elt F) :=
  addi (addi (xori (res_main_call0_call0_v95 V0) (ori (Host.shli (res_main_call0_call0_v94 V0) (broadcastInDim S1 ![] bcast_S_S1 (constantI S_ 32 6#32))) (Host.shrui (res_main_call0_call0_v94 V0) (broadcastInDim S1 ![] bcast_S_S1 (constantI S_ 32 26#32))))) (broadcastInDim S1 ![] bcast_S_S1 (res_main_call0_v8 V0))) (broadcastInDim S1 ![] bcast_S_S1 (constantI S_ 32 3#32))

set_option maxRecDepth 8192 in
/-- `main_call0_call0_v108`'s composed term of the arguments (named: it is used 2 times). -/
def res_main_call0_call0_v108 (V0 : Valuation τ sig (Elt F)) : (Proc.devRef .tc main_call0_call0_v108 : DevRef τ sig).ty.Contents (Elt F) :=
  addi (addi (res_main_call0_call0_v95 V0) (broadcastInDim S1 ![] bcast_S_S1 (res_main_call0_v6 V0))) (res_main_call0_call0_v107 V0)

set_option maxRecDepth 8192 in
/-- `main_call0_call0_v114`'s composed term of the arguments (named: it is used 3 times). -/
def res_main_call0_call0_v114 (V0 : Valuation τ sig (Elt F)) : (Proc.devRef .tc main_call0_call0_v114 : DevRef τ sig).ty.Contents (Elt F) :=
  xori (res_main_call0_call0_v108 V0) (ori (Host.shli (res_main_call0_call0_v107 V0) (broadcastInDim S1 ![] bcast_S_S1 (constantI S_ 32 17#32))) (Host.shrui (res_main_call0_call0_v107 V0) (broadcastInDim S1 ![] bcast_S_S1 (constantI S_ 32 15#32))))

set_option maxRecDepth 8192 in
/-- `main_call0_call0_v115`'s composed term of the arguments (named: it is used 2 times). -/
def res_main_call0_call0_v115 (V0 : Valuation τ sig (Elt F)) : (Proc.devRef .tc main_call0_call0_v115 : DevRef τ sig).ty.Contents (Elt F) :=
  addi (res_main_call0_call0_v108 V0) (res_main_call0_call0_v114 V0)

set_option maxRecDepth 8192 in
/-- `main_call0_call0_v121`'s composed term of the arguments (named: it is used 3 times). -/
def res_main_call0_call0_v121 (V0 : Valuation τ sig (Elt F)) : (Proc.devRef .tc main_call0_call0_v121 : DevRef τ sig).ty.Contents (Elt F) :=
  xori (res_main_call0_call0_v115 V0) (ori (Host.shli (res_main_call0_call0_v114 V0) (broadcastInDim S1 ![] bcast_S_S1 (constantI S_ 32 29#32))) (Host.shrui (res_main_call0_call0_v114 V0) (broadcastInDim S1 ![] bcast_S_S1 (constantI S_ 32 3#32))))

set_option maxRecDepth 8192 in
/-- `main_call0_call0_v122`'s composed term of the arguments (named: it is used 2 times). -/
def res_main_call0_call0_v122 (V0 : Valuation τ sig (Elt F)) : (Proc.devRef .tc main_call0_call0_v122 : DevRef τ sig).ty.Contents (Elt F) :=
  addi (res_main_call0_call0_v115 V0) (res_main_call0_call0_v121 V0)

set_option maxRecDepth 8192 in
/-- `main_call0_call0_v128`'s composed term of the arguments (named: it is used 3 times). -/
def res_main_call0_call0_v128 (V0 : Valuation τ sig (Elt F)) : (Proc.devRef .tc main_call0_call0_v128 : DevRef τ sig).ty.Contents (Elt F) :=
  xori (res_main_call0_call0_v122 V0) (ori (Host.shli (res_main_call0_call0_v121 V0) (broadcastInDim S1 ![] bcast_S_S1 (constantI S_ 32 16#32))) (Host.shrui (res_main_call0_call0_v121 V0) (broadcastInDim S1 ![] bcast_S_S1 (constantI S_ 32 16#32))))

set_option maxRecDepth 8192 in
/-- `main_call0_call0_v129`'s composed term of the arguments (named: it is used 2 times). -/
def res_main_call0_call0_v129 (V0 : Valuation τ sig (Elt F)) : (Proc.devRef .tc main_call0_call0_v129 : DevRef τ sig).ty.Contents (Elt F) :=
  addi (res_main_call0_call0_v122 V0) (res_main_call0_call0_v128 V0)

set_option maxRecDepth 8192 in
/-- `main_call0_call0_v141`'s composed term of the arguments (named: it is used 3 times). -/
def res_main_call0_call0_v141 (V0 : Valuation τ sig (Elt F)) : (Proc.devRef .tc main_call0_call0_v141 : DevRef τ sig).ty.Contents (Elt F) :=
  addi (addi (xori (res_main_call0_call0_v129 V0) (ori (Host.shli (res_main_call0_call0_v128 V0) (broadcastInDim S1 ![] bcast_S_S1 (constantI S_ 32 24#32))) (Host.shrui (res_main_call0_call0_v128 V0) (broadcastInDim S1 ![] bcast_S_S1 (constantI S_ 32 8#32))))) (broadcastInDim S1 ![] bcast_S_S1 (res_main_call0_call0_v1 V0))) (broadcastInDim S1 ![] bcast_S_S1 (constantI S_ 32 4#32))

set_option maxRecDepth 8192 in
/-- `main_call0_call0_v142`'s composed term of the arguments (named: it is used 2 times). -/
def res_main_call0_call0_v142 (V0 : Valuation τ sig (Elt F)) : (Proc.devRef .tc main_call0_call0_v142 : DevRef τ sig).ty.Contents (Elt F) :=
  addi (addi (res_main_call0_call0_v129 V0) (broadcastInDim S1 ![] bcast_S_S1 (res_main_call0_v8 V0))) (res_main_call0_call0_v141 V0)

set_option maxRecDepth 8192 in
/-- `main_call0_call0_v148`'s composed term of the arguments (named: it is used 3 times). -/
def res_main_call0_call0_v148 (V0 : Valuation τ sig (Elt F)) : (Proc.devRef .tc main_call0_call0_v148 : DevRef τ sig).ty.Contents (Elt F) :=
  xori (res_main_call0_call0_v142 V0) (ori (Host.shli (res_main_call0_call0_v141 V0) (broadcastInDim S1 ![] bcast_S_S1 (constantI S_ 32 13#32))) (Host.shrui (res_main_call0_call0_v141 V0) (broadcastInDim S1 ![] bcast_S_S1 (constantI S_ 32 19#32))))

set_option maxRecDepth 8192 in
/-- `main_call0_call0_v149`'s composed term of the arguments (named: it is used 2 times). -/
def res_main_call0_call0_v149 (V0 : Valuation τ sig (Elt F)) : (Proc.devRef .tc main_call0_call0_v149 : DevRef τ sig).ty.Contents (Elt F) :=
  addi (res_main_call0_call0_v142 V0) (res_main_call0_call0_v148 V0)

set_option maxRecDepth 8192 in
/-- `main_call0_call0_v155`'s composed term of the arguments (named: it is used 3 times). -/
def res_main_call0_call0_v155 (V0 : Valuation τ sig (Elt F)) : (Proc.devRef .tc main_call0_call0_v155 : DevRef τ sig).ty.Contents (Elt F) :=
  xori (res_main_call0_call0_v149 V0) (ori (Host.shli (res_main_call0_call0_v148 V0) (broadcastInDim S1 ![] bcast_S_S1 (constantI S_ 32 15#32))) (Host.shrui (res_main_call0_call0_v148 V0) (broadcastInDim S1 ![] bcast_S_S1 (constantI S_ 32 17#32))))

set_option maxRecDepth 8192 in
/-- `main_call0_call0_v156`'s composed term of the arguments (named: it is used 2 times). -/
def res_main_call0_call0_v156 (V0 : Valuation τ sig (Elt F)) : (Proc.devRef .tc main_call0_call0_v156 : DevRef τ sig).ty.Contents (Elt F) :=
  addi (res_main_call0_call0_v149 V0) (res_main_call0_call0_v155 V0)

set_option maxRecDepth 8192 in
/-- `main_call0_call0_v162`'s composed term of the arguments (named: it is used 3 times). -/
def res_main_call0_call0_v162 (V0 : Valuation τ sig (Elt F)) : (Proc.devRef .tc main_call0_call0_v162 : DevRef τ sig).ty.Contents (Elt F) :=
  xori (res_main_call0_call0_v156 V0) (ori (Host.shli (res_main_call0_call0_v155 V0) (broadcastInDim S1 ![] bcast_S_S1 (constantI S_ 32 26#32))) (Host.shrui (res_main_call0_call0_v155 V0) (broadcastInDim S1 ![] bcast_S_S1 (constantI S_ 32 6#32))))

set_option maxRecDepth 8192 in
/-- `main_call0_call0_v163`'s composed term of the arguments (named: it is used 2 times). -/
def res_main_call0_call0_v163 (V0 : Valuation τ sig (Elt F)) : (Proc.devRef .tc main_call0_call0_v163 : DevRef τ sig).ty.Contents (Elt F) :=
  addi (res_main_call0_call0_v156 V0) (res_main_call0_call0_v162 V0)

set_option maxRecDepth 8192 in
/-- `main_v7`'s composed term of the arguments (named: it is used 2 times). -/
def res_main_v7 (V0 : Valuation τ sig (Elt F)) : (Proc.devRef .tc main_v7 : DevRef τ sig).ty.Contents (Elt F) :=
  concatenate S2 0 [⟨S1, (addi (res_main_call0_call0_v163 V0) (broadcastInDim S1 ![] bcast_S_S1 (res_main_call0_call0_v1 V0)))⟩, ⟨S1, (addi (addi (xori (res_main_call0_call0_v163 V0) (ori (Host.shli (res_main_call0_call0_v162 V0) (broadcastInDim S1 ![] bcast_S_S1 (constantI S_ 32 6#32))) (Host.shrui (res_main_call0_call0_v162 V0) (broadcastInDim S1 ![] bcast_S_S1 (constantI S_ 32 26#32))))) (broadcastInDim S1 ![] bcast_S_S1 (res_main_call0_v6 V0))) (broadcastInDim S1 ![] bcast_S_S1 (constantI S_ 32 5#32)))⟩] concatenates_S1_S1_S2_d0

set_option maxRecDepth 8192 in
/-- `main_call1_call0_v2`'s composed term of the arguments (named: it is used 3 times). -/
def res_main_call1_call0_v2 (V0 : Valuation τ sig (Elt F)) : (Proc.devRef .tc main_call1_call0_v2 : DevRef τ sig).ty.Contents (Elt F) :=
  broadcastInDim S1x1x1x1 ![] bcast_S_S1x1x1x1 (id (constant S_ .f32 0x00000000#32))

set_option maxRecDepth 8192 in
/-- `main_call1_call0_v5`'s composed term of the arguments (named: it is used 5 times). -/
def res_main_call1_call0_v5 (V0 : Valuation τ sig (Elt F)) : (Proc.devRef .tc main_call1_call0_v5 : DevRef τ sig).ty.Contents (Elt F) :=
  shapeCast _ (extractStridedSlice S1 ![0] (res_main_v7 V0) slices_S2_S1_0) shapeCasts_S1_S_

set_option maxRecDepth 8192 in
/-- `main_call1_call0_v7`'s composed term of the arguments (named: it is used 5 times). -/
def res_main_call1_call0_v7 (V0 : Valuation τ sig (Elt F)) : (Proc.devRef .tc main_call1_call0_v7 : DevRef τ sig).ty.Contents (Elt F) :=
  shapeCast _ (extractStridedSlice S1 ![1] (res_main_v7 V0) slices_S2_S1_1) shapeCasts_S1_S_

set_option maxRecDepth 8192 in
/-- `main_call1_call0_v22`'s composed term of the arguments (named: it is used 2 times). -/
def res_main_call1_call0_v22 (V0 : Valuation τ sig (Elt F)) : (Proc.devRef .tc main_call1_call0_v22 : DevRef τ sig).ty.Contents (Elt F) :=
  addi (addi (addi (muli (broadcastInDim S8x96x220x220 ![] bcast_S_S8x96x220x220 (constantI S_ 64 4646400#64)) (iotaInDim S8x96x220x220 64 0)) (muli (broadcastInDim S8x96x220x220 ![] bcast_S_S8x96x220x220 (constantI S_ 64 48400#64)) (iotaInDim S8x96x220x220 64 1))) (muli (broadcastInDim S8x96x220x220 ![] bcast_S_S8x96x220x220 (constantI S_ 64 220#64)) (iotaInDim S8x96x220x220 64 2))) (muli (broadcastInDim S8x96x220x220 ![] bcast_S_S8x96x220x220 (constantI S_ 64 1#64)) (iotaInDim S8x96x220x220 64 3))

set_option maxRecDepth 8192 in
/-- `main_call1_call0_call0_v1`'s composed term of the arguments (named: it is used 4 times). -/
def res_main_call1_call0_call0_v1 (V0 : Valuation τ sig (Elt F)) : (Proc.devRef .tc main_call1_call0_call0_v1 : DevRef τ sig).ty.Contents (Elt F) :=
  xori (xori (res_main_call1_call0_v5 V0) (res_main_call1_call0_v7 V0)) (constantI S_ 32 466688986#32)

set_option maxRecDepth 8192 in
/-- `main_call1_call0_call0_v5`'s composed term of the arguments (named: it is used 3 times). -/
def res_main_call1_call0_call0_v5 (V0 : Valuation τ sig (Elt F)) : (Proc.devRef .tc main_call1_call0_call0_v5 : DevRef τ sig).ty.Contents (Elt F) :=
  addi (trunci 32 (res_main_call1_call0_v22 V0) natLt_32_64) (broadcastInDim S8x96x220x220 ![] bcast_S_S8x96x220x220 (res_main_call1_call0_v7 V0))

set_option maxRecDepth 8192 in
/-- `main_call1_call0_call0_v6`'s composed term of the arguments (named: it is used 2 times). -/
def res_main_call1_call0_call0_v6 (V0 : Valuation τ sig (Elt F)) : (Proc.devRef .tc main_call1_call0_call0_v6 : DevRef τ sig).ty.Contents (Elt F) :=
  addi (addi (trunci 32 (Host.shrui (res_main_call1_call0_v22 V0) (broadcastInDim S8x96x220x220 ![] bcast_S_S8x96x220x220 (constantI S_ 64 32#64))) natLt_32_64) (broadcastInDim S8x96x220x220 ![] bcast_S_S8x96x220x220 (res_main_call1_call0_v5 V0))) (res_main_call1_call0_call0_v5 V0)

set_option maxRecDepth 8192 in
/-- `main_call1_call0_call0_v12`'s composed term of the arguments (named: it is used 3 times). -/
def res_main_call1_call0_call0_v12 (V0 : Valuation τ sig (Elt F)) : (Proc.devRef .tc main_call1_call0_call0_v12 : DevRef τ sig).ty.Contents (Elt F) :=
  xori (res_main_call1_call0_call0_v6 V0) (ori (Host.shli (res_main_call1_call0_call0_v5 V0) (broadcastInDim S8x96x220x220 ![] bcast_S_S8x96x220x220 (constantI S_ 32 13#32))) (Host.shrui (res_main_call1_call0_call0_v5 V0) (broadcastInDim S8x96x220x220 ![] bcast_S_S8x96x220x220 (constantI S_ 32 19#32))))

set_option maxRecDepth 8192 in
/-- `main_call1_call0_call0_v13`'s composed term of the arguments (named: it is used 2 times). -/
def res_main_call1_call0_call0_v13 (V0 : Valuation τ sig (Elt F)) : (Proc.devRef .tc main_call1_call0_call0_v13 : DevRef τ sig).ty.Contents (Elt F) :=
  addi (res_main_call1_call0_call0_v6 V0) (res_main_call1_call0_call0_v12 V0)

set_option maxRecDepth 8192 in
/-- `main_call1_call0_call0_v19`'s composed term of the arguments (named: it is used 3 times). -/
def res_main_call1_call0_call0_v19 (V0 : Valuation τ sig (Elt F)) : (Proc.devRef .tc main_call1_call0_call0_v19 : DevRef τ sig).ty.Contents (Elt F) :=
  xori (res_main_call1_call0_call0_v13 V0) (ori (Host.shli (res_main_call1_call0_call0_v12 V0) (broadcastInDim S8x96x220x220 ![] bcast_S_S8x96x220x220 (constantI S_ 32 15#32))) (Host.shrui (res_main_call1_call0_call0_v12 V0) (broadcastInDim S8x96x220x220 ![] bcast_S_S8x96x220x220 (constantI S_ 32 17#32))))

set_option maxRecDepth 8192 in
/-- `main_call1_call0_call0_v20`'s composed term of the arguments (named: it is used 2 times). -/
def res_main_call1_call0_call0_v20 (V0 : Valuation τ sig (Elt F)) : (Proc.devRef .tc main_call1_call0_call0_v20 : DevRef τ sig).ty.Contents (Elt F) :=
  addi (res_main_call1_call0_call0_v13 V0) (res_main_call1_call0_call0_v19 V0)

set_option maxRecDepth 8192 in
/-- `main_call1_call0_call0_v26`'s composed term of the arguments (named: it is used 3 times). -/
def res_main_call1_call0_call0_v26 (V0 : Valuation τ sig (Elt F)) : (Proc.devRef .tc main_call1_call0_call0_v26 : DevRef τ sig).ty.Contents (Elt F) :=
  xori (res_main_call1_call0_call0_v20 V0) (ori (Host.shli (res_main_call1_call0_call0_v19 V0) (broadcastInDim S8x96x220x220 ![] bcast_S_S8x96x220x220 (constantI S_ 32 26#32))) (Host.shrui (res_main_call1_call0_call0_v19 V0) (broadcastInDim S8x96x220x220 ![] bcast_S_S8x96x220x220 (constantI S_ 32 6#32))))

set_option maxRecDepth 8192 in
/-- `main_call1_call0_call0_v27`'s composed term of the arguments (named: it is used 2 times). -/
def res_main_call1_call0_call0_v27 (V0 : Valuation τ sig (Elt F)) : (Proc.devRef .tc main_call1_call0_call0_v27 : DevRef τ sig).ty.Contents (Elt F) :=
  addi (res_main_call1_call0_call0_v20 V0) (res_main_call1_call0_call0_v26 V0)

set_option maxRecDepth 8192 in
/-- `main_call1_call0_call0_v39`'s composed term of the arguments (named: it is used 3 times). -/
def res_main_call1_call0_call0_v39 (V0 : Valuation τ sig (Elt F)) : (Proc.devRef .tc main_call1_call0_call0_v39 : DevRef τ sig).ty.Contents (Elt F) :=
  addi (addi (xori (res_main_call1_call0_call0_v27 V0) (ori (Host.shli (res_main_call1_call0_call0_v26 V0) (broadcastInDim S8x96x220x220 ![] bcast_S_S8x96x220x220 (constantI S_ 32 6#32))) (Host.shrui (res_main_call1_call0_call0_v26 V0) (broadcastInDim S8x96x220x220 ![] bcast_S_S8x96x220x220 (constantI S_ 32 26#32))))) (broadcastInDim S8x96x220x220 ![] bcast_S_S8x96x220x220 (res_main_call1_call0_call0_v1 V0))) (broadcastInDim S8x96x220x220 ![] bcast_S_S8x96x220x220 (constantI S_ 32 1#32))

set_option maxRecDepth 8192 in
/-- `main_call1_call0_call0_v40`'s composed term of the arguments (named: it is used 2 times). -/
def res_main_call1_call0_call0_v40 (V0 : Valuation τ sig (Elt F)) : (Proc.devRef .tc main_call1_call0_call0_v40 : DevRef τ sig).ty.Contents (Elt F) :=
  addi (addi (res_main_call1_call0_call0_v27 V0) (broadcastInDim S8x96x220x220 ![] bcast_S_S8x96x220x220 (res_main_call1_call0_v7 V0))) (res_main_call1_call0_call0_v39 V0)

set_option maxRecDepth 8192 in
/-- `main_call1_call0_call0_v46`'s composed term of the arguments (named: it is used 3 times). -/
def res_main_call1_call0_call0_v46 (V0 : Valuation τ sig (Elt F)) : (Proc.devRef .tc main_call1_call0_call0_v46 : DevRef τ sig).ty.Contents (Elt F) :=
  xori (res_main_call1_call0_call0_v40 V0) (ori (Host.shli (res_main_call1_call0_call0_v39 V0) (broadcastInDim S8x96x220x220 ![] bcast_S_S8x96x220x220 (constantI S_ 32 17#32))) (Host.shrui (res_main_call1_call0_call0_v39 V0) (broadcastInDim S8x96x220x220 ![] bcast_S_S8x96x220x220 (constantI S_ 32 15#32))))

set_option maxRecDepth 8192 in
/-- `main_call1_call0_call0_v47`'s composed term of the arguments (named: it is used 2 times). -/
def res_main_call1_call0_call0_v47 (V0 : Valuation τ sig (Elt F)) : (Proc.devRef .tc main_call1_call0_call0_v47 : DevRef τ sig).ty.Contents (Elt F) :=
  addi (res_main_call1_call0_call0_v40 V0) (res_main_call1_call0_call0_v46 V0)

set_option maxRecDepth 8192 in
/-- `main_call1_call0_call0_v53`'s composed term of the arguments (named: it is used 3 times). -/
def res_main_call1_call0_call0_v53 (V0 : Valuation τ sig (Elt F)) : (Proc.devRef .tc main_call1_call0_call0_v53 : DevRef τ sig).ty.Contents (Elt F) :=
  xori (res_main_call1_call0_call0_v47 V0) (ori (Host.shli (res_main_call1_call0_call0_v46 V0) (broadcastInDim S8x96x220x220 ![] bcast_S_S8x96x220x220 (constantI S_ 32 29#32))) (Host.shrui (res_main_call1_call0_call0_v46 V0) (broadcastInDim S8x96x220x220 ![] bcast_S_S8x96x220x220 (constantI S_ 32 3#32))))

set_option maxRecDepth 8192 in
/-- `main_call1_call0_call0_v54`'s composed term of the arguments (named: it is used 2 times). -/
def res_main_call1_call0_call0_v54 (V0 : Valuation τ sig (Elt F)) : (Proc.devRef .tc main_call1_call0_call0_v54 : DevRef τ sig).ty.Contents (Elt F) :=
  addi (res_main_call1_call0_call0_v47 V0) (res_main_call1_call0_call0_v53 V0)

set_option maxRecDepth 8192 in
/-- `main_call1_call0_call0_v60`'s composed term of the arguments (named: it is used 3 times). -/
def res_main_call1_call0_call0_v60 (V0 : Valuation τ sig (Elt F)) : (Proc.devRef .tc main_call1_call0_call0_v60 : DevRef τ sig).ty.Contents (Elt F) :=
  xori (res_main_call1_call0_call0_v54 V0) (ori (Host.shli (res_main_call1_call0_call0_v53 V0) (broadcastInDim S8x96x220x220 ![] bcast_S_S8x96x220x220 (constantI S_ 32 16#32))) (Host.shrui (res_main_call1_call0_call0_v53 V0) (broadcastInDim S8x96x220x220 ![] bcast_S_S8x96x220x220 (constantI S_ 32 16#32))))

set_option maxRecDepth 8192 in
/-- `main_call1_call0_call0_v61`'s composed term of the arguments (named: it is used 2 times). -/
def res_main_call1_call0_call0_v61 (V0 : Valuation τ sig (Elt F)) : (Proc.devRef .tc main_call1_call0_call0_v61 : DevRef τ sig).ty.Contents (Elt F) :=
  addi (res_main_call1_call0_call0_v54 V0) (res_main_call1_call0_call0_v60 V0)

set_option maxRecDepth 8192 in
/-- `main_call1_call0_call0_v73`'s composed term of the arguments (named: it is used 3 times). -/
def res_main_call1_call0_call0_v73 (V0 : Valuation τ sig (Elt F)) : (Proc.devRef .tc main_call1_call0_call0_v73 : DevRef τ sig).ty.Contents (Elt F) :=
  addi (addi (xori (res_main_call1_call0_call0_v61 V0) (ori (Host.shli (res_main_call1_call0_call0_v60 V0) (broadcastInDim S8x96x220x220 ![] bcast_S_S8x96x220x220 (constantI S_ 32 24#32))) (Host.shrui (res_main_call1_call0_call0_v60 V0) (broadcastInDim S8x96x220x220 ![] bcast_S_S8x96x220x220 (constantI S_ 32 8#32))))) (broadcastInDim S8x96x220x220 ![] bcast_S_S8x96x220x220 (res_main_call1_call0_v5 V0))) (broadcastInDim S8x96x220x220 ![] bcast_S_S8x96x220x220 (constantI S_ 32 2#32))

set_option maxRecDepth 8192 in
/-- `main_call1_call0_call0_v74`'s composed term of the arguments (named: it is used 2 times). -/
def res_main_call1_call0_call0_v74 (V0 : Valuation τ sig (Elt F)) : (Proc.devRef .tc main_call1_call0_call0_v74 : DevRef τ sig).ty.Contents (Elt F) :=
  addi (addi (res_main_call1_call0_call0_v61 V0) (broadcastInDim S8x96x220x220 ![] bcast_S_S8x96x220x220 (res_main_call1_call0_call0_v1 V0))) (res_main_call1_call0_call0_v73 V0)

set_option maxRecDepth 8192 in
/-- `main_call1_call0_call0_v80`'s composed term of the arguments (named: it is used 3 times). -/
def res_main_call1_call0_call0_v80 (V0 : Valuation τ sig (Elt F)) : (Proc.devRef .tc main_call1_call0_call0_v80 : DevRef τ sig).ty.Contents (Elt F) :=
  xori (res_main_call1_call0_call0_v74 V0) (ori (Host.shli (res_main_call1_call0_call0_v73 V0) (broadcastInDim S8x96x220x220 ![] bcast_S_S8x96x220x220 (constantI S_ 32 13#32))) (Host.shrui (res_main_call1_call0_call0_v73 V0) (broadcastInDim S8x96x220x220 ![] bcast_S_S8x96x220x220 (constantI S_ 32 19#32))))

set_option maxRecDepth 8192 in
/-- `main_call1_call0_call0_v81`'s composed term of the arguments (named: it is used 2 times). -/
def res_main_call1_call0_call0_v81 (V0 : Valuation τ sig (Elt F)) : (Proc.devRef .tc main_call1_call0_call0_v81 : DevRef τ sig).ty.Contents (Elt F) :=
  addi (res_main_call1_call0_call0_v74 V0) (res_main_call1_call0_call0_v80 V0)

set_option maxRecDepth 8192 in
/-- `main_call1_call0_call0_v87`'s composed term of the arguments (named: it is used 3 times). -/
def res_main_call1_call0_call0_v87 (V0 : Valuation τ sig (Elt F)) : (Proc.devRef .tc main_call1_call0_call0_v87 : DevRef τ sig).ty.Contents (Elt F) :=
  xori (res_main_call1_call0_call0_v81 V0) (ori (Host.shli (res_main_call1_call0_call0_v80 V0) (broadcastInDim S8x96x220x220 ![] bcast_S_S8x96x220x220 (constantI S_ 32 15#32))) (Host.shrui (res_main_call1_call0_call0_v80 V0) (broadcastInDim S8x96x220x220 ![] bcast_S_S8x96x220x220 (constantI S_ 32 17#32))))

set_option maxRecDepth 8192 in
/-- `main_call1_call0_call0_v88`'s composed term of the arguments (named: it is used 2 times). -/
def res_main_call1_call0_call0_v88 (V0 : Valuation τ sig (Elt F)) : (Proc.devRef .tc main_call1_call0_call0_v88 : DevRef τ sig).ty.Contents (Elt F) :=
  addi (res_main_call1_call0_call0_v81 V0) (res_main_call1_call0_call0_v87 V0)

set_option maxRecDepth 8192 in
/-- `main_call1_call0_call0_v94`'s composed term of the arguments (named: it is used 3 times). -/
def res_main_call1_call0_call0_v94 (V0 : Valuation τ sig (Elt F)) : (Proc.devRef .tc main_call1_call0_call0_v94 : DevRef τ sig).ty.Contents (Elt F) :=
  xori (res_main_call1_call0_call0_v88 V0) (ori (Host.shli (res_main_call1_call0_call0_v87 V0) (broadcastInDim S8x96x220x220 ![] bcast_S_S8x96x220x220 (constantI S_ 32 26#32))) (Host.shrui (res_main_call1_call0_call0_v87 V0) (broadcastInDim S8x96x220x220 ![] bcast_S_S8x96x220x220 (constantI S_ 32 6#32))))

set_option maxRecDepth 8192 in
/-- `main_call1_call0_call0_v95`'s composed term of the arguments (named: it is used 2 times). -/
def res_main_call1_call0_call0_v95 (V0 : Valuation τ sig (Elt F)) : (Proc.devRef .tc main_call1_call0_call0_v95 : DevRef τ sig).ty.Contents (Elt F) :=
  addi (res_main_call1_call0_call0_v88 V0) (res_main_call1_call0_call0_v94 V0)

set_option maxRecDepth 8192 in
/-- `main_call1_call0_call0_v107`'s composed term of the arguments (named: it is used 3 times). -/
def res_main_call1_call0_call0_v107 (V0 : Valuation τ sig (Elt F)) : (Proc.devRef .tc main_call1_call0_call0_v107 : DevRef τ sig).ty.Contents (Elt F) :=
  addi (addi (xori (res_main_call1_call0_call0_v95 V0) (ori (Host.shli (res_main_call1_call0_call0_v94 V0) (broadcastInDim S8x96x220x220 ![] bcast_S_S8x96x220x220 (constantI S_ 32 6#32))) (Host.shrui (res_main_call1_call0_call0_v94 V0) (broadcastInDim S8x96x220x220 ![] bcast_S_S8x96x220x220 (constantI S_ 32 26#32))))) (broadcastInDim S8x96x220x220 ![] bcast_S_S8x96x220x220 (res_main_call1_call0_v7 V0))) (broadcastInDim S8x96x220x220 ![] bcast_S_S8x96x220x220 (constantI S_ 32 3#32))

set_option maxRecDepth 8192 in
/-- `main_call1_call0_call0_v108`'s composed term of the arguments (named: it is used 2 times). -/
def res_main_call1_call0_call0_v108 (V0 : Valuation τ sig (Elt F)) : (Proc.devRef .tc main_call1_call0_call0_v108 : DevRef τ sig).ty.Contents (Elt F) :=
  addi (addi (res_main_call1_call0_call0_v95 V0) (broadcastInDim S8x96x220x220 ![] bcast_S_S8x96x220x220 (res_main_call1_call0_v5 V0))) (res_main_call1_call0_call0_v107 V0)

set_option maxRecDepth 8192 in
/-- `main_call1_call0_call0_v114`'s composed term of the arguments (named: it is used 3 times). -/
def res_main_call1_call0_call0_v114 (V0 : Valuation τ sig (Elt F)) : (Proc.devRef .tc main_call1_call0_call0_v114 : DevRef τ sig).ty.Contents (Elt F) :=
  xori (res_main_call1_call0_call0_v108 V0) (ori (Host.shli (res_main_call1_call0_call0_v107 V0) (broadcastInDim S8x96x220x220 ![] bcast_S_S8x96x220x220 (constantI S_ 32 17#32))) (Host.shrui (res_main_call1_call0_call0_v107 V0) (broadcastInDim S8x96x220x220 ![] bcast_S_S8x96x220x220 (constantI S_ 32 15#32))))

set_option maxRecDepth 8192 in
/-- `main_call1_call0_call0_v115`'s composed term of the arguments (named: it is used 2 times). -/
def res_main_call1_call0_call0_v115 (V0 : Valuation τ sig (Elt F)) : (Proc.devRef .tc main_call1_call0_call0_v115 : DevRef τ sig).ty.Contents (Elt F) :=
  addi (res_main_call1_call0_call0_v108 V0) (res_main_call1_call0_call0_v114 V0)

set_option maxRecDepth 8192 in
/-- `main_call1_call0_call0_v121`'s composed term of the arguments (named: it is used 3 times). -/
def res_main_call1_call0_call0_v121 (V0 : Valuation τ sig (Elt F)) : (Proc.devRef .tc main_call1_call0_call0_v121 : DevRef τ sig).ty.Contents (Elt F) :=
  xori (res_main_call1_call0_call0_v115 V0) (ori (Host.shli (res_main_call1_call0_call0_v114 V0) (broadcastInDim S8x96x220x220 ![] bcast_S_S8x96x220x220 (constantI S_ 32 29#32))) (Host.shrui (res_main_call1_call0_call0_v114 V0) (broadcastInDim S8x96x220x220 ![] bcast_S_S8x96x220x220 (constantI S_ 32 3#32))))

set_option maxRecDepth 8192 in
/-- `main_call1_call0_call0_v122`'s composed term of the arguments (named: it is used 2 times). -/
def res_main_call1_call0_call0_v122 (V0 : Valuation τ sig (Elt F)) : (Proc.devRef .tc main_call1_call0_call0_v122 : DevRef τ sig).ty.Contents (Elt F) :=
  addi (res_main_call1_call0_call0_v115 V0) (res_main_call1_call0_call0_v121 V0)

set_option maxRecDepth 8192 in
/-- `main_call1_call0_call0_v128`'s composed term of the arguments (named: it is used 3 times). -/
def res_main_call1_call0_call0_v128 (V0 : Valuation τ sig (Elt F)) : (Proc.devRef .tc main_call1_call0_call0_v128 : DevRef τ sig).ty.Contents (Elt F) :=
  xori (res_main_call1_call0_call0_v122 V0) (ori (Host.shli (res_main_call1_call0_call0_v121 V0) (broadcastInDim S8x96x220x220 ![] bcast_S_S8x96x220x220 (constantI S_ 32 16#32))) (Host.shrui (res_main_call1_call0_call0_v121 V0) (broadcastInDim S8x96x220x220 ![] bcast_S_S8x96x220x220 (constantI S_ 32 16#32))))

set_option maxRecDepth 8192 in
/-- `main_call1_call0_call0_v129`'s composed term of the arguments (named: it is used 2 times). -/
def res_main_call1_call0_call0_v129 (V0 : Valuation τ sig (Elt F)) : (Proc.devRef .tc main_call1_call0_call0_v129 : DevRef τ sig).ty.Contents (Elt F) :=
  addi (res_main_call1_call0_call0_v122 V0) (res_main_call1_call0_call0_v128 V0)

set_option maxRecDepth 8192 in
/-- `main_call1_call0_call0_v141`'s composed term of the arguments (named: it is used 3 times). -/
def res_main_call1_call0_call0_v141 (V0 : Valuation τ sig (Elt F)) : (Proc.devRef .tc main_call1_call0_call0_v141 : DevRef τ sig).ty.Contents (Elt F) :=
  addi (addi (xori (res_main_call1_call0_call0_v129 V0) (ori (Host.shli (res_main_call1_call0_call0_v128 V0) (broadcastInDim S8x96x220x220 ![] bcast_S_S8x96x220x220 (constantI S_ 32 24#32))) (Host.shrui (res_main_call1_call0_call0_v128 V0) (broadcastInDim S8x96x220x220 ![] bcast_S_S8x96x220x220 (constantI S_ 32 8#32))))) (broadcastInDim S8x96x220x220 ![] bcast_S_S8x96x220x220 (res_main_call1_call0_call0_v1 V0))) (broadcastInDim S8x96x220x220 ![] bcast_S_S8x96x220x220 (constantI S_ 32 4#32))

set_option maxRecDepth 8192 in
/-- `main_call1_call0_call0_v142`'s composed term of the arguments (named: it is used 2 times). -/
def res_main_call1_call0_call0_v142 (V0 : Valuation τ sig (Elt F)) : (Proc.devRef .tc main_call1_call0_call0_v142 : DevRef τ sig).ty.Contents (Elt F) :=
  addi (addi (res_main_call1_call0_call0_v129 V0) (broadcastInDim S8x96x220x220 ![] bcast_S_S8x96x220x220 (res_main_call1_call0_v7 V0))) (res_main_call1_call0_call0_v141 V0)

set_option maxRecDepth 8192 in
/-- `main_call1_call0_call0_v148`'s composed term of the arguments (named: it is used 3 times). -/
def res_main_call1_call0_call0_v148 (V0 : Valuation τ sig (Elt F)) : (Proc.devRef .tc main_call1_call0_call0_v148 : DevRef τ sig).ty.Contents (Elt F) :=
  xori (res_main_call1_call0_call0_v142 V0) (ori (Host.shli (res_main_call1_call0_call0_v141 V0) (broadcastInDim S8x96x220x220 ![] bcast_S_S8x96x220x220 (constantI S_ 32 13#32))) (Host.shrui (res_main_call1_call0_call0_v141 V0) (broadcastInDim S8x96x220x220 ![] bcast_S_S8x96x220x220 (constantI S_ 32 19#32))))

set_option maxRecDepth 8192 in
/-- `main_call1_call0_call0_v149`'s composed term of the arguments (named: it is used 2 times). -/
def res_main_call1_call0_call0_v149 (V0 : Valuation τ sig (Elt F)) : (Proc.devRef .tc main_call1_call0_call0_v149 : DevRef τ sig).ty.Contents (Elt F) :=
  addi (res_main_call1_call0_call0_v142 V0) (res_main_call1_call0_call0_v148 V0)

set_option maxRecDepth 8192 in
/-- `main_call1_call0_call0_v155`'s composed term of the arguments (named: it is used 3 times). -/
def res_main_call1_call0_call0_v155 (V0 : Valuation τ sig (Elt F)) : (Proc.devRef .tc main_call1_call0_call0_v155 : DevRef τ sig).ty.Contents (Elt F) :=
  xori (res_main_call1_call0_call0_v149 V0) (ori (Host.shli (res_main_call1_call0_call0_v148 V0) (broadcastInDim S8x96x220x220 ![] bcast_S_S8x96x220x220 (constantI S_ 32 15#32))) (Host.shrui (res_main_call1_call0_call0_v148 V0) (broadcastInDim S8x96x220x220 ![] bcast_S_S8x96x220x220 (constantI S_ 32 17#32))))

set_option maxRecDepth 8192 in
/-- `main_call1_call0_call0_v156`'s composed term of the arguments (named: it is used 2 times). -/
def res_main_call1_call0_call0_v156 (V0 : Valuation τ sig (Elt F)) : (Proc.devRef .tc main_call1_call0_call0_v156 : DevRef τ sig).ty.Contents (Elt F) :=
  addi (res_main_call1_call0_call0_v149 V0) (res_main_call1_call0_call0_v155 V0)

set_option maxRecDepth 8192 in
/-- `main_call1_call0_call0_v162`'s composed term of the arguments (named: it is used 3 times). -/
def res_main_call1_call0_call0_v162 (V0 : Valuation τ sig (Elt F)) : (Proc.devRef .tc main_call1_call0_call0_v162 : DevRef τ sig).ty.Contents (Elt F) :=
  xori (res_main_call1_call0_call0_v156 V0) (ori (Host.shli (res_main_call1_call0_call0_v155 V0) (broadcastInDim S8x96x220x220 ![] bcast_S_S8x96x220x220 (constantI S_ 32 26#32))) (Host.shrui (res_main_call1_call0_call0_v155 V0) (broadcastInDim S8x96x220x220 ![] bcast_S_S8x96x220x220 (constantI S_ 32 6#32))))

set_option maxRecDepth 8192 in
/-- `main_call1_call0_call0_v163`'s composed term of the arguments (named: it is used 2 times). -/
def res_main_call1_call0_call0_v163 (V0 : Valuation τ sig (Elt F)) : (Proc.devRef .tc main_call1_call0_call0_v163 : DevRef τ sig).ty.Contents (Elt F) :=
  addi (res_main_call1_call0_call0_v156 V0) (res_main_call1_call0_call0_v162 V0)

set_option maxRecDepth 8192 in
/-- `main_v13`'s composed term of the arguments (named: it is used 2 times). -/
def res_main_v13 (V0 : Valuation τ sig (Elt F)) : (Proc.devRef .tc main_v13 : DevRef τ sig).ty.Contents (Elt F) :=
  subf (broadcastInDim S8x96x224x224 ![] bcast_S_S8x96x224x224 (constant S_ .f32 0x3F800000#32)) (Host.reduceWindow FloatOps.maximumf ![1, 1, 5, 5] ![1, 1, 1, 1] ![0, 0, 4, 4] ![0, 0, 4, 4] (uitofp .f32 (cmpf .olt (maximumf (broadcastInDim S8x96x220x220 ![0, 1, 2, 3] bcast_S1x1x1x1_S8x96x220x220_0_1_2_3 (res_main_call1_call0_v2 V0)) (addf (mulf (subf (bitcastToFloat (F := F) .f32 (ori (Host.shrui (xori (addi (res_main_call1_call0_call0_v163 V0) (broadcastInDim S8x96x220x220 ![] bcast_S_S8x96x220x220 (res_main_call1_call0_call0_v1 V0))) (addi (addi (xori (res_main_call1_call0_call0_v163 V0) (ori (Host.shli (res_main_call1_call0_call0_v162 V0) (broadcastInDim S8x96x220x220 ![] bcast_S_S8x96x220x220 (constantI S_ 32 6#32))) (Host.shrui (res_main_call1_call0_call0_v162 V0) (broadcastInDim S8x96x220x220 ![] bcast_S_S8x96x220x220 (constantI S_ 32 26#32))))) (broadcastInDim S8x96x220x220 ![] bcast_S_S8x96x220x220 (res_main_call1_call0_v5 V0))) (broadcastInDim S8x96x220x220 ![] bcast_S_S8x96x220x220 (constantI S_ 32 5#32)))) (broadcastInDim S8x96x220x220 ![] bcast_S_S8x96x220x220 (constantI S_ 32 9#32))) (broadcastInDim S8x96x220x220 ![] bcast_S_S8x96x220x220 (constantI S_ 32 1065353216#32)))) (broadcastInDim S8x96x220x220 ![] bcast_S_S8x96x220x220 (constant S_ .f32 0x3F800000#32))) (broadcastInDim S8x96x220x220 ![0, 1, 2, 3] bcast_S1x1x1x1_S8x96x220x220_0_1_2_3 (subf (broadcastInDim S1x1x1x1 ![] bcast_S_S1x1x1x1 (id (constant S_ .f32 0x3F800000#32))) (res_main_call1_call0_v2 V0)))) (broadcastInDim S8x96x220x220 ![0, 1, 2, 3] bcast_S1x1x1x1_S8x96x220x220_0_1_2_3 (res_main_call1_call0_v2 V0)))) (broadcastInDim S8x96x220x220 ![] bcast_S_S8x96x220x220 (V0 (Proc.devRef .tc main_arg1))))) (broadcastInDim S_ ![] bcast_S_S_ (constant S_ .f32 0xFF800000#32)) reduceWindows_S8x96x220x220_S8x96x224x224_w1s1p0_0_w1s1p0_0_w5s1p4_4_w5s1p4_4 h_S_)

/-- The device's buffer contents before @main's first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

end Cert.ReferenceIdeal.Value
-- ==== Proof.RefVals.lean ====
/- The buffers after each stretch of the first ten stretches of the reference. -/
module

public import proofs.«01_k».proof.Proof.RefTerms

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 30 operations. -/
def val0_1 (V0 : Valuation τ sig (Elt F)) : Valuation τ sig (Elt F) := after ops_0 (val0 V0)
/-- The buffers that window `ops_0`'s operations write. -/
abbrev ops_0_W : List (Ref sig .tc) := [main_c, main_c_0, main_v0, main_v1, main_v2, main_c_1, main_v3, main_v4, main_v5, main_v6, main_c_2, main_call0_c, main_call0_v0, main_call0_v1, main_call0_c_0, main_call0_v2, main_call0_v3, main_call0_v4, main_call0_v5, main_call0_v6, main_call0_v7, main_call0_v8, main_call0_v9, main_call0_v10, main_call0_call0_v0, main_call0_call0_c, main_call0_call0_v1, main_call0_call0_v2, main_call0_call0_v3, main_call0_call0_v4]
set_option maxRecDepth 8192 in
theorem ops_0_writes : (ops_0 : List (HloOp τ sig (Elt F))).Forall fun op => op.writes ⊆ (ops_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_0` does not write keeps its contents through it. -/
theorem val0_1_keep (V0 : Valuation τ sig (Elt F)) (r : Ref sig .tc) (h : r ∉ ops_0_W) :
    val0_1 V0 (Proc.devRef .tc r) = val0 V0 (Proc.devRef .tc r) :=
  after_of_writes_sub ops_0 _ ops_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_call0_v6 (V0 : Valuation τ sig (Elt F)) : val0_1 V0 (no_index (Proc.devRef .tc main_call0_v6)) = res_main_call0_v6 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v8 (V0 : Valuation τ sig (Elt F)) : val0_1 V0 (no_index (Proc.devRef .tc main_call0_v8)) = res_main_call0_v8 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v10 (V0 : Valuation τ sig (Elt F)) : val0_1 V0 (no_index (Proc.devRef .tc main_call0_v10)) = extractStridedSlice S1 ![1] (res_main_call0_v4 V0) slices_S2_S1_1 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_call0_v1 (V0 : Valuation τ sig (Elt F)) : val0_1 V0 (no_index (Proc.devRef .tc main_call0_call0_v1)) = res_main_call0_call0_v1 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_call0_v3 (V0 : Valuation τ sig (Elt F)) : val0_1 V0 (no_index (Proc.devRef .tc main_call0_call0_v3)) = addi (extractStridedSlice S1 ![0] (res_main_call0_v4 V0) slices_S2_S1_0) (broadcastInDim S1 ![] bcast_S_S1 (res_main_call0_v6 V0)) := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_call0_v4 (V0 : Valuation τ sig (Elt F)) : val0_1 V0 (no_index (Proc.devRef .tc main_call0_call0_v4)) = broadcastInDim S1 ![] bcast_S_S1 (res_main_call0_v8 V0) := by
  unfold val0_1
  simp only [ops_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_1 (val0_1 V0)
/-- The buffers that window `ops_1`'s operations write. -/
abbrev ops_1_W : List (Ref sig .tc) := [main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6]
set_option maxRecDepth 8192 in
theorem ops_1_writes : (ops_1 : List (HloOp τ sig (Elt F))).Forall fun op => op.writes ⊆ (ops_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_1` does not write keeps its contents through it. -/
theorem val0_2_keep (V0 : Valuation τ sig (Elt F)) (r : Ref sig .tc) (h : r ∉ ops_1_W) :
    val0_2 V0 (Proc.devRef .tc r) = val0_1 V0 (Proc.devRef .tc r) :=
  after_of_writes_sub ops_1 _ ops_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_call0_v6 (V0 : Valuation τ sig (Elt F)) : val0_2 V0 (no_index (Proc.devRef .tc main_call0_v6)) = res_main_call0_v6 V0 :=
  (val0_2_keep V0 main_call0_v6 (by decide)).trans (val0_1_main_call0_v6 V0)
theorem val0_2_main_call0_v8 (V0 : Valuation τ sig (Elt F)) : val0_2 V0 (no_index (Proc.devRef .tc main_call0_v8)) = res_main_call0_v8 V0 :=
  (val0_2_keep V0 main_call0_v8 (by decide)).trans (val0_1_main_call0_v8 V0)
theorem val0_2_main_call0_call0_v1 (V0 : Valuation τ sig (Elt F)) : val0_2 V0 (no_index (Proc.devRef .tc main_call0_call0_v1)) = res_main_call0_call0_v1 V0 :=
  (val0_2_keep V0 main_call0_call0_v1 (by decide)).trans (val0_1_main_call0_call0_v1 V0)
set_option maxRecDepth 8192 in
set_option maxHeartbeats 2000000 in
theorem val0_2_main_call0_call0_v26 (V0 : Valuation τ sig (Elt F)) : val0_2 V0 (no_index (Proc.devRef .tc main_call0_call0_v26)) = res_main_call0_call0_v26 V0 := by
  unfold val0_2
  simp only [ops_1, TRef.binary, TRef.nullary, TRef.unary, TRef.toBuf, TRef.ofBuf, cast_eq]
  after_results_simp
  simp only [val0_1_main_call0_call0_v4, val0_1_main_call0_v10, val0_1_main_call0_call0_v3] <;> rfl
set_option maxRecDepth 8192 in
set_option maxHeartbeats 2000000 in
theorem val0_2_main_call0_call0_v27 (V0 : Valuation τ sig (Elt F)) : val0_2 V0 (no_index (Proc.devRef .tc main_call0_call0_v27)) = res_main_call0_call0_v27 V0 := by
  unfold val0_2
  simp only [ops_1, TRef.binary, TRef.nullary, TRef.unary, TRef.toBuf, TRef.ofBuf, cast_eq]
  after_results_simp
  simp only [val0_1_main_call0_call0_v4, val0_1_main_call0_v10, val0_1_main_call0_call0_v3] <;> rfl
set_option maxRecDepth 8192 in
set_option maxHeartbeats 2000000 in
theorem val0_2_main_call0_call0_c_6 (V0 : Valuation τ sig (Elt F)) : val0_2 V0 (no_index (Proc.devRef .tc main_call0_call0_c_6)) = constantI S_ 32 6#32 := by
  unfold val0_2
  simp only [ops_1, TRef.binary, TRef.nullary, TRef.unary, TRef.toBuf, TRef.ofBuf, cast_eq]
  after_results_simp
  all_goals rfl

/-- The device's buffer contents after @main's first 90 operations. -/
def val0_3 (V0 : Valuation τ sig (Elt F)) : Valuation τ sig (Elt F) := after ops_2 (val0_2 V0)
/-- The buffers that window `ops_2`'s operations write. -/
abbrev ops_2_W : List (Ref sig .tc) := [main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51]
set_option maxRecDepth 8192 in
theorem ops_2_writes : (ops_2 : List (HloOp τ sig (Elt F))).Forall fun op => op.writes ⊆ (ops_2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_2` does not write keeps its contents through it. -/
theorem val0_3_keep (V0 : Valuation τ sig (Elt F)) (r : Ref sig .tc) (h : r ∉ ops_2_W) :
    val0_3 V0 (Proc.devRef .tc r) = val0_2 V0 (Proc.devRef .tc r) :=
  after_of_writes_sub ops_2 _ ops_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_call0_v6 (V0 : Valuation τ sig (Elt F)) : val0_3 V0 (no_index (Proc.devRef .tc main_call0_v6)) = res_main_call0_v6 V0 :=
  (val0_3_keep V0 main_call0_v6 (by decide)).trans (val0_2_main_call0_v6 V0)
theorem val0_3_main_call0_v8 (V0 : Valuation τ sig (Elt F)) : val0_3 V0 (no_index (Proc.devRef .tc main_call0_v8)) = res_main_call0_v8 V0 :=
  (val0_3_keep V0 main_call0_v8 (by decide)).trans (val0_2_main_call0_v8 V0)
theorem val0_3_main_call0_call0_v1 (V0 : Valuation τ sig (Elt F)) : val0_3 V0 (no_index (Proc.devRef .tc main_call0_call0_v1)) = res_main_call0_call0_v1 V0 :=
  (val0_3_keep V0 main_call0_call0_v1 (by decide)).trans (val0_2_main_call0_call0_v1 V0)
set_option maxRecDepth 8192 in
set_option maxHeartbeats 2000000 in
theorem val0_3_main_call0_call0_v47 (V0 : Valuation τ sig (Elt F)) : val0_3 V0 (no_index (Proc.devRef .tc main_call0_call0_v47)) = res_main_call0_call0_v47 V0 := by
  unfold val0_3
  simp only [ops_2, TRef.binary, TRef.nullary, TRef.unary, TRef.toBuf, TRef.ofBuf, cast_eq]
  after_results_simp
  simp only [val0_2_main_call0_call0_v1, val0_2_main_call0_call0_v26, val0_2_main_call0_call0_c_6, val0_2_main_call0_call0_v27, val0_2_main_call0_v8] <;> rfl
set_option maxRecDepth 8192 in
set_option maxHeartbeats 2000000 in
theorem val0_3_main_call0_call0_v49 (V0 : Valuation τ sig (Elt F)) : val0_3 V0 (no_index (Proc.devRef .tc main_call0_call0_v49)) = Host.shli (res_main_call0_call0_v46 V0) (broadcastInDim S1 ![] bcast_S_S1 (constantI S_ 32 29#32)) := by
  unfold val0_3
  simp only [ops_2, TRef.binary, TRef.nullary, TRef.unary, TRef.toBuf, TRef.ofBuf, cast_eq]
  after_results_simp
  simp only [val0_2_main_call0_call0_v1, val0_2_main_call0_call0_v26, val0_2_main_call0_call0_c_6, val0_2_main_call0_call0_v27, val0_2_main_call0_v8] <;> rfl
set_option maxRecDepth 8192 in
set_option maxHeartbeats 2000000 in
theorem val0_3_main_call0_call0_v51 (V0 : Valuation τ sig (Elt F)) : val0_3 V0 (no_index (Proc.devRef .tc main_call0_call0_v51)) = Host.shrui (res_main_call0_call0_v46 V0) (broadcastInDim S1 ![] bcast_S_S1 (constantI S_ 32 3#32)) := by
  unfold val0_3
  simp only [ops_2, TRef.binary, TRef.nullary, TRef.unary, TRef.toBuf, TRef.ofBuf, cast_eq]
  after_results_simp
  simp only [val0_2_main_call0_call0_v1, val0_2_main_call0_call0_v26, val0_2_main_call0_call0_c_6, val0_2_main_call0_call0_v27, val0_2_main_call0_v8] <;> rfl

/-- The device's buffer contents after @main's first 120 operations. -/
def val0_4 (V0 : Valuation τ sig (Elt F)) : Valuation τ sig (Elt F) := after ops_3 (val0_3 V0)
/-- The buffers that window `ops_3`'s operations write. -/
abbrev ops_3_W : List (Ref sig .tc) := [main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75]
set_option maxRecDepth 8192 in
theorem ops_3_writes : (ops_3 : List (HloOp τ sig (Elt F))).Forall fun op => op.writes ⊆ (ops_3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_3` does not write keeps its contents through it. -/
theorem val0_4_keep (V0 : Valuation τ sig (Elt F)) (r : Ref sig .tc) (h : r ∉ ops_3_W) :
    val0_4 V0 (Proc.devRef .tc r) = val0_3 V0 (Proc.devRef .tc r) :=
  after_of_writes_sub ops_3 _ ops_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
theorem val0_4_main_call0_v6 (V0 : Valuation τ sig (Elt F)) : val0_4 V0 (no_index (Proc.devRef .tc main_call0_v6)) = res_main_call0_v6 V0 :=
  (val0_4_keep V0 main_call0_v6 (by decide)).trans (val0_3_main_call0_v6 V0)
theorem val0_4_main_call0_v8 (V0 : Valuation τ sig (Elt F)) : val0_4 V0 (no_index (Proc.devRef .tc main_call0_v8)) = res_main_call0_v8 V0 :=
  (val0_4_keep V0 main_call0_v8 (by decide)).trans (val0_3_main_call0_v8 V0)
theorem val0_4_main_call0_call0_v1 (V0 : Valuation τ sig (Elt F)) : val0_4 V0 (no_index (Proc.devRef .tc main_call0_call0_v1)) = res_main_call0_call0_v1 V0 :=
  (val0_4_keep V0 main_call0_call0_v1 (by decide)).trans (val0_3_main_call0_call0_v1 V0)
set_option maxRecDepth 8192 in
set_option maxHeartbeats 2000000 in
theorem val0_4_main_call0_call0_v73 (V0 : Valuation τ sig (Elt F)) : val0_4 V0 (no_index (Proc.devRef .tc main_call0_call0_v73)) = res_main_call0_call0_v73 V0 := by
  unfold val0_4
  simp only [ops_3, TRef.binary, TRef.nullary, TRef.unary, TRef.toBuf, TRef.ofBuf, cast_eq]
  after_results_simp
  simp only [val0_3_main_call0_v6, val0_3_main_call0_call0_v51, val0_3_main_call0_call0_v49, val0_3_main_call0_call0_v47] <;> rfl
set_option maxRecDepth 8192 in
set_option maxHeartbeats 2000000 in
theorem val0_4_main_call0_call0_v74 (V0 : Valuation τ sig (Elt F)) : val0_4 V0 (no_index (Proc.devRef .tc main_call0_call0_v74)) = res_main_call0_call0_v74 V0 := by
  unfold val0_4
  simp only [ops_3, TRef.binary, TRef.nullary, TRef.unary, TRef.toBuf, TRef.ofBuf, cast_eq]
  after_results_simp
  simp only [val0_3_main_call0_v6, val0_3_main_call0_call0_v51, val0_3_main_call0_call0_v49, val0_3_main_call0_call0_v47, val0_3_main_call0_call0_v1] <;> rfl
set_option maxRecDepth 8192 in
set_option maxHeartbeats 2000000 in
theorem val0_4_main_call0_call0_v75 (V0 : Valuation τ sig (Elt F)) : val0_4 V0 (no_index (Proc.devRef .tc main_call0_call0_v75)) = broadcastInDim S1 ![] bcast_S_S1 (constantI S_ 32 13#32) := by
  unfold val0_4
  simp only [ops_3, TRef.binary, TRef.nullary, TRef.unary, TRef.toBuf, TRef.ofBuf, cast_eq]
  after_results_simp
  all_goals rfl

/-- The device's buffer contents after @main's first 150 operations. -/
def val0_5 (V0 : Valuation τ sig (Elt F)) : Valuation τ sig (Elt F) := after ops_4 (val0_4 V0)
/-- The buffers that window `ops_4`'s operations write. -/
abbrev ops_4_W : List (Ref sig .tc) := [main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98]
set_option maxRecDepth 8192 in
theorem ops_4_writes : (ops_4 : List (HloOp τ sig (Elt F))).Forall fun op => op.writes ⊆ (ops_4_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_4` does not write keeps its contents through it. -/
theorem val0_5_keep (V0 : Valuation τ sig (Elt F)) (r : Ref sig .tc) (h : r ∉ ops_4_W) :
    val0_5 V0 (Proc.devRef .tc r) = val0_4 V0 (Proc.devRef .tc r) :=
  after_of_writes_sub ops_4 _ ops_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_arg1 (V0 : Valuation τ sig (Elt F)) : val0_5 V0 (no_index (Proc.devRef .tc main_arg1)) = V0 (Proc.devRef .tc main_arg1) :=
  (val0_5_keep V0 main_arg1 (by decide)).trans (val0_4_main_arg1 V0)
theorem val0_5_main_call0_v6 (V0 : Valuation τ sig (Elt F)) : val0_5 V0 (no_index (Proc.devRef .tc main_call0_v6)) = res_main_call0_v6 V0 :=
  (val0_5_keep V0 main_call0_v6 (by decide)).trans (val0_4_main_call0_v6 V0)
theorem val0_5_main_call0_v8 (V0 : Valuation τ sig (Elt F)) : val0_5 V0 (no_index (Proc.devRef .tc main_call0_v8)) = res_main_call0_v8 V0 :=
  (val0_5_keep V0 main_call0_v8 (by decide)).trans (val0_4_main_call0_v8 V0)
theorem val0_5_main_call0_call0_v1 (V0 : Valuation τ sig (Elt F)) : val0_5 V0 (no_index (Proc.devRef .tc main_call0_call0_v1)) = res_main_call0_call0_v1 V0 :=
  (val0_5_keep V0 main_call0_call0_v1 (by decide)).trans (val0_4_main_call0_call0_v1 V0)
set_option maxRecDepth 8192 in
set_option maxHeartbeats 2000000 in
theorem val0_5_main_call0_call0_v94 (V0 : Valuation τ sig (Elt F)) : val0_5 V0 (no_index (Proc.devRef .tc main_call0_call0_v94)) = res_main_call0_call0_v94 V0 := by
  unfold val0_5
  simp only [ops_4, TRef.binary, TRef.nullary, TRef.unary, TRef.toBuf, TRef.ofBuf, cast_eq]
  after_results_simp
  simp only [val0_4_main_call0_call0_v73, val0_4_main_call0_call0_v75, val0_4_main_call0_call0_v74] <;> rfl
set_option maxRecDepth 8192 in
set_option maxHeartbeats 2000000 in
theorem val0_5_main_call0_call0_v95 (V0 : Valuation τ sig (Elt F)) : val0_5 V0 (no_index (Proc.devRef .tc main_call0_call0_v95)) = res_main_call0_call0_v95 V0 := by
  unfold val0_5
  simp only [ops_4, TRef.binary, TRef.nullary, TRef.unary, TRef.toBuf, TRef.ofBuf, cast_eq]
  after_results_simp
  simp only [val0_4_main_call0_call0_v73, val0_4_main_call0_call0_v75, val0_4_main_call0_call0_v74] <;> rfl
set_option maxRecDepth 8192 in
set_option maxHeartbeats 2000000 in
theorem val0_5_main_call0_call0_v97 (V0 : Valuation τ sig (Elt F)) : val0_5 V0 (no_index (Proc.devRef .tc main_call0_call0_v97)) = Host.shli (res_main_call0_call0_v94 V0) (broadcastInDim S1 ![] bcast_S_S1 (constantI S_ 32 6#32)) := by
  unfold val0_5
  simp only [ops_4, TRef.binary, TRef.nullary, TRef.unary, TRef.toBuf, TRef.ofBuf, cast_eq]
  after_results_simp
  simp only [val0_4_main_call0_call0_v73, val0_4_main_call0_call0_v75, val0_4_main_call0_call0_v74] <;> rfl
set_option maxRecDepth 8192 in
set_option maxHeartbeats 2000000 in
theorem val0_5_main_call0_call0_v98 (V0 : Valuation τ sig (Elt F)) : val0_5 V0 (no_index (Proc.devRef .tc main_call0_call0_v98)) = broadcastInDim S1 ![] bcast_S_S1 (constantI S_ 32 26#32) := by
  unfold val0_5
  simp only [ops_4, TRef.binary, TRef.nullary, TRef.unary, TRef.toBuf, TRef.ofBuf, cast_eq]
  after_results_simp
  all_goals rfl

/-- The device's buffer contents after @main's first 180 operations. -/
def val0_6 (V0 : Valuation τ sig (Elt F)) : Valuation τ sig (Elt F) := after ops_5 (val0_5 V0)
/-- The buffers that window `ops_5`'s operations write. -/
abbrev ops_5_W : List (Ref sig .tc) := [main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31]
set_option maxRecDepth 8192 in
theorem ops_5_writes : (ops_5 : List (HloOp τ sig (Elt F))).Forall fun op => op.writes ⊆ (ops_5_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_5` does not write keeps its contents through it. -/
theorem val0_6_keep (V0 : Valuation τ sig (Elt F)) (r : Ref sig .tc) (h : r ∉ ops_5_W) :
    val0_6 V0 (Proc.devRef .tc r) = val0_5 V0 (Proc.devRef .tc r) :=
  after_of_writes_sub ops_5 _ ops_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_arg1 (V0 : Valuation τ sig (Elt F)) : val0_6 V0 (no_index (Proc.devRef .tc main_arg1)) = V0 (Proc.devRef .tc main_arg1) :=
  (val0_6_keep V0 main_arg1 (by decide)).trans (val0_5_main_arg1 V0)
theorem val0_6_main_call0_v6 (V0 : Valuation τ sig (Elt F)) : val0_6 V0 (no_index (Proc.devRef .tc main_call0_v6)) = res_main_call0_v6 V0 :=
  (val0_6_keep V0 main_call0_v6 (by decide)).trans (val0_5_main_call0_v6 V0)
theorem val0_6_main_call0_v8 (V0 : Valuation τ sig (Elt F)) : val0_6 V0 (no_index (Proc.devRef .tc main_call0_v8)) = res_main_call0_v8 V0 :=
  (val0_6_keep V0 main_call0_v8 (by decide)).trans (val0_5_main_call0_v8 V0)
theorem val0_6_main_call0_call0_v1 (V0 : Valuation τ sig (Elt F)) : val0_6 V0 (no_index (Proc.devRef .tc main_call0_call0_v1)) = res_main_call0_call0_v1 V0 :=
  (val0_6_keep V0 main_call0_call0_v1 (by decide)).trans (val0_5_main_call0_call0_v1 V0)
set_option maxRecDepth 8192 in
set_option maxHeartbeats 2000000 in
theorem val0_6_main_call0_call0_v121 (V0 : Valuation τ sig (Elt F)) : val0_6 V0 (no_index (Proc.devRef .tc main_call0_call0_v121)) = res_main_call0_call0_v121 V0 := by
  unfold val0_6
  simp only [ops_5, TRef.binary, TRef.nullary, TRef.unary, TRef.toBuf, TRef.ofBuf, cast_eq]
  after_results_simp
  simp only [val0_5_main_call0_v8, val0_5_main_call0_call0_v98, val0_5_main_call0_call0_v94, val0_5_main_call0_call0_v97, val0_5_main_call0_call0_v95, val0_5_main_call0_v6] <;> rfl
set_option maxRecDepth 8192 in
set_option maxHeartbeats 2000000 in
theorem val0_6_main_call0_call0_v122 (V0 : Valuation τ sig (Elt F)) : val0_6 V0 (no_index (Proc.devRef .tc main_call0_call0_v122)) = res_main_call0_call0_v122 V0 := by
  unfold val0_6
  simp only [ops_5, TRef.binary, TRef.nullary, TRef.unary, TRef.toBuf, TRef.ofBuf, cast_eq]
  after_results_simp
  simp only [val0_5_main_call0_v8, val0_5_main_call0_call0_v98, val0_5_main_call0_call0_v94, val0_5_main_call0_call0_v97, val0_5_main_call0_call0_v95, val0_5_main_call0_v6] <;> rfl
set_option maxRecDepth 8192 in
set_option maxHeartbeats 2000000 in
theorem val0_6_main_call0_call0_c_31 (V0 : Valuation τ sig (Elt F)) : val0_6 V0 (no_index (Proc.devRef .tc main_call0_call0_c_31)) = constantI S_ 32 16#32 := by
  unfold val0_6
  simp only [ops_5, TRef.binary, TRef.nullary, TRef.unary, TRef.toBuf, TRef.ofBuf, cast_eq]
  after_results_simp
  all_goals rfl

/-- The device's buffer contents after @main's first 210 operations. -/
def val0_7 (V0 : Valuation τ sig (Elt F)) : Valuation τ sig (Elt F) := after ops_6 (val0_6 V0)
/-- The buffers that window `ops_6`'s operations write. -/
abbrev ops_6_W : List (Ref sig .tc) := [main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146]
set_option maxRecDepth 8192 in
theorem ops_6_writes : (ops_6 : List (HloOp τ sig (Elt F))).Forall fun op => op.writes ⊆ (ops_6_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_6` does not write keeps its contents through it. -/
theorem val0_7_keep (V0 : Valuation τ sig (Elt F)) (r : Ref sig .tc) (h : r ∉ ops_6_W) :
    val0_7 V0 (Proc.devRef .tc r) = val0_6 V0 (Proc.devRef .tc r) :=
  after_of_writes_sub ops_6 _ ops_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_arg1 (V0 : Valuation τ sig (Elt F)) : val0_7 V0 (no_index (Proc.devRef .tc main_arg1)) = V0 (Proc.devRef .tc main_arg1) :=
  (val0_7_keep V0 main_arg1 (by decide)).trans (val0_6_main_arg1 V0)
theorem val0_7_main_call0_v6 (V0 : Valuation τ sig (Elt F)) : val0_7 V0 (no_index (Proc.devRef .tc main_call0_v6)) = res_main_call0_v6 V0 :=
  (val0_7_keep V0 main_call0_v6 (by decide)).trans (val0_6_main_call0_v6 V0)
theorem val0_7_main_call0_call0_v1 (V0 : Valuation τ sig (Elt F)) : val0_7 V0 (no_index (Proc.devRef .tc main_call0_call0_v1)) = res_main_call0_call0_v1 V0 :=
  (val0_7_keep V0 main_call0_call0_v1 (by decide)).trans (val0_6_main_call0_call0_v1 V0)
set_option maxRecDepth 8192 in
set_option maxHeartbeats 2000000 in
theorem val0_7_main_call0_call0_v142 (V0 : Valuation τ sig (Elt F)) : val0_7 V0 (no_index (Proc.devRef .tc main_call0_call0_v142)) = res_main_call0_call0_v142 V0 := by
  unfold val0_7
  simp only [ops_6, TRef.binary, TRef.nullary, TRef.unary, TRef.toBuf, TRef.ofBuf, cast_eq]
  after_results_simp
  simp only [val0_6_main_call0_call0_v1, val0_6_main_call0_call0_v121, val0_6_main_call0_call0_c_31, val0_6_main_call0_call0_v122, val0_6_main_call0_v8] <;> rfl
set_option maxRecDepth 8192 in
set_option maxHeartbeats 2000000 in
theorem val0_7_main_call0_call0_v144 (V0 : Valuation τ sig (Elt F)) : val0_7 V0 (no_index (Proc.devRef .tc main_call0_call0_v144)) = Host.shli (res_main_call0_call0_v141 V0) (broadcastInDim S1 ![] bcast_S_S1 (constantI S_ 32 13#32)) := by
  unfold val0_7
  simp only [ops_6, TRef.binary, TRef.nullary, TRef.unary, TRef.toBuf, TRef.ofBuf, cast_eq]
  after_results_simp
  simp only [val0_6_main_call0_call0_v1, val0_6_main_call0_call0_v121, val0_6_main_call0_call0_c_31, val0_6_main_call0_call0_v122] <;> rfl
set_option maxRecDepth 8192 in
set_option maxHeartbeats 2000000 in
theorem val0_7_main_call0_call0_v146 (V0 : Valuation τ sig (Elt F)) : val0_7 V0 (no_index (Proc.devRef .tc main_call0_call0_v146)) = Host.shrui (res_main_call0_call0_v141 V0) (broadcastInDim S1 ![] bcast_S_S1 (constantI S_ 32 19#32)) := by
  unfold val0_7
  simp only [ops_6, TRef.binary, TRef.nullary, TRef.unary, TRef.toBuf, TRef.ofBuf, cast_eq]
  after_results_simp
  simp only [val0_6_main_call0_call0_v1, val0_6_main_call0_call0_v121, val0_6_main_call0_call0_c_31, val0_6_main_call0_call0_v122] <;> rfl

/-- The device's buffer contents after @main's first 240 operations. -/
def val0_8 (V0 : Valuation τ sig (Elt F)) : Valuation τ sig (Elt F) := after ops_7 (val0_7 V0)
/-- The buffers that window `ops_7`'s operations write. -/
abbrev ops_7_W : List (Ref sig .tc) := [main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170]
set_option maxRecDepth 8192 in
theorem ops_7_writes : (ops_7 : List (HloOp τ sig (Elt F))).Forall fun op => op.writes ⊆ (ops_7_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_7` does not write keeps its contents through it. -/
theorem val0_8_keep (V0 : Valuation τ sig (Elt F)) (r : Ref sig .tc) (h : r ∉ ops_7_W) :
    val0_8 V0 (Proc.devRef .tc r) = val0_7 V0 (Proc.devRef .tc r) :=
  after_of_writes_sub ops_7 _ ops_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_arg1 (V0 : Valuation τ sig (Elt F)) : val0_8 V0 (no_index (Proc.devRef .tc main_arg1)) = V0 (Proc.devRef .tc main_arg1) :=
  (val0_8_keep V0 main_arg1 (by decide)).trans (val0_7_main_arg1 V0)
theorem val0_8_main_call0_v6 (V0 : Valuation τ sig (Elt F)) : val0_8 V0 (no_index (Proc.devRef .tc main_call0_v6)) = res_main_call0_v6 V0 :=
  (val0_8_keep V0 main_call0_v6 (by decide)).trans (val0_7_main_call0_v6 V0)
set_option maxRecDepth 8192 in
set_option maxHeartbeats 2000000 in
theorem val0_8_main_call0_call0_v163 (V0 : Valuation τ sig (Elt F)) : val0_8 V0 (no_index (Proc.devRef .tc main_call0_call0_v163)) = res_main_call0_call0_v163 V0 := by
  unfold val0_8
  simp only [ops_7, TRef.binary, TRef.nullary, TRef.unary, TRef.toBuf, TRef.ofBuf, cast_eq]
  after_results_simp
  simp only [val0_7_main_call0_call0_v146, val0_7_main_call0_call0_v144, val0_7_main_call0_call0_v142] <;> rfl
set_option maxRecDepth 8192 in
set_option maxHeartbeats 2000000 in
theorem val0_8_main_call0_call0_v169 (V0 : Valuation τ sig (Elt F)) : val0_8 V0 (no_index (Proc.devRef .tc main_call0_call0_v169)) = xori (res_main_call0_call0_v163 V0) (ori (Host.shli (res_main_call0_call0_v162 V0) (broadcastInDim S1 ![] bcast_S_S1 (constantI S_ 32 6#32))) (Host.shrui (res_main_call0_call0_v162 V0) (broadcastInDim S1 ![] bcast_S_S1 (constantI S_ 32 26#32)))) := by
  unfold val0_8
  simp only [ops_7, TRef.binary, TRef.nullary, TRef.unary, TRef.toBuf, TRef.ofBuf, cast_eq]
  after_results_simp
  simp only [val0_7_main_call0_call0_v146, val0_7_main_call0_call0_v144, val0_7_main_call0_call0_v142] <;> rfl
set_option maxRecDepth 8192 in
set_option maxHeartbeats 2000000 in
theorem val0_8_main_call0_call0_v170 (V0 : Valuation τ sig (Elt F)) : val0_8 V0 (no_index (Proc.devRef .tc main_call0_call0_v170)) = broadcastInDim S1 ![] bcast_S_S1 (res_main_call0_call0_v1 V0) := by
  unfold val0_8
  simp only [ops_7, TRef.binary, TRef.nullary, TRef.unary, TRef.toBuf, TRef.ofBuf, cast_eq]
  after_results_simp
  simp only [val0_7_main_call0_call0_v1] <;> rfl

/-- The device's buffer contents after @main's first 270 operations. -/
def val0_9 (V0 : Valuation τ sig (Elt F)) : Valuation τ sig (Elt F) := after ops_8 (val0_8 V0)
/-- The buffers that window `ops_8`'s operations write. -/
abbrev ops_8_W : List (Ref sig .tc) := [main_call0_v11_0, main_call0_call0_v172, main_call0_call0_v173, main_call0_call0_c_44, main_call0_call0_v174, main_call0_v11_1, main_v7, main_call1_cst, main_call1_cst_0, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_call0_c, main_call1_call0_v12, main_call1_call0_v13, main_call1_call0_c_0, main_call1_call0_v14, main_call1_call0_v15, main_call1_call0_c_1, main_call1_call0_v16, main_call1_call0_v17]
set_option maxRecDepth 8192 in
theorem ops_8_writes : (ops_8 : List (HloOp τ sig (Elt F))).Forall fun op => op.writes ⊆ (ops_8_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_8` does not write keeps its contents through it. -/
theorem val0_9_keep (V0 : Valuation τ sig (Elt F)) (r : Ref sig .tc) (h : r ∉ ops_8_W) :
    val0_9 V0 (Proc.devRef .tc r) = val0_8 V0 (Proc.devRef .tc r) :=
  after_of_writes_sub ops_8 _ ops_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_arg1 (V0 : Valuation τ sig (Elt F)) : val0_9 V0 (no_index (Proc.devRef .tc main_arg1)) = V0 (Proc.devRef .tc main_arg1) :=
  (val0_9_keep V0 main_arg1 (by decide)).trans (val0_8_main_arg1 V0)
set_option maxRecDepth 8192 in
set_option maxHeartbeats 2000000 in
theorem val0_9_main_call1_call0_v2 (V0 : Valuation τ sig (Elt F)) : val0_9 V0 (no_index (Proc.devRef .tc main_call1_call0_v2)) = res_main_call1_call0_v2 V0 := by
  unfold val0_9
  simp only [ops_8, TRef.binary, TRef.nullary, TRef.reshape, TRef.unary, TRef.toBuf, TRef.ofBuf, cast_eq]
  after_results_simp
  all_goals rfl
set_option maxRecDepth 8192 in
set_option maxHeartbeats 2000000 in
theorem val0_9_main_call1_call0_v3 (V0 : Valuation τ sig (Elt F)) : val0_9 V0 (no_index (Proc.devRef .tc main_call1_call0_v3)) = broadcastInDim S1x1x1x1 ![] bcast_S_S1x1x1x1 (id (constant S_ .f32 0x3F800000#32)) := by
  unfold val0_9
  simp only [ops_8, TRef.binary, TRef.nullary, TRef.reshape, TRef.unary, TRef.toBuf, TRef.ofBuf, cast_eq]
  after_results_simp
  all_goals rfl
set_option maxRecDepth 8192 in
set_option maxHeartbeats 2000000 in
theorem val0_9_main_call1_call0_v5 (V0 : Valuation τ sig (Elt F)) : val0_9 V0 (no_index (Proc.devRef .tc main_call1_call0_v5)) = res_main_call1_call0_v5 V0 := by
  unfold val0_9
  simp only [ops_8, TRef.binary, TRef.nullary, TRef.reshape, TRef.unary, TRef.toBuf, TRef.ofBuf, cast_eq]
  after_results_simp
  simp only [val0_8_main_call0_v6, val0_8_main_call0_call0_v169, val0_8_main_call0_call0_v170, val0_8_main_call0_call0_v163] <;> rfl
set_option maxRecDepth 8192 in
set_option maxHeartbeats 2000000 in
theorem val0_9_main_call1_call0_v7 (V0 : Valuation τ sig (Elt F)) : val0_9 V0 (no_index (Proc.devRef .tc main_call1_call0_v7)) = res_main_call1_call0_v7 V0 := by
  unfold val0_9
  simp only [ops_8, TRef.binary, TRef.nullary, TRef.reshape, TRef.unary, TRef.toBuf, TRef.ofBuf, cast_eq]
  after_results_simp
  simp only [val0_8_main_call0_v6, val0_8_main_call0_call0_v169, val0_8_main_call0_call0_v170, val0_8_main_call0_call0_v163] <;> rfl
set_option maxRecDepth 8192 in
set_option maxHeartbeats 2000000 in
theorem val0_9_main_call1_call0_v11 (V0 : Valuation τ sig (Elt F)) : val0_9 V0 (no_index (Proc.devRef .tc main_call1_call0_v11)) = iotaInDim S8x96x220x220 64 3 := by
  unfold val0_9
  simp only [ops_8, TRef.binary, TRef.nullary, TRef.reshape, TRef.unary, TRef.toBuf, TRef.ofBuf, cast_eq]
  after_results_simp
  all_goals rfl
set_option maxRecDepth 8192 in
set_option maxHeartbeats 2000000 in
theorem val0_9_main_call1_call0_v13 (V0 : Valuation τ sig (Elt F)) : val0_9 V0 (no_index (Proc.devRef .tc main_call1_call0_v13)) = muli (broadcastInDim S8x96x220x220 ![] bcast_S_S8x96x220x220 (constantI S_ 64 4646400#64)) (iotaInDim S8x96x220x220 64 0) := by
  unfold val0_9
  simp only [ops_8, TRef.binary, TRef.nullary, TRef.reshape, TRef.unary, TRef.toBuf, TRef.ofBuf, cast_eq]
  after_results_simp
  all_goals rfl
set_option maxRecDepth 8192 in
set_option maxHeartbeats 2000000 in
theorem val0_9_main_call1_call0_v15 (V0 : Valuation τ sig (Elt F)) : val0_9 V0 (no_index (Proc.devRef .tc main_call1_call0_v15)) = muli (broadcastInDim S8x96x220x220 ![] bcast_S_S8x96x220x220 (constantI S_ 64 48400#64)) (iotaInDim S8x96x220x220 64 1) := by
  unfold val0_9
  simp only [ops_8, TRef.binary, TRef.nullary, TRef.reshape, TRef.unary, TRef.toBuf, TRef.ofBuf, cast_eq]
  after_results_simp
  all_goals rfl
set_option maxRecDepth 8192 in
set_option maxHeartbeats 2000000 in
theorem val0_9_main_call1_call0_v17 (V0 : Valuation τ sig (Elt F)) : val0_9 V0 (no_index (Proc.devRef .tc main_call1_call0_v17)) = muli (broadcastInDim S8x96x220x220 ![] bcast_S_S8x96x220x220 (constantI S_ 64 220#64)) (iotaInDim S8x96x220x220 64 2) := by
  unfold val0_9
  simp only [ops_8, TRef.binary, TRef.nullary, TRef.reshape, TRef.unary, TRef.toBuf, TRef.ofBuf, cast_eq]
  after_results_simp
  all_goals rfl

/-- The device's buffer contents after @main's first 300 operations. -/
def val0_10 (V0 : Valuation τ sig (Elt F)) : Valuation τ sig (Elt F) := after ops_9 (val0_9 V0)
/-- The buffers that window `ops_9`'s operations write. -/
abbrev ops_9_W : List (Ref sig .tc) := [main_call1_call0_c_2, main_call1_call0_v18, main_call1_call0_v19, main_call1_call0_v20, main_call1_call0_v21, main_call1_call0_v22, main_call1_call0_c_3, main_call1_call0_v23, main_call1_call0_v24, main_call1_call0_v25, main_call1_call0_v26, main_call1_call0_call0_v0, main_call1_call0_call0_c, main_call1_call0_call0_v1, main_call1_call0_call0_v2, main_call1_call0_call0_v3, main_call1_call0_call0_v4, main_call1_call0_call0_v5, main_call1_call0_call0_v6, main_call1_call0_call0_c_0, main_call1_call0_call0_v7, main_call1_call0_call0_v8, main_call1_call0_call0_c_1, main_call1_call0_call0_v9, main_call1_call0_call0_v10, main_call1_call0_call0_v11, main_call1_call0_call0_v12, main_call1_call0_call0_v13, main_call1_call0_call0_c_2, main_call1_call0_call0_v14]
set_option maxRecDepth 8192 in
theorem ops_9_writes : (ops_9 : List (HloOp τ sig (Elt F))).Forall fun op => op.writes ⊆ (ops_9_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_9` does not write keeps its contents through it. -/
theorem val0_10_keep (V0 : Valuation τ sig (Elt F)) (r : Ref sig .tc) (h : r ∉ ops_9_W) :
    val0_10 V0 (Proc.devRef .tc r) = val0_9 V0 (Proc.devRef .tc r) :=
  after_of_writes_sub ops_9 _ ops_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
theorem val0_10_main_arg1 (V0 : Valuation τ sig (Elt F)) : val0_10 V0 (no_index (Proc.devRef .tc main_arg1)) = V0 (Proc.devRef .tc main_arg1) :=
  (val0_10_keep V0 main_arg1 (by decide)).trans (val0_9_main_arg1 V0)
theorem val0_10_main_call1_call0_v2 (V0 : Valuation τ sig (Elt F)) : val0_10 V0 (no_index (Proc.devRef .tc main_call1_call0_v2)) = res_main_call1_call0_v2 V0 :=
  (val0_10_keep V0 main_call1_call0_v2 (by decide)).trans (val0_9_main_call1_call0_v2 V0)
theorem val0_10_main_call1_call0_v3 (V0 : Valuation τ sig (Elt F)) : val0_10 V0 (no_index (Proc.devRef .tc main_call1_call0_v3)) = broadcastInDim S1x1x1x1 ![] bcast_S_S1x1x1x1 (id (constant S_ .f32 0x3F800000#32)) :=
  (val0_10_keep V0 main_call1_call0_v3 (by decide)).trans (val0_9_main_call1_call0_v3 V0)
theorem val0_10_main_call1_call0_v5 (V0 : Valuation τ sig (Elt F)) : val0_10 V0 (no_index (Proc.devRef .tc main_call1_call0_v5)) = res_main_call1_call0_v5 V0 :=
  (val0_10_keep V0 main_call1_call0_v5 (by decide)).trans (val0_9_main_call1_call0_v5 V0)
theorem val0_10_main_call1_call0_v7 (V0 : Valuation τ sig (Elt F)) : val0_10 V0 (no_index (Proc.devRef .tc main_call1_call0_v7)) = res_main_call1_call0_v7 V0 :=
  (val0_10_keep V0 main_call1_call0_v7 (by decide)).trans (val0_9_main_call1_call0_v7 V0)
set_option maxRecDepth 8192 in
set_option maxHeartbeats 2000000 in
theorem val0_10_main_call1_call0_call0_v1 (V0 : Valuation τ sig (Elt F)) : val0_10 V0 (no_index (Proc.devRef .tc main_call1_call0_call0_v1)) = res_main_call1_call0_call0_v1 V0 := by
  unfold val0_10
  simp only [ops_9, TRef.binary, TRef.nullary, TRef.unary, TRef.toBuf, TRef.ofBuf, cast_eq]
  after_results_simp
  simp only [val0_9_main_call1_call0_v7, val0_9_main_call1_call0_v5] <;> rfl
set_option maxRecDepth 8192 in
set_option maxHeartbeats 2000000 in
theorem val0_10_main_call1_call0_call0_v12 (V0 : Valuation τ sig (Elt F)) : val0_10 V0 (no_index (Proc.devRef .tc main_call1_call0_call0_v12)) = res_main_call1_call0_call0_v12 V0 := by
  unfold val0_10
  simp only [ops_9, TRef.binary, TRef.nullary, TRef.unary, TRef.toBuf, TRef.ofBuf, cast_eq]
  after_results_simp
  simp only [val0_9_main_call1_call0_v7, val0_9_main_call1_call0_v11, val0_9_main_call1_call0_v17, val0_9_main_call1_call0_v15, val0_9_main_call1_call0_v13, val0_9_main_call1_call0_v5] <;> rfl
set_option maxRecDepth 8192 in
set_option maxHeartbeats 2000000 in
theorem val0_10_main_call1_call0_call0_v13 (V0 : Valuation τ sig (Elt F)) : val0_10 V0 (no_index (Proc.devRef .tc main_call1_call0_call0_v13)) = res_main_call1_call0_call0_v13 V0 := by
  unfold val0_10
  simp only [ops_9, TRef.binary, TRef.nullary, TRef.unary, TRef.toBuf, TRef.ofBuf, cast_eq]
  after_results_simp
  simp only [val0_9_main_call1_call0_v7, val0_9_main_call1_call0_v11, val0_9_main_call1_call0_v17, val0_9_main_call1_call0_v15, val0_9_main_call1_call0_v13, val0_9_main_call1_call0_v5] <;> rfl
set_option maxRecDepth 8192 in
set_option maxHeartbeats 2000000 in
theorem val0_10_main_call1_call0_call0_v14 (V0 : Valuation τ sig (Elt F)) : val0_10 V0 (no_index (Proc.devRef .tc main_call1_call0_call0_v14)) = broadcastInDim S8x96x220x220 ![] bcast_S_S8x96x220x220 (constantI S_ 32 15#32) := by
  unfold val0_10
  simp only [ops_9, TRef.binary, TRef.nullary, TRef.unary, TRef.toBuf, TRef.ofBuf, cast_eq]
  after_results_simp
  all_goals rfl

end Cert.ReferenceIdeal.Value
-- ==== Proof.RefRun.lean ====
/- The buffers after the remaining stretches, and the reference's run: every execution ends with the result at its term and the arguments unchanged. -/
module

public import proofs.«01_k».proof.Proof.RefVals

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 330 operations. -/
def val0_11 (V0 : Valuation τ sig (Elt F)) : Valuation τ sig (Elt F) := after ops_10 (val0_10 V0)
/-- The buffers that window `ops_10`'s operations write. -/
abbrev ops_10_W : List (Ref sig .tc) := [main_call1_call0_call0_v15, main_call1_call0_call0_c_3, main_call1_call0_call0_v16, main_call1_call0_call0_v17, main_call1_call0_call0_v18, main_call1_call0_call0_v19, main_call1_call0_call0_v20, main_call1_call0_call0_c_4, main_call1_call0_call0_v21, main_call1_call0_call0_v22, main_call1_call0_call0_c_5, main_call1_call0_call0_v23, main_call1_call0_call0_v24, main_call1_call0_call0_v25, main_call1_call0_call0_v26, main_call1_call0_call0_v27, main_call1_call0_call0_c_6, main_call1_call0_call0_v28, main_call1_call0_call0_v29, main_call1_call0_call0_c_7, main_call1_call0_call0_v30, main_call1_call0_call0_v31, main_call1_call0_call0_v32, main_call1_call0_call0_v33, main_call1_call0_call0_v34, main_call1_call0_call0_v35, main_call1_call0_call0_v36, main_call1_call0_call0_v37, main_call1_call0_call0_c_8, main_call1_call0_call0_v38]
set_option maxRecDepth 8192 in
theorem ops_10_writes : (ops_10 : List (HloOp τ sig (Elt F))).Forall fun op => op.writes ⊆ (ops_10_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_10` does not write keeps its contents through it. -/
theorem val0_11_keep (V0 : Valuation τ sig (Elt F)) (r : Ref sig .tc) (h : r ∉ ops_10_W) :
    val0_11 V0 (Proc.devRef .tc r) = val0_10 V0 (Proc.devRef .tc r) :=
  after_of_writes_sub ops_10 _ ops_10_writes h
theorem val0_11_main_arg0 (V0 : Valuation τ sig (Elt F)) : val0_11 V0 (no_index (Proc.devRef .tc main_arg0)) = V0 (Proc.devRef .tc main_arg0) :=
  (val0_11_keep V0 main_arg0 (by decide)).trans (val0_10_main_arg0 V0)
theorem val0_11_main_arg1 (V0 : Valuation τ sig (Elt F)) : val0_11 V0 (no_index (Proc.devRef .tc main_arg1)) = V0 (Proc.devRef .tc main_arg1) :=
  (val0_11_keep V0 main_arg1 (by decide)).trans (val0_10_main_arg1 V0)
theorem val0_11_main_call1_call0_v2 (V0 : Valuation τ sig (Elt F)) : val0_11 V0 (no_index (Proc.devRef .tc main_call1_call0_v2)) = res_main_call1_call0_v2 V0 :=
  (val0_11_keep V0 main_call1_call0_v2 (by decide)).trans (val0_10_main_call1_call0_v2 V0)
theorem val0_11_main_call1_call0_v3 (V0 : Valuation τ sig (Elt F)) : val0_11 V0 (no_index (Proc.devRef .tc main_call1_call0_v3)) = broadcastInDim S1x1x1x1 ![] bcast_S_S1x1x1x1 (id (constant S_ .f32 0x3F800000#32)) :=
  (val0_11_keep V0 main_call1_call0_v3 (by decide)).trans (val0_10_main_call1_call0_v3 V0)
theorem val0_11_main_call1_call0_v5 (V0 : Valuation τ sig (Elt F)) : val0_11 V0 (no_index (Proc.devRef .tc main_call1_call0_v5)) = res_main_call1_call0_v5 V0 :=
  (val0_11_keep V0 main_call1_call0_v5 (by decide)).trans (val0_10_main_call1_call0_v5 V0)
theorem val0_11_main_call1_call0_v7 (V0 : Valuation τ sig (Elt F)) : val0_11 V0 (no_index (Proc.devRef .tc main_call1_call0_v7)) = res_main_call1_call0_v7 V0 :=
  (val0_11_keep V0 main_call1_call0_v7 (by decide)).trans (val0_10_main_call1_call0_v7 V0)
theorem val0_11_main_call1_call0_call0_v1 (V0 : Valuation τ sig (Elt F)) : val0_11 V0 (no_index (Proc.devRef .tc main_call1_call0_call0_v1)) = res_main_call1_call0_call0_v1 V0 :=
  (val0_11_keep V0 main_call1_call0_call0_v1 (by decide)).trans (val0_10_main_call1_call0_call0_v1 V0)
set_option maxRecDepth 8192 in
set_option maxHeartbeats 2000000 in
theorem val0_11_main_call1_call0_call0_v35 (V0 : Valuation τ sig (Elt F)) : val0_11 V0 (no_index (Proc.devRef .tc main_call1_call0_call0_v35)) = addi (res_main_call1_call0_call0_v27 V0) (broadcastInDim S8x96x220x220 ![] bcast_S_S8x96x220x220 (res_main_call1_call0_v7 V0)) := by
  unfold val0_11
  simp only [ops_10, TRef.binary, TRef.nullary, TRef.unary, TRef.toBuf, TRef.ofBuf, cast_eq]
  after_results_simp
  simp only [val0_10_main_call1_call0_v7, val0_10_main_call1_call0_call0_v12, val0_10_main_call1_call0_call0_v14, val0_10_main_call1_call0_call0_v13] <;> rfl
set_option maxRecDepth 8192 in
set_option maxHeartbeats 2000000 in
theorem val0_11_main_call1_call0_call0_v37 (V0 : Valuation τ sig (Elt F)) : val0_11 V0 (no_index (Proc.devRef .tc main_call1_call0_call0_v37)) = addi (xori (res_main_call1_call0_call0_v27 V0) (ori (Host.shli (res_main_call1_call0_call0_v26 V0) (broadcastInDim S8x96x220x220 ![] bcast_S_S8x96x220x220 (constantI S_ 32 6#32))) (Host.shrui (res_main_call1_call0_call0_v26 V0) (broadcastInDim S8x96x220x220 ![] bcast_S_S8x96x220x220 (constantI S_ 32 26#32))))) (broadcastInDim S8x96x220x220 ![] bcast_S_S8x96x220x220 (res_main_call1_call0_call0_v1 V0)) := by
  unfold val0_11
  simp only [ops_10, TRef.binary, TRef.nullary, TRef.unary, TRef.toBuf, TRef.ofBuf, cast_eq]
  after_results_simp
  simp only [val0_10_main_call1_call0_call0_v1, val0_10_main_call1_call0_call0_v12, val0_10_main_call1_call0_call0_v14, val0_10_main_call1_call0_call0_v13] <;> rfl
set_option maxRecDepth 8192 in
set_option maxHeartbeats 2000000 in
theorem val0_11_main_call1_call0_call0_v38 (V0 : Valuation τ sig (Elt F)) : val0_11 V0 (no_index (Proc.devRef .tc main_call1_call0_call0_v38)) = broadcastInDim S8x96x220x220 ![] bcast_S_S8x96x220x220 (constantI S_ 32 1#32) := by
  unfold val0_11
  simp only [ops_10, TRef.binary, TRef.nullary, TRef.unary, TRef.toBuf, TRef.ofBuf, cast_eq]
  after_results_simp
  all_goals rfl

/-- The device's buffer contents after @main's first 360 operations. -/
def val0_12 (V0 : Valuation τ sig (Elt F)) : Valuation τ sig (Elt F) := after ops_11 (val0_11 V0)
/-- The buffers that window `ops_11`'s operations write. -/
abbrev ops_11_W : List (Ref sig .tc) := [main_call1_call0_call0_v39, main_call1_call0_call0_v40, main_call1_call0_call0_c_9, main_call1_call0_call0_v41, main_call1_call0_call0_v42, main_call1_call0_call0_c_10, main_call1_call0_call0_v43, main_call1_call0_call0_v44, main_call1_call0_call0_v45, main_call1_call0_call0_v46, main_call1_call0_call0_v47, main_call1_call0_call0_c_11, main_call1_call0_call0_v48, main_call1_call0_call0_v49, main_call1_call0_call0_c_12, main_call1_call0_call0_v50, main_call1_call0_call0_v51, main_call1_call0_call0_v52, main_call1_call0_call0_v53, main_call1_call0_call0_v54, main_call1_call0_call0_c_13, main_call1_call0_call0_v55, main_call1_call0_call0_v56, main_call1_call0_call0_c_14, main_call1_call0_call0_v57, main_call1_call0_call0_v58, main_call1_call0_call0_v59, main_call1_call0_call0_v60, main_call1_call0_call0_v61, main_call1_call0_call0_c_15]
set_option maxRecDepth 8192 in
theorem ops_11_writes : (ops_11 : List (HloOp τ sig (Elt F))).Forall fun op => op.writes ⊆ (ops_11_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_11` does not write keeps its contents through it. -/
theorem val0_12_keep (V0 : Valuation τ sig (Elt F)) (r : Ref sig .tc) (h : r ∉ ops_11_W) :
    val0_12 V0 (Proc.devRef .tc r) = val0_11 V0 (Proc.devRef .tc r) :=
  after_of_writes_sub ops_11 _ ops_11_writes h
theorem val0_12_main_arg0 (V0 : Valuation τ sig (Elt F)) : val0_12 V0 (no_index (Proc.devRef .tc main_arg0)) = V0 (Proc.devRef .tc main_arg0) :=
  (val0_12_keep V0 main_arg0 (by decide)).trans (val0_11_main_arg0 V0)
theorem val0_12_main_arg1 (V0 : Valuation τ sig (Elt F)) : val0_12 V0 (no_index (Proc.devRef .tc main_arg1)) = V0 (Proc.devRef .tc main_arg1) :=
  (val0_12_keep V0 main_arg1 (by decide)).trans (val0_11_main_arg1 V0)
theorem val0_12_main_call1_call0_v2 (V0 : Valuation τ sig (Elt F)) : val0_12 V0 (no_index (Proc.devRef .tc main_call1_call0_v2)) = res_main_call1_call0_v2 V0 :=
  (val0_12_keep V0 main_call1_call0_v2 (by decide)).trans (val0_11_main_call1_call0_v2 V0)
theorem val0_12_main_call1_call0_v3 (V0 : Valuation τ sig (Elt F)) : val0_12 V0 (no_index (Proc.devRef .tc main_call1_call0_v3)) = broadcastInDim S1x1x1x1 ![] bcast_S_S1x1x1x1 (id (constant S_ .f32 0x3F800000#32)) :=
  (val0_12_keep V0 main_call1_call0_v3 (by decide)).trans (val0_11_main_call1_call0_v3 V0)
theorem val0_12_main_call1_call0_v5 (V0 : Valuation τ sig (Elt F)) : val0_12 V0 (no_index (Proc.devRef .tc main_call1_call0_v5)) = res_main_call1_call0_v5 V0 :=
  (val0_12_keep V0 main_call1_call0_v5 (by decide)).trans (val0_11_main_call1_call0_v5 V0)
theorem val0_12_main_call1_call0_v7 (V0 : Valuation τ sig (Elt F)) : val0_12 V0 (no_index (Proc.devRef .tc main_call1_call0_v7)) = res_main_call1_call0_v7 V0 :=
  (val0_12_keep V0 main_call1_call0_v7 (by decide)).trans (val0_11_main_call1_call0_v7 V0)
theorem val0_12_main_call1_call0_call0_v1 (V0 : Valuation τ sig (Elt F)) : val0_12 V0 (no_index (Proc.devRef .tc main_call1_call0_call0_v1)) = res_main_call1_call0_call0_v1 V0 :=
  (val0_12_keep V0 main_call1_call0_call0_v1 (by decide)).trans (val0_11_main_call1_call0_call0_v1 V0)
set_option maxRecDepth 8192 in
set_option maxHeartbeats 2000000 in
theorem val0_12_main_call1_call0_call0_v60 (V0 : Valuation τ sig (Elt F)) : val0_12 V0 (no_index (Proc.devRef .tc main_call1_call0_call0_v60)) = res_main_call1_call0_call0_v60 V0 := by
  unfold val0_12
  simp only [ops_11, TRef.binary, TRef.nullary, TRef.unary, TRef.toBuf, TRef.ofBuf, cast_eq]
  after_results_simp
  simp only [val0_11_main_call1_call0_call0_v38, val0_11_main_call1_call0_call0_v37, val0_11_main_call1_call0_call0_v35] <;> rfl
set_option maxRecDepth 8192 in
set_option maxHeartbeats 2000000 in
theorem val0_12_main_call1_call0_call0_v61 (V0 : Valuation τ sig (Elt F)) : val0_12 V0 (no_index (Proc.devRef .tc main_call1_call0_call0_v61)) = res_main_call1_call0_call0_v61 V0 := by
  unfold val0_12
  simp only [ops_11, TRef.binary, TRef.nullary, TRef.unary, TRef.toBuf, TRef.ofBuf, cast_eq]
  after_results_simp
  simp only [val0_11_main_call1_call0_call0_v38, val0_11_main_call1_call0_call0_v37, val0_11_main_call1_call0_call0_v35] <;> rfl
set_option maxRecDepth 8192 in
set_option maxHeartbeats 2000000 in
theorem val0_12_main_call1_call0_call0_c_15 (V0 : Valuation τ sig (Elt F)) : val0_12 V0 (no_index (Proc.devRef .tc main_call1_call0_call0_c_15)) = constantI S_ 32 24#32 := by
  unfold val0_12
  simp only [ops_11, TRef.binary, TRef.nullary, TRef.unary, TRef.toBuf, TRef.ofBuf, cast_eq]
  after_results_simp
  all_goals rfl

/-- The device's buffer contents after @main's first 390 operations. -/
def val0_13 (V0 : Valuation τ sig (Elt F)) : Valuation τ sig (Elt F) := after ops_12 (val0_12 V0)
/-- The buffers that window `ops_12`'s operations write. -/
abbrev ops_12_W : List (Ref sig .tc) := [main_call1_call0_call0_v62, main_call1_call0_call0_v63, main_call1_call0_call0_c_16, main_call1_call0_call0_v64, main_call1_call0_call0_v65, main_call1_call0_call0_v66, main_call1_call0_call0_v67, main_call1_call0_call0_v68, main_call1_call0_call0_v69, main_call1_call0_call0_v70, main_call1_call0_call0_v71, main_call1_call0_call0_c_17, main_call1_call0_call0_v72, main_call1_call0_call0_v73, main_call1_call0_call0_v74, main_call1_call0_call0_c_18, main_call1_call0_call0_v75, main_call1_call0_call0_v76, main_call1_call0_call0_c_19, main_call1_call0_call0_v77, main_call1_call0_call0_v78, main_call1_call0_call0_v79, main_call1_call0_call0_v80, main_call1_call0_call0_v81, main_call1_call0_call0_c_20, main_call1_call0_call0_v82, main_call1_call0_call0_v83, main_call1_call0_call0_c_21, main_call1_call0_call0_v84, main_call1_call0_call0_v85]
set_option maxRecDepth 8192 in
theorem ops_12_writes : (ops_12 : List (HloOp τ sig (Elt F))).Forall fun op => op.writes ⊆ (ops_12_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_12` does not write keeps its contents through it. -/
theorem val0_13_keep (V0 : Valuation τ sig (Elt F)) (r : Ref sig .tc) (h : r ∉ ops_12_W) :
    val0_13 V0 (Proc.devRef .tc r) = val0_12 V0 (Proc.devRef .tc r) :=
  after_of_writes_sub ops_12 _ ops_12_writes h
theorem val0_13_main_arg0 (V0 : Valuation τ sig (Elt F)) : val0_13 V0 (no_index (Proc.devRef .tc main_arg0)) = V0 (Proc.devRef .tc main_arg0) :=
  (val0_13_keep V0 main_arg0 (by decide)).trans (val0_12_main_arg0 V0)
theorem val0_13_main_arg1 (V0 : Valuation τ sig (Elt F)) : val0_13 V0 (no_index (Proc.devRef .tc main_arg1)) = V0 (Proc.devRef .tc main_arg1) :=
  (val0_13_keep V0 main_arg1 (by decide)).trans (val0_12_main_arg1 V0)
theorem val0_13_main_call1_call0_v2 (V0 : Valuation τ sig (Elt F)) : val0_13 V0 (no_index (Proc.devRef .tc main_call1_call0_v2)) = res_main_call1_call0_v2 V0 :=
  (val0_13_keep V0 main_call1_call0_v2 (by decide)).trans (val0_12_main_call1_call0_v2 V0)
theorem val0_13_main_call1_call0_v3 (V0 : Valuation τ sig (Elt F)) : val0_13 V0 (no_index (Proc.devRef .tc main_call1_call0_v3)) = broadcastInDim S1x1x1x1 ![] bcast_S_S1x1x1x1 (id (constant S_ .f32 0x3F800000#32)) :=
  (val0_13_keep V0 main_call1_call0_v3 (by decide)).trans (val0_12_main_call1_call0_v3 V0)
theorem val0_13_main_call1_call0_v5 (V0 : Valuation τ sig (Elt F)) : val0_13 V0 (no_index (Proc.devRef .tc main_call1_call0_v5)) = res_main_call1_call0_v5 V0 :=
  (val0_13_keep V0 main_call1_call0_v5 (by decide)).trans (val0_12_main_call1_call0_v5 V0)
theorem val0_13_main_call1_call0_v7 (V0 : Valuation τ sig (Elt F)) : val0_13 V0 (no_index (Proc.devRef .tc main_call1_call0_v7)) = res_main_call1_call0_v7 V0 :=
  (val0_13_keep V0 main_call1_call0_v7 (by decide)).trans (val0_12_main_call1_call0_v7 V0)
theorem val0_13_main_call1_call0_call0_v1 (V0 : Valuation τ sig (Elt F)) : val0_13 V0 (no_index (Proc.devRef .tc main_call1_call0_call0_v1)) = res_main_call1_call0_call0_v1 V0 :=
  (val0_13_keep V0 main_call1_call0_call0_v1 (by decide)).trans (val0_12_main_call1_call0_call0_v1 V0)
set_option maxRecDepth 8192 in
set_option maxHeartbeats 2000000 in
theorem val0_13_main_call1_call0_call0_v81 (V0 : Valuation τ sig (Elt F)) : val0_13 V0 (no_index (Proc.devRef .tc main_call1_call0_call0_v81)) = res_main_call1_call0_call0_v81 V0 := by
  unfold val0_13
  simp only [ops_12, TRef.binary, TRef.nullary, TRef.unary, TRef.toBuf, TRef.ofBuf, cast_eq]
  after_results_simp
  simp only [val0_12_main_call1_call0_v5, val0_12_main_call1_call0_call0_v60, val0_12_main_call1_call0_call0_c_15, val0_12_main_call1_call0_call0_v61, val0_12_main_call1_call0_call0_v1] <;> rfl
set_option maxRecDepth 8192 in
set_option maxHeartbeats 2000000 in
theorem val0_13_main_call1_call0_call0_v83 (V0 : Valuation τ sig (Elt F)) : val0_13 V0 (no_index (Proc.devRef .tc main_call1_call0_call0_v83)) = Host.shli (res_main_call1_call0_call0_v80 V0) (broadcastInDim S8x96x220x220 ![] bcast_S_S8x96x220x220 (constantI S_ 32 15#32)) := by
  unfold val0_13
  simp only [ops_12, TRef.binary, TRef.nullary, TRef.unary, TRef.toBuf, TRef.ofBuf, cast_eq]
  after_results_simp
  simp only [val0_12_main_call1_call0_v5, val0_12_main_call1_call0_call0_v60, val0_12_main_call1_call0_call0_c_15, val0_12_main_call1_call0_call0_v61, val0_12_main_call1_call0_call0_v1] <;> rfl
set_option maxRecDepth 8192 in
set_option maxHeartbeats 2000000 in
theorem val0_13_main_call1_call0_call0_v85 (V0 : Valuation τ sig (Elt F)) : val0_13 V0 (no_index (Proc.devRef .tc main_call1_call0_call0_v85)) = Host.shrui (res_main_call1_call0_call0_v80 V0) (broadcastInDim S8x96x220x220 ![] bcast_S_S8x96x220x220 (constantI S_ 32 17#32)) := by
  unfold val0_13
  simp only [ops_12, TRef.binary, TRef.nullary, TRef.unary, TRef.toBuf, TRef.ofBuf, cast_eq]
  after_results_simp
  simp only [val0_12_main_call1_call0_v5, val0_12_main_call1_call0_call0_v60, val0_12_main_call1_call0_call0_c_15, val0_12_main_call1_call0_call0_v61, val0_12_main_call1_call0_call0_v1] <;> rfl

/-- The device's buffer contents after @main's first 420 operations. -/
def val0_14 (V0 : Valuation τ sig (Elt F)) : Valuation τ sig (Elt F) := after ops_13 (val0_13 V0)
/-- The buffers that window `ops_13`'s operations write. -/
abbrev ops_13_W : List (Ref sig .tc) := [main_call1_call0_call0_v86, main_call1_call0_call0_v87, main_call1_call0_call0_v88, main_call1_call0_call0_c_22, main_call1_call0_call0_v89, main_call1_call0_call0_v90, main_call1_call0_call0_c_23, main_call1_call0_call0_v91, main_call1_call0_call0_v92, main_call1_call0_call0_v93, main_call1_call0_call0_v94, main_call1_call0_call0_v95, main_call1_call0_call0_c_24, main_call1_call0_call0_v96, main_call1_call0_call0_v97, main_call1_call0_call0_c_25, main_call1_call0_call0_v98, main_call1_call0_call0_v99, main_call1_call0_call0_v100, main_call1_call0_call0_v101, main_call1_call0_call0_v102, main_call1_call0_call0_v103, main_call1_call0_call0_v104, main_call1_call0_call0_v105, main_call1_call0_call0_c_26, main_call1_call0_call0_v106, main_call1_call0_call0_v107, main_call1_call0_call0_v108, main_call1_call0_call0_c_27, main_call1_call0_call0_v109]
set_option maxRecDepth 8192 in
theorem ops_13_writes : (ops_13 : List (HloOp τ sig (Elt F))).Forall fun op => op.writes ⊆ (ops_13_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_13` does not write keeps its contents through it. -/
theorem val0_14_keep (V0 : Valuation τ sig (Elt F)) (r : Ref sig .tc) (h : r ∉ ops_13_W) :
    val0_14 V0 (Proc.devRef .tc r) = val0_13 V0 (Proc.devRef .tc r) :=
  after_of_writes_sub ops_13 _ ops_13_writes h
theorem val0_14_main_arg0 (V0 : Valuation τ sig (Elt F)) : val0_14 V0 (no_index (Proc.devRef .tc main_arg0)) = V0 (Proc.devRef .tc main_arg0) :=
  (val0_14_keep V0 main_arg0 (by decide)).trans (val0_13_main_arg0 V0)
theorem val0_14_main_arg1 (V0 : Valuation τ sig (Elt F)) : val0_14 V0 (no_index (Proc.devRef .tc main_arg1)) = V0 (Proc.devRef .tc main_arg1) :=
  (val0_14_keep V0 main_arg1 (by decide)).trans (val0_13_main_arg1 V0)
theorem val0_14_main_call1_call0_v2 (V0 : Valuation τ sig (Elt F)) : val0_14 V0 (no_index (Proc.devRef .tc main_call1_call0_v2)) = res_main_call1_call0_v2 V0 :=
  (val0_14_keep V0 main_call1_call0_v2 (by decide)).trans (val0_13_main_call1_call0_v2 V0)
theorem val0_14_main_call1_call0_v3 (V0 : Valuation τ sig (Elt F)) : val0_14 V0 (no_index (Proc.devRef .tc main_call1_call0_v3)) = broadcastInDim S1x1x1x1 ![] bcast_S_S1x1x1x1 (id (constant S_ .f32 0x3F800000#32)) :=
  (val0_14_keep V0 main_call1_call0_v3 (by decide)).trans (val0_13_main_call1_call0_v3 V0)
theorem val0_14_main_call1_call0_v5 (V0 : Valuation τ sig (Elt F)) : val0_14 V0 (no_index (Proc.devRef .tc main_call1_call0_v5)) = res_main_call1_call0_v5 V0 :=
  (val0_14_keep V0 main_call1_call0_v5 (by decide)).trans (val0_13_main_call1_call0_v5 V0)
theorem val0_14_main_call1_call0_v7 (V0 : Valuation τ sig (Elt F)) : val0_14 V0 (no_index (Proc.devRef .tc main_call1_call0_v7)) = res_main_call1_call0_v7 V0 :=
  (val0_14_keep V0 main_call1_call0_v7 (by decide)).trans (val0_13_main_call1_call0_v7 V0)
theorem val0_14_main_call1_call0_call0_v1 (V0 : Valuation τ sig (Elt F)) : val0_14 V0 (no_index (Proc.devRef .tc main_call1_call0_call0_v1)) = res_main_call1_call0_call0_v1 V0 :=
  (val0_14_keep V0 main_call1_call0_call0_v1 (by decide)).trans (val0_13_main_call1_call0_call0_v1 V0)
set_option maxRecDepth 8192 in
set_option maxHeartbeats 2000000 in
theorem val0_14_main_call1_call0_call0_v107 (V0 : Valuation τ sig (Elt F)) : val0_14 V0 (no_index (Proc.devRef .tc main_call1_call0_call0_v107)) = res_main_call1_call0_call0_v107 V0 := by
  unfold val0_14
  simp only [ops_13, TRef.binary, TRef.nullary, TRef.unary, TRef.toBuf, TRef.ofBuf, cast_eq]
  after_results_simp
  simp only [val0_13_main_call1_call0_v7, val0_13_main_call1_call0_call0_v85, val0_13_main_call1_call0_call0_v83, val0_13_main_call1_call0_call0_v81] <;> rfl
set_option maxRecDepth 8192 in
set_option maxHeartbeats 2000000 in
theorem val0_14_main_call1_call0_call0_v108 (V0 : Valuation τ sig (Elt F)) : val0_14 V0 (no_index (Proc.devRef .tc main_call1_call0_call0_v108)) = res_main_call1_call0_call0_v108 V0 := by
  unfold val0_14
  simp only [ops_13, TRef.binary, TRef.nullary, TRef.unary, TRef.toBuf, TRef.ofBuf, cast_eq]
  after_results_simp
  simp only [val0_13_main_call1_call0_v7, val0_13_main_call1_call0_call0_v85, val0_13_main_call1_call0_call0_v83, val0_13_main_call1_call0_call0_v81, val0_13_main_call1_call0_v5] <;> rfl
set_option maxRecDepth 8192 in
set_option maxHeartbeats 2000000 in
theorem val0_14_main_call1_call0_call0_v109 (V0 : Valuation τ sig (Elt F)) : val0_14 V0 (no_index (Proc.devRef .tc main_call1_call0_call0_v109)) = broadcastInDim S8x96x220x220 ![] bcast_S_S8x96x220x220 (constantI S_ 32 17#32) := by
  unfold val0_14
  simp only [ops_13, TRef.binary, TRef.nullary, TRef.unary, TRef.toBuf, TRef.ofBuf, cast_eq]
  after_results_simp
  all_goals rfl

/-- The device's buffer contents after @main's first 450 operations. -/
def val0_15 (V0 : Valuation τ sig (Elt F)) : Valuation τ sig (Elt F) := after ops_14 (val0_14 V0)
/-- The buffers that window `ops_14`'s operations write. -/
abbrev ops_14_W : List (Ref sig .tc) := [main_call1_call0_call0_v110, main_call1_call0_call0_c_28, main_call1_call0_call0_v111, main_call1_call0_call0_v112, main_call1_call0_call0_v113, main_call1_call0_call0_v114, main_call1_call0_call0_v115, main_call1_call0_call0_c_29, main_call1_call0_call0_v116, main_call1_call0_call0_v117, main_call1_call0_call0_c_30, main_call1_call0_call0_v118, main_call1_call0_call0_v119, main_call1_call0_call0_v120, main_call1_call0_call0_v121, main_call1_call0_call0_v122, main_call1_call0_call0_c_31, main_call1_call0_call0_v123, main_call1_call0_call0_v124, main_call1_call0_call0_c_32, main_call1_call0_call0_v125, main_call1_call0_call0_v126, main_call1_call0_call0_v127, main_call1_call0_call0_v128, main_call1_call0_call0_v129, main_call1_call0_call0_c_33, main_call1_call0_call0_v130, main_call1_call0_call0_v131, main_call1_call0_call0_c_34, main_call1_call0_call0_v132]
set_option maxRecDepth 8192 in
theorem ops_14_writes : (ops_14 : List (HloOp τ sig (Elt F))).Forall fun op => op.writes ⊆ (ops_14_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_14` does not write keeps its contents through it. -/
theorem val0_15_keep (V0 : Valuation τ sig (Elt F)) (r : Ref sig .tc) (h : r ∉ ops_14_W) :
    val0_15 V0 (Proc.devRef .tc r) = val0_14 V0 (Proc.devRef .tc r) :=
  after_of_writes_sub ops_14 _ ops_14_writes h
theorem val0_15_main_arg0 (V0 : Valuation τ sig (Elt F)) : val0_15 V0 (no_index (Proc.devRef .tc main_arg0)) = V0 (Proc.devRef .tc main_arg0) :=
  (val0_15_keep V0 main_arg0 (by decide)).trans (val0_14_main_arg0 V0)
theorem val0_15_main_arg1 (V0 : Valuation τ sig (Elt F)) : val0_15 V0 (no_index (Proc.devRef .tc main_arg1)) = V0 (Proc.devRef .tc main_arg1) :=
  (val0_15_keep V0 main_arg1 (by decide)).trans (val0_14_main_arg1 V0)
theorem val0_15_main_call1_call0_v2 (V0 : Valuation τ sig (Elt F)) : val0_15 V0 (no_index (Proc.devRef .tc main_call1_call0_v2)) = res_main_call1_call0_v2 V0 :=
  (val0_15_keep V0 main_call1_call0_v2 (by decide)).trans (val0_14_main_call1_call0_v2 V0)
theorem val0_15_main_call1_call0_v3 (V0 : Valuation τ sig (Elt F)) : val0_15 V0 (no_index (Proc.devRef .tc main_call1_call0_v3)) = broadcastInDim S1x1x1x1 ![] bcast_S_S1x1x1x1 (id (constant S_ .f32 0x3F800000#32)) :=
  (val0_15_keep V0 main_call1_call0_v3 (by decide)).trans (val0_14_main_call1_call0_v3 V0)
theorem val0_15_main_call1_call0_v5 (V0 : Valuation τ sig (Elt F)) : val0_15 V0 (no_index (Proc.devRef .tc main_call1_call0_v5)) = res_main_call1_call0_v5 V0 :=
  (val0_15_keep V0 main_call1_call0_v5 (by decide)).trans (val0_14_main_call1_call0_v5 V0)
theorem val0_15_main_call1_call0_v7 (V0 : Valuation τ sig (Elt F)) : val0_15 V0 (no_index (Proc.devRef .tc main_call1_call0_v7)) = res_main_call1_call0_v7 V0 :=
  (val0_15_keep V0 main_call1_call0_v7 (by decide)).trans (val0_14_main_call1_call0_v7 V0)
theorem val0_15_main_call1_call0_call0_v1 (V0 : Valuation τ sig (Elt F)) : val0_15 V0 (no_index (Proc.devRef .tc main_call1_call0_call0_v1)) = res_main_call1_call0_call0_v1 V0 :=
  (val0_15_keep V0 main_call1_call0_call0_v1 (by decide)).trans (val0_14_main_call1_call0_call0_v1 V0)
set_option maxRecDepth 8192 in
set_option maxHeartbeats 2000000 in
theorem val0_15_main_call1_call0_call0_v128 (V0 : Valuation τ sig (Elt F)) : val0_15 V0 (no_index (Proc.devRef .tc main_call1_call0_call0_v128)) = res_main_call1_call0_call0_v128 V0 := by
  unfold val0_15
  simp only [ops_14, TRef.binary, TRef.nullary, TRef.unary, TRef.toBuf, TRef.ofBuf, cast_eq]
  after_results_simp
  simp only [val0_14_main_call1_call0_call0_v107, val0_14_main_call1_call0_call0_v109, val0_14_main_call1_call0_call0_v108] <;> rfl
set_option maxRecDepth 8192 in
set_option maxHeartbeats 2000000 in
theorem val0_15_main_call1_call0_call0_v129 (V0 : Valuation τ sig (Elt F)) : val0_15 V0 (no_index (Proc.devRef .tc main_call1_call0_call0_v129)) = res_main_call1_call0_call0_v129 V0 := by
  unfold val0_15
  simp only [ops_14, TRef.binary, TRef.nullary, TRef.unary, TRef.toBuf, TRef.ofBuf, cast_eq]
  after_results_simp
  simp only [val0_14_main_call1_call0_call0_v107, val0_14_main_call1_call0_call0_v109, val0_14_main_call1_call0_call0_v108] <;> rfl
set_option maxRecDepth 8192 in
set_option maxHeartbeats 2000000 in
theorem val0_15_main_call1_call0_call0_v131 (V0 : Valuation τ sig (Elt F)) : val0_15 V0 (no_index (Proc.devRef .tc main_call1_call0_call0_v131)) = Host.shli (res_main_call1_call0_call0_v128 V0) (broadcastInDim S8x96x220x220 ![] bcast_S_S8x96x220x220 (constantI S_ 32 24#32)) := by
  unfold val0_15
  simp only [ops_14, TRef.binary, TRef.nullary, TRef.unary, TRef.toBuf, TRef.ofBuf, cast_eq]
  after_results_simp
  simp only [val0_14_main_call1_call0_call0_v107, val0_14_main_call1_call0_call0_v109, val0_14_main_call1_call0_call0_v108] <;> rfl
set_option maxRecDepth 8192 in
set_option maxHeartbeats 2000000 in
theorem val0_15_main_call1_call0_call0_v132 (V0 : Valuation τ sig (Elt F)) : val0_15 V0 (no_index (Proc.devRef .tc main_call1_call0_call0_v132)) = broadcastInDim S8x96x220x220 ![] bcast_S_S8x96x220x220 (constantI S_ 32 8#32) := by
  unfold val0_15
  simp only [ops_14, TRef.binary, TRef.nullary, TRef.unary, TRef.toBuf, TRef.ofBuf, cast_eq]
  after_results_simp
  all_goals rfl

/-- The device's buffer contents after @main's first 480 operations. -/
def val0_16 (V0 : Valuation τ sig (Elt F)) : Valuation τ sig (Elt F) := after ops_15 (val0_15 V0)
/-- The buffers that window `ops_15`'s operations write. -/
abbrev ops_15_W : List (Ref sig .tc) := [main_call1_call0_call0_v133, main_call1_call0_call0_v134, main_call1_call0_call0_v135, main_call1_call0_call0_v136, main_call1_call0_call0_v137, main_call1_call0_call0_v138, main_call1_call0_call0_v139, main_call1_call0_call0_c_35, main_call1_call0_call0_v140, main_call1_call0_call0_v141, main_call1_call0_call0_v142, main_call1_call0_call0_c_36, main_call1_call0_call0_v143, main_call1_call0_call0_v144, main_call1_call0_call0_c_37, main_call1_call0_call0_v145, main_call1_call0_call0_v146, main_call1_call0_call0_v147, main_call1_call0_call0_v148, main_call1_call0_call0_v149, main_call1_call0_call0_c_38, main_call1_call0_call0_v150, main_call1_call0_call0_v151, main_call1_call0_call0_c_39, main_call1_call0_call0_v152, main_call1_call0_call0_v153, main_call1_call0_call0_v154, main_call1_call0_call0_v155, main_call1_call0_call0_v156, main_call1_call0_call0_c_40]
set_option maxRecDepth 8192 in
theorem ops_15_writes : (ops_15 : List (HloOp τ sig (Elt F))).Forall fun op => op.writes ⊆ (ops_15_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_15` does not write keeps its contents through it. -/
theorem val0_16_keep (V0 : Valuation τ sig (Elt F)) (r : Ref sig .tc) (h : r ∉ ops_15_W) :
    val0_16 V0 (Proc.devRef .tc r) = val0_15 V0 (Proc.devRef .tc r) :=
  after_of_writes_sub ops_15 _ ops_15_writes h
theorem val0_16_main_arg0 (V0 : Valuation τ sig (Elt F)) : val0_16 V0 (no_index (Proc.devRef .tc main_arg0)) = V0 (Proc.devRef .tc main_arg0) :=
  (val0_16_keep V0 main_arg0 (by decide)).trans (val0_15_main_arg0 V0)
theorem val0_16_main_arg1 (V0 : Valuation τ sig (Elt F)) : val0_16 V0 (no_index (Proc.devRef .tc main_arg1)) = V0 (Proc.devRef .tc main_arg1) :=
  (val0_16_keep V0 main_arg1 (by decide)).trans (val0_15_main_arg1 V0)
theorem val0_16_main_call1_call0_v2 (V0 : Valuation τ sig (Elt F)) : val0_16 V0 (no_index (Proc.devRef .tc main_call1_call0_v2)) = res_main_call1_call0_v2 V0 :=
  (val0_16_keep V0 main_call1_call0_v2 (by decide)).trans (val0_15_main_call1_call0_v2 V0)
theorem val0_16_main_call1_call0_v3 (V0 : Valuation τ sig (Elt F)) : val0_16 V0 (no_index (Proc.devRef .tc main_call1_call0_v3)) = broadcastInDim S1x1x1x1 ![] bcast_S_S1x1x1x1 (id (constant S_ .f32 0x3F800000#32)) :=
  (val0_16_keep V0 main_call1_call0_v3 (by decide)).trans (val0_15_main_call1_call0_v3 V0)
theorem val0_16_main_call1_call0_v5 (V0 : Valuation τ sig (Elt F)) : val0_16 V0 (no_index (Proc.devRef .tc main_call1_call0_v5)) = res_main_call1_call0_v5 V0 :=
  (val0_16_keep V0 main_call1_call0_v5 (by decide)).trans (val0_15_main_call1_call0_v5 V0)
theorem val0_16_main_call1_call0_call0_v1 (V0 : Valuation τ sig (Elt F)) : val0_16 V0 (no_index (Proc.devRef .tc main_call1_call0_call0_v1)) = res_main_call1_call0_call0_v1 V0 :=
  (val0_16_keep V0 main_call1_call0_call0_v1 (by decide)).trans (val0_15_main_call1_call0_call0_v1 V0)
set_option maxRecDepth 8192 in
set_option maxHeartbeats 2000000 in
theorem val0_16_main_call1_call0_call0_v155 (V0 : Valuation τ sig (Elt F)) : val0_16 V0 (no_index (Proc.devRef .tc main_call1_call0_call0_v155)) = res_main_call1_call0_call0_v155 V0 := by
  unfold val0_16
  simp only [ops_15, TRef.binary, TRef.nullary, TRef.unary, TRef.toBuf, TRef.ofBuf, cast_eq]
  after_results_simp
  simp only [val0_15_main_call1_call0_call0_v1, val0_15_main_call1_call0_call0_v132, val0_15_main_call1_call0_call0_v128, val0_15_main_call1_call0_call0_v131, val0_15_main_call1_call0_call0_v129, val0_15_main_call1_call0_v7] <;> rfl
set_option maxRecDepth 8192 in
set_option maxHeartbeats 2000000 in
theorem val0_16_main_call1_call0_call0_v156 (V0 : Valuation τ sig (Elt F)) : val0_16 V0 (no_index (Proc.devRef .tc main_call1_call0_call0_v156)) = res_main_call1_call0_call0_v156 V0 := by
  unfold val0_16
  simp only [ops_15, TRef.binary, TRef.nullary, TRef.unary, TRef.toBuf, TRef.ofBuf, cast_eq]
  after_results_simp
  simp only [val0_15_main_call1_call0_call0_v1, val0_15_main_call1_call0_call0_v132, val0_15_main_call1_call0_call0_v128, val0_15_main_call1_call0_call0_v131, val0_15_main_call1_call0_call0_v129, val0_15_main_call1_call0_v7] <;> rfl
set_option maxRecDepth 8192 in
set_option maxHeartbeats 2000000 in
theorem val0_16_main_call1_call0_call0_c_40 (V0 : Valuation τ sig (Elt F)) : val0_16 V0 (no_index (Proc.devRef .tc main_call1_call0_call0_c_40)) = constantI S_ 32 26#32 := by
  unfold val0_16
  simp only [ops_15, TRef.binary, TRef.nullary, TRef.unary, TRef.toBuf, TRef.ofBuf, cast_eq]
  after_results_simp
  all_goals rfl

/-- The device's buffer contents after @main's first 510 operations. -/
def val0_17 (V0 : Valuation τ sig (Elt F)) : Valuation τ sig (Elt F) := after ops_16 (val0_16 V0)
/-- The buffers that window `ops_16`'s operations write. -/
abbrev ops_16_W : List (Ref sig .tc) := [main_call1_call0_call0_v157, main_call1_call0_call0_v158, main_call1_call0_call0_c_41, main_call1_call0_call0_v159, main_call1_call0_call0_v160, main_call1_call0_call0_v161, main_call1_call0_call0_v162, main_call1_call0_call0_v163, main_call1_call0_call0_c_42, main_call1_call0_call0_v164, main_call1_call0_call0_v165, main_call1_call0_call0_c_43, main_call1_call0_call0_v166, main_call1_call0_call0_v167, main_call1_call0_call0_v168, main_call1_call0_call0_v169, main_call1_call0_call0_v170, main_call1_call0_v27_0, main_call1_call0_call0_v172, main_call1_call0_call0_v173, main_call1_call0_call0_c_44, main_call1_call0_call0_v174, main_call1_call0_v27_1, main_call1_call0_v28, main_call1_call0_c_4, main_call1_call0_v29, main_call1_call0_v30, main_call1_call0_c_5, main_call1_call0_v31, main_call1_call0_v32]
set_option maxRecDepth 8192 in
theorem ops_16_writes : (ops_16 : List (HloOp τ sig (Elt F))).Forall fun op => op.writes ⊆ (ops_16_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_16` does not write keeps its contents through it. -/
theorem val0_17_keep (V0 : Valuation τ sig (Elt F)) (r : Ref sig .tc) (h : r ∉ ops_16_W) :
    val0_17 V0 (Proc.devRef .tc r) = val0_16 V0 (Proc.devRef .tc r) :=
  after_of_writes_sub ops_16 _ ops_16_writes h
theorem val0_17_main_arg0 (V0 : Valuation τ sig (Elt F)) : val0_17 V0 (no_index (Proc.devRef .tc main_arg0)) = V0 (Proc.devRef .tc main_arg0) :=
  (val0_17_keep V0 main_arg0 (by decide)).trans (val0_16_main_arg0 V0)
theorem val0_17_main_arg1 (V0 : Valuation τ sig (Elt F)) : val0_17 V0 (no_index (Proc.devRef .tc main_arg1)) = V0 (Proc.devRef .tc main_arg1) :=
  (val0_17_keep V0 main_arg1 (by decide)).trans (val0_16_main_arg1 V0)
theorem val0_17_main_call1_call0_v2 (V0 : Valuation τ sig (Elt F)) : val0_17 V0 (no_index (Proc.devRef .tc main_call1_call0_v2)) = res_main_call1_call0_v2 V0 :=
  (val0_17_keep V0 main_call1_call0_v2 (by decide)).trans (val0_16_main_call1_call0_v2 V0)
theorem val0_17_main_call1_call0_v3 (V0 : Valuation τ sig (Elt F)) : val0_17 V0 (no_index (Proc.devRef .tc main_call1_call0_v3)) = broadcastInDim S1x1x1x1 ![] bcast_S_S1x1x1x1 (id (constant S_ .f32 0x3F800000#32)) :=
  (val0_17_keep V0 main_call1_call0_v3 (by decide)).trans (val0_16_main_call1_call0_v3 V0)
set_option maxRecDepth 8192 in
set_option maxHeartbeats 2000000 in
theorem val0_17_main_call1_call0_v32 (V0 : Valuation τ sig (Elt F)) : val0_17 V0 (no_index (Proc.devRef .tc main_call1_call0_v32)) = ori (Host.shrui (xori (addi (res_main_call1_call0_call0_v163 V0) (broadcastInDim S8x96x220x220 ![] bcast_S_S8x96x220x220 (res_main_call1_call0_call0_v1 V0))) (addi (addi (xori (res_main_call1_call0_call0_v163 V0) (ori (Host.shli (res_main_call1_call0_call0_v162 V0) (broadcastInDim S8x96x220x220 ![] bcast_S_S8x96x220x220 (constantI S_ 32 6#32))) (Host.shrui (res_main_call1_call0_call0_v162 V0) (broadcastInDim S8x96x220x220 ![] bcast_S_S8x96x220x220 (constantI S_ 32 26#32))))) (broadcastInDim S8x96x220x220 ![] bcast_S_S8x96x220x220 (res_main_call1_call0_v5 V0))) (broadcastInDim S8x96x220x220 ![] bcast_S_S8x96x220x220 (constantI S_ 32 5#32)))) (broadcastInDim S8x96x220x220 ![] bcast_S_S8x96x220x220 (constantI S_ 32 9#32))) (broadcastInDim S8x96x220x220 ![] bcast_S_S8x96x220x220 (constantI S_ 32 1065353216#32)) := by
  unfold val0_17
  simp only [ops_16, TRef.binary, TRef.nullary, TRef.unary, TRef.toBuf, TRef.ofBuf, cast_eq]
  after_results_simp
  simp only [val0_16_main_call1_call0_v5, val0_16_main_call1_call0_call0_v155, val0_16_main_call1_call0_call0_c_40, val0_16_main_call1_call0_call0_v156, val0_16_main_call1_call0_call0_v1] <;> rfl

/-- The device's buffer contents after @main's 537 operations. -/
def val1 (V0 : Valuation τ sig (Elt F)) : Valuation τ sig (Elt F) := after ops_17 (val0_17 V0)
/-- The buffers that window `ops_17`'s operations write. -/
abbrev ops_17_W : List (Ref sig .tc) := [main_call1_call0_v33, main_call1_call0_cst, main_call1_call0_v34, main_call1_call0_v35, main_call1_call0_v36, main_call1_call0_v37, main_call1_call0_v38, main_call1_call0_v39, main_call1_call0_v40, main_call1_call0_v41, main_call1_v0, main_call1_v1, main_v8, main_v9, main_cst, main_v10, main_v11, main_cst_3, main_v12, main_v13, main_cst_4, main_v14, main_v15, main_cst_5, main_v16, main_v17, main_v18]
set_option maxRecDepth 8192 in
theorem ops_17_writes : (ops_17 : List (HloOp τ sig (Elt F))).Forall fun op => op.writes ⊆ (ops_17_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_17` does not write keeps its contents through it. -/
theorem val1_keep (V0 : Valuation τ sig (Elt F)) (r : Ref sig .tc) (h : r ∉ ops_17_W) :
    val1 V0 (Proc.devRef .tc r) = val0_17 V0 (Proc.devRef .tc r) :=
  after_of_writes_sub ops_17 _ ops_17_writes h
theorem val1_main_arg0 (V0 : Valuation τ sig (Elt F)) : val1 V0 (no_index (Proc.devRef .tc main_arg0)) = V0 (Proc.devRef .tc main_arg0) :=
  (val1_keep V0 main_arg0 (by decide)).trans (val0_17_main_arg0 V0)
theorem val1_main_arg1 (V0 : Valuation τ sig (Elt F)) : val1 V0 (no_index (Proc.devRef .tc main_arg1)) = V0 (Proc.devRef .tc main_arg1) :=
  (val1_keep V0 main_arg1 (by decide)).trans (val0_17_main_arg1 V0)
set_option maxRecDepth 8192 in
set_option maxHeartbeats 2000000 in
theorem val1_main_v18 (V0 : Valuation τ sig (Elt F)) : val1 V0 (no_index (Proc.devRef .tc main_v18)) = mulf (mulf (res_main_v13 V0) (V0 (Proc.devRef .tc main_arg0))) (broadcastInDim S8x96x224x224 ![] bcast_S_S8x96x224x224 (Host.divf (constant S_ .f32 0x4C130000#32) (Host.reduceAdd (res_main_v13 V0) (constant S_ .f32 0x00000000#32) reducesTo_S8x96x224x224_S_d0_1_2_3 h_S_))) := by
  unfold val1
  simp only [ops_17, TRef.binary, TRef.nullary, TRef.unary, TRef.toBuf, TRef.ofBuf, cast_eq]
  after_results_simp
  simp only [val0_17_main_arg1, val0_17_main_call1_call0_v2, val0_17_main_call1_call0_v3, val0_17_main_call1_call0_v32, val0_17_main_arg0] <;> rfl

theorem after_ops (V0 : Valuation τ sig (Elt F)) : after ops V0 = val1 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = mulf (mulf (res_main_v13 (launchContents m c)) ((launchContents m c) (Proc.devRef .tc main_arg0))) (broadcastInDim S8x96x224x224 ![] bcast_S_S8x96x224x224 (Host.divf (constant S_ .f32 0x4C130000#32) (Host.reduceAdd (res_main_v13 (launchContents m c)) (constant S_ .f32 0x00000000#32) reducesTo_S8x96x224x224_S_d0_1_2_3 h_S_)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v18).trans ((congrFun (after_ops (launchContents m c)) (Proc.devRef .tc main_v18)).trans (val1_main_v18 (launchContents m c))),
      (h c main_arg0).trans ((congrFun (after_ops (launchContents m c)) (Proc.devRef .tc main_arg0)).trans (val1_main_arg0 (launchContents m c))),
      (h c main_arg1).trans ((congrFun (after_ops (launchContents m c)) (Proc.devRef .tc main_arg1)).trans (val1_main_arg1 (launchContents m c)))⟩)
    (run_seq scopedRefs_eq scopedSems_eq defs main (fun _ => ops) main_eq (fun _ => ops_sub) m ρ fun _ => ops_fresh)

end Cert.ReferenceIdeal.Value
-- ==== Proof.RHash.lean ====
/- The reference's mask key, evaluated, and its generator at an index: each term of the generator is a stage of the hash at that index's
   counter. -/
module

public import proofs.«01_k».proof.Proof.Hash
public import proofs.«01_k».proof.Proof.RefTerms
public import Idealize.ShloMosaic.Lib.ValueIdxCoords
public import Idealize.ShloMosaic.Lib.Pipeline.Value

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Drop

variable {F : FTy → Type} [FloatOps F] (V0 : Valuation τ sig (Elt F))

/-! The key: every word is a literal. -/

theorem res_main_c_lit : res_main_c V0 = fun _ => 0#32 := rfl
theorem res_main_c_2_lit : res_main_c_2 V0 = fun _ => 1#32 := rfl
theorem slice0 (x y : S1.Idx → BitVec 32) (h) : extractStridedSlice S1 ![0] (concatenate S2 0 [⟨S1, x⟩, ⟨S1, y⟩] h) slices_S2_S1_0 = fun _ => x (ValueIdx.ix1 ValueIdx.u0) := by
  funext j
  exact concatenate_pair_apply_left 0 x y h _ rfl _ (fun b => by fin_cases b; exact (congrArg (fun k : Fin 1 => k.val) (Subsingleton.elim (⟨0, by decide⟩ : Fin 1) (j 0))).trans (Nat.zero_add _).symm)
theorem slice1 (x y : S1.Idx → BitVec 32) (h) : extractStridedSlice S1 ![1] (concatenate S2 0 [⟨S1, x⟩, ⟨S1, y⟩] h) slices_S2_S1_1 = fun _ => y (ValueIdx.ix1 ValueIdx.u0) := by
  funext j
  exact concatenate_pair_apply_right 0 x y h _ rfl rfl _ (fun b hb => absurd (by fin_cases b; rfl) hb) (by have := (j 0).isLt; show 0 + 1 = 1 + (j 0).val; simp [S1] at this; omega)
/-- Two one-element arrays, one after the other: the first element. -/
theorem pair0 (x y : S1.Idx → BitVec 32) (h) : shapeCast S_ (extractStridedSlice S1 ![0] (concatenate S2 0 [⟨S1, x⟩, ⟨S1, y⟩] h) slices_S2_S1_0) shapeCasts_S1_S_ = fun _ => x (ValueIdx.ix1 ValueIdx.u0) := by
  rw [slice0]; rfl
/-- Two one-element arrays, one after the other: the second element. -/
theorem pair1 (x y : S1.Idx → BitVec 32) (h) : shapeCast S_ (extractStridedSlice S1 ![1] (concatenate S2 0 [⟨S1, x⟩, ⟨S1, y⟩] h) slices_S2_S1_1) shapeCasts_S1_S_ = fun _ => y (ValueIdx.ix1 ValueIdx.u0) := by
  rw [slice1]; rfl
theorem res_main_call0_v6_lit : res_main_call0_v6 V0 = fun _ => 0#32 := by
  unfold res_main_call0_v6 res_main_v6; rw [res_main_c_lit]; refine (pair0 _ _ _).trans ?_; exact funext fun _ => (by decide +kernel : IntOp.shrui ArithUnit.host 0#32 32#32 = 0#32)
theorem res_main_call0_v8_lit : res_main_call0_v8 V0 = fun _ => 0#32 := by
  unfold res_main_call0_v8 res_main_v6; rw [res_main_c_lit]; refine (pair1 _ _ _).trans ?_; exact funext fun _ => (by decide +kernel : IntOp.andi 0#32 4294967295#32 = 0#32)

theorem res_main_call0_call0_v1_lit : res_main_call0_call0_v1 V0 = fun _ => 466688986#32 := by
  unfold res_main_call0_call0_v1
  rw [res_main_call0_v6_lit V0, res_main_call0_v8_lit V0]
  funext j; dsimp only [addi, xori, ori, andi, id, Host.shli, Host.shrui, broadcastInDim, constantI]; decide +kernel
theorem res_main_call0_call0_v5_lit : res_main_call0_call0_v5 V0 = fun _ => 1#32 := by
  unfold res_main_call0_call0_v5 res_main_call0_v4; rw [res_main_c_2_lit, res_main_call0_v8_lit, slice1]; funext j; dsimp only [addi, xori, ori, andi, id, Host.shli, Host.shrui, broadcastInDim, constantI]; decide +kernel
theorem res_main_call0_call0_v6_lit : res_main_call0_call0_v6 V0 = fun _ => 1#32 := by
  unfold res_main_call0_call0_v6 res_main_call0_v4; rw [res_main_call0_call0_v5_lit, res_main_c_2_lit, res_main_call0_v6_lit, slice0]; funext j; dsimp only [addi, xori, ori, andi, id, Host.shli, Host.shrui, broadcastInDim, constantI]; decide +kernel
theorem res_main_call0_call0_v12_lit : res_main_call0_call0_v12 V0 = fun _ => 8193#32 := by
  unfold res_main_call0_call0_v12
  rw [res_main_call0_call0_v5_lit V0, res_main_call0_call0_v6_lit V0]
  funext j; dsimp only [addi, xori, ori, andi, id, Host.shli, Host.shrui, broadcastInDim, constantI]; decide +kernel
theorem res_main_call0_call0_v13_lit : res_main_call0_call0_v13 V0 = fun _ => 8194#32 := by
  unfold res_main_call0_call0_v13
  rw [res_main_call0_call0_v12_lit V0, res_main_call0_call0_v6_lit V0]
  funext j; dsimp only [addi, xori, ori, andi, id, Host.shli, Host.shrui, broadcastInDim, constantI]; decide +kernel
theorem res_main_call0_call0_v19_lit : res_main_call0_call0_v19 V0 = fun _ => 268476418#32 := by
  unfold res_main_call0_call0_v19
  rw [res_main_call0_call0_v12_lit V0, res_main_call0_call0_v13_lit V0]
  funext j; dsimp only [addi, xori, ori, andi, id, Host.shli, Host.shrui, broadcastInDim, constantI]; decide +kernel
theorem res_main_call0_call0_v20_lit : res_main_call0_call0_v20 V0 = fun _ => 268484612#32 := by
  unfold res_main_call0_call0_v20
  rw [res_main_call0_call0_v13_lit V0, res_main_call0_call0_v19_lit V0]
  funext j; dsimp only [addi, xori, ori, andi, id, Host.shli, Host.shrui, broadcastInDim, constantI]; decide +kernel
theorem res_main_call0_call0_v26_lit : res_main_call0_call0_v26 V0 = fun _ => 406897284#32 := by
  unfold res_main_call0_call0_v26
  rw [res_main_call0_call0_v19_lit V0, res_main_call0_call0_v20_lit V0]
  funext j; dsimp only [addi, xori, ori, andi, id, Host.shli, Host.shrui, broadcastInDim, constantI]; decide +kernel
theorem res_main_call0_call0_v27_lit : res_main_call0_call0_v27 V0 = fun _ => 675381896#32 := by
  unfold res_main_call0_call0_v27
  rw [res_main_call0_call0_v20_lit V0, res_main_call0_call0_v26_lit V0]
  funext j; dsimp only [addi, xori, ori, andi, id, Host.shli, Host.shrui, broadcastInDim, constantI]; decide +kernel
theorem res_main_call0_call0_v39_lit : res_main_call0_call0_v39 V0 = fun _ => 1413627753#32 := by
  unfold res_main_call0_call0_v39
  rw [res_main_call0_call0_v1_lit V0, res_main_call0_call0_v26_lit V0, res_main_call0_call0_v27_lit V0]
  funext j; dsimp only [addi, xori, ori, andi, id, Host.shli, Host.shrui, broadcastInDim, constantI]; decide +kernel
theorem res_main_call0_call0_v40_lit : res_main_call0_call0_v40 V0 = fun _ => 2089009649#32 := by
  unfold res_main_call0_call0_v40
  rw [res_main_call0_call0_v27_lit V0, res_main_call0_call0_v39_lit V0, res_main_call0_v8_lit V0]
  funext j; dsimp only [addi, xori, ori, andi, id, Host.shli, Host.shrui, broadcastInDim, constantI]; decide +kernel
theorem res_main_call0_call0_v46_lit : res_main_call0_call0_v46 V0 = fun _ => 38889845#32 := by
  unfold res_main_call0_call0_v46
  rw [res_main_call0_call0_v39_lit V0, res_main_call0_call0_v40_lit V0]
  funext j; dsimp only [addi, xori, ori, andi, id, Host.shli, Host.shrui, broadcastInDim, constantI]; decide +kernel
theorem res_main_call0_call0_v47_lit : res_main_call0_call0_v47 V0 = fun _ => 2127899494#32 := by
  unfold res_main_call0_call0_v47
  rw [res_main_call0_call0_v40_lit V0, res_main_call0_call0_v46_lit V0]
  funext j; dsimp only [addi, xori, ori, andi, id, Host.shli, Host.shrui, broadcastInDim, constantI]; decide +kernel
theorem res_main_call0_call0_v53_lit : res_main_call0_call0_v53 V0 = fun _ => 3734963784#32 := by
  unfold res_main_call0_call0_v53
  rw [res_main_call0_call0_v46_lit V0, res_main_call0_call0_v47_lit V0]
  funext j; dsimp only [addi, xori, ori, andi, id, Host.shli, Host.shrui, broadcastInDim, constantI]; decide +kernel
theorem res_main_call0_call0_v54_lit : res_main_call0_call0_v54 V0 = fun _ => 1567895982#32 := by
  unfold res_main_call0_call0_v54
  rw [res_main_call0_call0_v47_lit V0, res_main_call0_call0_v53_lit V0]
  funext j; dsimp only [addi, xori, ori, andi, id, Host.shli, Host.shrui, broadcastInDim, constantI]; decide +kernel
theorem res_main_call0_call0_v60_lit : res_main_call0_call0_v60 V0 = fun _ => 1530720049#32 := by
  unfold res_main_call0_call0_v60
  rw [res_main_call0_call0_v53_lit V0, res_main_call0_call0_v54_lit V0]
  funext j; dsimp only [addi, xori, ori, andi, id, Host.shli, Host.shrui, broadcastInDim, constantI]; decide +kernel
theorem res_main_call0_call0_v61_lit : res_main_call0_call0_v61 V0 = fun _ => 3098616031#32 := by
  unfold res_main_call0_call0_v61
  rw [res_main_call0_call0_v54_lit V0, res_main_call0_call0_v60_lit V0]
  funext j; dsimp only [addi, xori, ori, andi, id, Host.shli, Host.shrui, broadcastInDim, constantI]; decide +kernel
theorem res_main_call0_call0_v73_lit : res_main_call0_call0_v73 V0 = fun _ => 2313821234#32 := by
  unfold res_main_call0_call0_v73
  rw [res_main_call0_call0_v60_lit V0, res_main_call0_call0_v61_lit V0, res_main_call0_v6_lit V0]
  funext j; dsimp only [addi, xori, ori, andi, id, Host.shli, Host.shrui, broadcastInDim, constantI]; decide +kernel
theorem res_main_call0_call0_v74_lit : res_main_call0_call0_v74 V0 = fun _ => 1584158955#32 := by
  unfold res_main_call0_call0_v74
  rw [res_main_call0_call0_v1_lit V0, res_main_call0_call0_v61_lit V0, res_main_call0_call0_v73_lit V0]
  funext j; dsimp only [addi, xori, ori, andi, id, Host.shli, Host.shrui, broadcastInDim, constantI]; decide +kernel
theorem res_main_call0_call0_v80_lit : res_main_call0_call0_v80 V0 = fun _ => 501877206#32 := by
  unfold res_main_call0_call0_v80
  rw [res_main_call0_call0_v73_lit V0, res_main_call0_call0_v74_lit V0]
  funext j; dsimp only [addi, xori, ori, andi, id, Host.shli, Host.shrui, broadcastInDim, constantI]; decide +kernel
theorem res_main_call0_call0_v81_lit : res_main_call0_call0_v81 V0 = fun _ => 2086036161#32 := by
  unfold res_main_call0_call0_v81
  rw [res_main_call0_call0_v74_lit V0, res_main_call0_call0_v80_lit V0]
  funext j; dsimp only [addi, xori, ori, andi, id, Host.shli, Host.shrui, broadcastInDim, constantI]; decide +kernel
theorem res_main_call0_call0_v87_lit : res_main_call0_call0_v87 V0 = fun _ => 2025679924#32 := by
  unfold res_main_call0_call0_v87
  rw [res_main_call0_call0_v80_lit V0, res_main_call0_call0_v81_lit V0]
  funext j; dsimp only [addi, xori, ori, andi, id, Host.shli, Host.shrui, broadcastInDim, constantI]; decide +kernel
theorem res_main_call0_call0_v88_lit : res_main_call0_call0_v88 V0 = fun _ => 4111716085#32 := by
  unfold res_main_call0_call0_v88
  rw [res_main_call0_call0_v81_lit V0, res_main_call0_call0_v87_lit V0]
  funext j; dsimp only [addi, xori, ori, andi, id, Host.shli, Host.shrui, broadcastInDim, constantI]; decide +kernel
theorem res_main_call0_call0_v94_lit : res_main_call0_call0_v94 V0 = fun _ => 619789125#32 := by
  unfold res_main_call0_call0_v94
  rw [res_main_call0_call0_v87_lit V0, res_main_call0_call0_v88_lit V0]
  funext j; dsimp only [addi, xori, ori, andi, id, Host.shli, Host.shrui, broadcastInDim, constantI]; decide +kernel
theorem res_main_call0_call0_v95_lit : res_main_call0_call0_v95 V0 = fun _ => 436537914#32 := by
  unfold res_main_call0_call0_v95
  rw [res_main_call0_call0_v88_lit V0, res_main_call0_call0_v94_lit V0]
  funext j; dsimp only [addi, xori, ori, andi, id, Host.shli, Host.shrui, broadcastInDim, constantI]; decide +kernel
theorem res_main_call0_call0_v107_lit : res_main_call0_call0_v107 V0 = fun _ => 642505590#32 := by
  unfold res_main_call0_call0_v107
  rw [res_main_call0_call0_v94_lit V0, res_main_call0_call0_v95_lit V0, res_main_call0_v8_lit V0]
  funext j; dsimp only [addi, xori, ori, andi, id, Host.shli, Host.shrui, broadcastInDim, constantI]; decide +kernel
theorem res_main_call0_call0_v108_lit : res_main_call0_call0_v108 V0 = fun _ => 1079043504#32 := by
  unfold res_main_call0_call0_v108
  rw [res_main_call0_call0_v107_lit V0, res_main_call0_call0_v95_lit V0, res_main_call0_v6_lit V0]
  funext j; dsimp only [addi, xori, ori, andi, id, Host.shli, Host.shrui, broadcastInDim, constantI]; decide +kernel
theorem res_main_call0_call0_v114_lit : res_main_call0_call0_v114 V0 = fun _ => 4139559207#32 := by
  unfold res_main_call0_call0_v114
  rw [res_main_call0_call0_v107_lit V0, res_main_call0_call0_v108_lit V0]
  funext j; dsimp only [addi, xori, ori, andi, id, Host.shli, Host.shrui, broadcastInDim, constantI]; decide +kernel
theorem res_main_call0_call0_v115_lit : res_main_call0_call0_v115 V0 = fun _ => 923635415#32 := by
  unfold res_main_call0_call0_v115
  rw [res_main_call0_call0_v108_lit V0, res_main_call0_call0_v114_lit V0]
  funext j; dsimp only [addi, xori, ori, andi, id, Host.shli, Host.shrui, broadcastInDim, constantI]; decide +kernel
theorem res_main_call0_call0_v121_lit : res_main_call0_call0_v121 V0 = fun _ => 3386514419#32 := by
  unfold res_main_call0_call0_v121
  rw [res_main_call0_call0_v114_lit V0, res_main_call0_call0_v115_lit V0]
  funext j; dsimp only [addi, xori, ori, andi, id, Host.shli, Host.shrui, broadcastInDim, constantI]; decide +kernel
theorem res_main_call0_call0_v122_lit : res_main_call0_call0_v122 V0 = fun _ => 15182538#32 := by
  unfold res_main_call0_call0_v122
  rw [res_main_call0_call0_v115_lit V0, res_main_call0_call0_v121_lit V0]
  funext j; dsimp only [addi, xori, ori, andi, id, Host.shli, Host.shrui, broadcastInDim, constantI]; decide +kernel
theorem res_main_call0_call0_v128_lit : res_main_call0_call0_v128 V0 = fun _ => 454320912#32 := by
  unfold res_main_call0_call0_v128
  rw [res_main_call0_call0_v121_lit V0, res_main_call0_call0_v122_lit V0]
  funext j; dsimp only [addi, xori, ori, andi, id, Host.shli, Host.shrui, broadcastInDim, constantI]; decide +kernel
theorem res_main_call0_call0_v129_lit : res_main_call0_call0_v129 V0 = fun _ => 469503450#32 := by
  unfold res_main_call0_call0_v129
  rw [res_main_call0_call0_v122_lit V0, res_main_call0_call0_v128_lit V0]
  funext j; dsimp only [addi, xori, ori, andi, id, Host.shli, Host.shrui, broadcastInDim, constantI]; decide +kernel
theorem res_main_call0_call0_v141_lit : res_main_call0_call0_v141 V0 = fun _ => 666383767#32 := by
  unfold res_main_call0_call0_v141
  rw [res_main_call0_call0_v1_lit V0, res_main_call0_call0_v128_lit V0, res_main_call0_call0_v129_lit V0]
  funext j; dsimp only [addi, xori, ori, andi, id, Host.shli, Host.shrui, broadcastInDim, constantI]; decide +kernel
theorem res_main_call0_call0_v142_lit : res_main_call0_call0_v142 V0 = fun _ => 1135887217#32 := by
  unfold res_main_call0_call0_v142
  rw [res_main_call0_call0_v129_lit V0, res_main_call0_call0_v141_lit V0, res_main_call0_v8_lit V0]
  funext j; dsimp only [addi, xori, ori, andi, id, Host.shli, Host.shrui, broadcastInDim, constantI]; decide +kernel
theorem res_main_call0_call0_v148_lit : res_main_call0_call0_v148 V0 = fun _ => 1158064006#32 := by
  unfold res_main_call0_call0_v148
  rw [res_main_call0_call0_v141_lit V0, res_main_call0_call0_v142_lit V0]
  funext j; dsimp only [addi, xori, ori, andi, id, Host.shli, Host.shrui, broadcastInDim, constantI]; decide +kernel
theorem res_main_call0_call0_v149_lit : res_main_call0_call0_v149 V0 = fun _ => 2293951223#32 := by
  unfold res_main_call0_call0_v149
  rw [res_main_call0_call0_v142_lit V0, res_main_call0_call0_v148_lit V0]
  funext j; dsimp only [addi, xori, ori, andi, id, Host.shli, Host.shrui, broadcastInDim, constantI]; decide +kernel
theorem res_main_call0_call0_v155_lit : res_main_call0_call0_v155 V0 = fun _ => 3682191476#32 := by
  unfold res_main_call0_call0_v155
  rw [res_main_call0_call0_v148_lit V0, res_main_call0_call0_v149_lit V0]
  funext j; dsimp only [addi, xori, ori, andi, id, Host.shli, Host.shrui, broadcastInDim, constantI]; decide +kernel
theorem res_main_call0_call0_v156_lit : res_main_call0_call0_v156 V0 = fun _ => 1681175403#32 := by
  unfold res_main_call0_call0_v156
  rw [res_main_call0_call0_v149_lit V0, res_main_call0_call0_v155_lit V0]
  funext j; dsimp only [addi, xori, ori, andi, id, Host.shli, Host.shrui, broadcastInDim, constantI]; decide +kernel
theorem res_main_call0_call0_v162_lit : res_main_call0_call0_v162 V0 = fun _ => 3076084810#32 := by
  unfold res_main_call0_call0_v162
  rw [res_main_call0_call0_v155_lit V0, res_main_call0_call0_v156_lit V0]
  funext j; dsimp only [addi, xori, ori, andi, id, Host.shli, Host.shrui, broadcastInDim, constantI]; decide +kernel
theorem res_main_call0_call0_v163_lit : res_main_call0_call0_v163 V0 = fun _ => 462292917#32 := by
  unfold res_main_call0_call0_v163
  rw [res_main_call0_call0_v156_lit V0, res_main_call0_call0_v162_lit V0]
  funext j; dsimp only [addi, xori, ori, andi, id, Host.shli, Host.shrui, broadcastInDim, constantI]; decide +kernel
/-- The first key word of the mask. -/
theorem res_main_call1_call0_v5_lit : res_main_call1_call0_v5 V0 = fun _ => 928981903#32 := by
  unfold res_main_call1_call0_v5 res_main_v7; refine (pair0 _ _ _).trans ?_; rw [res_main_call0_call0_v163_lit, res_main_call0_call0_v1_lit]; funext j; dsimp only [addi, xori, ori, andi, id, Host.shli, Host.shrui, broadcastInDim, constantI]; decide +kernel
/-- The second key word of the mask. -/
theorem res_main_call1_call0_v7_lit : res_main_call1_call0_v7 V0 = fun _ => 3453687069#32 := by
  unfold res_main_call1_call0_v7 res_main_v7; refine (pair1 _ _ _).trans ?_; rw [res_main_call0_call0_v163_lit, res_main_call0_call0_v162_lit, res_main_call0_v6_lit]; funext j; dsimp only [addi, xori, ori, andi, id, Host.shli, Host.shrui, broadcastInDim, constantI]; decide +kernel
/-- The third key word of the mask. -/
theorem res_main_call1_call0_call0_v1_lit : res_main_call1_call0_call0_v1 V0 = fun _ => 3780455752#32 := by
  unfold res_main_call1_call0_call0_v1
  rw [res_main_call1_call0_v7_lit V0, res_main_call1_call0_v5_lit V0]
  funext j; dsimp only [addi, xori, ori, andi, id, Host.shli, Host.shrui, broadcastInDim, constantI]; decide +kernel

/-! The generator at an index. -/

/-- The number of an index of the mask, counted along its rows. -/
def linN (j : S8x96x220x220.Idx) : Nat := 4646400 * (j 0).val + 48400 * (j 1).val + 220 * (j 2).val + (j 3).val

theorem linN_lt (j : S8x96x220x220.Idx) : linN j < 37171200 := by
  have h0 : (j 0).val < 8 := (j 0).isLt
  have h1 : (j 1).val < 96 := (j 1).isLt
  have h2 : (j 2).val < 220 := (j 2).isLt
  have h3 : (j 3).val < 220 := (j 3).isLt
  unfold linN; omega

/-- The reference's 64-bit counter. -/
theorem v22_at (j : S8x96x220x220.Idx) : res_main_call1_call0_v22 V0 j = BitVec.ofNat 64 (linN j) := by
  unfold res_main_call1_call0_v22 linN
  show ((4646400#64 * BitVec.ofNat 64 (j 0).val + 48400#64 * BitVec.ofNat 64 (j 1).val) + 220#64 * BitVec.ofNat 64 (j 2).val) + 1#64 * BitVec.ofNat 64 (j 3).val = _
  simp only [BitVec.ofNat_add, BitVec.ofNat_mul, BitVec.one_mul]

/-- Its lower word. -/
theorem lo_at (j : S8x96x220x220.Idx) : (trunci 32 (res_main_call1_call0_v22 V0) natLt_32_64 : IVec _ 32) j = BitVec.ofNat 32 (linN j) := by
  show BitVec.setWidth 32 (res_main_call1_call0_v22 V0 j : BitVec 64) = _
  rw [v22_at]
  apply BitVec.eq_of_toNat_eq
  have := linN_lt j
  simp only [BitVec.toNat_setWidth, BitVec.toNat_ofNat]
  omega

/-- Its upper word is zero. -/
theorem hi_at (j : S8x96x220x220.Idx) : (trunci 32 (Host.shrui (res_main_call1_call0_v22 V0) (broadcastInDim S8x96x220x220 ![] bcast_S_S8x96x220x220 (constantI S_ 64 32#64))) natLt_32_64 : IVec _ 32) j = 0#32 := by
  have h : ∀ x : BitVec 64, (IntOp.shrui .host x 32#64).setWidth 32 = (x >>> 32).setWidth 32 := fun _ => rfl
  refine (h (res_main_call1_call0_v22 V0 j)).trans ?_
  rw [v22_at]
  apply BitVec.eq_of_toNat_eq
  have := linN_lt j
  simp only [BitVec.toNat_setWidth, BitVec.toNat_ushiftRight, BitVec.toNat_ofNat, Nat.shiftRight_eq_div_pow]
  omega

/-- A key added in two steps. -/
theorem key_two (x y p q r : BitVec 32) (h : p + q = r) : ((x ^^^ y) + p) + q = (y ^^^ x) + r := by
  rw [BitVec.add_assoc, h, BitVec.xor_comm]

variable (j : S8x96x220x220.Idx)

theorem res_main_call1_call0_call0_v5_at : res_main_call1_call0_call0_v5 V0 j = b0 (BitVec.ofNat 32 (linN j)) := by
  unfold res_main_call1_call0_call0_v5; rw [res_main_call1_call0_v7_lit]; exact congrArg (· + 3453687069#32) (lo_at V0 j)
theorem res_main_call1_call0_call0_v6_at : res_main_call1_call0_call0_v6 V0 j = a1 (BitVec.ofNat 32 (linN j)) := by
  unfold res_main_call1_call0_call0_v6; rw [res_main_call1_call0_v5_lit]
  dsimp only [addi]
  rw [hi_at, res_main_call1_call0_call0_v5_at]
  rfl
/-- Stage `b1`. -/
theorem res_main_call1_call0_call0_v12_at : res_main_call1_call0_call0_v12 V0 j = b1 (BitVec.ofNat 32 (linN j)) := by
  unfold res_main_call1_call0_call0_v12
  dsimp only [addi, xori, ori, Host.shli, Host.shrui, broadcastInDim, constantI]
  rw [res_main_call1_call0_call0_v5_at, res_main_call1_call0_call0_v6_at]
  exact BitVec.xor_comm _ _
/-- Stage `a2`. -/
theorem res_main_call1_call0_call0_v13_at : res_main_call1_call0_call0_v13 V0 j = a2 (BitVec.ofNat 32 (linN j)) := by
  unfold res_main_call1_call0_call0_v13
  dsimp only [addi, xori, ori, Host.shli, Host.shrui, broadcastInDim, constantI]
  rw [res_main_call1_call0_call0_v12_at, res_main_call1_call0_call0_v6_at]
  rfl
/-- Stage `b2`. -/
theorem res_main_call1_call0_call0_v19_at : res_main_call1_call0_call0_v19 V0 j = b2 (BitVec.ofNat 32 (linN j)) := by
  unfold res_main_call1_call0_call0_v19
  dsimp only [addi, xori, ori, Host.shli, Host.shrui, broadcastInDim, constantI]
  rw [res_main_call1_call0_call0_v12_at, res_main_call1_call0_call0_v13_at]
  exact BitVec.xor_comm _ _
/-- Stage `a3`. -/
theorem res_main_call1_call0_call0_v20_at : res_main_call1_call0_call0_v20 V0 j = a3 (BitVec.ofNat 32 (linN j)) := by
  unfold res_main_call1_call0_call0_v20
  dsimp only [addi, xori, ori, Host.shli, Host.shrui, broadcastInDim, constantI]
  rw [res_main_call1_call0_call0_v13_at, res_main_call1_call0_call0_v19_at]
  rfl
/-- Stage `b3`. -/
theorem res_main_call1_call0_call0_v26_at : res_main_call1_call0_call0_v26 V0 j = b3 (BitVec.ofNat 32 (linN j)) := by
  unfold res_main_call1_call0_call0_v26
  dsimp only [addi, xori, ori, Host.shli, Host.shrui, broadcastInDim, constantI]
  rw [res_main_call1_call0_call0_v19_at, res_main_call1_call0_call0_v20_at]
  exact BitVec.xor_comm _ _
/-- Stage `a4`. -/
theorem res_main_call1_call0_call0_v27_at : res_main_call1_call0_call0_v27 V0 j = a4 (BitVec.ofNat 32 (linN j)) := by
  unfold res_main_call1_call0_call0_v27
  dsimp only [addi, xori, ori, Host.shli, Host.shrui, broadcastInDim, constantI]
  rw [res_main_call1_call0_call0_v20_at, res_main_call1_call0_call0_v26_at]
  rfl
/-- Stage `b4`. -/
theorem res_main_call1_call0_call0_v39_at : res_main_call1_call0_call0_v39 V0 j = b4 (BitVec.ofNat 32 (linN j)) := by
  unfold res_main_call1_call0_call0_v39
  rw [res_main_call1_call0_call0_v1_lit]
  dsimp only [addi, xori, ori, Host.shli, Host.shrui, broadcastInDim, constantI]
  rw [res_main_call1_call0_call0_v26_at, res_main_call1_call0_call0_v27_at]
  refine key_two _ _ _ _ _ ?_; decide
/-- Stage `a5`. -/
theorem res_main_call1_call0_call0_v40_at : res_main_call1_call0_call0_v40 V0 j = a5 (BitVec.ofNat 32 (linN j)) := by
  unfold res_main_call1_call0_call0_v40
  rw [res_main_call1_call0_v7_lit]
  dsimp only [addi, xori, ori, Host.shli, Host.shrui, broadcastInDim, constantI]
  rw [res_main_call1_call0_call0_v27_at, res_main_call1_call0_call0_v39_at]
  rfl
/-- Stage `b5`. -/
theorem res_main_call1_call0_call0_v46_at : res_main_call1_call0_call0_v46 V0 j = b5 (BitVec.ofNat 32 (linN j)) := by
  unfold res_main_call1_call0_call0_v46
  dsimp only [addi, xori, ori, Host.shli, Host.shrui, broadcastInDim, constantI]
  rw [res_main_call1_call0_call0_v39_at, res_main_call1_call0_call0_v40_at]
  exact BitVec.xor_comm _ _
/-- Stage `a6`. -/
theorem res_main_call1_call0_call0_v47_at : res_main_call1_call0_call0_v47 V0 j = a6 (BitVec.ofNat 32 (linN j)) := by
  unfold res_main_call1_call0_call0_v47
  dsimp only [addi, xori, ori, Host.shli, Host.shrui, broadcastInDim, constantI]
  rw [res_main_call1_call0_call0_v40_at, res_main_call1_call0_call0_v46_at]
  rfl
/-- Stage `b6`. -/
theorem res_main_call1_call0_call0_v53_at : res_main_call1_call0_call0_v53 V0 j = b6 (BitVec.ofNat 32 (linN j)) := by
  unfold res_main_call1_call0_call0_v53
  dsimp only [addi, xori, ori, Host.shli, Host.shrui, broadcastInDim, constantI]
  rw [res_main_call1_call0_call0_v46_at, res_main_call1_call0_call0_v47_at]
  exact BitVec.xor_comm _ _
/-- Stage `a7`. -/
theorem res_main_call1_call0_call0_v54_at : res_main_call1_call0_call0_v54 V0 j = a7 (BitVec.ofNat 32 (linN j)) := by
  unfold res_main_call1_call0_call0_v54
  dsimp only [addi, xori, ori, Host.shli, Host.shrui, broadcastInDim, constantI]
  rw [res_main_call1_call0_call0_v47_at, res_main_call1_call0_call0_v53_at]
  rfl
/-- Stage `b7`. -/
theorem res_main_call1_call0_call0_v60_at : res_main_call1_call0_call0_v60 V0 j = b7 (BitVec.ofNat 32 (linN j)) := by
  unfold res_main_call1_call0_call0_v60
  dsimp only [addi, xori, ori, Host.shli, Host.shrui, broadcastInDim, constantI]
  rw [res_main_call1_call0_call0_v53_at, res_main_call1_call0_call0_v54_at]
  exact BitVec.xor_comm _ _
/-- Stage `a8`. -/
theorem res_main_call1_call0_call0_v61_at : res_main_call1_call0_call0_v61 V0 j = a8 (BitVec.ofNat 32 (linN j)) := by
  unfold res_main_call1_call0_call0_v61
  dsimp only [addi, xori, ori, Host.shli, Host.shrui, broadcastInDim, constantI]
  rw [res_main_call1_call0_call0_v54_at, res_main_call1_call0_call0_v60_at]
  rfl
/-- Stage `b8`. -/
theorem res_main_call1_call0_call0_v73_at : res_main_call1_call0_call0_v73 V0 j = b8 (BitVec.ofNat 32 (linN j)) := by
  unfold res_main_call1_call0_call0_v73
  rw [res_main_call1_call0_v5_lit]
  dsimp only [addi, xori, ori, Host.shli, Host.shrui, broadcastInDim, constantI]
  rw [res_main_call1_call0_call0_v60_at, res_main_call1_call0_call0_v61_at]
  refine key_two _ _ _ _ _ ?_; decide
/-- Stage `a9`. -/
theorem res_main_call1_call0_call0_v74_at : res_main_call1_call0_call0_v74 V0 j = a9 (BitVec.ofNat 32 (linN j)) := by
  unfold res_main_call1_call0_call0_v74
  rw [res_main_call1_call0_call0_v1_lit]
  dsimp only [addi, xori, ori, Host.shli, Host.shrui, broadcastInDim, constantI]
  rw [res_main_call1_call0_call0_v61_at, res_main_call1_call0_call0_v73_at]
  rfl
/-- Stage `b9`. -/
theorem res_main_call1_call0_call0_v80_at : res_main_call1_call0_call0_v80 V0 j = b9 (BitVec.ofNat 32 (linN j)) := by
  unfold res_main_call1_call0_call0_v80
  dsimp only [addi, xori, ori, Host.shli, Host.shrui, broadcastInDim, constantI]
  rw [res_main_call1_call0_call0_v73_at, res_main_call1_call0_call0_v74_at]
  exact BitVec.xor_comm _ _
/-- Stage `a10`. -/
theorem res_main_call1_call0_call0_v81_at : res_main_call1_call0_call0_v81 V0 j = a10 (BitVec.ofNat 32 (linN j)) := by
  unfold res_main_call1_call0_call0_v81
  dsimp only [addi, xori, ori, Host.shli, Host.shrui, broadcastInDim, constantI]
  rw [res_main_call1_call0_call0_v74_at, res_main_call1_call0_call0_v80_at]
  rfl
/-- Stage `b10`. -/
theorem res_main_call1_call0_call0_v87_at : res_main_call1_call0_call0_v87 V0 j = b10 (BitVec.ofNat 32 (linN j)) := by
  unfold res_main_call1_call0_call0_v87
  dsimp only [addi, xori, ori, Host.shli, Host.shrui, broadcastInDim, constantI]
  rw [res_main_call1_call0_call0_v80_at, res_main_call1_call0_call0_v81_at]
  exact BitVec.xor_comm _ _
/-- Stage `a11`. -/
theorem res_main_call1_call0_call0_v88_at : res_main_call1_call0_call0_v88 V0 j = a11 (BitVec.ofNat 32 (linN j)) := by
  unfold res_main_call1_call0_call0_v88
  dsimp only [addi, xori, ori, Host.shli, Host.shrui, broadcastInDim, constantI]
  rw [res_main_call1_call0_call0_v81_at, res_main_call1_call0_call0_v87_at]
  rfl
/-- Stage `b11`. -/
theorem res_main_call1_call0_call0_v94_at : res_main_call1_call0_call0_v94 V0 j = b11 (BitVec.ofNat 32 (linN j)) := by
  unfold res_main_call1_call0_call0_v94
  dsimp only [addi, xori, ori, Host.shli, Host.shrui, broadcastInDim, constantI]
  rw [res_main_call1_call0_call0_v87_at, res_main_call1_call0_call0_v88_at]
  exact BitVec.xor_comm _ _
/-- Stage `a12`. -/
theorem res_main_call1_call0_call0_v95_at : res_main_call1_call0_call0_v95 V0 j = a12 (BitVec.ofNat 32 (linN j)) := by
  unfold res_main_call1_call0_call0_v95
  dsimp only [addi, xori, ori, Host.shli, Host.shrui, broadcastInDim, constantI]
  rw [res_main_call1_call0_call0_v88_at, res_main_call1_call0_call0_v94_at]
  rfl
/-- Stage `b12`. -/
theorem res_main_call1_call0_call0_v107_at : res_main_call1_call0_call0_v107 V0 j = b12 (BitVec.ofNat 32 (linN j)) := by
  unfold res_main_call1_call0_call0_v107
  rw [res_main_call1_call0_v7_lit]
  dsimp only [addi, xori, ori, Host.shli, Host.shrui, broadcastInDim, constantI]
  rw [res_main_call1_call0_call0_v94_at, res_main_call1_call0_call0_v95_at]
  refine key_two _ _ _ _ _ ?_; decide
/-- Stage `a13`. -/
theorem res_main_call1_call0_call0_v108_at : res_main_call1_call0_call0_v108 V0 j = a13 (BitVec.ofNat 32 (linN j)) := by
  unfold res_main_call1_call0_call0_v108
  rw [res_main_call1_call0_v5_lit]
  dsimp only [addi, xori, ori, Host.shli, Host.shrui, broadcastInDim, constantI]
  rw [res_main_call1_call0_call0_v107_at, res_main_call1_call0_call0_v95_at]
  rfl
/-- Stage `b13`. -/
theorem res_main_call1_call0_call0_v114_at : res_main_call1_call0_call0_v114 V0 j = b13 (BitVec.ofNat 32 (linN j)) := by
  unfold res_main_call1_call0_call0_v114
  dsimp only [addi, xori, ori, Host.shli, Host.shrui, broadcastInDim, constantI]
  rw [res_main_call1_call0_call0_v107_at, res_main_call1_call0_call0_v108_at]
  exact BitVec.xor_comm _ _
/-- Stage `a14`. -/
theorem res_main_call1_call0_call0_v115_at : res_main_call1_call0_call0_v115 V0 j = a14 (BitVec.ofNat 32 (linN j)) := by
  unfold res_main_call1_call0_call0_v115
  dsimp only [addi, xori, ori, Host.shli, Host.shrui, broadcastInDim, constantI]
  rw [res_main_call1_call0_call0_v108_at, res_main_call1_call0_call0_v114_at]
  rfl
/-- Stage `b14`. -/
theorem res_main_call1_call0_call0_v121_at : res_main_call1_call0_call0_v121 V0 j = b14 (BitVec.ofNat 32 (linN j)) := by
  unfold res_main_call1_call0_call0_v121
  dsimp only [addi, xori, ori, Host.shli, Host.shrui, broadcastInDim, constantI]
  rw [res_main_call1_call0_call0_v114_at, res_main_call1_call0_call0_v115_at]
  exact BitVec.xor_comm _ _
/-- Stage `a15`. -/
theorem res_main_call1_call0_call0_v122_at : res_main_call1_call0_call0_v122 V0 j = a15 (BitVec.ofNat 32 (linN j)) := by
  unfold res_main_call1_call0_call0_v122
  dsimp only [addi, xori, ori, Host.shli, Host.shrui, broadcastInDim, constantI]
  rw [res_main_call1_call0_call0_v115_at, res_main_call1_call0_call0_v121_at]
  rfl
/-- Stage `b15`. -/
theorem res_main_call1_call0_call0_v128_at : res_main_call1_call0_call0_v128 V0 j = b15 (BitVec.ofNat 32 (linN j)) := by
  unfold res_main_call1_call0_call0_v128
  dsimp only [addi, xori, ori, Host.shli, Host.shrui, broadcastInDim, constantI]
  rw [res_main_call1_call0_call0_v121_at, res_main_call1_call0_call0_v122_at]
  exact BitVec.xor_comm _ _
/-- Stage `a16`. -/
theorem res_main_call1_call0_call0_v129_at : res_main_call1_call0_call0_v129 V0 j = a16 (BitVec.ofNat 32 (linN j)) := by
  unfold res_main_call1_call0_call0_v129
  dsimp only [addi, xori, ori, Host.shli, Host.shrui, broadcastInDim, constantI]
  rw [res_main_call1_call0_call0_v122_at, res_main_call1_call0_call0_v128_at]
  rfl
/-- Stage `b16`. -/
theorem res_main_call1_call0_call0_v141_at : res_main_call1_call0_call0_v141 V0 j = b16 (BitVec.ofNat 32 (linN j)) := by
  unfold res_main_call1_call0_call0_v141
  rw [res_main_call1_call0_call0_v1_lit]
  dsimp only [addi, xori, ori, Host.shli, Host.shrui, broadcastInDim, constantI]
  rw [res_main_call1_call0_call0_v128_at, res_main_call1_call0_call0_v129_at]
  refine key_two _ _ _ _ _ ?_; decide
/-- Stage `a17`. -/
theorem res_main_call1_call0_call0_v142_at : res_main_call1_call0_call0_v142 V0 j = a17 (BitVec.ofNat 32 (linN j)) := by
  unfold res_main_call1_call0_call0_v142
  rw [res_main_call1_call0_v7_lit]
  dsimp only [addi, xori, ori, Host.shli, Host.shrui, broadcastInDim, constantI]
  rw [res_main_call1_call0_call0_v129_at, res_main_call1_call0_call0_v141_at]
  rfl
/-- Stage `b17`. -/
theorem res_main_call1_call0_call0_v148_at : res_main_call1_call0_call0_v148 V0 j = b17 (BitVec.ofNat 32 (linN j)) := by
  unfold res_main_call1_call0_call0_v148
  dsimp only [addi, xori, ori, Host.shli, Host.shrui, broadcastInDim, constantI]
  rw [res_main_call1_call0_call0_v141_at, res_main_call1_call0_call0_v142_at]
  exact BitVec.xor_comm _ _
/-- Stage `a18`. -/
theorem res_main_call1_call0_call0_v149_at : res_main_call1_call0_call0_v149 V0 j = a18 (BitVec.ofNat 32 (linN j)) := by
  unfold res_main_call1_call0_call0_v149
  dsimp only [addi, xori, ori, Host.shli, Host.shrui, broadcastInDim, constantI]
  rw [res_main_call1_call0_call0_v142_at, res_main_call1_call0_call0_v148_at]
  rfl
/-- Stage `b18`. -/
theorem res_main_call1_call0_call0_v155_at : res_main_call1_call0_call0_v155 V0 j = b18 (BitVec.ofNat 32 (linN j)) := by
  unfold res_main_call1_call0_call0_v155
  dsimp only [addi, xori, ori, Host.shli, Host.shrui, broadcastInDim, constantI]
  rw [res_main_call1_call0_call0_v148_at, res_main_call1_call0_call0_v149_at]
  exact BitVec.xor_comm _ _
/-- Stage `a19`. -/
theorem res_main_call1_call0_call0_v156_at : res_main_call1_call0_call0_v156 V0 j = a19 (BitVec.ofNat 32 (linN j)) := by
  unfold res_main_call1_call0_call0_v156
  dsimp only [addi, xori, ori, Host.shli, Host.shrui, broadcastInDim, constantI]
  rw [res_main_call1_call0_call0_v149_at, res_main_call1_call0_call0_v155_at]
  rfl
/-- Stage `b19`. -/
theorem res_main_call1_call0_call0_v162_at : res_main_call1_call0_call0_v162 V0 j = b19 (BitVec.ofNat 32 (linN j)) := by
  unfold res_main_call1_call0_call0_v162
  dsimp only [addi, xori, ori, Host.shli, Host.shrui, broadcastInDim, constantI]
  rw [res_main_call1_call0_call0_v155_at, res_main_call1_call0_call0_v156_at]
  exact BitVec.xor_comm _ _
/-- Stage `a20`. -/
theorem res_main_call1_call0_call0_v163_at : res_main_call1_call0_call0_v163 V0 j = a20 (BitVec.ofNat 32 (linN j)) := by
  unfold res_main_call1_call0_call0_v163
  dsimp only [addi, xori, ori, Host.shli, Host.shrui, broadcastInDim, constantI]
  rw [res_main_call1_call0_call0_v156_at, res_main_call1_call0_call0_v162_at]
  rfl

/-- The reference's random words. -/
def bits (V0 : Valuation τ sig (Elt F)) : IVec S8x96x220x220 32 :=
  xori (addi (res_main_call1_call0_call0_v163 V0) (broadcastInDim S8x96x220x220 ![] bcast_S_S8x96x220x220 (res_main_call1_call0_call0_v1 V0))) (addi (addi (xori (res_main_call1_call0_call0_v163 V0) (ori (Host.shli (res_main_call1_call0_call0_v162 V0) (broadcastInDim S8x96x220x220 ![] bcast_S_S8x96x220x220 (constantI S_ 32 6#32))) (Host.shrui (res_main_call1_call0_call0_v162 V0) (broadcastInDim S8x96x220x220 ![] bcast_S_S8x96x220x220 (constantI S_ 32 26#32))))) (broadcastInDim S8x96x220x220 ![] bcast_S_S8x96x220x220 (res_main_call1_call0_v5 V0))) (broadcastInDim S8x96x220x220 ![] bcast_S_S8x96x220x220 (constantI S_ 32 5#32)))

/-- The random word of an index is the hash of its counter. -/
theorem bits_at : bits V0 j = Drop.hash (BitVec.ofNat 32 (linN j)) := by
  unfold bits
  rw [res_main_call1_call0_call0_v1_lit, res_main_call1_call0_v5_lit]
  dsimp only [addi, xori, ori, Host.shli, Host.shrui, broadcastInDim, constantI]
  rw [res_main_call1_call0_call0_v163_at, res_main_call1_call0_call0_v162_at]
  refine congrArg₂ (· ^^^ ·) rfl (key_two _ _ _ _ 928981908#32 (by decide))

end Cert.ReferenceIdeal.Value
-- ==== Proof.Threshold.lean ====
/- The kernel's integer comparison is the comparison of the uniform number with the probability. -/
module

public import proofs.«01_k».proof.Proof.KMaskRun
public import Idealize.ShloMosaic.Lib.IdealHost

@[expose] public section

noncomputable section

namespace Cert.Drop

open Idealize.ShloMosaic

/-- The uniform number of a random word: its twenty-three leading bits, as a fraction. -/
def unif (h : BitVec 32) : ℝ := ((h.toNat / 512 : ℕ) : ℝ) * (8388608 : ℝ)⁻¹

/-- Whether the uniform number of a word is below the probability. -/
def below (γ : EReal) (h : BitVec 32) : Prop := (unif h : EReal) < γ

/-- The number of uniform numbers below the probability, as a word. -/
def nBelow (γ : EReal) : BitVec 32 := Ideal.fptoui 32 (Ideal.liftRound Int.ceil (γ * ((8388608 : ℝ) : EReal)))

theorem clamp_toNat (z : ℤ) : (BitVec.ofInt 32 (max 0 (min ((2 ^ 32 : ℕ) - 1 : ℤ) z))).toNat = (max 0 (min (4294967295 : ℤ) z)).toNat := by
  have e : ((2 ^ 32 : ℕ) - 1 : ℤ) = 4294967295 := by norm_num
  rw [e, BitVec.toNat_ofInt]
  congr 1
  apply Int.emod_eq_of_lt <;> omega

/-- A word's uniform number is below the probability when its leading bits are below the number of such. -/
theorem lt_nBelow (γ : EReal) (h : BitVec 32) : h.toNat / 512 < (nBelow γ).toNat ↔ below γ h := by
  have hb : h.toNat / 512 < 8388608 := by have := h.isLt; omega
  unfold nBelow below
  induction γ with
  | bot =>
    rw [EReal.bot_mul_coe_of_pos (by norm_num)]
    have e : Ideal.fptoui 32 (Ideal.liftRound Int.ceil ⊥) = 0#32 := by unfold Ideal.fptoui; rfl
    rw [e]
    simp
  | top =>
    rw [EReal.top_mul_coe_of_pos (by norm_num)]
    have e : Ideal.fptoui 32 (Ideal.liftRound Int.ceil ⊤) = 4294967295#32 := by unfold Ideal.fptoui; rfl
    rw [e]
    have h2 : (unif h : EReal) < ⊤ := EReal.coe_lt_top _
    simp only [h2, iff_true]
    show _ < 4294967295
    omega
  | coe r =>
    rw [← EReal.coe_mul]
    have e : Ideal.fptoui 32 (Ideal.liftRound Int.ceil ((r * 8388608 : ℝ) : EReal))
        = BitVec.ofInt 32 (max 0 (min ((2 ^ 32 : ℕ) - 1 : ℤ) ⌈r * 8388608⌉)) := by
      unfold Ideal.fptoui
      show BitVec.ofInt 32 (Ideal.toIntClamped _ _ (((⌈r * 8388608⌉ : ℤ) : ℝ) : EReal)) = _
      rw [Ideal.toIntClamped_coe, Int.floor_intCast, Int.ceil_intCast, ite_self]
    rw [e, clamp_toNat, EReal.coe_lt_coe_iff]
    have f : h.toNat / 512 < (max 0 (min (4294967295 : ℤ) ⌈r * 8388608⌉)).toNat ↔ ((h.toNat / 512 : ℕ) : ℤ) < ⌈r * 8388608⌉ := by
      generalize h.toNat / 512 = k at hb ⊢
      omega
    rw [f, Int.lt_ceil]
    unfold unif
    rw [mul_inv_lt_iff₀ (by norm_num)]
    push_cast
    rfl

open Cert.KernelIdeal.Value in
/-- The kernel's comparison: the uniform number is below the probability, and it is not the last of all. -/
theorem ult_thr (γ : EReal) (h : BitVec 32) : h.ult (thr (F := Ideal) γ) = true ↔ below γ h ∧ h.toNat / 512 < 8388607 := by
  have c : (FloatOps.ofBits .f32 0x4B000000#32 : Ideal .f32) = ((8388608 : ℝ) : EReal) := by
    show Ideal.ofBits .f32 0x4B000000#32 = _
    simp [Ideal.ofBits, Ideal.ieee, -EReal.coe_mul]
  have e : (thr (F := Ideal) γ).toNat = min (nBelow γ).toNat 8388607 * 512 := by
    have e1 : thr (F := Ideal) γ = Scalar.muli (Scalar.minui (nBelow γ) 8388607#32) 512#32 := by
      unfold thr Cert.KernelIdeal.Gen.k0_pay2
      show Scalar.muli (Scalar.minui (Ideal.fptoui 32 (Ideal.liftRound Int.ceil (γ * (FloatOps.ofBits .f32 0x4B000000#32 : Ideal .f32)))) _) _ = _
      rw [c]
      rfl
    rw [e1]
    show (IntOp.minui (nBelow γ) 8388607#32 * 512#32).toNat = _
    have e2 : (IntOp.minui (nBelow γ) 8388607#32).toNat = min (nBelow γ).toNat 8388607 := by
      unfold IntOp.minui
      split <;> rename_i q <;> simp only [BitVec.ult, BitVec.ule, decide_eq_true_eq] at q <;> simp only [BitVec.toNat_ofNat] at q ⊢ <;> omega
    rw [BitVec.toNat_mul, e2, BitVec.toNat_ofNat]
    omega
  rw [← lt_nBelow, BitVec.ult, decide_eq_true_eq, e]
  have := h.isLt
  omega

end Cert.Drop
-- ==== Proof.RRead.lean ====
/- The reference, read at an index: which elements it drops. -/
module

public import proofs.«01_k».proof.Proof.RHash
public import proofs.«01_k».proof.Proof.Threshold
public import Idealize.ShloMosaic.Lib.ValueIdx
public import Idealize.ShloMosaic.Lib.IdealHost

@[expose] public section

noncomputable section

namespace Cert.Drop

open Idealize.ShloMosaic

/-- The number of position `(a, b)` of channel `c` of the mask. -/
def pos (c a b : ℕ) : BitVec 32 := BitVec.ofNat 32 (c * 48400 + a * 220 + b)

/-- Whether an element is dropped: one of the positions of its window is below the probability. -/
def rdrop (γ : EReal) (c i j : ℕ) : Prop :=
  ∃ d e, d < 5 ∧ e < 5 ∧ d ≤ i ∧ i - d < 220 ∧ 4 ≤ j + e ∧ j + e < 224 ∧ below γ (Drop.hash (pos c (i - d) (j + e - 4)))

/-- A maximum over a list that one element attains and none exceeds. -/
theorem foldl_max {α : Type} (g : α → EReal) (M : EReal) (l : List α) (hle : ∀ n ∈ l, g n ≤ M) (hex : ∃ n ∈ l, g n = M) :
    l.foldl (fun r n => max r (g n)) ⊥ = M := by
  have up : ∀ (l : List α) (r : EReal), r ≤ M → (∀ n ∈ l, g n ≤ M) → l.foldl (fun r n => max r (g n)) r ≤ M := by
    intro l
    induction l with
    | nil => intro r hr _; exact hr
    | cons a l ih => intro r hr h; exact ih _ (max_le hr (h a (by simp))) fun n hn => h n (by simp [hn])
  have lo : ∀ (l : List α) (r : EReal), r ≤ l.foldl (fun r n => max r (g n)) r := by
    intro l
    induction l with
    | nil => intro r; exact le_rfl
    | cons a l ih => intro r; exact (le_max_left _ _).trans (ih _)
  have at' : ∀ (l : List α) (r : EReal) (n : α), n ∈ l → g n ≤ l.foldl (fun r n => max r (g n)) r := by
    intro l
    induction l with
    | nil => intro r n hn; cases hn
    | cons a l ih =>
      intro r n hn
      rcases List.mem_cons.1 hn with rfl | hn
      · exact (le_max_right _ _).trans (lo l _)
      · exact ih _ n hn
  obtain ⟨n, hn, e⟩ := hex
  exact le_antisymm (up l ⊥ bot_le hle) (e ▸ at' l ⊥ n hn)

end Cert.Drop

namespace Cert.ReferenceIdeal.Value

open Cert.ReferenceIdeal Cert.ReferenceIdeal.Gen Idealize.ShloMosaic Idealize.ShloMosaic.TcCoe Idealize.SL.Sem Idealize.ShloMosaic.StableHlo
open Cert.Drop Idealize.ShloMosaic.ValueIdx

variable (V0 : Valuation τ sig (Elt Ideal))

/-- The probability's array, as the reference finds it. -/
def gVec : FVec Ideal S_ .f32 := V0 (Proc.devRef .tc main_arg1)

/-- The probability. -/
def gIn : EReal := gVec V0 ix0

/-- Random words as numbers from one up to two: the leading bits of a word under the exponent of one. -/
def onev (b : IVec S8x96x220x220 32) : FVec Ideal S8x96x220x220 .f32 :=
  bitcastToFloat .f32 (ori (Host.shrui b (broadcastInDim S8x96x220x220 ![] bcast_S_S8x96x220x220 (constantI S_ 32 9#32)))
    (broadcastInDim S8x96x220x220 ![] bcast_S_S8x96x220x220 (constantI S_ 32 1065353216#32)))

/-- The array of zeros the range starts at. -/
def zerov : FVec Ideal S1x1x1x1 .f32 := broadcastInDim S1x1x1x1 ![] bcast_S_S1x1x1x1 (id (constant S_ .f32 0x00000000#32))

/-- The array of ones the range ends at. -/
def topv : FVec Ideal S1x1x1x1 .f32 := broadcastInDim S1x1x1x1 ![] bcast_S_S1x1x1x1 (id (constant S_ .f32 0x3F800000#32))

/-- An array of one element, spread over the mask's shape. -/
def spread (v : FVec Ideal S1x1x1x1 .f32) : FVec Ideal S8x96x220x220 .f32 :=
  broadcastInDim S8x96x220x220 ![0, 1, 2, 3] bcast_S1x1x1x1_S8x96x220x220_0_1_2_3 v

/-- Random words as uniform numbers: the numbers from one up to two less one, scaled to the range from zero to one. -/
def univ (b : IVec S8x96x220x220 32) : FVec Ideal S8x96x220x220 .f32 :=
  maximumf (spread zerov)
    (addf (mulf (subf (onev b) (broadcastInDim S8x96x220x220 ![] bcast_S_S8x96x220x220 (constant S_ .f32 0x3F800000#32)))
      (spread (subf topv zerov))) (spread zerov))

/-- The mask, as numbers. -/
def maskv : FVec Ideal S8x96x220x220 .f32 :=
  uitofp .f32 (cmpf .olt (univ (bits V0)) (broadcastInDim S8x96x220x220 ![] bcast_S_S8x96x220x220 (gVec V0)))

/-- The block mask is one minus the window maximum of the mask. -/
theorem v13_eq : (res_main_v13 V0 : FVec Ideal S8x96x224x224 .f32) = subf (broadcastInDim S8x96x224x224 ![] bcast_S_S8x96x224x224 (constant S_ .f32 0x3F800000#32))
    (Host.reduceWindow FloatOps.maximumf ![1, 1, 5, 5] ![1, 1, 1, 1] ![0, 0, 4, 4] ![0, 0, 4, 4] (maskv V0) (broadcastInDim S_ ![] bcast_S_S_ (constant S_ .f32 0xFF800000#32))
      reduceWindows_S8x96x220x220_S8x96x224x224_w1s1p0_0_w1s1p0_0_w5s1p4_4_w5s1p4_4 h_S_) := rfl

/-- The leading bits of a word under the exponent of one are one plus its uniform number. -/
theorem ofBits_one_add (h : BitVec 32) : Ideal.ofBits .f32 (IntOp.ori (IntOp.shrui .host h 9#32) 1065353216#32) = ((1 + unif h : ℝ) : EReal) := by
  have hb : h.toNat / 512 < 2 ^ 23 := by have := h.isLt; omega
  have e : (IntOp.ori (IntOp.shrui .host h 9#32) 1065353216#32).toNat = h.toNat / 512 + 1065353216 := by
    show ((h >>> 9) ||| 1065353216#32).toNat = _
    rw [BitVec.toNat_or, BitVec.toNat_ushiftRight, Nat.shiftRight_eq_div_pow, Nat.or_comm]
    show 2 ^ 23 * 127 ||| h.toNat / 512 = _
    rw [← Nat.two_pow_add_eq_or_of_lt hb]
    omega
  generalize IntOp.ori (IntOp.shrui .host h 9#32) 1065353216#32 = w at e
  have s : w.extractLsb' 31 1 = 0#1 := by
    apply BitVec.eq_of_toNat_eq
    rw [BitVec.extractLsb'_toNat, e, Nat.shiftRight_eq_div_pow]
    show _ = 0
    omega
  have x : (w.extractLsb' 23 8).toNat = 127 := by
    rw [BitVec.extractLsb'_toNat, e, Nat.shiftRight_eq_div_pow]
    omega
  have f : (w.extractLsb' 0 23).toNat = h.toNat / 512 := by
    rw [BitVec.extractLsb'_toNat, e, Nat.shiftRight_eq_div_pow]
    omega
  show Ideal.ieee 8 23 w = _
  unfold Ideal.ieee
  dsimp only
  rw [x, f, s]
  unfold unif
  norm_num [-EReal.coe_mul, -EReal.coe_add]
  congr 1
  ring

/-- A uniform number is not negative. -/
theorem unif_nonneg (h : BitVec 32) : 0 ≤ unif h := by
  unfold unif
  positivity

/-- A random word's number from one up to two. -/
theorem onev_at (b : IVec S8x96x220x220 32) (j : S8x96x220x220.Idx) : onev b j = ((1 + unif (b j) : ℝ) : EReal) := ofBits_one_add _

theorem zerov_at (k : S1x1x1x1.Idx) : zerov k = ((0 : ℝ) : EReal) := Ideal.ofBits_zero_f32

theorem topv_at (k : S1x1x1x1.Idx) : topv k = ((1 : ℝ) : EReal) := Ideal.ofBits_one_f32

theorem subf_at {s : Shape} (x y : FVec Ideal s .f32) (k : s.Idx) : subf x y k = (x k - y k : EReal) := rfl

/-- A spread array holds one number `c` when its only element does. -/
theorem spread_at (v : FVec Ideal S1x1x1x1 .f32) (c : EReal) (h : ∀ k, v k = c) (j : S8x96x220x220.Idx) : spread v j = c := h _

/-- The uniform number of a random word, at an index. -/
theorem univ_at (b : IVec S8x96x220x220 32) (j : S8x96x220x220.Idx) : univ b j = (unif (b j) : EReal) := by
  have o : (broadcastInDim S8x96x220x220 ![] bcast_S_S8x96x220x220 (constant (F := Ideal) S_ .f32 0x3F800000#32)) j = ((1 : ℝ) : EReal) := Ideal.ofBits_one_f32
  have d : ∀ k, subf topv zerov k = ((1 : ℝ) : EReal) := fun k => by
    rw [subf_at, topv_at, zerov_at, ← EReal.coe_sub, sub_zero]
  have e : univ b j = max (spread zerov j) ((onev b j - (broadcastInDim S8x96x220x220 ![] bcast_S_S8x96x220x220 (constant (F := Ideal) S_ .f32 0x3F800000#32)) j)
    * spread (subf topv zerov) j + spread zerov j) := rfl
  rw [e, spread_at _ _ zerov_at, spread_at _ _ d, o, onev_at, ← EReal.coe_sub, ← EReal.coe_mul, ← EReal.coe_add,
    show ((1 + unif (b j) - 1) * 1 + 0 : ℝ) = unif (b j) by ring]
  exact max_eq_right (EReal.coe_le_coe_iff.2 (unif_nonneg _))

open Classical in
/-- The mask at an index: one where its uniform number is below the probability, else zero. -/
theorem maskv_at (j : S8x96x220x220.Idx) : maskv V0 j = if below (gIn V0) (Drop.hash (BitVec.ofNat 32 (linN j))) then (1 : EReal) else 0 := by
  unfold maskv
  have g : (broadcastInDim S8x96x220x220 ![] bcast_S_S8x96x220x220 (gVec V0)) j = gIn V0 :=
    broadcastInDim_scalar_apply _ _ _
  show (((Ideal.cmp .olt (univ (bits V0) j) ((broadcastInDim S8x96x220x220 ![] bcast_S_S8x96x220x220 (gVec V0)) j)).toNat : ℝ) : EReal) = _
  rw [univ_at, g, bits_at]
  unfold below Ideal.cmp
  by_cases h : (unif (Drop.hash (BitVec.ofNat 32 (linN j))) : EReal) < gIn V0
  · rw [if_pos h]; simp [h]
  · rw [if_neg h]; simp [h]

open Classical in
/-- The dilated mask at an index: one where the element is dropped, else zero. -/
theorem dilated_at (n : Fin 8) (ch : Fin 96) (i : Fin 224) (j : Fin 224) :
    Host.reduceWindow (FloatOps.maximumf (F := Ideal)) ![1, 1, 5, 5] ![1, 1, 1, 1] ![0, 0, 4, 4] ![0, 0, 4, 4] (maskv V0) (broadcastInDim S_ ![] bcast_S_S_ (constant S_ .f32 0xFF800000#32))
      reduceWindows_S8x96x220x220_S8x96x224x224_w1s1p0_0_w1s1p0_0_w5s1p4_4_w5s1p4_4 h_S_ (ix4 n ch i j)
      = if rdrop (gIn V0) (n.val * 96 + ch.val) i.val j.val then (1 : EReal) else 0 := by
  have hn := n.isLt
  have hch := ch.isLt
  have hi := i.isLt
  have hj := j.isLt
  have ini : (broadcastInDim S_ ![] bcast_S_S_ (constant (F := Ideal) S_ .f32 0xFF800000#32)) (Shape.Idx.first h_S_) = (⊥ : EReal) := by
    show Ideal.ofBits .f32 0xFF800000#32 = _
    simp [Ideal.ofBits, Ideal.ieee]
  unfold Host.reduceWindow
  dsimp only
  rw [ini]
  let W : Shape := ⟨4, ![1, 1, 5, 5]⟩
  -- what a position of the window holds
  have inside : ∀ (w : W.Idx) (hin : ∀ a : Fin 4, ![0, 0, 4, 4] a ≤ (ix4 n ch i j (a.cast rfl)).val * ![1, 1, 1, 1] a + (w a).val
        ∧ (ix4 n ch i j (a.cast rfl)).val * ![1, 1, 1, 1] a + (w a).val - ![0, 0, 4, 4] a < S8x96x220x220.size a),
      maskv V0 (fun a => ⟨(ix4 n ch i j (a.cast rfl)).val * ![1, 1, 1, 1] a + (w a).val - ![0, 0, 4, 4] a, (hin a).2⟩)
        = if below (gIn V0) (Drop.hash (pos (n.val * 96 + ch.val) (i.val + (w 2).val - 4) (j.val + (w 3).val - 4))) then (1 : EReal) else 0 := by
    intro w hin
    rw [maskv_at]
    have h0 : (w 0).val < 1 := (w 0).isLt
    have h1 : (w 1).val < 1 := (w 1).isLt
    have e : linN (fun a => ⟨(ix4 n ch i j (a.cast rfl)).val * ![1, 1, 1, 1] a + (w a).val - ![0, 0, 4, 4] a, (hin a).2⟩)
        = (n.val * 96 + ch.val) * 48400 + (i.val + (w 2).val - 4) * 220 + (j.val + (w 3).val - 4) := by
      show 4646400 * (n.val * 1 + (w 0).val - 0) + 48400 * (ch.val * 1 + (w 1).val - 0) + 220 * (i.val * 1 + (w 2).val - 4) + (j.val * 1 + (w 3).val - 4) = _
      omega
    rw [e]
    rfl
  have isin : ∀ (w : W.Idx), (∀ a : Fin 4, ![0, 0, 4, 4] a ≤ (ix4 n ch i j (a.cast rfl)).val * ![1, 1, 1, 1] a + (w a).val
        ∧ (ix4 n ch i j (a.cast rfl)).val * ![1, 1, 1, 1] a + (w a).val - ![0, 0, 4, 4] a < S8x96x220x220.size a)
      ↔ (4 ≤ i.val + (w 2).val ∧ i.val + (w 2).val < 224) ∧ (4 ≤ j.val + (w 3).val ∧ j.val + (w 3).val < 224) := by
    intro w
    have h0 : (w 0).val < 1 := (w 0).isLt
    have h1 : (w 1).val < 1 := (w 1).isLt
    constructor
    · intro h
      have a2 : 4 ≤ i.val * 1 + (w 2).val ∧ i.val * 1 + (w 2).val - 4 < 220 := h 2
      have a3 : 4 ≤ j.val * 1 + (w 3).val ∧ j.val * 1 + (w 3).val - 4 < 220 := h 3
      omega
    · rintro ⟨a2, a3⟩ a
      match a with
      | ⟨0, _⟩ => show 0 ≤ n.val * 1 + (w 0).val ∧ n.val * 1 + (w 0).val - 0 < 8; omega
      | ⟨1, _⟩ => show 0 ≤ ch.val * 1 + (w 1).val ∧ ch.val * 1 + (w 1).val - 0 < 96; omega
      | ⟨2, _⟩ => show 4 ≤ i.val * 1 + (w 2).val ∧ i.val * 1 + (w 2).val - 4 < 220; omega
      | ⟨3, _⟩ => show 4 ≤ j.val * 1 + (w 3).val ∧ j.val * 1 + (w 3).val - 4 < 220; omega
  refine foldl_max _ _ _ ?_ ?_
  · intro k _
    split
    · rename_i hin
      have hw := (isin (W.rowMajor.symm k)).1 hin
      refine (inside (W.rowMajor.symm k) hin).trans_le ?_
      split
      · rename_i hb
        have h2 : (W.rowMajor.symm k 2).val < 5 := (W.rowMajor.symm k 2).isLt
        have h3 : (W.rowMajor.symm k 3).val < 5 := (W.rowMajor.symm k 3).isLt
        rw [if_pos]
        refine ⟨4 - (W.rowMajor.symm k 2).val, (W.rowMajor.symm k 3).val, by omega, by omega, by omega, by omega, by omega, by omega, ?_⟩
        rw [show i.val - (4 - (W.rowMajor.symm k 2).val) = i.val + (W.rowMajor.symm k 2).val - 4 by omega]
        exact hb
      · split <;> simp
    · exact bot_le
  · by_cases hd : rdrop (gIn V0) (n.val * 96 + ch.val) i.val j.val
    · obtain ⟨d, e, q1, q2, q3, q4, q5, q6, q7⟩ := id hd
      refine ⟨W.rowMajor (ix4 (0 : Fin 1) (0 : Fin 1) (⟨4 - d, by omega⟩ : Fin 5) (⟨e, q2⟩ : Fin 5)), List.mem_finRange _, ?_⟩
      have hw := Equiv.symm_apply_apply W.rowMajor (ix4 (0 : Fin 1) (0 : Fin 1) (⟨4 - d, by omega⟩ : Fin 5) (⟨e, q2⟩ : Fin 5))
      have hin := (isin (W.rowMajor.symm (W.rowMajor (ix4 (0 : Fin 1) (0 : Fin 1) (⟨4 - d, by omega⟩ : Fin 5) (⟨e, q2⟩ : Fin 5))))).2 (by
        rw [hw]
        exact ⟨by show 4 ≤ i.val + (4 - d) ∧ i.val + (4 - d) < 224; omega, by show 4 ≤ j.val + e ∧ j.val + e < 224; omega⟩)
      refine (dif_pos hin).trans ((inside _ hin).trans ?_)
      rw [hw]
      rw [if_pos hd, if_pos]
      show below _ (Drop.hash (pos _ (i.val + (4 - d) - 4) (j.val + e - 4)))
      rw [show i.val + (4 - d) - 4 = i.val - d by omega]
      exact q7
    · have he : ∃ d e, d < 5 ∧ e < 5 ∧ 4 ≤ i.val + d ∧ i.val + d < 224 ∧ 4 ≤ j.val + e ∧ j.val + e < 224 := by
        refine ⟨if i.val < 4 then 4 else 0, if j.val < 4 then 4 else 0, ?_⟩
        split <;> split <;> omega
      obtain ⟨d, e, q1, q2, q3, q4, q5, q6⟩ := he
      refine ⟨W.rowMajor (ix4 (0 : Fin 1) (0 : Fin 1) (⟨d, q1⟩ : Fin 5) (⟨e, q2⟩ : Fin 5)), List.mem_finRange _, ?_⟩
      have hw := Equiv.symm_apply_apply W.rowMajor (ix4 (0 : Fin 1) (0 : Fin 1) (⟨d, q1⟩ : Fin 5) (⟨e, q2⟩ : Fin 5))
      have hin := (isin (W.rowMajor.symm (W.rowMajor (ix4 (0 : Fin 1) (0 : Fin 1) (⟨d, q1⟩ : Fin 5) (⟨e, q2⟩ : Fin 5))))).2 (by
        rw [hw]
        exact ⟨by show 4 ≤ i.val + d ∧ i.val + d < 224; omega, by show 4 ≤ j.val + e ∧ j.val + e < 224; omega⟩)
      refine (dif_pos hin).trans ((inside _ hin).trans ?_)
      rw [hw]
      rw [if_neg hd, if_neg]
      intro hb
      refine hd ⟨4 - d, e, by omega, q2, by omega, by omega, q5, q6, ?_⟩
      rw [show i.val - (4 - d) = i.val + d - 4 by omega]
      exact hb

open Classical in
/-- The reference's block mask at an index: zero where the element is dropped, else one. -/
theorem v13_at (n : Fin 8) (ch : Fin 96) (i : Fin 224) (j : Fin 224) :
    (res_main_v13 V0 : Vec Ideal S8x96x224x224 .f32) (ix4 n ch i j)
      = if rdrop (gIn V0) (n.val * 96 + ch.val) i.val j.val then (0 : EReal) else 1 := by
  have one : (broadcastInDim S8x96x224x224 ![] bcast_S_S8x96x224x224 (constant (F := Ideal) S_ .f32 0x3F800000#32)) (ix4 n ch i j) = (1 : EReal) := Ideal.ofBits_one_f32
  rw [v13_eq]
  show (broadcastInDim S8x96x224x224 ![] bcast_S_S8x96x224x224 (constant (F := Ideal) S_ .f32 0x3F800000#32)) (ix4 n ch i j) - Host.reduceWindow _ _ _ _ _ _ _ _ _ _ = (_ : EReal)
  rw [one, dilated_at]
  split
  · show ((1 : ℝ) : EReal) - ((1 : ℝ) : EReal) = ((0 : ℝ) : EReal)
    rw [← EReal.coe_sub, sub_self]
  · exact sub_zero _

end Cert.ReferenceIdeal.Value
-- ==== Proof.Agree.lean ====
/- The two results, element by element. -/
module

public import proofs.«01_k».proof.Proof.RRead
public import proofs.«01_k».proof.Proof.KCount
public import proofs.«01_k».proof.Proof.KApply
public import proofs.«01_k».proof.Proof.Sums

@[expose] public section

noncomputable section

namespace Cert.Drop

open Idealize.ShloMosaic
open Cert.KernelIdeal.Value (thr)

/-- Every window holds a position whose uniform number is not the largest. -/
def Windows : Prop := ∀ c i j, c < 768 → i < 224 → j < 224 →
  ∃ d e, d < 5 ∧ e < 5 ∧ d ≤ i ∧ i - d < 220 ∧ 4 ≤ j + e ∧ j + e < 224 ∧ (Drop.hash (pos c (i - d) (j + e - 4))).toNat / 512 < 8388607

/-- The kernel and the reference drop the same elements. -/
def Agrees (γ : EReal) : Prop := ∀ c i j, c < 768 → i < 224 → j < 224 → (rdrop γ c i j ↔ drop (thr (F := Ideal) γ) c i j = true)

/-- What the kernel drops, in the reference's words: the positions of the largest uniform number do not count. -/
theorem drop_words (γ : EReal) (c i j : ℕ) : drop (thr (F := Ideal) γ) c i j = true ↔
    ∃ d e, d < 5 ∧ e < 5 ∧ d ≤ i ∧ i - d < 220 ∧ 4 ≤ j + e ∧ j + e < 224 ∧ below γ (Drop.hash (pos c (i - d) (j + e - 4)))
      ∧ (Drop.hash (pos c (i - d) (j + e - 4))).toNat / 512 < 8388607 := by
  rw [drop_iff]
  constructor
  · rintro ⟨d, e, h1, h2, h3, h⟩
    unfold hit at h
    rw [Bool.and_eq_true, Bool.and_eq_true, decide_eq_true_eq, decide_eq_true_eq] at h
    obtain ⟨⟨h4, h5, h6⟩, h7⟩ := h
    exact ⟨d, e, h1, h2, h3, h4, h5, h6, (ult_thr γ _).1 h7⟩
  · rintro ⟨d, e, h1, h2, h3, h4, h5, h6, h7⟩
    refine ⟨d, e, h1, h2, h3, ?_⟩
    unfold hit
    rw [Bool.and_eq_true, Bool.and_eq_true, decide_eq_true_eq, decide_eq_true_eq]
    exact ⟨⟨h4, h5, h6⟩, (ult_thr γ _).2 h7⟩

/-- A uniform number is at most the largest. -/
theorem unif_le (h : BitVec 32) : unif h ≤ 8388607 * (8388608 : ℝ)⁻¹ := by
  unfold unif
  have e : h.toNat / 512 ≤ 8388607 := by have := h.isLt; omega
  have r : ((h.toNat / 512 : ℕ) : ℝ) ≤ 8388607 := by exact_mod_cast e
  exact mul_le_mul_of_nonneg_right r (by positivity)

/-- The largest uniform number. -/
theorem unif_eq (h : BitVec 32) (e : ¬ h.toNat / 512 < 8388607) : unif h = 8388607 * (8388608 : ℝ)⁻¹ := by
  unfold unif
  have e : h.toNat / 512 = 8388607 := by have := h.isLt; omega
  rw [e]
  norm_num

/-- The kernel and the reference drop the same elements when every window holds a position that counts. -/
theorem agrees (w : Windows) (γ : EReal) : Agrees γ := by
  intro c i j hc hi hj
  rw [drop_words]
  constructor
  · rintro ⟨d, e, h1, h2, h3, h4, h5, h6, h7⟩
    by_cases g : (Drop.hash (pos c (i - d) (j + e - 4))).toNat / 512 < 8388607
    · exact ⟨d, e, h1, h2, h3, h4, h5, h6, h7, g⟩
    · -- the largest uniform number is below the probability: so is every other
      obtain ⟨d', e', k1, k2, k3, k4, k5, k6, k7⟩ := w c i j hc hi hj
      refine ⟨d', e', k1, k2, k3, k4, k5, k6, ?_, k7⟩
      unfold below at h7 ⊢
      rw [unif_eq _ g] at h7
      exact (EReal.coe_le_coe_iff.2 (unif_le _)).trans_lt h7
  · rintro ⟨d, e, h1, h2, h3, h4, h5, h6, h7, _⟩
    exact ⟨d, e, h1, h2, h3, h4, h5, h6, h7⟩

/-- The number of elements kept. -/
def kept (T : BitVec 32) : ℕ :=
  ∑ a ∈ Finset.range 8, ∑ b ∈ Finset.range 96, ∑ i ∈ Finset.range 224, ∑ j ∈ Finset.range 224, (!(drop T (a * 96 + b) i j)).toNat

/-- The elements kept and the elements dropped are all of them. -/
theorem kept_add (T : BitVec 32) : kept T + total T = 38535168 := by
  have e : total T = ∑ a ∈ Finset.range 8, ∑ b ∈ Finset.range 96, ∑ i ∈ Finset.range 224, ∑ j ∈ Finset.range 224, (drop T (a * 96 + b) i j).toNat := by
    unfold total
    refine (sum_blocks 8 96 _).trans ?_
    refine Finset.sum_congr rfl fun a _ => Finset.sum_congr rfl fun b _ => ?_
    rw [Nat.mul_comm 96 a]
    rfl
  rw [e]
  unfold kept
  simp only [← Finset.sum_add_distrib]
  have one : ∀ b : Bool, (!b).toNat + b.toNat = 1 := by decide
  simp only [one, Finset.sum_const, Finset.card_range, smul_eq_mul]

end Cert.Drop

namespace Cert.ReferenceIdeal.Value

open Cert.ReferenceIdeal Cert.ReferenceIdeal.Gen Idealize.ShloMosaic Idealize.ShloMosaic.TcCoe Idealize.SL.Sem Idealize.ShloMosaic.StableHlo
open Cert.Drop Idealize.ShloMosaic.ValueIdx
open Cert.KernelIdeal.Value (thr)

variable (V0 : Valuation τ sig (Elt Ideal))

/-- The reference's block mask. -/
def bVec : FVec Ideal S8x96x224x224 .f32 := res_main_v13 V0

/-- The reference's block mask, where the two drop the same elements. -/
theorem v13_drop (h : Agrees (gIn V0)) (n : Fin 8) (ch : Fin 96) (i : Fin 224) (j : Fin 224) :
    (bVec V0) (ix4 n ch i j)
      = (((!(drop (thr (F := Ideal) (gIn V0)) (n.val * 96 + ch.val) i.val j.val)).toNat : ℕ) : EReal) := by
  have hn := n.isLt
  have hch := ch.isLt
  refine (v13_at V0 n ch i j).trans ?_
  have k := h (n.val * 96 + ch.val) i.val j.val (by omega) i.isLt j.isLt
  cases hd : drop (thr (F := Ideal) (gIn V0)) (n.val * 96 + ch.val) i.val j.val
  · rw [if_neg (fun r => by have := k.1 r; rw [hd] at this; cases this)]
    simp
  · rw [if_pos (k.2 hd)]
    simp

/-- The sum of the reference's block mask is the number of elements kept. -/
theorem v13_sum (h : Agrees (gIn V0)) : ∑ i, (bVec V0) i = ((kept (thr (F := Ideal) (gIn V0)) : ℕ) : EReal) := by
  refine (sum_range4 (bVec V0)
    (fun a b c d => (((!(drop (thr (F := Ideal) (gIn V0)) (a * 96 + b) c d)).toNat : ℕ) : EReal)) fun a b c d => v13_drop V0 h a b c d).trans ?_
  unfold kept
  simp only [Nat.cast_sum]

/-- The number of all elements, as the two programs write it. -/
theorem all_eq : Ideal.ofBits .f32 0x4C130000#32 = ((38535168 : ℝ) : EReal) := by
  simp [Ideal.ofBits, Ideal.ieee, -EReal.coe_mul]
  norm_num

/-- The zero that the two programs write. -/
theorem zero_eq : Ideal.ofBits .f32 0x00000000#32 = (0 : EReal) := by simp [Ideal.ofBits, Ideal.ieee]

/-- The kernel's scale is the number of all elements over the number kept. -/
theorem scale_kept (T v : BitVec 32) (hv : v.toNat = total T) :
    Cert.KernelIdeal.Value.scale (F := Ideal) v = Ideal.div ((38535168 : ℝ) : EReal) ((kept T : ℕ) : EReal) := by
  have k := kept_add T
  have t : v.toInt = (v.toNat : ℤ) := BitVec.toInt_eq_toNat_of_lt (by omega)
  show Ideal.div (Ideal.ofBits .f32 0x4C130000#32) (Ideal.ofBits .f32 0x4C130000#32 - ((v.toInt : ℝ) : EReal)) = _
  rw [all_eq, t, ← EReal.coe_sub]
  have e : (38535168 : ℝ) - (((v.toNat : ℤ)) : ℝ) = ((kept T : ℕ) : ℝ) := by
    rw [hv]
    have : ((kept T + total T : ℕ) : ℝ) = 38535168 := by rw [k]; norm_num
    push_cast at this ⊢
    linarith
  rw [e]
  rfl

/-- The reference's elements, as it finds them. -/
def xVec : FVec Ideal S8x96x224x224 .f32 := V0 (Proc.devRef .tc main_arg0)

/-- The reference's scale. -/
def sVec : FVec Ideal S8x96x224x224 .f32 :=
  broadcastInDim S8x96x224x224 ![] bcast_S_S8x96x224x224
    (Host.divf (F := Ideal) (constant S_ .f32 0x4C130000#32) (Host.reduceAdd (bVec V0) (constant S_ .f32 0x00000000#32) reducesTo_S8x96x224x224_S_d0_1_2_3 h_S_))

/-- The reference's result. -/
def out : FVec Ideal S8x96x224x224 .f32 := mulf (mulf (bVec V0) (xVec V0)) (sVec V0)

/-- The reference's scale is the number of all elements over the number kept. -/
theorem rscale (h : Agrees (gIn V0)) (i : S8x96x224x224.Idx) :
    sVec V0 i = Ideal.div ((38535168 : ℝ) : EReal) ((kept (thr (F := Ideal) (gIn V0)) : ℕ) : EReal) := by
  unfold sVec
  rw [broadcastInDim_scalar_apply, hostDivf_apply, hostReduceAdd_apply, Ideal.hostReduceAdd_total _ (fun b => b.elim0), v13_sum V0 h]
  have z : (constant (F := Ideal) S_ .f32 0x00000000#32) (Shape.Idx.first h_S_) = (0 : EReal) := by
    exact zero_eq
  have k : (constant (F := Ideal) S_ .f32 0x4C130000#32) ix0 = ((38535168 : ℝ) : EReal) := all_eq
  rw [z, k, zero_add]

/-- Zero where the element is dropped and the product elsewhere, as one product. -/
theorem pick_eq (b : Bool) (x s : EReal) : Scalar.select (BitVec.ofBool b) (Ideal.ofBits .f32 0x00000000#32) (x * s)
    = ((((!b).toNat : ℕ) : EReal) * x) * s := by
  rw [zero_eq]
  cases b
  · refine (if_neg (by decide)).trans ?_
    rw [show (!false).toNat = 1 from rfl, Nat.cast_one, one_mul]
  · refine (if_pos (by decide)).trans ?_
    rw [show (!true).toNat = 0 from rfl, Nat.cast_zero, zero_mul, zero_mul]

/-- The reference's result at an index is the kernel's. -/
theorem out_at (h : Agrees (gIn V0)) (v : BitVec 32) (hv : v.toNat = total (thr (F := Ideal) (gIn V0))) (n : Fin 8) (ch : Fin 96) (i : Fin 224) (j : Fin 224) :
    Cert.KernelIdeal.Value.pick (drop (thr (F := Ideal) (gIn V0)) (n.val * 96 + ch.val) i.val j.val) (xVec V0 (ix4 n ch i j)) (Cert.KernelIdeal.Value.scale v)
      = out V0 (ix4 n ch i j) := by
  rw [scale_kept _ v hv]
  have o : out V0 (ix4 n ch i j) = ((bVec V0 (ix4 n ch i j) : EReal) * (xVec V0 (ix4 n ch i j) : EReal)) * (sVec V0 (ix4 n ch i j) : EReal) := rfl
  rw [o, rscale V0 h, v13_drop V0 h]
  generalize Ideal.div _ _ = s
  generalize xVec V0 (ix4 n ch i j) = x
  generalize drop (thr (F := Ideal) (gIn V0)) (n.val * 96 + ch.val) i.val j.val = b
  exact pick_eq b x s

end Cert.ReferenceIdeal.Value
-- ==== Proof.Value.lean ====
/- The kernel's result is the reference's. -/
module

public import proofs.«01_k».proof.Defs
public import proofs.«01_k».proof.Proof.KResult
public import proofs.«01_k».proof.Proof.RefRun
public import proofs.«01_k».proof.Proof.Agree
public import proofs.«01_k».proof.Proof.Gen.KernelIdeal
public import proofs.«01_k».proof.Proof.Gen.ReferenceIdeal

@[expose] public section

noncomputable section

namespace Cert.Value

open Idealize.ShloMosaic Idealize.ShloMosaic.TcCoe Idealize.SL.Sem Idealize.ShloMosaic.StableHlo Idealize.ShloMosaic.ValueIdx

/-- The reference runs, leaves its arguments as they were, and ends with every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

variable (m : (ℓ : Loc Cert.KernelIdeal.nD Cert.KernelIdeal.τ Cert.KernelIdeal.sig) → Buf (Elt Ideal) ℓ) (ρ : Dev Cert.KernelIdeal.nD → PrngReg)
variable (V0 : Valuation Cert.ReferenceIdeal.τ Cert.ReferenceIdeal.sig (Elt Ideal))

/-- On equal arguments the kernel's result is the reference's, once every window holds a position that counts. -/
theorem same (w : Cert.Drop.Windows) (c : Dev Cert.KernelIdeal.nD) (hx : Cert.ReferenceIdeal.Value.xVec V0 = Cert.KernelIdeal.Value.xIn m c)
    (hg : Cert.ReferenceIdeal.Value.gIn V0 = Cert.KernelIdeal.Value.gIn m c) :
    (Cert.ReferenceIdeal.Value.out V0 : Cert.ReferenceIdeal.S8x96x224x224.Idx → EReal)
      = (Cert.KernelIdeal.Gen.W4 m ρ c (Proc.devRef .tc Cert.KernelIdeal.main_v4) : Vec Ideal Cert.KernelIdeal.S8x96x224x224 .f32) := by
  funext i
  rw [eq_ix4 i]
  refine ((Cert.ReferenceIdeal.Value.out_at V0 (Cert.Drop.agrees w _) (Cert.KernelIdeal.Value.cnt m ρ c) ?_ (i 0) (i 1) (i 2) (i 3)).symm.trans ?_)
  · rw [hg]; exact Cert.KernelIdeal.Value.toNat_cnt m ρ c
  · rw [hg, hx]; exact (Cert.KernelIdeal.Value.result_at m ρ c (i 0) (i 1) (i 2) (i 3)).symm

/-- The algebraic claim, once every window holds a position that counts. -/
theorem algebraic (w : Cert.Drop.Windows) :
    Cert.algebraic_KernelIdeal_ReferenceIdeal (hKernelIdeal := Cert.KernelIdeal.Gen.facts) (hReferenceIdeal := Cert.ReferenceIdeal.Gen.facts) :=
  fun m g m' g' _ ha => ⟨fun c => Cert.KernelIdeal.Gen.W4 m g c (Proc.devRef .tc Cert.KernelIdeal.main_v4),
    Cert.KernelIdeal.Value.run (F := Ideal) m g,
    (θ_run Cert.ReferenceIdeal.defs _ _).mono (fun r h c => ⟨(h c).1.trans (same m g (launchContents m' c) w c (ha c).1 (congrFun (ha c).2 ix0)), (h c).2⟩)
      (Cert.ReferenceIdeal.Value.run (F := Ideal) m' g')⟩

end Cert.Value
-- ==== Proof.Lanes.lean ====
/- The hash on many counters at once: words in the lanes of one natural number. -/
module

public import proofs.«01_k».proof.Proof.Hash
public import Mathlib.Data.Nat.Bitwise
public import Mathlib.Tactic.Ring

@[expose] public section

namespace Cert.Drop

/-- Lanes of 64 bits: the numbers `f k`, `f (k+1)`, … of `n` lanes, the first lowest. -/
def pk (f : Nat → Nat) : Nat → Nat → Nat
  | _, 0 => 0
  | k, n + 1 => 2 ^ 64 * pk f (k + 1) n + f k

/-- A function of a number, the number computed first. -/
def force {α : Type} (x : Nat) (f : Nat → α) : α := Nat.rec (motive := fun _ => α) (f 0) (fun n _ => f (n + 1)) x

theorem force_eq {α : Type} (x : Nat) (f : Nat → α) : force x f = f x := by cases x <;> rfl

/-! ## The lanes under sums, products and bit operations -/

theorem pk_congr_lt (f g : Nat → Nat) (k n : Nat) (h : ∀ i, i < k + n → f i = g i) : pk f k n = pk g k n := by
  induction n generalizing k with
  | zero => rfl
  | succ n ih => simp only [pk]; rw [ih (k + 1) (fun i hi => h i (by omega)), h k (by omega)]

theorem pk_congr (f g : Nat → Nat) (h : ∀ i, f i = g i) (k n : Nat) : pk f k n = pk g k n := by
  rw [show f = g from funext h]

theorem pk_add (f g : Nat → Nat) (k n : Nat) : pk f k n + pk g k n = pk (fun i => f i + g i) k n := by
  induction n generalizing k with
  | zero => rfl
  | succ n ih => simp only [pk, ← ih]; ring

theorem pk_mul (f : Nat → Nat) (c k n : Nat) : pk f k n * c = pk (fun i => f i * c) k n := by
  induction n generalizing k with
  | zero => simp [pk]
  | succ n ih => simp only [pk, ← ih]; ring

theorem pk_and (f g : Nat → Nat) (hf : ∀ i, f i < 2 ^ 64) (hg : ∀ i, g i < 2 ^ 64) (k n : Nat) :
    pk f k n &&& pk g k n = pk (fun i => f i &&& g i) k n := by
  induction n generalizing k with
  | zero => simp [pk]
  | succ n ih =>
    simp only [pk, ← ih]
    apply Nat.eq_of_testBit_eq
    intro j
    rw [Nat.testBit_and, Nat.testBit_two_pow_mul_add _ (hf k), Nat.testBit_two_pow_mul_add _ (hg k),
      Nat.testBit_two_pow_mul_add _ (lt_of_le_of_lt Nat.and_le_left (hf k))]
    split <;> simp only [Nat.testBit_and]

theorem pk_xor (f g : Nat → Nat) (hf : ∀ i, f i < 2 ^ 64) (hg : ∀ i, g i < 2 ^ 64) (k n : Nat) :
    pk f k n ^^^ pk g k n = pk (fun i => f i ^^^ g i) k n := by
  induction n generalizing k with
  | zero => simp [pk]
  | succ n ih =>
    simp only [pk, ← ih]
    apply Nat.eq_of_testBit_eq
    intro j
    rw [Nat.testBit_xor, Nat.testBit_two_pow_mul_add _ (hf k), Nat.testBit_two_pow_mul_add _ (hg k),
      Nat.testBit_two_pow_mul_add _ (Nat.xor_lt_two_pow (hf k) (hg k))]
    split <;> simp only [Nat.testBit_xor]

/-- A shift by 32 bits, each lane's own bits kept by a mask of 32 bits. -/
theorem pk_shr (f g : Nat → Nat) (hf : ∀ i, f i < 2 ^ 64) (hg : ∀ i, g i < 2 ^ 32) (k n : Nat) :
    pk f k n >>> 32 &&& pk g k n = pk (fun i => f i >>> 32 &&& g i) k n := by
  induction n generalizing k with
  | zero => simp [pk]
  | succ n ih =>
    have hg' : ∀ i, g i < 2 ^ 64 := fun i => (hg i).trans (by norm_num)
    simp only [pk, ← ih]
    apply Nat.eq_of_testBit_eq
    intro j
    rw [Nat.testBit_and, Nat.testBit_shiftRight, Nat.testBit_two_pow_mul_add _ (hf k), Nat.testBit_two_pow_mul_add _ (hg' k),
      Nat.testBit_two_pow_mul_add _ (lt_of_le_of_lt Nat.and_le_right (hg' k))]
    by_cases h : j < 64
    · rw [if_pos h, if_pos h, Nat.testBit_and, Nat.testBit_shiftRight]
      by_cases h2 : 32 + j < 64
      · rw [if_pos h2]
      · have z : (g k).testBit j = false := Nat.testBit_lt_two_pow ((hg k).trans_le (Nat.pow_le_pow_right (by decide) (by omega)))
        rw [z, Bool.and_false, Bool.and_false]
    · rw [if_neg h, if_neg h, if_neg (by omega), Nat.testBit_and, Nat.testBit_shiftRight]
      rw [show 32 + j - 64 = 32 + (j - 64) by omega]

theorem pk_zero (f : Nat → Nat) (k n : Nat) (h : pk f k n = 0) : ∀ i, i < n → f (k + i) = 0 := by
  induction n generalizing k with
  | zero => intro i hi; omega
  | succ n ih =>
    simp only [pk] at h
    intro i hi
    cases i with
    | zero => rw [Nat.add_zero]; omega
    | succ i =>
      have := ih (k + 1) (by omega) i (by omega)
      rw [← this]
      congr 1
      omega

/-! ## Words in the lanes -/

/-- The lanes that hold the words `a 0`, …, `a (n-1)`. -/
def P (n : Nat) (a : Nat → BitVec 32) : Nat := pk (fun i => (a i).toNat) 0 n

/-- The lanes that all hold one. -/
def ones (n : Nat) : Nat := pk (fun _ => 1) 0 n

/-- The lanes that all hold 32 set bits. -/
def mask (n : Nat) : Nat := 4294967295 * ones n

theorem ones_mul (n c : Nat) : c * ones n = pk (fun _ => c) 0 n := by
  rw [Nat.mul_comm]
  unfold ones
  rw [pk_mul]
  exact pk_congr _ _ (fun i => Nat.one_mul c) _ _

theorem and_mask (x : Nat) : x &&& 4294967295 = x % 2 ^ 32 := Nat.and_two_pow_sub_one_eq_mod x 32

/-- A sum of words in the lanes. -/
def ladd (M A B : Nat) : Nat := (A + B) &&& M

/-- Words in the lanes turned left. -/
def lrot (M r A : Nat) : Nat := ((A * 2 ^ r) &&& M) + ((A * 2 ^ r) >>> 32 &&& M)

theorem lt64 (x : BitVec 32) : x.toNat < 2 ^ 64 := x.isLt.trans (by norm_num)

theorem ladd_P (n : Nat) (a b : Nat → BitVec 32) : ladd (mask n) (P n a) (P n b) = P n fun i => a i + b i := by
  unfold ladd mask P
  rw [ones_mul, pk_add, pk_and _ _ (fun i => by have := (a i).isLt; have := (b i).isLt; omega) (fun _ => by norm_num)]
  exact pk_congr _ _ (fun i => by rw [and_mask, BitVec.toNat_add]) _ _

theorem laddc_P (n : Nat) (a : Nat → BitVec 32) (c : Nat) (hc : c < 2 ^ 32) : ladd (mask n) (P n a) (c * ones n) = P n fun i => a i + BitVec.ofNat 32 c := by
  have e : c * ones n = P n fun _ => BitVec.ofNat 32 c := by
    rw [ones_mul]
    exact pk_congr _ _ (fun i => by rw [BitVec.toNat_ofNat, Nat.mod_eq_of_lt hc]) _ _
  rw [e, ladd_P]

theorem lxor_P (n : Nat) (a b : Nat → BitVec 32) : P n a ^^^ P n b = P n fun i => a i ^^^ b i := by
  unfold P
  rw [pk_xor _ _ (fun i => lt64 _) (fun i => lt64 _)]
  exact pk_congr _ _ (fun i => by rw [BitVec.toNat_xor]) _ _

theorem rot_toNat (r : Nat) (hr : r < 32) (x : BitVec 32) : (rot r x).toNat = (x.toNat * 2 ^ r) % 2 ^ 32 + (x.toNat * 2 ^ r / 2 ^ 32) % 2 ^ 32 := by
  unfold rot
  have hx := x.isLt
  have p : 2 ^ 32 = 2 ^ (32 - r) * 2 ^ r := by rw [← Nat.pow_add]; congr 1; omega
  have q : x.toNat * 2 ^ r / 2 ^ 32 = x.toNat / 2 ^ (32 - r) := by
    rw [p]; exact Nat.mul_div_mul_right _ _ (by positivity)
  have small : x.toNat / 2 ^ (32 - r) < 2 ^ r := by
    rw [Nat.div_lt_iff_lt_mul (by positivity), Nat.mul_comm, ← p]; exact hx
  have le : 2 ^ r ≤ 2 ^ 32 := Nat.pow_le_pow_right (by decide) (by omega)
  rw [BitVec.toNat_or, BitVec.toNat_shiftLeft, BitVec.toNat_ushiftRight, Nat.shiftLeft_eq, Nat.shiftRight_eq_div_pow, q, Nat.mod_eq_of_lt (small.trans_le le)]
  have m : x.toNat * 2 ^ r % 2 ^ 32 = 2 ^ r * (x.toNat % 2 ^ (32 - r)) := by
    rw [p, Nat.mul_mod_mul_right, Nat.mul_comm]
  rw [m, ← Nat.two_pow_add_eq_or_of_lt small]

theorem lrot_P (n r : Nat) (hr : r < 32) (a : Nat → BitVec 32) : lrot (mask n) r (P n a) = P n fun i => rot r (a i) := by
  unfold lrot mask P
  have b : ∀ i, (a i).toNat * 2 ^ r < 2 ^ 64 := fun i => by
    have h := (a i).isLt
    have le : 2 ^ r ≤ 2 ^ 32 := Nat.pow_le_pow_right (by decide) (by omega)
    calc (a i).toNat * 2 ^ r < 2 ^ 32 * 2 ^ r := Nat.mul_lt_mul_of_pos_right h (by positivity)
      _ ≤ 2 ^ 32 * 2 ^ 32 := Nat.mul_le_mul_left _ le
      _ = 2 ^ 64 := by norm_num
  rw [ones_mul, pk_mul, pk_shr _ _ b (fun _ => by norm_num), pk_and _ _ b (fun _ => by norm_num), pk_add]
  exact pk_congr _ _ (fun i => by rw [rot_toNat r hr, and_mask, and_mask, Nat.shiftRight_eq_div_pow]) _ _

/-! ## The rounds -/

/-- One round of the two words. -/
def roundK {α : Type} (M r A B : Nat) (k : Nat → Nat → α) : α :=
  force (ladd M A B) fun A' => force (lrot M r B ^^^ A') fun B' => k A' B'

/-- Four rounds, then the two key words. -/
def groupK {α : Type} (M R r1 r2 r3 r4 c d A B : Nat) (k : Nat → Nat → α) : α :=
  roundK M r1 A B fun A B => roundK M r2 A B fun A B => roundK M r3 A B fun A B => roundK M r4 A B fun A B =>
    force (ladd M A (c * R)) fun A => force (ladd M B (d * R)) fun B => k A B

/-- The hash of the counters in the lanes. -/
def hashK {α : Type} (M R L : Nat) (k : Nat → α) : α :=
  force (ladd M L (3453687069 * R)) fun B =>
  groupK M R 13 15 26 6 3453687069 3780455753 (928981903 * R) B fun A B =>
  groupK M R 17 29 16 24 3780455752 928981905 A B fun A B =>
  groupK M R 13 15 26 6 928981903 3453687072 A B fun A B =>
  groupK M R 17 29 16 24 3453687069 3780455756 A B fun A B =>
  groupK M R 13 15 26 6 3780455752 928981908 A B fun A B => force (A ^^^ B) k

theorem roundK_P {α : Type} (n r : Nat) (hr : r < 32) (a b a' b' : Nat → BitVec 32) (ha : ∀ i, a' i = a i + b i) (hb : ∀ i, b' i = rot r (b i) ^^^ a' i)
    (k : Nat → Nat → α) : roundK (mask n) r (P n a) (P n b) k = k (P n a') (P n b') := by
  unfold roundK
  rw [force_eq, force_eq, ladd_P, lrot_P n r hr, lxor_P, show a' = (fun i => a i + b i) from funext ha, show b' = (fun i => rot r (b i) ^^^ a' i) from funext hb,
    show a' = (fun i => a i + b i) from funext ha]

theorem groupK_P {α : Type} (n r1 r2 r3 r4 c d : Nat) (h1 : r1 < 32) (h2 : r2 < 32) (h3 : r3 < 32) (h4 : r4 < 32) (hc : c < 2 ^ 32) (hd : d < 2 ^ 32)
    (a b a1 b1 a2 b2 a3 b3 a4 a5 b5 : Nat → BitVec 32)
    (ha1 : ∀ i, a1 i = a i + b i) (hb1 : ∀ i, b1 i = rot r1 (b i) ^^^ a1 i)
    (ha2 : ∀ i, a2 i = a1 i + b1 i) (hb2 : ∀ i, b2 i = rot r2 (b1 i) ^^^ a2 i)
    (ha3 : ∀ i, a3 i = a2 i + b2 i) (hb3 : ∀ i, b3 i = rot r3 (b2 i) ^^^ a3 i)
    (ha4 : ∀ i, a4 i = a3 i + b3 i) (ha5 : ∀ i, a5 i = a4 i + BitVec.ofNat 32 c) (hb5 : ∀ i, b5 i = (rot r4 (b3 i) ^^^ a4 i) + BitVec.ofNat 32 d)
    (k : Nat → Nat → α) : groupK (mask n) (ones n) r1 r2 r3 r4 c d (P n a) (P n b) k = k (P n a5) (P n b5) := by
  unfold groupK
  rw [roundK_P n r1 h1 a b a1 b1 ha1 hb1, roundK_P n r2 h2 a1 b1 a2 b2 ha2 hb2, roundK_P n r3 h3 a2 b2 a3 b3 ha3 hb3,
    roundK_P n r4 h4 a3 b3 a4 (fun i => rot r4 (b3 i) ^^^ a4 i) ha4 (fun _ => rfl), force_eq, force_eq, laddc_P n _ c hc, laddc_P n _ d hd,
    show a5 = (fun i => a4 i + BitVec.ofNat 32 c) from funext ha5, show b5 = (fun i => (rot r4 (b3 i) ^^^ a4 i) + BitVec.ofNat 32 d) from funext hb5]

/-- The lanes of the hash are the hashes of the lanes. -/
theorem hashK_P {α : Type} (n : Nat) (l : Nat → BitVec 32) (k : Nat → α) : hashK (mask n) (ones n) (P n l) k = k (P n fun i => hash (l i)) := by
  unfold hashK
  have z : 928981903 * ones n = P n fun _ => 0#32 + 928981903#32 := by rw [ones_mul]; rfl
  rw [force_eq, laddc_P n _ _ (by norm_num), z]
  refine (groupK_P n 13 15 26 6 3453687069 3780455753 (by norm_num) (by norm_num) (by norm_num) (by norm_num) (by norm_num) (by norm_num)
    (fun _ => 0#32 + 928981903#32) (fun i => b0 (l i)) (fun i => a1 (l i)) (fun i => b1 (l i)) (fun i => a2 (l i)) (fun i => b2 (l i)) (fun i => a3 (l i)) (fun i => b3 (l i))
    (fun i => a4 (l i)) (fun i => a4 (l i) + 3453687069#32) (fun i => b4 (l i)) (fun _ => rfl) (fun _ => rfl) (fun _ => rfl) (fun _ => rfl) (fun _ => rfl) (fun _ => rfl)
    (fun _ => rfl) (fun _ => rfl) (fun _ => rfl) _).trans ?_
  refine (groupK_P n 17 29 16 24 3780455752 928981905 (by norm_num) (by norm_num) (by norm_num) (by norm_num) (by norm_num) (by norm_num)
    _ _ (fun i => a5 (l i)) (fun i => b5 (l i)) (fun i => a6 (l i)) (fun i => b6 (l i)) (fun i => a7 (l i)) (fun i => b7 (l i))
    (fun i => a8 (l i)) (fun i => a8 (l i) + 3780455752#32) (fun i => b8 (l i)) (fun _ => rfl) (fun _ => rfl) (fun _ => rfl) (fun _ => rfl) (fun _ => rfl) (fun _ => rfl)
    (fun _ => rfl) (fun _ => rfl) (fun _ => rfl) _).trans ?_
  refine (groupK_P n 13 15 26 6 928981903 3453687072 (by norm_num) (by norm_num) (by norm_num) (by norm_num) (by norm_num) (by norm_num)
    _ _ (fun i => a9 (l i)) (fun i => b9 (l i)) (fun i => a10 (l i)) (fun i => b10 (l i)) (fun i => a11 (l i)) (fun i => b11 (l i))
    (fun i => a12 (l i)) (fun i => a12 (l i) + 928981903#32) (fun i => b12 (l i)) (fun _ => rfl) (fun _ => rfl) (fun _ => rfl) (fun _ => rfl) (fun _ => rfl) (fun _ => rfl)
    (fun _ => rfl) (fun _ => rfl) (fun _ => rfl) _).trans ?_
  refine (groupK_P n 17 29 16 24 3453687069 3780455756 (by norm_num) (by norm_num) (by norm_num) (by norm_num) (by norm_num) (by norm_num)
    _ _ (fun i => a13 (l i)) (fun i => b13 (l i)) (fun i => a14 (l i)) (fun i => b14 (l i)) (fun i => a15 (l i)) (fun i => b15 (l i))
    (fun i => a16 (l i)) (fun i => a16 (l i) + 3453687069#32) (fun i => b16 (l i)) (fun _ => rfl) (fun _ => rfl) (fun _ => rfl) (fun _ => rfl) (fun _ => rfl) (fun _ => rfl)
    (fun _ => rfl) (fun _ => rfl) (fun _ => rfl) _).trans ?_
  refine (groupK_P n 13 15 26 6 3780455752 928981908 (by norm_num) (by norm_num) (by norm_num) (by norm_num) (by norm_num) (by norm_num)
    _ _ (fun i => a17 (l i)) (fun i => b17 (l i)) (fun i => a18 (l i)) (fun i => b18 (l i)) (fun i => a19 (l i)) (fun i => b19 (l i))
    (fun i => a20 (l i)) (fun i => a20 (l i) + 3780455752#32) (fun i => b20 (l i)) (fun _ => rfl) (fun _ => rfl) (fun _ => rfl) (fun _ => rfl) (fun _ => rfl) (fun _ => rfl)
    (fun _ => rfl) (fun _ => rfl) (fun _ => rfl) _).trans ?_
  rw [force_eq, lxor_P]
  rfl

/-! ## The check -/

/-- Whether no hash of the counters in the lanes is one of the largest 512. -/
def good (M R X base : Nat) : Bool :=
  force (base * R + X) fun L => hashK M R L fun H => Nat.beq ((H + 512 * R) &&& (4294967296 * R)) 0

/-- The check of the counters `base + step * i`. -/
theorem good_sound (n base step : Nat) (h : good (mask n) (ones n) (pk (fun i => step * i) 0 n) base = true) (hb : ∀ i, i < n → base + step * i < 2 ^ 32) :
    ∀ i, i < n → (hash (BitVec.ofNat 32 (base + step * i))).toNat / 512 < 8388607 := by
  have e : base * ones n + pk (fun i => step * i) 0 n = P n fun i => BitVec.ofNat 32 (base + step * i) := by
    rw [ones_mul, pk_add]
    exact pk_congr_lt _ _ _ _ fun i hi => by rw [BitVec.toNat_ofNat, Nat.mod_eq_of_lt (hb i (by omega))]
  unfold good at h
  rw [force_eq, e, hashK_P] at h
  have h := Nat.eq_of_beq_eq_true h
  unfold P at h
  have s33 : ∀ x : BitVec 32, x.toNat + 512 < 2 ^ 33 := fun x => by have := x.isLt; omega
  rw [ones_mul, ones_mul, pk_add, pk_and _ _ (fun i => (s33 _).trans (by norm_num)) (fun _ => by norm_num)] at h
  intro i hi
  have z := pk_zero _ _ _ h i hi
  rw [Nat.zero_add] at z
  generalize hash (BitVec.ofNat 32 (base + step * i)) = x at z
  have b := s33 x
  rw [show 4294967296 = 2 ^ 32 from rfl, Nat.and_two_pow, Nat.testBit_eq_decide_div_mod_eq] at z
  by_contra c
  rw [show (x.toNat + 512) / 2 ^ 32 % 2 = 1 by omega] at z
  revert z
  decide

end Cert.Drop
-- ==== Proof.Windows.lean ====
/- Every window of the mask holds a position whose uniform number is not the largest. Rows and columns 0, 5, …, 215 and 219 meet
   every window; the hashes at their crossings are computed, the 768 channels in the lanes of one number. -/
module

public import proofs.«01_k».proof.Proof.Lanes
public import proofs.«01_k».proof.Proof.Agree

@[expose] public section

set_option maxRecDepth 100000

namespace Cert.Drop

/-- The rows (and the columns) of the places that are checked. -/
def place (k : Nat) : Nat := if k < 44 then 5 * k else 219

/-- Whether a check holds of every number below `n`. -/
def allBelow (f : Nat → Bool) : Nat → Bool
  | 0 => true
  | n + 1 => f n && allBelow f n

theorem of_allBelow (f : Nat → Bool) (n : Nat) (h : allBelow f n = true) : ∀ i, i < n → f i = true := by
  induction n with
  | zero => intro i hi; omega
  | succ n ih =>
    rw [allBelow, Bool.and_eq_true] at h
    intro i hi
    by_cases e : i = n
    · rw [e]; exact h.1
    · exact ih h.2 i (by omega)

/-- The channels' first counters, in the lanes. -/
def ramp : Nat := pk (fun i => 48400 * i) 0 768

/-- Whether no hash at the places of `count` rows, from row `r` on, is one of the largest 512, in any channel. -/
def goodRows (r count : Nat) : Bool :=
  force (ones 768) fun R => force ramp fun X => force (4294967295 * R) fun M =>
    allBelow (fun k => allBelow (fun s => good M R X (place (r + k) * 220 + place s)) 45) count

/-- The rows 0 to 4 of the places, checked. -/
theorem rows0 : goodRows 0 5 = true := by decide +kernel

/-- The rows 5 to 9 of the places, checked. -/
theorem rows1 : goodRows 5 5 = true := by decide +kernel

/-- The rows 10 to 14 of the places, checked. -/
theorem rows2 : goodRows 10 5 = true := by decide +kernel

/-- The rows 15 to 19 of the places, checked. -/
theorem rows3 : goodRows 15 5 = true := by decide +kernel

/-- The rows 20 to 24 of the places, checked. -/
theorem rows4 : goodRows 20 5 = true := by decide +kernel

/-- The rows 25 to 29 of the places, checked. -/
theorem rows5 : goodRows 25 5 = true := by decide +kernel

/-- The rows 30 to 34 of the places, checked. -/
theorem rows6 : goodRows 30 5 = true := by decide +kernel

/-- The rows 35 to 39 of the places, checked. -/
theorem rows7 : goodRows 35 5 = true := by decide +kernel

/-- The rows 40 to 44 of the places, checked. -/
theorem rows8 : goodRows 40 5 = true := by decide +kernel

/-- No hash at the places is one of the largest 512, in any channel. -/
theorem places (c r s : Nat) (hc : c < 768) (hr : r < 45) (hs : s < 45) :
    (hash (pos c (place r) (place s))).toNat / 512 < 8388607 := by
  have hp : ∀ k, place k ≤ 219 := fun k => by unfold place; split <;> omega
  have p1 := hp r
  have p2 := hp s
  have q : ∃ r0 n, goodRows r0 n = true ∧ r0 ≤ r ∧ r < r0 + n := by
    have ht : r / 5 < 9 := by omega
    generalize e : r / 5 = t at ht
    match t, ht with
    | 0, _ => exact ⟨0, 5, rows0, by omega, by omega⟩
    | 1, _ => exact ⟨5, 5, rows1, by omega, by omega⟩
    | 2, _ => exact ⟨10, 5, rows2, by omega, by omega⟩
    | 3, _ => exact ⟨15, 5, rows3, by omega, by omega⟩
    | 4, _ => exact ⟨20, 5, rows4, by omega, by omega⟩
    | 5, _ => exact ⟨25, 5, rows5, by omega, by omega⟩
    | 6, _ => exact ⟨30, 5, rows6, by omega, by omega⟩
    | 7, _ => exact ⟨35, 5, rows7, by omega, by omega⟩
    | 8, _ => exact ⟨40, 5, rows8, by omega, by omega⟩
  obtain ⟨r0, n, g, h1, h2⟩ := q
  unfold goodRows at g
  rw [force_eq, force_eq, force_eq] at g
  have g := of_allBelow _ _ (of_allBelow _ _ g (r - r0) (by omega)) s hs
  rw [show r0 + (r - r0) = r by omega] at g
  have k := good_sound 768 (place r * 220 + place s) 48400 g (fun i hi => by omega) c hc
  unfold pos
  rw [show c * 48400 + place r * 220 + place s = place r * 220 + place s + 48400 * c by omega]
  exact k

/-- Among any five rows that the mask has near `i`, one is a place. -/
theorem near (i : Nat) (hi : i < 224) : ∃ r w, r < 45 ∧ w < 5 ∧ i + w = place r + 4 := by
  unfold place
  by_cases h : i ≤ 219
  · refine ⟨i / 5, 4 - i % 5, by omega, by omega, ?_⟩
    rw [if_pos (by omega)]
    omega
  · refine ⟨44, 223 - i, by omega, by omega, ?_⟩
    rw [if_neg (by omega)]
    omega

/-- Every window holds a position that counts. -/
theorem windows : Windows := by
  intro c i j hc hi hj
  have hp : ∀ k, place k ≤ 219 := fun k => by unfold place; split <;> omega
  obtain ⟨r, w, hr, hw, ew⟩ := near i hi
  obtain ⟨s, v, hs, hv, ev⟩ := near j hj
  have p1 := hp r
  have p2 := hp s
  refine ⟨4 - w, v, by omega, hv, by omega, by omega, by omega, by omega, ?_⟩
  rw [show i - (4 - w) = place r by omega, show j + v - 4 = place s by omega]
  exact places c r s hc hr hs

end Cert.Drop
-- ==== Proof.lean ====
/- The proof of the five claims.

     quiescent_Kernel, quiescent_KernelIdeal: generated whole (Proof/Gen/Kernel/Frame.lean, Proof/Gen/KernelIdeal/Frame.lean).
     quiescent_ReferenceIdeal: from the reference's run (Proof/RefRun.lean).
     preserves: the idealization is the program's own text, so there is nothing to show.
     algebraic: Proof/Value.lean, from the kernel's run (Proof/KRun.lean, read at an index in Proof/KResult.lean), the reference's run
       (Proof/RefRun.lean, read at an index in Proof/RRead.lean), the equation between the two (Proof/Agree.lean), and the fact that
       every window of the mask holds a position whose uniform number is not the largest (Proof/Windows.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Windows
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Value.frame_reference, trivial,
  Cert.Value.algebraic Cert.Drop.windows⟩

end Cert.Proof

end
